-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exp2_scale" .f32 0x3E16C740#32 (((3424635 / 33554432) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v72_1)) (v1 : (c : Dev Cert.Kernel2Ideal.nD) → Buf (Elt Ideal) ((c.tc : Thread Cert.Kernel2Ideal.nD Cert.Kernel2Ideal.τ).loc Cert.Kernel2Ideal.main_v72_3)) (v2 : (c : Dev Cert.Kernel2Ideal.nD) → Buf (Elt Ideal) ((c.tc : Thread Cert.Kernel2Ideal.nD Cert.Kernel2Ideal.τ).loc Cert.Kernel2Ideal.main_v74)) (v3 : (c : Dev Cert.Kernel2Ideal.nD) → Buf (Elt Ideal) ((c.tc : Thread Cert.Kernel2Ideal.nD Cert.Kernel2Ideal.τ).loc Cert.Kernel2Ideal.main_v72_7)) (v4 : (c : Dev Cert.Kernel2Ideal.nD) → Buf (Elt Ideal) ((c.tc : Thread Cert.Kernel2Ideal.nD Cert.Kernel2Ideal.τ).loc Cert.Kernel2Ideal.main_v72_9)) (v5 : (c : Dev Cert.Kernel2Ideal.nD) → Buf (Elt Ideal) ((c.tc : Thread Cert.Kernel2Ideal.nD Cert.Kernel2Ideal.τ).loc Cert.Kernel2Ideal.main_v72_13)) (v6 : (c : Dev Cert.Kernel2Ideal.nD) → Buf (Elt Ideal) ((c.tc : Thread Cert.Kernel2Ideal.nD Cert.Kernel2Ideal.τ).loc Cert.Kernel2Ideal.main_v73)) (v7 : (c : Dev Cert.Kernel2Ideal.nD) → Buf (Elt Ideal) ((c.tc : Thread Cert.Kernel2Ideal.nD Cert.Kernel2Ideal.τ).loc Cert.Kernel2Ideal.main_v72_0)) (v8 : (c : Dev Cert.Kernel2Ideal.nD) → Buf (Elt Ideal) ((c.tc : Thread Cert.Kernel2Ideal.nD Cert.Kernel2Ideal.τ).loc Cert.Kernel2Ideal.main_v72_5)) (v9 : (c : Dev Cert.Kernel2Ideal.nD) → Buf (Elt Ideal) ((c.tc : Thread Cert.Kernel2Ideal.nD Cert.Kernel2Ideal.τ).loc Cert.Kernel2Ideal.main_v72_6)) (v10 : (c : Dev Cert.Kernel2Ideal.nD) → Buf (Elt Ideal) ((c.tc : Thread Cert.Kernel2Ideal.nD Cert.Kernel2Ideal.τ).loc Cert.Kernel2Ideal.main_v72_11)) (v11 : (c : Dev Cert.Kernel2Ideal.nD) → Buf (Elt Ideal) ((c.tc : Thread Cert.Kernel2Ideal.nD Cert.Kernel2Ideal.τ).loc Cert.Kernel2Ideal.main_v72_15)) (v12 : (c : Dev Cert.Kernel2Ideal.nD) → Buf (Elt Ideal) ((c.tc : Thread Cert.Kernel2Ideal.nD Cert.Kernel2Ideal.τ).loc Cert.Kernel2Ideal.main_v75)) (v13 : (c : Dev Cert.Kernel2Ideal.nD) → Buf (Elt Ideal) ((c.tc : Thread Cert.Kernel2Ideal.nD Cert.Kernel2Ideal.τ).loc Cert.Kernel2Ideal.main_v76)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v72_1) = v0 c
          ∧ r.2.mem ((c.tc : Thread Cert.Kernel2Ideal.nD Cert.Kernel2Ideal.τ).loc Cert.Kernel2Ideal.main_v72_3) = v1 c
          ∧ r.2.mem ((c.tc : Thread Cert.Kernel2Ideal.nD Cert.Kernel2Ideal.τ).loc Cert.Kernel2Ideal.main_v74) = v2 c
          ∧ r.2.mem ((c.tc : Thread Cert.Kernel2Ideal.nD Cert.Kernel2Ideal.τ).loc Cert.Kernel2Ideal.main_v72_7) = v3 c
          ∧ r.2.mem ((c.tc : Thread Cert.Kernel2Ideal.nD Cert.Kernel2Ideal.τ).loc Cert.Kernel2Ideal.main_v72_9) = v4 c
          ∧ r.2.mem ((c.tc : Thread Cert.Kernel2Ideal.nD Cert.Kernel2Ideal.τ).loc Cert.Kernel2Ideal.main_v72_13) = v5 c
          ∧ r.2.mem ((c.tc : Thread Cert.Kernel2Ideal.nD Cert.Kernel2Ideal.τ).loc Cert.Kernel2Ideal.main_v73) = v6 c
          ∧ r.2.mem ((c.tc : Thread Cert.Kernel2Ideal.nD Cert.Kernel2Ideal.τ).loc Cert.Kernel2Ideal.main_v72_0) = v7 c
          ∧ r.2.mem ((c.tc : Thread Cert.Kernel2Ideal.nD Cert.Kernel2Ideal.τ).loc Cert.Kernel2Ideal.main_v72_5) = v8 c
          ∧ r.2.mem ((c.tc : Thread Cert.Kernel2Ideal.nD Cert.Kernel2Ideal.τ).loc Cert.Kernel2Ideal.main_v72_6) = v9 c
          ∧ r.2.mem ((c.tc : Thread Cert.Kernel2Ideal.nD Cert.Kernel2Ideal.τ).loc Cert.Kernel2Ideal.main_v72_11) = v10 c
          ∧ r.2.mem ((c.tc : Thread Cert.Kernel2Ideal.nD Cert.Kernel2Ideal.τ).loc Cert.Kernel2Ideal.main_v72_15) = v11 c
          ∧ r.2.mem ((c.tc : Thread Cert.Kernel2Ideal.nD Cert.Kernel2Ideal.τ).loc Cert.Kernel2Ideal.main_v75) = v12 c
          ∧ r.2.mem ((c.tc : Thread Cert.Kernel2Ideal.nD Cert.Kernel2Ideal.τ).loc Cert.Kernel2Ideal.main_v76) = v13 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_v103) = v5 c
          ∧ r.2.mem ((c.tc : Thread Cert.Reference2Ideal.nD Cert.Reference2Ideal.τ).loc Cert.Reference2Ideal.main_v134) = v6 c
          ∧ r.2.mem ((c.tc : Thread Cert.Reference2Ideal.nD Cert.Reference2Ideal.τ).loc Cert.Reference2Ideal.main_v137) = v7 c
          ∧ r.2.mem ((c.tc : Thread Cert.Reference2Ideal.nD Cert.Reference2Ideal.τ).loc Cert.Reference2Ideal.main_v30) = v8 c
          ∧ r.2.mem ((c.tc : Thread Cert.Reference2Ideal.nD Cert.Reference2Ideal.τ).loc Cert.Reference2Ideal.main_v140) = v9 c
          ∧ r.2.mem ((c.tc : Thread Cert.Reference2Ideal.nD Cert.Reference2Ideal.τ).loc Cert.Reference2Ideal.main_v34) = v10 c
          ∧ r.2.mem ((c.tc : Thread Cert.Reference2Ideal.nD Cert.Reference2Ideal.τ).loc Cert.Reference2Ideal.main_v38) = v11 c
          ∧ r.2.mem ((c.tc : Thread Cert.Reference2Ideal.nD Cert.Reference2Ideal.τ).loc Cert.Reference2Ideal.main_v141) = v12 c
          ∧ r.2.mem ((c.tc : Thread Cert.Reference2Ideal.nD Cert.Reference2Ideal.τ).loc Cert.Reference2Ideal.main_v142) = v13 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts) (hPre_finite_inputs2 : Cert.Pre_finite_inputs2.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_inputs.lean ====
abbrev S8x4096x8x128 : Shape := ⟨4, ![8, 4096, 8, 128]⟩
abbrev S8x4096x8x32 : Shape := ⟨4, ![8, 4096, 8, 32]⟩
abbrev S8x4096x128 : Shape := ⟨3, ![8, 4096, 128]⟩
abbrev S8x4096x32 : Shape := ⟨3, ![8, 4096, 32]⟩
abbrev S128x8x64 : Shape := ⟨3, ![128, 8, 64]⟩
abbrev S8x4096x512 : Shape := ⟨3, ![8, 4096, 512]⟩
abbrev S_ : Shape := ⟨0, ![]⟩

class Facts : Prop where
  bcast_S_S8x4096x8x128 : S_.BroadcastsInDim S8x4096x8x128 (![] : Fin 0 → Fin S8x4096x8x128.rank)
  reducesTo_S8x4096x8x128_S_d0_1_2_3 : S8x4096x8x128.ReducesTo [0, 1, 2, 3] S_
  h_S_ : 0 < S_.numel
  bcast_S_S8x4096x8x32 : S_.BroadcastsInDim S8x4096x8x32 (![] : Fin 0 → Fin S8x4096x8x32.rank)
  reducesTo_S8x4096x8x32_S_d0_1_2_3 : S8x4096x8x32.ReducesTo [0, 1, 2, 3] S_
  bcast_S_S8x4096x128 : S_.BroadcastsInDim S8x4096x128 (![] : Fin 0 → Fin S8x4096x128.rank)
  reducesTo_S8x4096x128_S_d0_1_2 : S8x4096x128.ReducesTo [0, 1, 2] S_
  bcast_S_S8x4096x32 : S_.BroadcastsInDim S8x4096x32 (![] : Fin 0 → Fin S8x4096x32.rank)
  reducesTo_S8x4096x32_S_d0_1_2 : S8x4096x32.ReducesTo [0, 1, 2] S_

variable [Facts]

def fn_part1 {F : FTy → Type} [FloatOps F] (main_v13 : IVec S_ 1) (main_v16 : IVec S8x4096x32 1) : IVec S_ 1 :=
  let main_c_5 : IVec S_ 1 := constantI S_ 1 1#1
  let main_v17 : IVec S_ 1 := (fun x v => Host.reduce IntOp.andi x v reducesTo_S8x4096x32_S_d0_1_2 h_S_) main_v16 main_c_5
  let main_v18 : IVec S_ 1 := andi main_v13 main_v17
  main_v18

def fn {F : FTy → Type} [FloatOps F] (main_arg0 : FVec F S8x4096x8x128 .f32) (main_arg1 : FVec F S8x4096x8x32 .f32) (main_arg2 : FVec F S8x4096x128 .f32) (main_arg3 : FVec F S8x4096x32 .f32) (main_arg4 : FVec F S128x8x64 .f32) (main_arg5 : FVec F S8x4096x512 .f32) : IVec S_ 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_c : IVec S_ 1 := constantI S_ 1 1#1
  let main_v3 : IVec S_ 1 := (fun x v => Host.reduce IntOp.andi x v reducesTo_S8x4096x8x128_S_d0_1_2_3 h_S_) main_v2 main_c
  let main_v4 : FVec F S8x4096x8x32 .f32 := Host.absf main_arg1
  let main_cst_0 : FVec F S_ .f32 := constant S_ .f32 0x7F800000#32
  let main_v5 : FVec F S8x4096x8x32 .f32 := broadcastInDim S8x4096x8x32 ![] bcast_S_S8x4096x8x32 main_cst_0
  let main_v6 : IVec S8x4096x8x32 1 := cmpf .olt main_v4 main_v5
  let main_c_1 : IVec S_ 1 := constantI S_ 1 1#1
  let main_v7 : IVec S_ 1 := (fun x v => Host.reduce IntOp.andi x v reducesTo_S8x4096x8x32_S_d0_1_2_3 h_S_) main_v6 main_c_1
  let main_v8 : IVec S_ 1 := andi main_v3 main_v7
  let main_v9 : FVec F S8x4096x128 .f32 := Host.absf main_arg2
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_c_3 : IVec S_ 1 := constantI S_ 1 1#1
  let main_v12 : IVec S_ 1 := (fun x v => Host.reduce IntOp.andi x v reducesTo_S8x4096x128_S_d0_1_2 h_S_) main_v11 main_c_3
  let main_v13 : IVec S_ 1 := andi main_v8 main_v12
  let main_v14 : FVec F S8x4096x32 .f32 := Host.absf main_arg3
  let main_cst_4 : FVec F S_ .f32 := constant S_ .f32 0x7F800000#32
  let main_v15 : FVec F S8x4096x32 .f32 := broadcastInDim S8x4096x32 ![] bcast_S_S8x4096x32 main_cst_4
  let main_v16 : IVec S8x4096x32 1 := cmpf .olt main_v14 main_v15
  fn_part1 (F := F) main_v13 main_v16
-- ==== Pre_finite_inputs2.lean ====
abbrev S8x4096x1024 : Shape := ⟨3, ![8, 4096, 1024]⟩
abbrev S8x3072 : Shape := ⟨2, ![8, 3072]⟩
abbrev S1024 : Shape := ⟨1, ![1024]⟩
abbrev S1024x2980 : Shape := ⟨2, ![1024, 2980]⟩
abbrev S4 : Shape := ⟨1, ![4]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S256x8x96 : Shape := ⟨3, ![256, 8, 96]⟩
abbrev S8x2048 : Shape := ⟨2, ![8, 2048]⟩
abbrev S_ : Shape := ⟨0, ![]⟩
abbrev S1024x16 : Shape := ⟨2, ![1024, 16]⟩
abbrev S256x8x16 : Shape := ⟨3, ![256, 8, 16]⟩

class Facts : Prop where
  shapeCasts_S256x768_S256x8x96 : S256x768.ShapeCasts S256x8x96
  slices_S8x3072_S8x2048_0_0 : S8x3072.Slices ![0, 0] S8x2048
  bcast_S_S8x2048 : S_.BroadcastsInDim S8x2048 (![] : Fin 0 → Fin S8x2048.rank)
  reducesTo_S8x2048_S_d0_1 : S8x2048.ReducesTo [0, 1] S_
  h_S_ : 0 < S_.numel
  bcast_S_S1024 : S_.BroadcastsInDim S1024 (![] : Fin 0 → Fin S1024.rank)
  reducesTo_S1024_S_d0 : S1024.ReducesTo [0] S_
  slices_S1024x2980_S1024x16_0_2452 : S1024x2980.Slices ![0, 2452] S1024x16
  bcast_S_S1024x16 : S_.BroadcastsInDim S1024x16 (![] : Fin 0 → Fin S1024x16.rank)
  reducesTo_S1024x16_S_d0_1 : S1024x16.ReducesTo [0, 1] S_
  bcast_S_S256 : S_.BroadcastsInDim S256 (![] : Fin 0 → Fin S256.rank)
  reducesTo_S256_S_d0 : S256.ReducesTo [0] S_
  slices_S256x8x96_S256x8x16_0_0_80 : S256x8x96.Slices ![0, 0, 80] S256x8x16
  bcast_S_S256x8x16 : S_.BroadcastsInDim S256x8x16 (![] : Fin 0 → Fin S256x8x16.rank)
  reducesTo_S256x8x16_S_d0_1_2 : S256x8x16.ReducesTo [0, 1, 2] S_

variable [Facts]

def fn_part1 {F : FTy → Type} [FloatOps F] (main_v0 : FVec F S256x8x96 .f32) (main_v16 : IVec S_ 1) (main_v17 : FVec F S256 .f32) : IVec S_ 1 :=
  let main_cst_4 : FVec F S_ .f32 := constant S_ .f32 0x7F800000#32
  let main_v18 : FVec F S256 .f32 := broadcastInDim S256 ![] bcast_S_S256 main_cst_4
  let main_v19 : IVec S256 1 := cmpf .olt main_v17 main_v18
  let main_c_5 : IVec S_ 1 := constantI S_ 1 1#1
  let main_v20 : IVec S_ 1 := (fun x v => Host.reduce IntOp.andi x v reducesTo_S256_S_d0 h_S_) main_v19 main_c_5
  let main_v21 : IVec S_ 1 := andi main_v16 main_v20
  let main_v22 : FVec F S256x8x16 .f32 := (extractStridedSlice S256x8x16 ![0, 0, 80] · slices_S256x8x96_S256x8x16_0_0_80) main_v0
  let main_v23 : FVec F S256x8x16 .f32 := Host.absf main_v22
  let main_cst_6 : FVec F S_ .f32 := constant S_ .f32 0x7F800000#32
  let main_v24 : FVec F S256x8x16 .f32 := broadcastInDim S256x8x16 ![] bcast_S_S256x8x16 main_cst_6
  let main_v25 : IVec S256x8x16 1 := cmpf .olt main_v23 main_v24
  let main_c_7 : IVec S_ 1 := constantI S_ 1 1#1
  let main_v26 : IVec S_ 1 := (fun x v => Host.reduce IntOp.andi x v reducesTo_S256x8x16_S_d0_1_2 h_S_) main_v25 main_c_7
  let main_v27 : IVec S_ 1 := andi main_v21 main_v26
  main_v27

def fn {F : FTy → Type} [FloatOps F] (main_arg0 : FVec F S8x4096x1024 .f32) (main_arg1 : FVec F S8x3072 .f32) (main_arg2 : FVec F S1024 .f32) (main_arg3 : FVec F S1024x2980 .f32) (main_arg4 : FVec F S4 .f32) (main_arg5 : FVec F S256 .f32) (main_arg6 : FVec F S256x768 .f32) (main_arg7 : FVec F S128 .f32) (main_arg8 : FVec F S128x8x64 .f32) : IVec S_ 1 :=
  let main_v0 : FVec F S256x8x96 .f32 := shapeCast S256x8x96 main_arg6 shapeCasts_S256x768_S256x8x96
  let main_v1 : FVec F S8x2048 .f32 := (extractStridedSlice S8x2048 ![0, 0] · slices_S8x3072_S8x2048_0_0) main_arg1
  let main_v2 : FVec F S8x2048 .f32 := Host.absf main_v1
  let main_cst : FVec F S_ .f32 := constant S_ .f32 0x7F800000#32
  let main_v3 : FVec F S8x2048 .f32 := broadcastInDim S8x2048 ![] bcast_S_S8x2048 main_cst
  let main_v4 : IVec S8x2048 1 := cmpf .olt main_v2 main_v3
  let main_c : IVec S_ 1 := constantI S_ 1 1#1
  let main_v5 : IVec S_ 1 := (fun x v => Host.reduce IntOp.andi x v reducesTo_S8x2048_S_d0_1 h_S_) main_v4 main_c
  let main_v6 : FVec F S1024 .f32 := Host.absf main_arg2
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_c_1 : IVec S_ 1 := constantI S_ 1 1#1
  let main_v9 : IVec S_ 1 := (fun x v => Host.reduce IntOp.andi x v reducesTo_S1024_S_d0 h_S_) main_v8 main_c_1
  let main_v10 : IVec S_ 1 := andi main_v5 main_v9
  let main_v11 : FVec F S1024x16 .f32 := (extractStridedSlice S1024x16 ![0, 2452] · slices_S1024x2980_S1024x16_0_2452) main_arg3
  let main_v12 : FVec F S1024x16 .f32 := Host.absf main_v11
  let main_cst_2 : FVec F S_ .f32 := constant S_ .f32 0x7F800000#32
  let main_v13 : FVec F S1024x16 .f32 := broadcastInDim S1024x16 ![] bcast_S_S1024x16 main_cst_2
  let main_v14 : IVec S1024x16 1 := cmpf .olt main_v12 main_v13
  let main_c_3 : IVec S_ 1 := constantI S_ 1 1#1
  let main_v15 : IVec S_ 1 := (fun x v => Host.reduce IntOp.andi x v reducesTo_S1024x16_S_d0_1 h_S_) main_v14 main_c_3
  let main_v16 : IVec S_ 1 := andi main_v10 main_v15
  let main_v17 : FVec F S256 .f32 := Host.absf main_arg5
  fn_part1 (F := F) main_v0 main_v16 main_v17
-- ==== Kernel.lean ====
abbrev S8x4096x8x128 : Shape := ⟨4, ![8, 4096, 8, 128]⟩
abbrev S8x4096x8x32 : Shape := ⟨4, ![8, 4096, 8, 32]⟩
abbrev S8x4096x128 : Shape := ⟨3, ![8, 4096, 128]⟩
abbrev S8x4096x32 : Shape := ⟨3, ![8, 4096, 32]⟩
abbrev S128x8x64 : Shape := ⟨3, ![128, 8, 64]⟩
abbrev S8x4096x512 : Shape := ⟨3, ![8, 4096, 512]⟩
abbrev S8x8x4096x128 : Shape := ⟨4, ![8, 8, 4096, 128]⟩
abbrev S8x8x4096x32 : Shape := ⟨4, ![8, 8, 4096, 32]⟩
abbrev S_ : Shape := ⟨0, ![]⟩
abbrev S8x8x4096x96 : Shape := ⟨4, ![8, 8, 4096, 96]⟩
abbrev S8x8x4096x256 : Shape := ⟨4, ![8, 8, 4096, 256]⟩
abbrev S8x4096x1 : Shape := ⟨3, ![8, 4096, 1]⟩
abbrev S8x4096x95 : Shape := ⟨3, ![8, 4096, 95]⟩
abbrev S8x4096x256 : Shape := ⟨3, ![8, 4096, 256]⟩
abbrev S8x128x4096 : Shape := ⟨3, ![8, 128, 4096]⟩
abbrev S8x16x4096 : Shape := ⟨3, ![8, 16, 4096]⟩
abbrev S8x144x4096 : Shape := ⟨3, ![8, 144, 4096]⟩
abbrev S8x128x64 : Shape := ⟨3, ![8, 128, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S8x128x512 : Shape := ⟨3, ![8, 128, 512]⟩
abbrev S1x8x256x256 : Shape := ⟨4, ![1, 8, 256, 256]⟩
abbrev S1x4096x256 : Shape := ⟨3, ![1, 4096, 256]⟩
abbrev S1x144x4096 : Shape := ⟨3, ![1, 144, 4096]⟩
abbrev S1x256x512 : Shape := ⟨3, ![1, 256, 512]⟩
abbrev S1x2048 : Shape := ⟨2, ![1, 2048]⟩
abbrev S144x2048 : Shape := ⟨2, ![144, 2048]⟩
abbrev S1x512x256 : Shape := ⟨3, ![1, 512, 256]⟩
abbrev S512x256 : Shape := ⟨2, ![512, 256]⟩
abbrev S1x144x512 : Shape := ⟨3, ![1, 144, 512]⟩
abbrev S144x512 : Shape := ⟨2, ![144, 512]⟩
abbrev S1x2x256x256 : Shape := ⟨4, ![1, 2, 256, 256]⟩
abbrev S2x256x256 : Shape := ⟨3, ![2, 256, 256]⟩
abbrev S512x512 : Shape := ⟨2, ![512, 512]⟩
abbrev S1x512 : Shape := ⟨2, ![1, 512]⟩
abbrev S512 : Shape := ⟨1, ![512]⟩
abbrev S1x256x256 : Shape := ⟨3, ![1, 256, 256]⟩
abbrev S256x256 : Shape := ⟨2, ![256, 256]⟩
abbrev S1x144x256 : Shape := ⟨3, ![1, 144, 256]⟩
abbrev S144x256 : Shape := ⟨2, ![144, 256]⟩
abbrev S256x1 : Shape := ⟨2, ![256, 1]⟩
abbrev S256x512 : Shape := ⟨2, ![256, 512]⟩
abbrev S512x1 : Shape := ⟨2, ![512, 1]⟩
abbrev S128x2048 : Shape := ⟨2, ![128, 2048]⟩
abbrev S128x256 : Shape := ⟨2, ![128, 256]⟩
abbrev S256x128 : Shape := ⟨2, ![256, 128]⟩
abbrev S1x128x512 : Shape := ⟨3, ![1, 128, 512]⟩
abbrev S128x512 : Shape := ⟨2, ![128, 512]⟩

abbrev nBuf : Space → Nat
  | .hbm => 39
  | .vmem => 13
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x32, .f32⟩
  | .hbm, ⟨2, _⟩ => ⟨S8x4096x128, .f32⟩
  | .hbm, ⟨3, _⟩ => ⟨S8x4096x32, .f32⟩
  | .hbm, ⟨4, _⟩ => ⟨S128x8x64, .f32⟩
  | .hbm, ⟨5, _⟩ => ⟨S8x4096x512, .f32⟩
  | .hbm, ⟨6, _⟩ => ⟨S8x8x4096x128, .f32⟩
  | .hbm, ⟨7, _⟩ => ⟨S8x8x4096x32, .f32⟩
  | .hbm, ⟨8, _⟩ => ⟨S_, .f32⟩
  | .hbm, ⟨9, _⟩ => ⟨S8x8x4096x96, .f32⟩
  | .hbm, ⟨10, _⟩ => ⟨S8x8x4096x256, .f32⟩
  | .hbm, ⟨11, _⟩ => ⟨S_, .f32⟩
  | .hbm, ⟨12, _⟩ => ⟨S8x4096x1, .f32⟩
  | .hbm, ⟨13, _⟩ => ⟨S_, .f32⟩
  | .hbm, ⟨14, _⟩ => ⟨S8x4096x95, .f32⟩
  | .hbm, ⟨15, _⟩ => ⟨S8x4096x256, .f32⟩
  | .hbm, ⟨16, _⟩ => ⟨S8x4096x256, .bf16⟩
  | .hbm, ⟨17, _⟩ => ⟨S8x128x4096, .f32⟩
  | .hbm, ⟨18, _⟩ => ⟨S_, .f32⟩
  | .hbm, ⟨19, _⟩ => ⟨S8x16x4096, .f32⟩
  | .hbm, ⟨20, _⟩ => ⟨S8x144x4096, .f32⟩
  | .hbm, ⟨21, _⟩ => ⟨S8x144x4096, .bf16⟩
  | .hbm, ⟨22, _⟩ => ⟨S8x128x64, .f32⟩
  | .hbm, ⟨23, _⟩ => ⟨S8, .i32⟩
  | .hbm, ⟨24, _⟩ => ⟨S8x1, .i32⟩
  | .hbm, ⟨25, _⟩ => ⟨S8, .i32⟩
  | .hbm, ⟨26, _⟩ => ⟨S1x8, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x128x1x64, .f32⟩
  | .hbm, ⟨32, _⟩ => ⟨S8x1x8x1, .f32⟩
  | .hbm, ⟨33, _⟩ => ⟨S8x128x8x64, .f32⟩
  | .hbm, ⟨34, _⟩ => ⟨S8x128x8x64, .f32⟩
  | .hbm, ⟨35, _⟩ => ⟨S8x128x8x64, .f32⟩
  | .hbm, ⟨36, _⟩ => ⟨S8x128x512, .f32⟩
  | .hbm, ⟨37, _⟩ => ⟨S8x128x512, .bf16⟩
  | .hbm, ⟨38, _⟩ => ⟨S8x4096x512, .bf16⟩
  | .local _ .vmem, ⟨0, _⟩ => ⟨S1x8x256x256, .f32⟩
  | .local _ .vmem, ⟨1, _⟩ => ⟨S1x8x256x256, .f32⟩
  | .local _ .vmem, ⟨2, _⟩ => ⟨S1x4096x256, .bf16⟩
  | .local _ .vmem, ⟨3, _⟩ => ⟨S1x4096x256, .bf16⟩
  | .local _ .vmem, ⟨4, _⟩ => ⟨S1x144x4096, .bf16⟩
  | .local _ .vmem, ⟨5, _⟩ => ⟨S1x144x4096, .bf16⟩
  | .local _ .vmem, ⟨6, _⟩ => ⟨S8x128x512, .bf16⟩
  | .local _ .vmem, ⟨7, _⟩ => ⟨S1x256x512, .f32⟩
  | .local _ .vmem, ⟨8, _⟩ => ⟨S1x256x512, .f32⟩
  | .local _ .vmem, ⟨9, _⟩ => ⟨S1x256x512, .bf16⟩
  | .local _ .vmem, ⟨10, _⟩ => ⟨S1x256x512, .bf16⟩
  | .local _ .vmem, ⟨11, _⟩ => ⟨S1x2048, .f32⟩
  | .local _ .vmem, ⟨12, _⟩ => ⟨S144x2048, .f32⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_8 : BitVec 32 := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_10 : BitVec 32 := 1#32
  ⟨c0_i32_8, v20, c1_i32_10⟩
def k0_mult1 (i : grid0.Coords) (k0_t1 : Fin (k0_t1_loop i).trips) : BitVec 32 :=
  let c0_i32_8 : BitVec 32 := 0#32
  let c1_i32_10 : BitVec 32 := 1#32
  let arg10 : BitVec 32 := Scf.iv c0_i32_8 c1_i32_10 k0_t1
  let c512_i32_52 : BitVec 32 := 512#32
  let v103 : BitVec 32 := Scalar.muli arg10 c512_i32_52
  v103
def k0_off1 (i : grid0.Coords) (k0_t1 : Fin (k0_t1_loop i).trips) : Fin 3 → Nat :=
  let c0_53 : Index := 0#32
  let c0_i32_8 : BitVec 32 := 0#32
  let c1_i32_10 : BitVec 32 := 1#32
  let arg10 : BitVec 32 := Scf.iv c0_i32_8 c1_i32_10 k0_t1
  let c512_i32_52 : BitVec 32 := 512#32
  let v103 : BitVec 32 := Scalar.muli arg10 c512_i32_52
  let v104 : BitVec 32 := v103
  let v105 : Index := Scalar.indexCast v104
  let c0_54 : Index := 0#32
  ![0, v105.toNat, 0]
def k0_off2 (i : grid0.Coords) (k0_t1 : Fin (k0_t1_loop i).trips) : Fin 3 → Nat :=
  let c0_55 : Index := 0#32
  let c0_56 : Index := 0#32
  let c0_i32_8 : BitVec 32 := 0#32
  let c1_i32_10 : BitVec 32 := 1#32
  let arg10 : BitVec 32 := Scf.iv c0_i32_8 c1_i32_10 k0_t1
  let c512_i32_52 : BitVec 32 := 512#32
  let v103 : BitVec 32 := Scalar.muli arg10 c512_i32_52
  let v104 : BitVec 32 := v103
  let v108 : Index := Scalar.indexCast v104
  ![0, 0, v108.toNat]
@[reducible] def k0_t2_loop (i : grid0.Coords) : Scf.Loop 32 :=
  let c0_i32_8 : BitVec 32 := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let v17 : BitVec 32 := Scalar.addi c0_i32_8 v16
  let c1_i32_11 : BitVec 32 := 1#32
  ⟨v20, v17, c1_i32_11⟩
def k0_mult2 (i : grid0.Coords) (k0_t2 : Fin (k0_t2_loop i).trips) : BitVec 32 :=
  let c0_i32_8 : BitVec 32 := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg10 : BitVec 32 := Scf.iv v20 c1_i32_11 k0_t2
  let c512_i32_52 : BitVec 32 := 512#32
  let v103 : BitVec 32 := Scalar.muli arg10 c512_i32_52
  v103
def k0_off3 (i : grid0.Coords) (k0_t2 : Fin (k0_t2_loop i).trips) : Fin 3 → Nat :=
  let c0_53 : Index := 0#32
  let c0_i32_8 : BitVec 32 := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg10 : BitVec 32 := Scf.iv v20 c1_i32_11 k0_t2
  let c512_i32_52 : BitVec 32 := 512#32
  let v103 : BitVec 32 := Scalar.muli arg10 c512_i32_52
  let v104 : BitVec 32 := v103
  let v105 : Index := Scalar.indexCast v104
  let c0_54 : Index := 0#32
  ![0, v105.toNat, 0]
def k0_off4 (i : grid0.Coords) (k0_t2 : Fin (k0_t2_loop i).trips) : Fin 3 → Nat :=
  let c0_55 : Index := 0#32
  let c0_56 : Index := 0#32
  let c0_i32_8 : BitVec 32 := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg10 : BitVec 32 := Scf.iv v20 c1_i32_11 k0_t2
  let c512_i32_52 : BitVec 32 := 512#32
  let v103 : BitVec 32 := Scalar.muli arg10 c512_i32_52
  let v104 : BitVec 32 := v103
  let v108 : Index := Scalar.indexCast v104
  ![0, 0, v108.toNat]
def k0_cond1 (i : grid0.Coords) : BitVec 1 :=
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32 : BitVec 32 := 512#32
  let v21 : BitVec 32 := Scalar.muli v15 c512_i32
  let v22 : BitVec 32 := Scalar.subi v13 v21
  let c256_i32_12 : BitVec 32 := 256#32
  let v23 : BitVec 1 := Scalar.cmpi .sle v22 c256_i32_12
  let v24 : BitVec 32 := Scalar.extui v23
  let c0_i32_13 : BitVec 32 := 0#32
  let v25 : BitVec 1 := Scalar.cmpi .ne v24 c0_i32_13
  v25

def k0_mult3 (i : grid0.Coords) : BitVec 32 :=
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32_52 : BitVec 32 := 512#32
  let v103 : BitVec 32 := Scalar.muli v15 c512_i32_52
  v103
def k0_off5 (i : grid0.Coords) : Fin 3 → Nat :=
  let c0_53 : Index := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32_52 : BitVec 32 := 512#32
  let v103 : BitVec 32 := Scalar.muli v15 c512_i32_52
  let v104 : BitVec 32 := v103
  let v105 : Index := Scalar.indexCast v104
  let c0_54 : Index := 0#32
  ![0, v105.toNat, 0]
def k0_off6 (i : grid0.Coords) : Fin 3 → Nat :=
  let c0_55 : Index := 0#32
  let c0_56 : Index := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32_52 : BitVec 32 := 512#32
  let v103 : BitVec 32 := Scalar.muli v15 c512_i32_52
  let v104 : BitVec 32 := v103
  let v108 : Index := Scalar.indexCast v104
  ![0, 0, v108.toNat]
def k0_cond2 (i : grid0.Coords) : BitVec 1 :=
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32 : BitVec 32 := 512#32
  let v21 : BitVec 32 := Scalar.muli v15 c512_i32
  let v22 : BitVec 32 := Scalar.subi v13 v21
  let c256_i32_12 : BitVec 32 := 256#32
  let v23 : BitVec 1 := Scalar.cmpi .sle v22 c256_i32_12
  let v_true : BitVec 1 := 1#1
  let v26 : BitVec 1 := Scalar.xori v23 v_true
  let v27 : BitVec 32 := Scalar.extui v26
  let c0_i32_14 : BitVec 32 := 0#32
  let v28 : BitVec 1 := Scalar.cmpi .ne v27 c0_i32_14
  v28

def k0_mult4 (i : grid0.Coords) : BitVec 32 :=
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32_52 : BitVec 32 := 512#32
  let v103 : BitVec 32 := Scalar.muli v15 c512_i32_52
  v103
def k0_off7 (i : grid0.Coords) : Fin 3 → Nat :=
  let c0_53 : Index := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32_52 : BitVec 32 := 512#32
  let v103 : BitVec 32 := Scalar.muli v15 c512_i32_52
  let v104 : BitVec 32 := v103
  let v105 : Index := Scalar.indexCast v104
  let c0_54 : Index := 0#32
  ![0, v105.toNat, 0]
def k0_off8 (i : grid0.Coords) : Fin 3 → Nat :=
  let c0_55 : Index := 0#32
  let c0_56 : Index := 0#32
  let arg1 : BitVec 32 := BitVec.ofNat 32 (i 1).val
  let c1_i32 : BitVec 32 := 1#32
  let v8 : BitVec 32 := Scalar.addi arg1 c1_i32
  let c256_i32 : BitVec 32 := 256#32
  let v9 : BitVec 32 := Scalar.muli v8 c256_i32
  let c1_i32_4 : BitVec 32 := 1#32
  let v10 : BitVec 32 := Scalar.subi v9 c1_i32_4
  let c6_i32 : BitVec 32 := 6#32
  let v11 : BitVec 32 := Scalar.shrsi v10 c6_i32
  let c1_i32_5 : BitVec 32 := 1#32
  let v12 : BitVec 32 := Scalar.addi v11 c1_i32_5
  let c6_i32_6 : BitVec 32 := 6#32
  let v13 : BitVec 32 := Scalar.shli v12 c6_i32_6
  let c1_i32_7 : BitVec 32 := 1#32
  let v14 : BitVec 32 := Scalar.subi v13 c1_i32_7
  let c9_i32 : BitVec 32 := 9#32
  let v15 : BitVec 32 := Scalar.shrsi v14 c9_i32
  let c512_i32_52 : BitVec 32 := 512#32
  let v103 : BitVec 32 := Scalar.muli v15 c512_i32_52
  let v104 : BitVec 32 := v103
  let v108 : Index := Scalar.indexCast v104
  ![0, 0, v108.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x144x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "exp2_scale" => some (((3424635 / 33554432) * (Real.log 2)⁻¹ : ℝ) : EReal)
  | "mask" => some ⊥
  | _ => none
-- ==== ReferenceIdeal.lean ====
abbrev S8x4096x8x128 : Shape := ⟨4, ![8, 4096, 8, 128]⟩
abbrev S8x4096x8x32 : Shape := ⟨4, ![8, 4096, 8, 32]⟩
abbrev S8x4096x128 : Shape := ⟨3, ![8, 4096, 128]⟩
abbrev S8x4096x32 : Shape := ⟨3, ![8, 4096, 32]⟩
abbrev S128x8x64 : Shape := ⟨3, ![128, 8, 64]⟩
abbrev S8x4096x512 : Shape := ⟨3, ![8, 4096, 512]⟩
abbrev S4096 : Shape := ⟨1, ![4096]⟩
abbrev S8x4096x4096x8 : Shape := ⟨4, ![8, 4096, 4096, 8]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x128x8x4096 : Shape := ⟨4, ![8, 128, 8, 4096]⟩
abbrev S8x64x8x4096 : Shape := ⟨4, ![8, 64, 8, 4096]⟩
abbrev S8x4096x8x64 : Shape := ⟨4, ![8, 4096, 8, 64]⟩

abbrev nBuf : Space → Nat
  | .hbm => 91
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x32, .f32⟩
  | .hbm, ⟨2, _⟩ => ⟨S8x4096x128, .f32⟩
  | .hbm, ⟨3, _⟩ => ⟨S8x4096x32, .f32⟩
  | .hbm, ⟨4, _⟩ => ⟨S128x8x64, .f32⟩
  | .hbm, ⟨5, _⟩ => ⟨S8x4096x512, .f32⟩
  | .hbm, ⟨6, _⟩ => ⟨S4096, .i32⟩
  | .hbm, ⟨7, _⟩ => ⟨S8x4096x4096x8, .f32⟩
  | .hbm, ⟨8, _⟩ => ⟨S8x8x4096x4096, .f32⟩
  | .hbm, ⟨9, _⟩ => ⟨S8x4096x4096x8, .f32⟩
  | .hbm, ⟨10, _⟩ => ⟨S8x8x4096x4096, .f32⟩
  | .hbm, ⟨11, _⟩ => ⟨S8x8x4096x4096, .f32⟩
  | .hbm, ⟨12, _⟩ => ⟨S_, .f32⟩
  | .hbm, ⟨13, _⟩ => ⟨S8x8x4096x4096, .f32⟩
  | .hbm, ⟨14, _⟩ => ⟨S8x8x4096x4096, .f32⟩
  | .hbm, ⟨15, _⟩ => ⟨S1x4096, .i32⟩
  | .hbm, ⟨16, _⟩ => ⟨S_, .i32⟩
  | .hbm, ⟨17, _⟩ => ⟨S_, .i32⟩
  | .hbm, ⟨18, _⟩ => ⟨S1x4096, .i32⟩
  | .hbm, ⟨19, _⟩ => ⟨S1x4096, .i32⟩
  | .hbm, ⟨20, _⟩ => ⟨S1x4096, .i32⟩
  | .hbm, ⟨21, _⟩ => ⟨S_, .i32⟩
  | .hbm, ⟨22, _⟩ => ⟨S1x4096, .i32⟩
  | .hbm, ⟨23, _⟩ => ⟨S1x4096, .i1⟩
  | .hbm, ⟨24, _⟩ => ⟨S1x4096, .i32⟩
  | .hbm, ⟨25, _⟩ => ⟨S1x4096, .i32⟩
  | .hbm, ⟨26, _⟩ => ⟨S_, .i32⟩
  | .hbm, ⟨27, _⟩ => ⟨S1x4096, .i32⟩
  | .hbm, ⟨28, _⟩ => ⟨S1x4096, .i1⟩
  | .hbm, ⟨29, _⟩ => ⟨S1x4096, .i1⟩
  | .hbm, ⟨30, _⟩ => ⟨S_, .i32⟩
  | .hbm, ⟨31, _⟩ => ⟨S1x4096, .i32⟩
  | .hbm, ⟨32, _⟩ => ⟨S1x4096, .i32⟩
  | .hbm, ⟨33, _⟩ => ⟨S1x4096, .i32⟩
  | .hbm, ⟨34, _⟩ => ⟨S4096x1, .i32⟩
  | .hbm, ⟨35, _⟩ => ⟨S_, .i32⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S4096x1, .i32⟩
  | .hbm, ⟨44, _⟩ => ⟨S4096x1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i32⟩
  | .hbm, ⟨50, _⟩ => ⟨S4096x1, .i32⟩
  | .hbm, ⟨51, _⟩ => ⟨S4096x1, .i32⟩
  | .hbm, ⟨52, _⟩ => ⟨S4096x1, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S_, .f32⟩
  | .hbm, ⟨57, _⟩ => ⟨S_, .f32⟩
  | .hbm, ⟨58, _⟩ => ⟨S8x8x4096x4096, .i1⟩
  | .hbm, ⟨59, _⟩ => ⟨S8x8x4096x4096, .f32⟩
  | .hbm, ⟨60, _⟩ => ⟨S8x8x4096x4096, .f32⟩
  | .hbm, ⟨61, _⟩ => ⟨S_, .f32⟩
  | .hbm, ⟨62, _⟩ => ⟨S8x8x4096, .f32⟩
  | .hbm, ⟨63, _⟩ => ⟨S_, .f32⟩
  | .hbm, ⟨64, _⟩ => ⟨S8x8x4096, .f32⟩
  | .hbm, ⟨65, _⟩ => ⟨S8x8x4096, .f32⟩
  | .hbm, ⟨66, _⟩ => ⟨S8x8x4096x1, .f32⟩
  | .hbm, ⟨67, _⟩ => ⟨S8x8x4096x4096, .f32⟩
  | .hbm, ⟨68, _⟩ => ⟨S8x8x4096x4096, .f32⟩
  | .hbm, ⟨69, _⟩ => ⟨S8x8x4096x4096, .f32⟩
  | .hbm, ⟨70, _⟩ => ⟨S_, .f32⟩
  | .hbm, ⟨71, _⟩ => ⟨S8x8x4096, .f32⟩
  | .hbm, ⟨72, _⟩ => ⟨S8x8x4096x1, .f32⟩
  | .hbm, ⟨73, _⟩ => ⟨S8x8x4096x4096, .f32⟩
  | .hbm, ⟨74, _⟩ => ⟨S8x8x4096x4096, .f32⟩
  | .hbm, ⟨75, _⟩ => ⟨S8x128x8x4096, .f32⟩
  | .hbm, ⟨76, _⟩ => ⟨S8x4096x8x128, .f32⟩
  | .hbm, ⟨77, _⟩ => ⟨S8x64x8x4096, .f32⟩
  | .hbm, ⟨78, _⟩ => ⟨S8x4096x8x64, .f32⟩
  | .hbm, ⟨79, _⟩ => ⟨S8x4096x512, .f32⟩
  | .hbm, ⟨80, _⟩ => ⟨S8x4096x512, .f32⟩
  | .hbm, ⟨81, _⟩ => ⟨S8x4096x512, .f32⟩
  | .hbm, ⟨82, _⟩ => ⟨S_, .f32⟩
  | .hbm, ⟨83, _⟩ => ⟨S8x4096x512, .f32⟩
  | .hbm, ⟨84, _⟩ => ⟨S8x4096x512, .f32⟩
  | .hbm, ⟨85, _⟩ => ⟨S_, .f32⟩
  | .hbm, ⟨86, _⟩ => ⟨S8x4096x512, .f32⟩
  | .hbm, ⟨87, _⟩ => ⟨S8x4096x512, .f32⟩
  | .hbm, ⟨88, _⟩ => ⟨S8x4096x512, .f32⟩
  | .hbm, ⟨89, _⟩ => ⟨S8x4096x512, .f32⟩
  | .hbm, ⟨90, _⟩ => ⟨S8x4096x512, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v15 : Ref sig .tc := ⟨.hbm, 60, rfl⟩
abbrev main_cst_2 : Ref sig .tc := ⟨.hbm, 61, rfl⟩
abbrev main_v16 : Ref sig .tc := ⟨.hbm, 62, rfl⟩
abbrev main_cst_3 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x3072 : Shape := ⟨2, ![8, 3072]⟩
abbrev S1024 : Shape := ⟨1, ![1024]⟩
abbrev S1024x2980 : Shape := ⟨2, ![1024, 2980]⟩
abbrev S4 : Shape := ⟨1, ![4]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S1024x32 : Shape := ⟨2, ![1024, 32]⟩
abbrev S1024x4 : Shape := ⟨2, ![1024, 4]⟩
abbrev S_ : Shape := ⟨0, ![]⟩
abbrev S1024x28 : Shape := ⟨2, ![1024, 28]⟩
abbrev S1024x16 : Shape := ⟨2, ![1024, 16]⟩
abbrev S1024x128 : Shape := ⟨2, ![1024, 128]⟩
abbrev S1024x256 : Shape := ⟨2, ![1024, 256]⟩
abbrev S1024x512 : Shape := ⟨2, ![1024, 512]⟩
abbrev S1024x3072 : Shape := ⟨2, ![1024, 3072]⟩
abbrev S1x128 : Shape := ⟨2, ![1, 128]⟩
abbrev S1 : Shape := ⟨1, ![1]⟩
abbrev S2 : Shape := ⟨1, ![2]⟩
abbrev S256x8x96 : Shape := ⟨3, ![256, 8, 96]⟩
abbrev S256x8x64 : Shape := ⟨3, ![256, 8, 64]⟩
abbrev S256x512 : Shape := ⟨2, ![256, 512]⟩
abbrev S256x8x16 : Shape := ⟨3, ![256, 8, 16]⟩
abbrev S256x8x256 : Shape := ⟨3, ![256, 8, 256]⟩
abbrev S8x256x256 : Shape := ⟨3, ![8, 256, 256]⟩
abbrev S8x64x128 : Shape := ⟨3, ![8, 64, 128]⟩
abbrev S8x128x128 : Shape := ⟨3, ![8, 128, 128]⟩
abbrev S8 : Shape := ⟨1, ![8]⟩
abbrev S8x1x1 : Shape := ⟨3, ![8, 1, 1]⟩
abbrev S1x1024 : Shape := ⟨2, ![1, 1024]⟩
abbrev S1x256 : Shape := ⟨2, ![1, 256]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S8x1x3072 : Shape := ⟨3, ![8, 1, 3072]⟩
abbrev S8x4096x256 : Shape := ⟨3, ![8, 4096, 256]⟩
abbrev S8x8x4096x256 : Shape := ⟨4, ![8, 8, 4096, 256]⟩
abbrev S8x4096x128 : Shape := ⟨3, ![8, 4096, 128]⟩
abbrev S8x4096x512 : Shape := ⟨3, ![8, 4096, 512]⟩
abbrev S8x256x4096 : Shape := ⟨3, ![8, 256, 4096]⟩
abbrev S8x144x4096 : Shape := ⟨3, ![8, 144, 4096]⟩
abbrev S1x512x1024 : Shape := ⟨3, ![1, 512, 1024]⟩
abbrev S1x1x3072 : Shape := ⟨3, ![1, 1, 3072]⟩
abbrev S512x128 : Shape := ⟨2, ![512, 128]⟩
abbrev S1x512x256 : Shape := ⟨3, ![1, 512, 256]⟩
abbrev S1x8x512x256 : Shape := ⟨4, ![1, 8, 512, 256]⟩
abbrev S1x512x128 : Shape := ⟨3, ![1, 512, 128]⟩
abbrev S1x512x512 : Shape := ⟨3, ![1, 512, 512]⟩
abbrev S1x256x512 : Shape := ⟨3, ![1, 256, 512]⟩
abbrev S1x144x512 : Shape := ⟨3, ![1, 144, 512]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S128x512 : Shape := ⟨2, ![128, 512]⟩
abbrev S16x512 : Shape := ⟨2, ![16, 512]⟩
abbrev S144x512 : Shape := ⟨2, ![144, 512]⟩
abbrev S1x128x128 : Shape := ⟨3, ![1, 128, 128]⟩
abbrev S128x128 : Shape := ⟨2, ![128, 128]⟩
abbrev S1x256x256 : Shape := ⟨3, ![1, 256, 256]⟩
abbrev S256x256 : Shape := ⟨2, ![256, 256]⟩
abbrev S1x1x512x256 : Shape := ⟨4, ![1, 1, 512, 256]⟩
abbrev S8x4096x32 : Shape := ⟨3, ![8, 4096, 32]⟩
abbrev S8x4096x4 : Shape := ⟨3, ![8, 4096, 4]⟩
abbrev S8x8x4096x128 : Shape := ⟨4, ![8, 8, 4096, 128]⟩
abbrev S8x8x4096x32 : Shape := ⟨4, ![8, 8, 4096, 32]⟩

abbrev nBuf : Space → Nat
  | .hbm => 138
  | .vmem => 56
  | .smem => 0
  | _ => 0

abbrev hbmTy0_0 (i : Nat) : BufTy := match i % 128 with
  | 0 => ⟨S8x4096x1024, .f32⟩
  | 1 => ⟨S8x3072, .f32⟩
  | 2 => ⟨S1024, .f32⟩
  | 3 => ⟨S1024x2980, .f32⟩
  | 4 => ⟨S4, .f32⟩
  | 5 => ⟨S256, .f32⟩
  | 6 => ⟨S256x768, .f32⟩
  | 7 => ⟨S128, .f32⟩
  | 8 => ⟨S128x8x64, .f32⟩
  | 9 => ⟨S1024x32, .f32⟩
  | 10 => ⟨S1024x4, .f32⟩
  | 11 => ⟨S_, .f32⟩
  | 12 => ⟨S1024x28, .f32⟩
  | 13 => ⟨S1024x16, .f32⟩
  | 14 => ⟨S1024x16, .f32⟩
  | 15 => ⟨S1024x16, .f32⟩
  | 16 => ⟨S_, .f32⟩
  | 17 => ⟨S1024x32, .f32⟩
  | 18 => ⟨S1024x128, .f32⟩
  | 19 => ⟨S1024x256, .f32⟩
  | 20 => ⟨S1024x256, .f32⟩
  | 21 => ⟨S1024x256, .f32⟩
  | 22 => ⟨S1024x256, .f32⟩
  | 23 => ⟨S1024x256, .f32⟩
  | 24 => ⟨S1024x256, .f32⟩
  | 25 => ⟨S1024x256, .f32⟩
  | 26 => ⟨S1024x256, .f32⟩
  | 27 => ⟨S1024x256, .f32⟩
  | 28 => ⟨S1024x128, .f32⟩
  | 29 => ⟨S1024x512, .f32⟩
  | 30 => ⟨S1024x3072, .f32⟩
  | 31 => ⟨S1024x3072, .bf16⟩
  | 32 => ⟨S_, .f32⟩
  | 33 => ⟨S1x128, .f32⟩
  | 34 => ⟨S_, .i32⟩
  | 35 => ⟨S1, .i32⟩
  | 36 => ⟨S_, .i32⟩
  | 37 => ⟨S1, .i32⟩
  | 38 => ⟨S2, .i32⟩
  | 39 => ⟨S1x128, .f32⟩
  | 40 => ⟨S256x8x96, .f32⟩
  | 41 => ⟨S256x8x64, .f32⟩
  | 42 => ⟨S256x512, .f32⟩
  | 43 => ⟨S256x512, .bf16⟩
  | 44 => ⟨S256x8x16, .f32⟩
  | 45 => ⟨S256x8x16, .f32⟩
  | 46 => ⟨S_, .f32⟩
  | 47 => ⟨S256x8x96, .f32⟩
  | 48 => ⟨S256x8x16, .f32⟩
  | 49 => ⟨S256x8x256, .f32⟩
  | 50 => ⟨S8x256x256, .f32⟩
  | 51 => ⟨S8x256x256, .bf16⟩
  | 52 => ⟨S8x64x128, .f32⟩
  | 53 => ⟨S_, .f32⟩
  | 54 => ⟨S8x64x128, .f32⟩
  | 55 => ⟨S8x128x128, .f32⟩
  | 56 => ⟨S8x128x128, .f32⟩
  | 57 => ⟨S8, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S8, .i32⟩
  | 65 => ⟨S8, .i32⟩
  | 66 => ⟨S_, .i32⟩
  | 67 => ⟨S8, .i32⟩
  | 68 => ⟨S8, .i1⟩
  | 69 => ⟨S_, .i32⟩
  | 70 => ⟨S8, .i32⟩
  | 71 => ⟨S8, .i1⟩
  | 72 => ⟨S_, .i32⟩
  | 73 => ⟨S_, .i1⟩
  | 74 => ⟨S8, .i1⟩
  | 75 => ⟨S8, .i1⟩
  | 76 => ⟨S8, .i1⟩
  | 77 => ⟨S8, .i32⟩
  | 78 => ⟨S8, .i32⟩
  | 79 => ⟨S8, .i32⟩
  | 80 => ⟨S_, .i32⟩
  | 81 => ⟨S8, .i32⟩
  | 82 => ⟨S8, .i1⟩
  | 83 => ⟨S8x1x1, .i1⟩
  | 84 => ⟨S8x128x128, .i1⟩
  | 85 => ⟨S8x128x128, .f32⟩
  | 86 => ⟨S8x128x128, .bf16⟩
  | 87 => ⟨S1x1024, .f32⟩
  | 88 => ⟨S1x256, .f32⟩
  | 89 => ⟨S1x128, .f32⟩
  | 90 => ⟨S4096, .i32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S4096, .f32⟩
  | 100 => ⟨S4096x1, .f32⟩
  | 101 => ⟨S1x16, .f32⟩
  | 102 => ⟨S4096x16, .f32⟩
  | 103 => ⟨S4096x16, .f32⟩
  | 104 => ⟨S4096x16, .f32⟩
  | 105 => ⟨S_, .f32⟩
  | 106 => ⟨S4096x96, .f32⟩
  | 107 => ⟨S4096x16, .f32⟩
  | 108 => ⟨S4096x16, .f32⟩
  | 109 => ⟨S4096x128, .f32⟩
  | 110 => ⟨S4096x16, .f32⟩
  | 111 => ⟨S4096x16, .f32⟩
  | 112 => ⟨S4096x128, .f32⟩
  | 113 => ⟨S8x1x3072, .f32⟩
  | 114 => ⟨S8x4096x256, .bf16⟩
  | 115 => ⟨S8x4096x256, .f32⟩
  | 116 => ⟨S8x4096x256, .bf16⟩
  | 117 => ⟨S8x4096x256, .f32⟩
  | 118 => ⟨S8x4096x256, .bf16⟩
  | 119 => ⟨S8x4096x256, .f32⟩
  | 120 => ⟨S8x4096x256, .bf16⟩
  | 121 => ⟨S8x4096x256, .f32⟩
  | 122 => ⟨S8x4096x256, .bf16⟩
  | 123 => ⟨S8x4096x256, .f32⟩
  | 124 => ⟨S8x4096x256, .bf16⟩
  | 125 => ⟨S8x4096x256, .f32⟩
  | 126 => ⟨S8x8x4096x256, .f32⟩
  | 127 => ⟨S8x4096x128, .f32⟩
  | _ => ⟨S8x4096x1024, .f32⟩

abbrev hbmTy0_1 (i : Nat) : BufTy := match i % 128 with
  | 0 => ⟨S8x4096x256, .bf16⟩
  | 1 => ⟨S8x4096x512, .f32⟩
  | 2 => ⟨S8x4096x128, .f32⟩
  | 3 => ⟨S8x256x4096, .bf16⟩
  | 4 => ⟨S8x256x4096, .bf16⟩
  | 5 => ⟨S8x144x4096, .bf16⟩
  | 6 => ⟨S8x4096x32, .f32⟩
  | 7 => ⟨S8x4096x4, .f32⟩
  | 8 => ⟨S8x8x4096x128, .f32⟩
  | 9 => ⟨S8x8x4096x32, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x3072, .bf16⟩
  | .local _ .vmem, ⟨6, _⟩ => ⟨S1x128, .f32⟩
  | .local _ .vmem, ⟨7, _⟩ => ⟨S1x256, .f32⟩
  | .local _ .vmem, ⟨8, _⟩ => ⟨S256x512, .bf16⟩
  | .local _ .vmem, ⟨9, _⟩ => ⟨S8x256x256, .bf16⟩
  | .local _ .vmem, ⟨10, _⟩ => ⟨S8x128x128, .bf16⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512x256, .bf16⟩
  | .local _ .vmem, ⟨17, _⟩ => ⟨S1x512x256, .bf16⟩
  | .local _ .vmem, ⟨18, _⟩ => ⟨S1x512x256, .f32⟩
  | .local _ .vmem, ⟨19, _⟩ => ⟨S1x512x256, .f32⟩
  | .local _ .vmem, ⟨20, _⟩ => ⟨S1x512x256, .bf16⟩
  | .local _ .vmem, ⟨21, _⟩ => ⟨S1x512x256, .bf16⟩
  | .local _ .vmem, ⟨22, _⟩ => ⟨S1x512x256, .f32⟩
  | .local _ .vmem, ⟨23, _⟩ => ⟨S1x512x256, .f32⟩
  | .local _ .vmem, ⟨24, _⟩ => ⟨S1x512x256, .bf16⟩
  | .local _ .vmem, ⟨25, _⟩ => ⟨S1x512x256, .bf16⟩
  | .local _ .vmem, ⟨26, _⟩ => ⟨S1x512x256, .f32⟩
  | .local _ .vmem, ⟨27, _⟩ => ⟨S1x512x256, .f32⟩
  | .local _ .vmem, ⟨28, _⟩ => ⟨S1x512x256, .bf16⟩
  | .local _ .vmem, ⟨29, _⟩ => ⟨S1x512x256, .bf16⟩
  | .local _ .vmem, ⟨30, _⟩ => ⟨S1x512x256, .f32⟩
  | .local _ .vmem, ⟨31, _⟩ => ⟨S1x512x256, .f32⟩
  | .local _ .vmem, ⟨32, _⟩ => ⟨S1x512x256, .bf16⟩
  | .local _ .vmem, ⟨33, _⟩ => ⟨S1x512x256, .bf16⟩
  | .local _ .vmem, ⟨34, _⟩ => ⟨S1x512x256, .f32⟩
  | .local _ .vmem, ⟨35, _⟩ => ⟨S1x512x256, .f32⟩
  | .local _ .vmem, ⟨36, _⟩ => ⟨S1x512x256, .bf16⟩
  | .local _ .vmem, ⟨37, _⟩ => ⟨S1x512x256, .bf16⟩
  | .local _ .vmem, ⟨38, _⟩ => ⟨S1x512x256, .f32⟩
  | .local _ .vmem, ⟨39, _⟩ => ⟨S1x512x256, .f32⟩
  | .local _ .vmem, ⟨40, _⟩ => ⟨S1x8x512x256, .f32⟩
  | .local _ .vmem, ⟨41, _⟩ => ⟨S1x8x512x256, .f32⟩
  | .local _ .vmem, ⟨42, _⟩ => ⟨S1x512x128, .f32⟩
  | .local _ .vmem, ⟨43, _⟩ => ⟨S1x512x128, .f32⟩
  | .local _ .vmem, ⟨44, _⟩ => ⟨S1x512x256, .bf16⟩
  | .local _ .vmem, ⟨45, _⟩ => ⟨S1x512x256, .bf16⟩
  | .local _ .vmem, ⟨46, _⟩ => ⟨S1x512x512, .f32⟩
  | .local _ .vmem, ⟨47, _⟩ => ⟨S1x512x512, .f32⟩
  | .local _ .vmem, ⟨48, _⟩ => ⟨S1x512x128, .f32⟩
  | .local _ .vmem, ⟨49, _⟩ => ⟨S1x512x128, .f32⟩
  | .local _ .vmem, ⟨50, _⟩ => ⟨S1x256x512, .bf16⟩
  | .local _ .vmem, ⟨51, _⟩ => ⟨S1x256x512, .bf16⟩
  | .local _ .vmem, ⟨52, _⟩ => ⟨S1x256x512, .bf16⟩
  | .local _ .vmem, ⟨53, _⟩ => ⟨S1x256x512, .bf16⟩
  | .local _ .vmem, ⟨54, _⟩ => ⟨S1x144x512, .bf16⟩
  | .local _ .vmem, ⟨55, _⟩ => ⟨S1x144x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_c_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_1 : Ref sig .tc := ⟨.hbm, 66, rfl⟩
abbrev main_call0_v5 : Ref sig .tc := ⟨.hbm, 67, rfl⟩
abbrev main_call0_v6 : Ref sig .tc := ⟨.hbm, 68, rfl⟩
abbrev main_call0_c_2 : Ref sig .tc := ⟨.hbm, 69, rfl⟩
abbrev main_call0_v7 : Ref sig .tc := ⟨.hbm, 70, rfl⟩
abbrev main_call0_v8 : Ref sig .tc := ⟨.hbm, 71, rfl⟩
abbrev main_call0_c_3 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_v42 : Ref sig .tc := ⟨.hbm, 79, rfl⟩
abbrev main_c_6 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call1_v0 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_7 : Ref sig .tc := ⟨.hbm, 93, rfl⟩
abbrev main_v54 : Ref sig .tc := ⟨.hbm, 94, rfl⟩
abbrev main_v55 : Ref sig .tc := ⟨.hbm, 95, rfl⟩
abbrev main_cst_8 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_9 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72_0 : Ref sig .tc := ⟨.hbm, 114, rfl⟩
abbrev main_v72_1 : Ref sig .tc := ⟨.hbm, 115, rfl⟩
abbrev main_v72_2 : Ref sig .tc := ⟨.hbm, 116, rfl⟩
abbrev main_v72_3 : Ref sig .tc := ⟨.hbm, 117, rfl⟩
abbrev main_v72_4 : Ref sig .tc := ⟨.hbm, 118, rfl⟩
abbrev main_v72_5 : Ref sig .tc := ⟨.hbm, 119, rfl⟩
abbrev main_v72_6 : Ref sig .tc := ⟨.hbm, 120, rfl⟩
abbrev main_v72_7 : Ref sig .tc := ⟨.hbm, 121, rfl⟩
abbrev main_v72_8 : Ref sig .tc := ⟨.hbm, 122, rfl⟩
abbrev main_v72_9 : Ref sig .tc := ⟨.hbm, 123, rfl⟩
abbrev main_v72_10 : Ref sig .tc := ⟨.hbm, 124, rfl⟩
abbrev main_v72_11 : Ref sig .tc := ⟨.hbm, 125, rfl⟩
abbrev main_v72_12 : Ref sig .tc := ⟨.hbm, 126, rfl⟩
abbrev main_v72_13 : Ref sig .tc := ⟨.hbm, 127, rfl⟩
abbrev main_v72_14 : Ref sig .tc := ⟨.hbm, 128, rfl⟩
abbrev main_v72_15 : Ref sig .tc := ⟨.hbm, 129, rfl⟩
abbrev main_v72_16 : Ref sig .tc := ⟨.hbm, 130, rfl⟩
abbrev main_v72_17 : Ref sig .tc := ⟨.hbm, 131, rfl⟩
abbrev main_v72_18 : Ref sig .tc := ⟨.hbm, 132, rfl⟩
abbrev main_v72_19 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg27_1 : Ref sig .tc := ⟨.vmem, 47, rfl⟩
abbrev cc0_stg28_0 : Ref sig .tc := ⟨.vmem, 48, rfl⟩
abbrev cc0_stg28_1 : Ref sig .tc := ⟨.vmem, 49, rfl⟩
abbrev cc0_stg29_0 : Ref sig .tc := ⟨.vmem, 50, rfl⟩
abbrev cc0_stg29_1 : Ref sig .tc := ⟨.vmem, 51, rfl⟩
abbrev cc0_stg30_0 : Ref sig .tc := ⟨.vmem, 52, rfl⟩
abbrev cc0_stg30_1 : Ref sig .tc := ⟨.vmem, 53, rfl⟩
abbrev cc0_stg31_0 : Ref sig .tc := ⟨.vmem, 54, rfl⟩
abbrev cc0_stg31_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem27_1 : DmaSem sig := 47
abbrev cc0_sem28_0 : DmaSem sig := 48
abbrev cc0_sem28_1 : DmaSem sig := 49
abbrev cc0_sem29_0 : DmaSem sig := 50
abbrev cc0_sem29_1 : DmaSem sig := 51
abbrev cc0_sem30_0 : DmaSem sig := 52
abbrev cc0_sem30_1 : DmaSem sig := 53
abbrev cc0_sem31_0 : DmaSem sig := 54
abbrev cc0_sem31_1 : DmaSem sig := 55

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x256x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x256x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x144x512 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]
-- ==== Reference2Ideal.lean ====
abbrev S8x4096x1024 : Shape := ⟨3, ![8, 4096, 1024]⟩
abbrev S8x3072 : Shape := ⟨2, ![8, 3072]⟩
abbrev S1024 : Shape := ⟨1, ![1024]⟩
abbrev S1024x2980 : Shape := ⟨2, ![1024, 2980]⟩
abbrev S4 : Shape := ⟨1, ![4]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S4096 : Shape := ⟨1, ![4096]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2980 : Shape := ⟨3, ![8, 4096, 2980]⟩
abbrev S8x4096x256 : Shape := ⟨3, ![8, 4096, 256]⟩
abbrev S8x4096x4 : Shape := ⟨3, ![8, 4096, 4]⟩
abbrev S8x4096x128 : Shape := ⟨3, ![8, 4096, 128]⟩
abbrev S8x4096x32 : Shape := ⟨3, ![8, 4096, 32]⟩
abbrev S8x4096x512 : Shape := ⟨3, ![8, 4096, 512]⟩
abbrev S1x1x4 : Shape := ⟨3, ![1, 1, 4]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x8x32 : Shape := ⟨4, ![8, 4096, 8, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x16 : Shape := ⟨4, ![8, 4096, 8, 16]⟩
abbrev S8x4096x8x64 : Shape := ⟨4, ![8, 4096, 8, 64]⟩
abbrev S8x128x8x4096 : Shape := ⟨4, ![8, 128, 8, 4096]⟩
abbrev S8x4096x8x128 : Shape := ⟨4, ![8, 4096, 8, 128]⟩
abbrev S1x1x128 : Shape := ⟨3, ![1, 1, 128]⟩
abbrev S8x4096x1x32 : Shape := ⟨4, ![8, 4096, 1, 32]⟩
abbrev S8x4096x1x16 : Shape := ⟨4, ![8, 4096, 1, 16]⟩
abbrev S8x8x4096x128 : Shape := ⟨4, ![8, 8, 4096, 128]⟩
abbrev S8x8x4096x32 : Shape := ⟨4, ![8, 8, 4096, 32]⟩

abbrev nBuf : Space → Nat
  | .hbm => 183
  | .vmem => 0
  | .smem => 0
  | _ => 0

abbrev hbmTy0_0 (i : Nat) : BufTy := match i % 128 with
  | 0 => ⟨S8x4096x1024, .f32⟩
  | 1 => ⟨S8x3072, .f32⟩
  | 2 => ⟨S1024, .f32⟩
  | 3 => ⟨S1024x2980, .f32⟩
  | 4 => ⟨S4, .f32⟩
  | 5 => ⟨S256, .f32⟩
  | 6 => ⟨S256x768, .f32⟩
  | 7 => ⟨S128, .f32⟩
  | 8 => ⟨S128x8x64, .f32⟩
  | 9 => ⟨S4096, .i32⟩
  | 10 => ⟨S8x1024, .f32⟩
  | 11 => ⟨S8x1024, .f32⟩
  | 12 => ⟨S8x1024, .f32⟩
  | 13 => ⟨S8x4096x1024, .f32⟩
  | 14 => ⟨S_, .f32⟩
  | 15 => ⟨S8x4096, .f32⟩
  | 16 => ⟨S8x4096x1, .f32⟩
  | 17 => ⟨S_, .f32⟩
  | 18 => ⟨S8x4096x1, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S8x1x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x1x1024, .f32⟩
  | 36 => ⟨S8x4096x1024, .f32⟩
  | 37 => ⟨S8x4096x1024, .f32⟩
  | 38 => ⟨S8x4096x2980, .f32⟩
  | 39 => ⟨S8x4096x256, .f32⟩
  | 40 => ⟨S8x4096x256, .f32⟩
  | 41 => ⟨S8x4096x256, .f32⟩
  | 42 => ⟨S8x4096x4, .f32⟩
  | 43 => ⟨S8x4096x256, .f32⟩
  | 44 => ⟨S8x4096x256, .f32⟩
  | 45 => ⟨S8x4096x256, .f32⟩
  | 46 => ⟨S8x4096x256, .f32⟩
  | 47 => ⟨S8x4096x256, .f32⟩
  | 48 => ⟨S8x4096x256, .f32⟩
  | 49 => ⟨S8x4096x128, .f32⟩
  | 50 => ⟨S8x4096x32, .f32⟩
  | 51 => ⟨S8x4096x512, .f32⟩
  | 52 => ⟨S1x1x4, .f32⟩
  | 53 => ⟨S8x4096x4, .f32⟩
  | 54 => ⟨S8x4096x4, .f32⟩
  | 55 => ⟨S8x4096x4, .f32⟩
  | 56 => ⟨S_, .f32⟩
  | 57 => ⟨S8x4096x4, .f32⟩
  | 58 => ⟨S8x4096x4, .f32⟩
  | 59 => ⟨S8x4096x4, .f32⟩
  | 60 => ⟨S8x4096x4, .f32⟩
  | 61 => ⟨S8x4096x4, .i1⟩
  | 62 => ⟨S8x4096x4, .f32⟩
  | 63 => ⟨S8x4096x4, .f32⟩
  | 64 => ⟨S8x4096x4, .f32⟩
  | 65 => ⟨S8x4096x4, .f32⟩
  | 66 => ⟨S8x4096x4, .f32⟩
  | 67 => ⟨S8x4096x4, .f32⟩
  | 68 => ⟨S8x4096x4, .f32⟩
  | 69 => ⟨S8x4096x4, .f32⟩
  | 70 => ⟨S8x4096x4, .f32⟩
  | 71 => ⟨S8x4096x256, .f32⟩
  | 72 => ⟨S_, .f32⟩
  | 73 => ⟨S8x4096, .f32⟩
  | 74 => ⟨S8x4096x1, .f32⟩
  | 75 => ⟨S_, .f32⟩
  | 76 => ⟨S8x4096x1, .f32⟩
  | 77 => ⟨S8x4096x1, .f32⟩
  | 78 => ⟨S_, .f32⟩
  | 79 => ⟨S8x4096x1, .f32⟩
  | 80 => ⟨S8x4096x1, .f32⟩
  | 81 => ⟨S8x4096x1, .f32⟩
  | 82 => ⟨S8x4096x256, .f32⟩
  | 83 => ⟨S8x4096x256, .f32⟩
  | 84 => ⟨S1x1x256, .f32⟩
  | 85 => ⟨S8x4096x256, .f32⟩
  | 86 => ⟨S8x4096x256, .f32⟩
  | 87 => ⟨S8x4096x768, .f32⟩
  | 88 => ⟨S8x4096x8x96, .f32⟩
  | 89 => ⟨S8x4096x8x32, .f32⟩
  | 90 => ⟨S16, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S4096, .f32⟩
  | 99 => ⟨S4096x1, .f32⟩
  | 100 => ⟨S1x16, .f32⟩
  | 101 => ⟨S4096x16, .f32⟩
  | 102 => ⟨S4096x16, .f32⟩
  | 103 => ⟨S4096x16, .f32⟩
  | 104 => ⟨S4096x16, .f32⟩
  | 105 => ⟨S1x4096x1x16, .f32⟩
  | 106 => ⟨S4096x16, .f32⟩
  | 107 => ⟨S1x4096x1x16, .f32⟩
  | 108 => ⟨S8x4096x8x16, .f32⟩
  | 109 => ⟨S8x4096x8x16, .f32⟩
  | 110 => ⟨S8x4096x8x16, .f32⟩
  | 111 => ⟨S8x4096x8x16, .f32⟩
  | 112 => ⟨S8x4096x8x16, .f32⟩
  | 113 => ⟨S8x4096x8x16, .f32⟩
  | 114 => ⟨S8x4096x8x16, .f32⟩
  | 115 => ⟨S8x4096x8x16, .f32⟩
  | 116 => ⟨S8x4096x8x16, .f32⟩
  | 117 => ⟨S8x4096x8x16, .f32⟩
  | 118 => ⟨S8x4096x8x16, .f32⟩
  | 119 => ⟨S8x4096x8x16, .f32⟩
  | 120 => ⟨S8x4096x8x32, .f32⟩
  | 121 => ⟨S8x4096x8x64, .f32⟩
  | 122 => ⟨S8x128x8x4096, .f32⟩
  | 123 => ⟨S8x4096x8x128, .f32⟩
  | 124 => ⟨S8x4096x128, .f32⟩
  | 125 => ⟨S_, .f32⟩
  | 126 => ⟨S8x4096, .f32⟩
  | 127 => ⟨S8x4096x1, .f32⟩
  | _ => ⟨S8x4096x1024, .f32⟩

abbrev hbmTy0_1 (i : Nat) : BufTy := match i % 128 with
  | 0 => ⟨S_, .f32⟩
  | 1 => ⟨S8x4096x1, .f32⟩
  | 2 => ⟨S8x4096x1, .f32⟩
  | 3 => ⟨S_, .f32⟩
  | 4 => ⟨S8x4096x1, .f32⟩
  | 5 => ⟨S8x4096x1, .f32⟩
  | 6 => ⟨S8x4096x1, .f32⟩
  | 7 => ⟨S8x4096x128, .f32⟩
  | 8 => ⟨S8x4096x128, .f32⟩
  | 9 => ⟨S1x1x128, .f32⟩
  | 10 => ⟨S8x4096x128, .f32⟩
  | 11 => ⟨S8x4096x128, .f32⟩
  | 12 => ⟨S8x4096x1x32, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S4096, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x16, .f32⟩
  | 28 => ⟨S1x4096x1x16, .f32⟩
  | 29 => ⟨S4096x16, .f32⟩
  | 30 => ⟨S1x4096x1x16, .f32⟩
  | 31 => ⟨S8x4096x1x16, .f32⟩
  | 32 => ⟨S8x4096x1x16, .f32⟩
  | 33 => ⟨S8x4096x1x16, .f32⟩
  | 34 => ⟨S8x4096x1x16, .f32⟩
  | 35 => ⟨S8x4096x1x16, .f32⟩
  | 36 => ⟨S8x4096x1x16, .f32⟩
  | 37 => ⟨S8x4096x1x16, .f32⟩
  | 38 => ⟨S8x4096x1x16, .f32⟩
  | 39 => ⟨S8x4096x1x16, .f32⟩
  | 40 => ⟨S8x4096x1x16, .f32⟩
  | 41 => ⟨S8x4096x1x16, .f32⟩
  | 42 => ⟨S8x4096x1x16, .f32⟩
  | 43 => ⟨S8x4096x1x32, .f32⟩
  | 44 => ⟨S8x4096x32, .f32⟩
  | 45 => ⟨S_, .f32⟩
  | 46 => ⟨S8x4096x256, .f32⟩
  | 47 => ⟨S8x4096x256, .f32⟩
  | 48 => ⟨S8x4096x256, .bf16⟩
  | 49 => ⟨S_, .f32⟩
  | 50 => ⟨S8x4096x256, .f32⟩
  | 51 => ⟨S8x4096x256, .f32⟩
  | 52 => ⟨S8x4096x256, .bf16⟩
  | 53 => ⟨S8x8x4096x128, .f32⟩
  | 54 => ⟨S8x8x4096x32, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_cst_7 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_8 : Ref sig .tc := ⟨.hbm, 125, rfl⟩
abbrev main_v92 : Ref sig .tc := ⟨.hbm, 126, rfl⟩
abbrev main_v93 : Ref sig .tc := ⟨.hbm, 127, rfl⟩
abbrev main_cst_9 : Ref sig .tc := ⟨.hbm, 128, rfl⟩
abbrev main_v94 : Ref sig .tc := ⟨.hbm, 129, rfl⟩
abbrev main_v95 : Ref sig .tc := ⟨.hbm, 130, rfl⟩
abbrev main_cst_10 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_11 : Ref sig .tc := ⟨.hbm, 143, rfl⟩
abbrev main_v107 : Ref sig .tc := ⟨.hbm, 144, rfl⟩
abbrev main_v108 : Ref sig .tc := ⟨.hbm, 145, rfl⟩
abbrev main_cst_12 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_13 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_14 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩

abbrev nD : Nat := 1
abbrev τ : Topo := Topo.v7x

variable {F : FTy → Type} [FloatOps F]
-- ==== Kernel3.lean ====
abbrev S8x4096x256 : Shape := ⟨3, ![8, 4096, 256]⟩
abbrev S8x4096x512 : Shape := ⟨3, ![8, 4096, 512]⟩
abbrev S1024x1024 : Shape := ⟨2, ![1024, 1024]⟩
abbrev S8x4096x1024 : Shape := ⟨3, ![8, 4096, 1024]⟩
abbrev S8x3072 : Shape := ⟨2, ![8, 3072]⟩
abbrev S1024 : Shape := ⟨1, ![1024]⟩
abbrev S8x1x3072 : Shape := ⟨3, ![8, 1, 3072]⟩
abbrev S1x1024 : Shape := ⟨2, ![1, 1024]⟩
abbrev S1x512x256 : Shape := ⟨3, ![1, 512, 256]⟩
abbrev S1x512x512 : Shape := ⟨3, ![1, 512, 512]⟩
abbrev S1x512x1024 : Shape := ⟨3, ![1, 512, 1024]⟩
abbrev S1x1x3072 : Shape := ⟨3, ![1, 1, 3072]⟩
abbrev S512x256 : Shape := ⟨2, ![512, 256]⟩
abbrev S256x1024 : Shape := ⟨2, ![256, 1024]⟩
abbrev S512x1024 : Shape := ⟨2, ![512, 1024]⟩
abbrev S512x512 : Shape := ⟨2, ![512, 512]⟩
abbrev S1x3072 : Shape := ⟨2, ![1, 3072]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x512, .f32⟩
  | .hbm, ⟨3, _⟩ => ⟨S1024x1024, .f32⟩
  | .hbm, ⟨4, _⟩ => ⟨S8x4096x1024, .f32⟩
  | .hbm, ⟨5, _⟩ => ⟨S8x3072, .f32⟩
  | .hbm, ⟨6, _⟩ => ⟨S1024, .f32⟩
  | .hbm, ⟨7, _⟩ => ⟨S8x4096x256, .bf16⟩
  | .hbm, ⟨8, _⟩ => ⟨S8x4096x256, .bf16⟩
  | .hbm, ⟨9, _⟩ => ⟨S8x4096x512, .bf16⟩
  | .hbm, ⟨10, _⟩ => ⟨S1024x1024, .bf16⟩
  | .hbm, ⟨11, _⟩ => ⟨S8x1x3072, .f32⟩
  | .hbm, ⟨12, _⟩ => ⟨S1x1024, .f32⟩
  | .hbm, ⟨13, _⟩ => ⟨S8x4096x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x1x3072, .f32⟩
  | .local _ .vmem, ⟨10, _⟩ => ⟨S1x1x3072, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x256 : Shape := ⟨3, ![8, 4096, 256]⟩
abbrev S8x4096x512 : Shape := ⟨3, ![8, 4096, 512]⟩
abbrev S1024x1024 : Shape := ⟨2, ![1024, 1024]⟩
abbrev S8x4096x1024 : Shape := ⟨3, ![8, 4096, 1024]⟩
abbrev S8x3072 : Shape := ⟨2, ![8, 3072]⟩
abbrev S1024 : Shape := ⟨1, ![1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x512, .f32⟩
  | .hbm, ⟨3, _⟩ => ⟨S1024x1024, .f32⟩
  | .hbm, ⟨4, _⟩ => ⟨S8x4096x1024, .f32⟩
  | .hbm, ⟨5, _⟩ => ⟨S8x3072, .f32⟩
  | .hbm, ⟨6, _⟩ => ⟨S1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x4096x1024, .f32⟩
  | .hbm, ⟨11, _⟩ => ⟨S8x4096x1024, .f32⟩
  | .hbm, ⟨12, _⟩ => ⟨S8x1x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel4.lean ====
abbrev S8x16x256 : Shape := ⟨3, ![8, 16, 256]⟩
abbrev S8x16x512 : Shape := ⟨3, ![8, 16, 512]⟩
abbrev S1024x1024 : Shape := ⟨2, ![1024, 1024]⟩
abbrev S8x16x1024 : Shape := ⟨3, ![8, 16, 1024]⟩
abbrev S8x3072 : Shape := ⟨2, ![8, 3072]⟩
abbrev S1024 : Shape := ⟨1, ![1024]⟩
abbrev S1x128x256 : Shape := ⟨3, ![1, 128, 256]⟩
abbrev S1x128x512 : Shape := ⟨3, ![1, 128, 512]⟩
abbrev S1x128x1024 : Shape := ⟨3, ![1, 128, 1024]⟩
abbrev S8x16x3072 : Shape := ⟨3, ![8, 16, 3072]⟩
abbrev S128x3072 : Shape := ⟨2, ![128, 3072]⟩
abbrev S1x128x3072 : Shape := ⟨3, ![1, 128, 3072]⟩
abbrev S1x1024 : Shape := ⟨2, ![1, 1024]⟩
abbrev S128x256 : Shape := ⟨2, ![128, 256]⟩
abbrev S256x1024 : Shape := ⟨2, ![256, 1024]⟩
abbrev S128x1024 : Shape := ⟨2, ![128, 1024]⟩
abbrev S128x512 : Shape := ⟨2, ![128, 512]⟩
abbrev S512x1024 : Shape := ⟨2, ![512, 1024]⟩
abbrev S128 : Shape := ⟨1, ![128]⟩
abbrev S128x1 : Shape := ⟨2, ![128, 1]⟩

abbrev nBuf : Space → Nat
  | .hbm => 20
  | .vmem => 8
  | .smem => 0
  | _ => 0

abbrev bufTy : (tb : Table) → Fin (tcTables nBuf tb) → BufTy
  | .hbm, ⟨0, _⟩ => ⟨S8x16x256, .f32⟩
  | .hbm, ⟨1, _⟩ => ⟨S8x16x256, .f32⟩
  | .hbm, ⟨2, _⟩ => ⟨S8x16x512, .f32⟩
  | .hbm, ⟨3, _⟩ => ⟨S1024x1024, .f32⟩
  | .hbm, ⟨4, _⟩ => ⟨S8x16x1024, .f32⟩
  | .hbm, ⟨5, _⟩ => ⟨S8x3072, .f32⟩
  | .hbm, ⟨6, _⟩ => ⟨S1024, .f32⟩
  | .hbm, ⟨7, _⟩ => ⟨S8x16x256, .bf16⟩
  | .hbm, ⟨8, _⟩ => ⟨S1x128x256, .bf16⟩
  | .hbm, ⟨9, _⟩ => ⟨S8x16x256, .bf16⟩
  | .hbm, ⟨10, _⟩ => ⟨S1x128x256, .bf16⟩
  | .hbm, ⟨11, _⟩ => ⟨S8x16x512, .bf16⟩
  | .hbm, ⟨12, _⟩ => ⟨S1x128x512, .bf16⟩
  | .hbm, ⟨13, _⟩ => ⟨S1024x1024, .bf16⟩
  | .hbm, ⟨14, _⟩ => ⟨S1x128x1024, .f32⟩
  | .hbm, ⟨15, _⟩ => ⟨S8x16x3072, .f32⟩
  | .hbm, ⟨16, _⟩ => ⟨S128x3072, .f32⟩
  | .hbm, ⟨17, _⟩ => ⟨S1x128x3072, .f32⟩
  | .hbm, ⟨18, _⟩ => ⟨S1x1024, .f32⟩
  | .hbm, ⟨19, _⟩ => ⟨S1x128x1024, .f32⟩
  | .local _ .vmem, ⟨0, _⟩ => ⟨S1x128x256, .bf16⟩
  | .local _ .vmem, ⟨1, _⟩ => ⟨S1x128x256, .bf16⟩
  | .local _ .vmem, ⟨2, _⟩ => ⟨S1x128x512, .bf16⟩
  | .local _ .vmem, ⟨3, _⟩ => ⟨S1024x1024, .bf16⟩
  | .local _ .vmem, ⟨4, _⟩ => ⟨S1x128x1024, .f32⟩
  | .local _ .vmem, ⟨5, _⟩ => ⟨S1x128x3072, .f32⟩
  | .local _ .vmem, ⟨6, _⟩ => ⟨S1x1024, .f32⟩
  | .local _ .vmem, ⟨7, _⟩ => ⟨S1x128x1024, .f32⟩
  | _, _ => ⟨S8x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference4Ideal.lean ====
abbrev S8x16x256 : Shape := ⟨3, ![8, 16, 256]⟩
abbrev S8x16x512 : Shape := ⟨3, ![8, 16, 512]⟩
abbrev S1024x1024 : Shape := ⟨2, ![1024, 1024]⟩
abbrev S8x16x1024 : Shape := ⟨3, ![8, 16, 1024]⟩
abbrev S8x3072 : Shape := ⟨2, ![8, 3072]⟩
abbrev S1024 : Shape := ⟨1, ![1024]⟩
abbrev S8x1024 : Shape := ⟨2, ![8, 1024]⟩
abbrev S8x1x1024 : Shape := ⟨3, ![8, 1, 1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S1x128x1024 : Shape := ⟨3, ![1, 128, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x16x256, .f32⟩
  | .hbm, ⟨1, _⟩ => ⟨S8x16x256, .f32⟩
  | .hbm, ⟨2, _⟩ => ⟨S8x16x512, .f32⟩
  | .hbm, ⟨3, _⟩ => ⟨S1024x1024, .f32⟩
  | .hbm, ⟨4, _⟩ => ⟨S8x16x1024, .f32⟩
  | .hbm, ⟨5, _⟩ => ⟨S8x3072, .f32⟩
  | .hbm, ⟨6, _⟩ => ⟨S1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x16x1024, .f32⟩
  | .hbm, ⟨11, _⟩ => ⟨S8x16x1024, .f32⟩
  | .hbm, ⟨12, _⟩ => ⟨S8x1x1024, .f32⟩
  | .hbm, ⟨13, _⟩ => ⟨S8x16x1024, .f32⟩
  | .hbm, ⟨14, _⟩ => ⟨S_, .f32⟩
  | .hbm, ⟨15, _⟩ => ⟨S8x16, .f32⟩
  | .hbm, ⟨16, _⟩ => ⟨S8x16x1, .f32⟩
  | .hbm, ⟨17, _⟩ => ⟨S_, .f32⟩
  | .hbm, ⟨18, _⟩ => ⟨S8x16x1, .f32⟩
  | .hbm, ⟨19, _⟩ => ⟨S8x16x1, .f32⟩
  | .hbm, ⟨20, _⟩ => ⟨S_, .f32⟩
  | .hbm, ⟨21, _⟩ => ⟨S8x16x1, .f32⟩
  | .hbm, ⟨22, _⟩ => ⟨S8x16x1, .f32⟩
  | .hbm, ⟨23, _⟩ => ⟨S8x16x1, .f32⟩
  | .hbm, ⟨24, _⟩ => ⟨S8x16x1024, .f32⟩
  | .hbm, ⟨25, _⟩ => ⟨S8x16x1024, .f32⟩
  | .hbm, ⟨26, _⟩ => ⟨S1x1x1024, .f32⟩
  | .hbm, ⟨27, _⟩ => ⟨S8x16x1024, .f32⟩
  | .hbm, ⟨28, _⟩ => ⟨S8x16x1024, .f32⟩
  | .hbm, ⟨29, _⟩ => ⟨S8x16x1024, .f32⟩
  | .hbm, ⟨30, _⟩ => ⟨S8x16x1024, .f32⟩
  | .hbm, ⟨31, _⟩ => ⟨S8x16x1024, .f32⟩
  | .hbm, ⟨32, _⟩ => ⟨S1x128x1024, .f32⟩
  | _, _ => ⟨S8x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel5.lean ====
abbrev S8x1024 : Shape := ⟨2, ![8, 1024]⟩
abbrev S2x1024x3072 : Shape := ⟨3, ![2, 1024, 3072]⟩
abbrev S2x3072 : Shape := ⟨2, ![2, 3072]⟩
abbrev S16x1024 : Shape := ⟨2, ![16, 1024]⟩
abbrev S2x1x3072 : Shape := ⟨3, ![2, 1, 3072]⟩
abbrev S2x16x3072 : Shape := ⟨3, ![2, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S2x1024x3072, .f32⟩
  | .hbm, ⟨3, _⟩ => ⟨S2x3072, .f32⟩
  | .hbm, ⟨4, _⟩ => ⟨S16x1024, .f32⟩
  | .hbm, ⟨5, _⟩ => ⟨S2x1x3072, .f32⟩
  | .hbm, ⟨6, _⟩ => ⟨S2x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S16x3072 : Shape := ⟨2, ![16, 3072]⟩
abbrev S1x16x3072 : Shape := ⟨3, ![1, 16, 3072]⟩
abbrev S2x16x3072 : Shape := ⟨3, ![2, 16, 3072]⟩

abbrev nBuf : Space → Nat
  | .hbm => 77
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S2x1024x3072, .f32⟩
  | .hbm, ⟨3, _⟩ => ⟨S2x3072, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x3072, .f32⟩
  | .hbm, ⟨14, _⟩ => ⟨S1024x3072, .f32⟩
  | .hbm, ⟨15, _⟩ => ⟨S8x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S8x3072, .f32⟩
  | .hbm, ⟨20, _⟩ => ⟨S8x3072, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S1x1024x3072, .f32⟩
  | .hbm, ⟨31, _⟩ => ⟨S1024x3072, .f32⟩
  | .hbm, ⟨32, _⟩ => ⟨S8x3072, .f32⟩
  | .hbm, ⟨33, _⟩ => ⟨S1x3072, .f32⟩
  | .hbm, ⟨34, _⟩ => ⟨S3072, .f32⟩
  | .hbm, ⟨35, _⟩ => ⟨S1x3072, .f32⟩
  | .hbm, ⟨36, _⟩ => ⟨S8x3072, .f32⟩
  | .hbm, ⟨37, _⟩ => ⟨S8x3072, .f32⟩
  | .hbm, ⟨38, _⟩ => ⟨S16x3072, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S1x1024x3072, .f32⟩
  | .hbm, ⟨49, _⟩ => ⟨S1024x3072, .f32⟩
  | .hbm, ⟨50, _⟩ => ⟨S8x3072, .f32⟩
  | .hbm, ⟨51, _⟩ => ⟨S1x3072, .f32⟩
  | .hbm, ⟨52, _⟩ => ⟨S3072, .f32⟩
  | .hbm, ⟨53, _⟩ => ⟨S1x3072, .f32⟩
  | .hbm, ⟨54, _⟩ => ⟨S8x3072, .f32⟩
  | .hbm, ⟨55, _⟩ => ⟨S8x3072, .f32⟩
  | .hbm, ⟨56, _⟩ => ⟨S8x1024, .f32⟩
  | .hbm, ⟨57, _⟩ => ⟨S8x1024, .f32⟩
  | .hbm, ⟨58, _⟩ => ⟨S_, .f32⟩
  | .hbm, ⟨59, _⟩ => ⟨S8x1024, .f32⟩
  | .hbm, ⟨60, _⟩ => ⟨S8x1024, .f32⟩
  | .hbm, ⟨61, _⟩ => ⟨S_, .f32⟩
  | .hbm, ⟨62, _⟩ => ⟨S8x1024, .f32⟩
  | .hbm, ⟨63, _⟩ => ⟨S8x1024, .f32⟩
  | .hbm, ⟨64, _⟩ => ⟨S8x1024, .f32⟩
  | .hbm, ⟨65, _⟩ => ⟨S1x1024x3072, .f32⟩
  | .hbm, ⟨66, _⟩ => ⟨S1024x3072, .f32⟩
  | .hbm, ⟨67, _⟩ => ⟨S8x3072, .f32⟩
  | .hbm, ⟨68, _⟩ => ⟨S1x3072, .f32⟩
  | .hbm, ⟨69, _⟩ => ⟨S3072, .f32⟩
  | .hbm, ⟨70, _⟩ => ⟨S1x3072, .f32⟩
  | .hbm, ⟨71, _⟩ => ⟨S8x3072, .f32⟩
  | .hbm, ⟨72, _⟩ => ⟨S8x3072, .f32⟩
  | .hbm, ⟨73, _⟩ => ⟨S16x3072, .f32⟩
  | .hbm, ⟨74, _⟩ => ⟨S1x16x3072, .f32⟩
  | .hbm, ⟨75, _⟩ => ⟨S1x16x3072, .f32⟩
  | .hbm, ⟨76, _⟩ => ⟨S2x16x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Proof.KI.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Tactic
public import Idealize.ShloMosaic.Lib.Pipeline.Value

/-! The attention kernel's body, run once at each of its two kinds of grid point, and its frame: the launch ends
with the counters at zero and the arguments as they were, and the output block of each point is the run's. -/

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The body at a point whose last tile is half a tile: what it stores in the output, from the inputs' contents. -/
def runShort (c : Dev nD) (i : grid0.Coords) (arg2 : Memref sig .tc .vmem S1x8x256x256 .f32) (harg2 : arg2.IsWhole) (arg3 : Memref sig .tc .vmem S1x4096x256 .bf16) (harg3 : arg3.IsWhole) (arg4 : Memref sig .tc .vmem S1x144x4096 .bf16) (harg4 : arg4.IsWhole) (arg5 : Memref sig .tc .vmem S8x128x512 .bf16) (harg5 : arg5.IsWhole) (arg6 : Memref sig .tc .vmem S1x256x512 .f32) (harg6 : arg6.IsWhole) (arg7 : Memref sig .tc .vmem S1x256x512 .bf16) (harg7 : arg7.IsWhole) (arg8 : Memref sig .tc .vmem S1x2048 .f32) (harg8 : arg8.IsWhole) (arg9 : Memref sig .tc .vmem S144x2048 .f32) (harg9 : arg9.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (hc1 : k0_cond1 i = 1#1) (hc2 : ¬ k0_cond2 i = 1#1) :
    { L : List (View.Piece (Elt F) S1x256x512 .bf16) // ∀ (E : Set ℕ) (f7 : BufTy.Contents (Elt F) arg7.view.ty) (f8 : BufTy.Contents (Elt F) arg8.view.ty) (f9 : BufTy.Contents (Elt F) arg9.view.ty) (K : PUnit → sProp 𝕄),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} arg7.view.writes (Elt F) f7 L) ∗ (∃ g, arg8.view.loc (c : Thread nD τ) ↦[arg8.view.set]{fullShare} g) ∗ (∃ g, arg9.view.loc (c : Thread nD τ) ↦[arg9.view.set]{fullShare} g)) -∗ K ⟨⟩)) : sProp 𝕄)
      ⊢ wp Idealize.ShloMosaic.frame (wpE (defs₀ (F := F)) Variants.none (c : Thread nD τ) none) E (cc0_mla_attention_t (F := F) i arg2 harg2 arg3 harg3 arg4 harg4 arg5 harg5 arg6 harg6 arg7 harg7 arg8 harg8 arg9 harg9) K } := by
  refine ⟨?_, fun E f7 f8 f9 K => ?run⟩
  case run =>
    simp only [cc0_mla_attention_t_eq_skeleton]; unfold cc0_mla_attention_t_skel
    iintro ⟨H2, H3, H4, H5, H6, H7, H8, H9, Hk⟩
    sl_exec (disch := first | exact hc1 | exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The body at a point whose last tile is a whole tile: what it stores in the output, from the inputs' contents. -/
def runFull (c : Dev nD) (i : grid0.Coords) (arg2 : Memref sig .tc .vmem S1x8x256x256 .f32) (harg2 : arg2.IsWhole) (arg3 : Memref sig .tc .vmem S1x4096x256 .bf16) (harg3 : arg3.IsWhole) (arg4 : Memref sig .tc .vmem S1x144x4096 .bf16) (harg4 : arg4.IsWhole) (arg5 : Memref sig .tc .vmem S8x128x512 .bf16) (harg5 : arg5.IsWhole) (arg6 : Memref sig .tc .vmem S1x256x512 .f32) (harg6 : arg6.IsWhole) (arg7 : Memref sig .tc .vmem S1x256x512 .bf16) (harg7 : arg7.IsWhole) (arg8 : Memref sig .tc .vmem S1x2048 .f32) (harg8 : arg8.IsWhole) (arg9 : Memref sig .tc .vmem S144x2048 .f32) (harg9 : arg9.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (hc1 : ¬ k0_cond1 i = 1#1) (hc2 : k0_cond2 i = 1#1) :
    { L : List (View.Piece (Elt F) S1x256x512 .bf16) // ∀ (E : Set ℕ) (f7 : BufTy.Contents (Elt F) arg7.view.ty) (f8 : BufTy.Contents (Elt F) arg8.view.ty) (f9 : BufTy.Contents (Elt F) arg9.view.ty) (K : PUnit → sProp 𝕄),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} arg7.view.writes (Elt F) f7 L) ∗ (∃ g, arg8.view.loc (c : Thread nD τ) ↦[arg8.view.set]{fullShare} g) ∗ (∃ g, arg9.view.loc (c : Thread nD τ) ↦[arg9.view.set]{fullShare} g)) -∗ K ⟨⟩)) : sProp 𝕄)
      ⊢ wp Idealize.ShloMosaic.frame (wpE (defs₀ (F := F)) Variants.none (c : Thread nD τ) none) E (cc0_mla_attention_t (F := F) i arg2 harg2 arg3 harg3 arg4 harg4 arg5 harg5 arg6 harg6 arg7 harg7 arg8 harg8 arg9 harg9) K } := by
  refine ⟨?_, fun E f7 f8 f9 K => ?run⟩
  case run =>
    simp only [cc0_mla_attention_t_eq_skeleton]; unfold cc0_mla_attention_t_skel
    iintro ⟨H2, H3, H4, H5, H6, H7, H8, H9, Hk⟩
    sl_exec (disch := first | exact hc1 | exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

variable (m : (ℓ : Loc nD τ sig) → Buf (Elt F) ℓ) (ρ : Dev nD → PrngReg)

/-- At a point whose last tile is half a tile the other branch is not taken. -/
theorem notFull : ∀ t : Fin cfg0.N, k0_cond1 (grid0.coords t) = 1#1 → ¬ k0_cond2 (grid0.coords t) = 1#1 :=
  (by decide +kernel : ∀ t : Fin grid0.N, k0_cond1 (grid0.coords t) = 1#1 → ¬ k0_cond2 (grid0.coords t) = 1#1)
/-- At any other point the whole tile's branch is taken. -/
theorem isFull : ∀ t : Fin cfg0.N, ¬ k0_cond1 (grid0.coords t) = 1#1 → k0_cond2 (grid0.coords t) = 1#1 :=
  (by decide +kernel : ∀ t : Fin grid0.N, ¬ k0_cond1 (grid0.coords t) = 1#1 → k0_cond2 (grid0.coords t) = 1#1)

/-- The pieces the body stores in the output at point `t`. -/
def outL (c : Dev nD) (t : Fin cfg0.N) : List (View.Piece (Elt F) S1x256x512 .bf16) :=
  if h : k0_cond1 (grid0.coords t) = 1#1 then
    (runShort c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) h (notFull t h)).1
  else
    (runFull c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) h (isFull t h)).1

/-- The stored pieces cover the output block. -/
theorem outL_covers (c : Dev nD) (t : Fin cfg0.N) (y : S1x256x512.Idx) : ∃ p ∈ outL m c t, y ∈ p.1.set := by
  unfold outL
  split
  · unfold runShort
    refine ⟨_, List.mem_cons_self, ?_⟩
    exact View.mem_set_unit_zero (by funext a; fin_cases a <;> rfl) inb_S1x256x512_S1x256x512_0_0_0 y
  · unfold runFull
    refine ⟨_, List.mem_cons_self, ?_⟩
    exact View.mem_set_unit_zero (by funext a; fin_cases a <;> rfl) inb_S1x256x512_S1x256x512_0_0_0 y

set_option maxHeartbeats 1000000 in
/-- The body at point `t`, for any continuation: the inputs are handed back as they were, the output holds the stored
    pieces, the scratch anything. -/
theorem kernelRun (c : Dev nD) (t : Fin cfg0.N) (K : PUnit → sProp 𝕄) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ (∃ d, owns (c : Thread nD τ) (win0_5.stage (cfg0.slots t 5)) fullShare d)
        ∗ (∃ d, owns (c : Thread nD τ) (Memref.whole cc0_scratch0) fullShare d) ∗ (∃ d, owns (c : Thread nD τ) (Memref.whole cc0_scratch1) fullShare d)
        ∗ (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (View.canon (outL m c t))
            ∗ (∃ d, owns (c : Thread nD τ) (Memref.whole cc0_scratch0) fullShare d) ∗ (∃ d, owns (c : Thread nD τ) (Memref.whole cc0_scratch1) fullShare d)) -∗ K ⟨⟩))
      ⊢ wp frame (wpE (defs₀ (F := F)) Variants.none c none) Set.univ (bodyAt0 t) K := by
  unfold owns bodyAt0
  iintro ⟨⟨%f0, %h0, H0⟩, ⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, Hk⟩
  obtain rfl := (hstage0_0 ((cfg0.slots t 0).cast nbuf0_0)).eq_unread h0
  obtain rfl := (hstage0_1 ((cfg0.slots t 1).cast nbuf0_1)).eq_unread h1
  obtain rfl := (hstage0_2 ((cfg0.slots t 2).cast nbuf0_2)).eq_unread h2
  obtain rfl := (hstage0_3 ((cfg0.slots t 3).cast nbuf0_3)).eq_unread h3
  obtain rfl := (hstage0_4 ((cfg0.slots t 4).cast nbuf0_4)).eq_unread h4
  have hL := View.read_writes_eq_canon (Val := Elt F) (win0_5.stage (cfg0.slots t 5)).view f5 (outL m c t) (outL_covers m c t)
  by_cases hc : k0_cond1 (grid0.coords t) = 1#1
  · have e : outL m c t = (runShort c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) hc (notFull t hc)).1 := dif_pos hc
    rw [e] at hL ⊢
    iapply ((runShort c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) hc (notFull t hc)).2 Set.univ f5 f6 f7 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%g6, H6⟩, ⟨%g7, H7⟩⟩
    iapply Hk
    isplitl [H0]
    · iexists _; isplitr; swap; · iexact H0
      ipureintro; exact Memref.IsWhole.read_unread _ _
    isplitl [H1]
    · iexists _; isplitr; swap; · iexact H1
      ipureintro; exact Memref.IsWhole.read_unread _ _
    isplitl [H2]
    · iexists _; isplitr; swap; · iexact H2
      ipureintro; exact Memref.IsWhole.read_unread _ _
    isplitl [H3]
    · iexists _; isplitr; swap; · iexact H3
      ipureintro; exact Memref.IsWhole.read_unread _ _
    isplitl [H4]
    · iexists _; isplitr; swap; · iexact H4
      ipureintro; exact Memref.IsWhole.read_unread _ _
    isplitl [H5]
    · iexists _; isplitr; swap; · iexact H5
      ipureintro; exact hL
    isplitl [H6]
    · iexists _, _; isplitr; swap; · iexact H6
      ipureintro; rfl
    iexists _, _; isplitr; swap; · iexact H7
    ipureintro; rfl
  · have e : outL m c t = (runFull c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) hc (isFull t hc)).1 := dif_neg hc
    rw [e] at hL ⊢
    iapply ((runFull c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) hc (isFull t hc)).2 Set.univ f5 f6 f7 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%g6, H6⟩, ⟨%g7, H7⟩⟩
    iapply Hk
    isplitl [H0]
    · iexists _; isplitr; swap; · iexact H0
      ipureintro; exact Memref.IsWhole.read_unread _ _
    isplitl [H1]
    · iexists _; isplitr; swap; · iexact H1
      ipureintro; exact Memref.IsWhole.read_unread _ _
    isplitl [H2]
    · iexists _; isplitr; swap; · iexact H2
      ipureintro; exact Memref.IsWhole.read_unread _ _
    isplitl [H3]
    · iexists _; isplitr; swap; · iexact H3
      ipureintro; exact Memref.IsWhole.read_unread _ _
    isplitl [H4]
    · iexists _; isplitr; swap; · iexact H4
      ipureintro; exact Memref.IsWhole.read_unread _ _
    isplitl [H5]
    · iexists _; isplitr; swap; · iexact H5
      ipureintro; exact hL
    isplitl [H6]
    · iexists _, _; isplitr; swap; · iexact H6
      ipureintro; rfl
    iexists _, _; isplitr; swap; · iexact H7
    ipureintro; rfl

/-! ## The proof data and the body obligation -/

/-- The proof data: the arrays as the region finds them, the inputs' blocks left in place, the output block the run's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => View.canon (outL m c t)
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = View.canon (outL m c t) := by dsimp only [dats]
theorem hb0 (c : Dev nD) (t : Fin cfg0.N) (d) : (dats m 0 c).before 0 t d = iblk m c 0 t := before0_0_of m (dats m 0 c) (A_eq m c 0) (after_0 m c) t d
theorem hb1 (c : Dev nD) (t : Fin cfg0.N) (d) : (dats m 0 c).before 1 t d = iblk m c 1 t := before0_1_of m (dats m 0 c) (A_eq m c 1) (after_1 m c) t d
theorem hb2 (c : Dev nD) (t : Fin cfg0.N) (d) : (dats m 0 c).before 2 t d = iblk m c 2 t := before0_2_of m (dats m 0 c) (A_eq m c 2) (after_2 m c) t d
theorem hb3 (c : Dev nD) (t : Fin cfg0.N) (d) : (dats m 0 c).before 3 t d = iblk m c 3 t := before0_3_of m (dats m 0 c) (A_eq m c 3) (after_3 m c) t d
theorem hb4 (c : Dev nD) (t : Fin cfg0.N) (d) : (dats m 0 c).before 4 t d = iblk m c 4 t := before0_4_of m (dats m 0 c) (A_eq m c 4) (after_4 m c) t d

/-- The region's resources between points, conjunct by conjunct. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t))

set_option maxHeartbeats 1000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [hb0 m c t, hb1 m c t, hb2 m c t, hb3 m c t, hb4 m c t, after_0, after_1, after_2, after_3, after_4, after_5]
  unfold Dat.owesAt Pipeline.owesWithin
  rw [show (dats m 0 c).owed t.castSucc = 0 from rfl]
  iintro ⟨⟨⟨HS0, HS1⟩, Hg⟩, ⟨%W, %hW, HO⟩, ⟨%d0, H0⟩, ⟨%d1, H1⟩, ⟨%d2, H2⟩, ⟨%d3, H3⟩, ⟨%d4, H4⟩, ⟨%d5, H5⟩⟩
  iapply (kernelRun m c t _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [HO]
  · iexists W; isplitr; · ipureintro; exact hW
    iexact HO
  isplitl [H0]; · iexact H0
  isplitl [H1]; · iexact H1
  isplitl [H2]; · iexact H2
  isplitl [H3]; · iexact H3
  isplitl [H4]; · iexact H4
  iexact H5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

-- the launch theorem's implicit arguments are found by unifying its conclusion with this statement
set_option backward.isDefEq.respectTransparency.types false in
/-- Every weakly fair execution of the program ends with the output array the blocks the bodies left and every
    counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := fun r => Pipeline.FramePost cfgs (dats m) 0 (V m) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl) (hQ' := fun _ h => h)

/-- The frame: the program ends with every argument as it was and every counter at zero. -/
theorem frame_main :
    θ_run defs (onTc (τ := τ) (main (F := F))) ⟨m, fun _ => 0, ρ⟩ (fun r => r.2.sem = (fun _ => 0) ∧ ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h => ⟨h.2, fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c),
    ((h.1 c).1 4).trans (((dats m 0 c).arrAt_in 4 rfl _).trans ((A_eq m c 4).trans (V_main_arg5 m c)))⟩⟩) (run_main m ρ)

end Cert.KernelIdeal.Att

end
-- ==== Proof.Frames.lean ====
module

public import proofs.«01_k».proof.Defs
public import proofs.«01_k».proof.Proof.K.Run
public import proofs.«01_k».proof.Proof.KI.Run
public import proofs.«01_k».proof.Proof.Gen.ReferenceIdeal.Run
public import Idealize.ShloMosaic.Adequacy
public import Idealize.ShloMosaic.Init

/-! The frames of the kernel, of its idealization and of the reference, and the two named constants. -/

@[expose] public section

noncomputable section

namespace Cert.AttFrames

open Idealize.ShloMosaic Idealize.SL.Sem

/-- The kernel terminates with its arguments as they were and every counter at zero. -/
theorem frame_kernel : Cert.quiescent_Kernel (hKernel := Cert.Kernel.Gen.facts) := fun m g _ =>
  (θ_run _ _ _).mono (fun _ h => ⟨h.2, h.1⟩) (Cert.Kernel.Att.frame_main (F := Bits) m g)

/-- The idealized kernel terminates with its arguments as they were and every counter at zero. -/
theorem frame_ideal : Cert.quiescent_KernelIdeal (hKernelIdeal := Cert.KernelIdeal.Gen.facts) := fun m g _ =>
  (θ_run _ _ _).mono (fun _ h => ⟨h.2, h.1⟩) (Cert.KernelIdeal.Att.frame_main (F := Ideal) m g)

/-- The reference terminates with its arguments as they were and every counter at zero. -/
theorem frame_ref : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The two constants the idealization names have the values it names. -/
theorem named : Cert.preserves_Kernel_KernelIdeal :=
  ⟨IdealRules.named_const.statement Cert.KernelIdeal.κ "mask" .f32 0xF149F2CA#32 ⊥ rfl,
   IdealRules.named_const.statement Cert.KernelIdeal.κ "exp2_scale" .f32 0x3E16C740#32
    (((3424635 / 33554432) * (Real.log 2)⁻¹ : ℝ) : EReal) rfl⟩

end Cert.AttFrames

end
-- ==== Proof.KI2.Run.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

/-! The projection call's run: what the body leaves in each output block, the body's triple, the launch and the frame. -/

@[expose] public section

-- membership in a rectangle of production extents (`View.cover_of_tiled`): the elaborator's structural look
-- recurses once per coordinate of the long axes
set_option maxRecDepth 16384

noncomputable section

namespace Cert.Kernel2Ideal.Prj

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (nullary_writes unary_writes binary_writes ternary_writes quaternary_writes reshape_writes binaryIndexed_writes unaryIndexed_writes nary_writes)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 256000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [nullary_writes, unary_writes, binary_writes, ternary_writes, quaternary_writes, reshape_writes, binaryIndexed_writes, unaryIndexed_writes, nary_writes, Finset.mem_singleton] <;> exact StableHlo.devRef_ne_of_ne (by decide)

/-- The region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))
/-- The region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, nullary_writes, unary_writes, binary_writes, ternary_writes, quaternary_writes, reshape_writes, binaryIndexed_writes, unaryIndexed_writes, nary_writes, Finset.mem_singleton]
    repeat' apply And.intro
    all_goals exact StableHlo.devRef_ne_of_ne (by decide)))

/-- `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- `main_arg6` ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- `main_arg7` ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- `main_arg8` ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, nullary_writes, unary_writes, binary_writes, ternary_writes, quaternary_writes, reshape_writes, binaryIndexed_writes, unaryIndexed_writes, nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c))⟩) h

/-! ## The body's accesses -/

abbrev r0_0 : Rect S1x512x1024 := Rect.unit (s := S1x512x1024) ![0, 0, 0] S1x512x1024.size inb_S1x512x1024_S1x512x1024_0_0_0
abbrev r0_1 : Rect S1x1x3072 := Rect.unit (s := S1x1x3072) ![0, 0, 0] S1x1x3072.size inb_S1x1x3072_S1x1x3072_0_0_0
abbrev r0_2 : Rect S1x1024 := Rect.unit (s := S1x1024) ![0, 0] S1x1024.size inb_S1x1024_S1x1024_0_0
abbrev r0_3 : Rect S1024x3072 := Rect.unit (s := S1024x3072) ![0, 0] S1024x256.size inb_S1024x3072_S1024x256_0_0
abbrev r0_4 : Rect S1x512x256 := Rect.unit (s := S1x512x256) ![0, 0, 0] S1x512x256.size inb_S1x512x256_S1x512x256_0_0_0
abbrev r0_5 : Rect S1024x3072 := Rect.unit (s := S1024x3072) ![0, 256] S1024x256.size inb_S1024x3072_S1024x256_0_256
abbrev r0_6 : Rect S1024x3072 := Rect.unit (s := S1024x3072) ![0, 512] S1024x256.size inb_S1024x3072_S1024x256_0_512
abbrev r0_7 : Rect S1x256x512 := Rect.unit (s := S1x256x512) ![0, 0, 0] S1x256x512.size inb_S1x256x512_S1x256x512_0_0_0
abbrev r0_8 : Rect S1024x3072 := Rect.unit (s := S1024x3072) ![0, 768] S1024x256.size inb_S1024x3072_S1024x256_0_768
abbrev r0_9 : Rect S1024x3072 := Rect.unit (s := S1024x3072) ![0, 1024] S1024x256.size inb_S1024x3072_S1024x256_0_1024
abbrev r0_10 : Rect S1024x3072 := Rect.unit (s := S1024x3072) ![0, 1280] S1024x256.size inb_S1024x3072_S1024x256_0_1280
abbrev r0_11 : Rect S1024x3072 := Rect.unit (s := S1024x3072) ![0, 1536] S1024x256.size inb_S1024x3072_S1024x256_0_1536
abbrev r0_12 : Rect S1024x3072 := Rect.unit (s := S1024x3072) ![0, 1792] S1024x256.size inb_S1024x3072_S1024x256_0_1792
abbrev r0_13 : Rect S1024x3072 := Rect.unit (s := S1024x3072) ![0, 2560] S1024x512.size inb_S1024x3072_S1024x512_0_2560
abbrev r0_14 : Rect S1x512x512 := Rect.unit (s := S1x512x512) ![0, 0, 0] S1x512x512.size inb_S1x512x512_S1x512x512_0_0_0
abbrev r0_15 : Rect S512x128 := Rect.unit (s := S512x128) ![0, 0] S512x128.size inb_S512x128_S512x128_0_0
abbrev r0_16 : Rect S1024x3072 := Rect.unit (s := S1024x3072) ![0, 2304] S1024x256.size inb_S1024x3072_S1024x256_0_2304
abbrev r0_17 : Rect S1x128 := Rect.unit (s := S1x128) ![0, 0] S1x128.size inb_S1x128_S1x128_0_0
abbrev r0_18 : Rect S1x512x128 := Rect.unit (s := S1x512x128) ![0, 0, 0] S1x512x128.size inb_S1x512x128_S1x512x128_0_0_0
abbrev r0_19 : Rect S1x144x512 := Rect.unit (s := S1x144x512) ![0, 0, 0] S1x144x512.size inb_S1x144x512_S1x144x512_0_0_0
abbrev r0_20 : Rect S1024x3072 := Rect.unit (s := S1024x3072) ![0, 2048] S1024x256.size inb_S1024x3072_S1024x256_0_2048
abbrev r0_21 : Rect S1x256 := Rect.unit (s := S1x256) ![0, 0] S1x256.size inb_S1x256_S1x256_0_0
abbrev r0_22 : Rect S256x512 := Rect.unit (s := S256x512) ![0, 0] S256x512.size inb_S256x512_S256x512_0_0
abbrev r0_23 : Rect S8x128x128 := Rect.unit (s := S8x128x128) ![0, 0, 0] S1x128x128.size inb_S8x128x128_S1x128x128_0_0_0
abbrev r0_24 : Rect S8x256x256 := Rect.unit (s := S8x256x256) ![0, 0, 0] S1x256x256.size inb_S8x256x256_S1x256x256_0_0_0
abbrev r0_25 : Rect S1x8x512x256 := Rect.unit (s := S1x8x512x256) ![0, 0, 0, 0] S1x1x512x256.size inb_S1x8x512x256_S1x1x512x256_0_0_0_0
abbrev r0_26 : Rect S8x128x128 := Rect.unit (s := S8x128x128) ![1, 0, 0] S1x128x128.size inb_S8x128x128_S1x128x128_1_0_0
abbrev r0_27 : Rect S8x256x256 := Rect.unit (s := S8x256x256) ![1, 0, 0] S1x256x256.size inb_S8x256x256_S1x256x256_1_0_0
abbrev r0_28 : Rect S1x8x512x256 := Rect.unit (s := S1x8x512x256) ![0, 1, 0, 0] S1x1x512x256.size inb_S1x8x512x256_S1x1x512x256_0_1_0_0
abbrev r0_29 : Rect S8x128x128 := Rect.unit (s := S8x128x128) ![2, 0, 0] S1x128x128.size inb_S8x128x128_S1x128x128_2_0_0
abbrev r0_30 : Rect S8x256x256 := Rect.unit (s := S8x256x256) ![2, 0, 0] S1x256x256.size inb_S8x256x256_S1x256x256_2_0_0
abbrev r0_31 : Rect S1x8x512x256 := Rect.unit (s := S1x8x512x256) ![0, 2, 0, 0] S1x1x512x256.size inb_S1x8x512x256_S1x1x512x256_0_2_0_0
abbrev r0_32 : Rect S8x128x128 := Rect.unit (s := S8x128x128) ![3, 0, 0] S1x128x128.size inb_S8x128x128_S1x128x128_3_0_0
abbrev r0_33 : Rect S8x256x256 := Rect.unit (s := S8x256x256) ![3, 0, 0] S1x256x256.size inb_S8x256x256_S1x256x256_3_0_0
abbrev r0_34 : Rect S1x8x512x256 := Rect.unit (s := S1x8x512x256) ![0, 3, 0, 0] S1x1x512x256.size inb_S1x8x512x256_S1x1x512x256_0_3_0_0
abbrev r0_35 : Rect S8x128x128 := Rect.unit (s := S8x128x128) ![4, 0, 0] S1x128x128.size inb_S8x128x128_S1x128x128_4_0_0
abbrev r0_36 : Rect S8x256x256 := Rect.unit (s := S8x256x256) ![4, 0, 0] S1x256x256.size inb_S8x256x256_S1x256x256_4_0_0
abbrev r0_37 : Rect S1x8x512x256 := Rect.unit (s := S1x8x512x256) ![0, 4, 0, 0] S1x1x512x256.size inb_S1x8x512x256_S1x1x512x256_0_4_0_0
abbrev r0_38 : Rect S8x128x128 := Rect.unit (s := S8x128x128) ![5, 0, 0] S1x128x128.size inb_S8x128x128_S1x128x128_5_0_0
abbrev r0_39 : Rect S8x256x256 := Rect.unit (s := S8x256x256) ![5, 0, 0] S1x256x256.size inb_S8x256x256_S1x256x256_5_0_0
abbrev r0_40 : Rect S1x8x512x256 := Rect.unit (s := S1x8x512x256) ![0, 5, 0, 0] S1x1x512x256.size inb_S1x8x512x256_S1x1x512x256_0_5_0_0
abbrev r0_41 : Rect S8x128x128 := Rect.unit (s := S8x128x128) ![6, 0, 0] S1x128x128.size inb_S8x128x128_S1x128x128_6_0_0
abbrev r0_42 : Rect S8x256x256 := Rect.unit (s := S8x256x256) ![6, 0, 0] S1x256x256.size inb_S8x256x256_S1x256x256_6_0_0
abbrev r0_43 : Rect S1x8x512x256 := Rect.unit (s := S1x8x512x256) ![0, 6, 0, 0] S1x1x512x256.size inb_S1x8x512x256_S1x1x512x256_0_6_0_0
abbrev r0_44 : Rect S8x128x128 := Rect.unit (s := S8x128x128) ![7, 0, 0] S1x128x128.size inb_S8x128x128_S1x128x128_7_0_0
abbrev r0_45 : Rect S8x256x256 := Rect.unit (s := S8x256x256) ![7, 0, 0] S1x256x256.size inb_S8x256x256_S1x256x256_7_0_0
abbrev r0_46 : Rect S1x8x512x256 := Rect.unit (s := S1x8x512x256) ![0, 7, 0, 0] S1x1x512x256.size inb_S1x8x512x256_S1x1x512x256_0_7_0_0

/-! ## What the body leaves in each output window's buffer -/

/-! ### Values of the body that the stores' payloads, spelt out, would write more than once

    Each is a vector the body binds (often a part call's result), stated over the input windows' blocks and
    numbered on from the skeleton's payload functions (`k0_pay51` …, after `k0_pay50`), so that
    `out0_W` and the values after it name it instead of spelling it out (unfold a canon with them to read its payloads); the comment after each is the printed function's
    name for the value (a count appended where that name is bound again). -/

def k0_pay51 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x1024 .bf16 :=
  k0_pay3 (View.ld x0 r0_0) (View.ld x1 r0_1) (View.ld x2 r0_2) -- `v26`
def k0_pay52 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x128 .f32 :=
  k0_pay24 (View.ld x10 r0_15) -- `v114`
def k0_pay53 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x128 .f32 :=
  k0_pay25 (View.ld x11 r0_15) -- `v116`
def k0_pay54 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x256 .f32 :=
  k0_pay26 (k0_pay51 x0 x1 x2 x3 x4 x5 x6 x7 x8 x9 x10 x11) (View.ld x3 r0_16) -- `v119`
def k0_pay55 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x128 .f32 :=
  k0_pay27 (k0_pay51 x0 x1 x2 x3 x4 x5 x6 x7 x8 x9 x10 x11) (View.ld x3 r0_16) -- `v120`
def k0_pay56 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S1x128 .f32 :=
  k0_pay28 (View.ld x9 r0_17) -- `v122`
def k0_pay57 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x1 .f32 :=
  k0_pay29 (k0_pay51 x0 x1 x2 x3 x4 x5 x6 x7 x8 x9 x10 x11) (View.ld x3 r0_16) -- `v125`
def k0_pay58 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x256 .bf16 :=
  k0_pay38 (k0_pay51 x0 x1 x2 x3 x4 x5 x6 x7 x8 x9 x10 x11) (View.ld x3 r0_20) (View.ld x5 r0_21) -- `v199`
def k0_pay59 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : FVec F S512x512 .bf16 :=
  k0_pay39 (k0_pay51 x0 x1 x2 x3 x4 x5 x6 x7 x8 x9 x10 x11) (View.ld x3 r0_20) (View.ld x5 r0_21) (View.ld x6 r0_22) -- `v203`

/-- What window 12's staging buffer holds after the body. -/
def out0_12 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .bf16 :=
  View.canon [⟨r0_4, k0_pay4 (View.ld x0 r0_0) (View.ld x1 r0_1) (View.ld x2 r0_2) (View.ld x3 r0_3)⟩]

/-- Its stores cover the buffer. -/
theorem cover0_12 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- What window 13's staging buffer holds after the body. -/
def out0_13 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .f32 :=
  View.canon [⟨r0_4, k0_pay6 (k0_pay51 x0 x1 x2 x3 x4 x5 x6 x7 x8 x9 x10 x11) (View.ld x3 r0_5)⟩]

/-- Its stores cover the buffer. -/
theorem cover0_13 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- What window 14's staging buffer holds after the body. -/
def out0_14 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .bf16 :=
  View.canon [⟨r0_4, k0_pay7 (k0_pay51 x0 x1 x2 x3 x4 x5 x6 x7 x8 x9 x10 x11) (View.ld x3 r0_5)⟩]

/-- Its stores cover the buffer. -/
theorem cover0_14 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- What window 15's staging buffer holds after the body. -/
def out0_15 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .f32 :=
  View.canon [⟨r0_4, k0_pay9 (k0_pay51 x0 x1 x2 x3 x4 x5 x6 x7 x8 x9 x10 x11) (View.ld x3 r0_6)⟩]

/-- Its stores cover the buffer. -/
theorem cover0_15 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- What window 16's staging buffer holds after the body. -/
def out0_16 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .bf16 :=
  View.canon [⟨r0_4, k0_pay10 (k0_pay51 x0 x1 x2 x3 x4 x5 x6 x7 x8 x9 x10 x11) (View.ld x3 r0_6)⟩]

/-- Its stores cover the buffer. -/
theorem cover0_16 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- What window 17's staging buffer holds after the body. -/
def out0_17 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .f32 :=
  View.canon [⟨r0_4, k0_pay13 (k0_pay12 (k0_pay51 x0 x1 x2 x3 x4 x5 x6 x7 x8 x9 x10 x11) (View.ld x3 r0_8))⟩]

/-- Its stores cover the buffer. -/
theorem cover0_17 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- What window 18's staging buffer holds after the body. -/
def out0_18 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .bf16 :=
  View.canon [⟨r0_4, k0_pay14 (k0_pay51 x0 x1 x2 x3 x4 x5 x6 x7 x8 x9 x10 x11) (View.ld x3 r0_9)⟩]

/-- Its stores cover the buffer. -/
theorem cover0_18 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- What window 19's staging buffer holds after the body. -/
def out0_19 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .f32 :=
  View.canon [⟨r0_4, k0_pay16 (k0_pay51 x0 x1 x2 x3 x4 x5 x6 x7 x8 x9 x10 x11) (View.ld x3 r0_10)⟩]

/-- Its stores cover the buffer. -/
theorem cover0_19 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- What window 20's staging buffer holds after the body. -/
def out0_20 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .bf16 :=
  View.canon [⟨r0_4, k0_pay17 (k0_pay51 x0 x1 x2 x3 x4 x5 x6 x7 x8 x9 x10 x11) (View.ld x3 r0_10)⟩]

/-- Its stores cover the buffer. -/
theorem cover0_20 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- What window 21's staging buffer holds after the body. -/
def out0_21 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .f32 :=
  View.canon [⟨r0_4, k0_pay19 (k0_pay51 x0 x1 x2 x3 x4 x5 x6 x7 x8 x9 x10 x11) (View.ld x3 r0_11)⟩]

/-- Its stores cover the buffer. -/
theorem cover0_21 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- What window 22's staging buffer holds after the body. -/
def out0_22 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .bf16 :=
  View.canon [⟨r0_4, k0_pay20 (k0_pay51 x0 x1 x2 x3 x4 x5 x6 x7 x8 x9 x10 x11) (View.ld x3 r0_11)⟩]

/-- Its stores cover the buffer. -/
theorem cover0_22 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- What window 23's staging buffer holds after the body. -/
def out0_23 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .f32 :=
  View.canon [⟨r0_4, k0_pay22 (k0_pay51 x0 x1 x2 x3 x4 x5 x6 x7 x8 x9 x10 x11) (View.ld x3 r0_12)⟩]

/-- Its stores cover the buffer. -/
theorem cover0_23 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- What window 24's staging buffer holds after the body. -/
def out0_24 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x8x512x256 .f32 :=
  View.canon [⟨r0_46, k0_pay2 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay59 x0 x1 x2 x3 x4 x5 x6 x7 x8 x9 x10 x11) (View.ld x8 r0_44) (View.ld x7 r0_45)⟩,
    ⟨r0_43, k0_pay1 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay50 (k0_pay59 x0 x1 x2 x3 x4 x5 x6 x7 x8 x9 x10 x11) (View.ld x8 r0_41)) (View.ld x7 r0_42)⟩,
    ⟨r0_40, k0_pay49 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay59 x0 x1 x2 x3 x4 x5 x6 x7 x8 x9 x10 x11) (View.ld x8 r0_38) (View.ld x7 r0_39)⟩,
    ⟨r0_37, k0_pay48 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay46 (k0_pay59 x0 x1 x2 x3 x4 x5 x6 x7 x8 x9 x10 x11)) (k0_pay47 (View.ld x8 r0_35)) (constant S512x128 .f32 0x00000000#32) (View.ld x7 r0_36)⟩,
    ⟨r0_34, k0_pay45 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay59 x0 x1 x2 x3 x4 x5 x6 x7 x8 x9 x10 x11) (View.ld x8 r0_32) (View.ld x7 r0_33)⟩,
    ⟨r0_31, k0_pay44 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay43 (k0_pay59 x0 x1 x2 x3 x4 x5 x6 x7 x8 x9 x10 x11)) (View.ld x8 r0_29) (View.ld x7 r0_30)⟩,
    ⟨r0_28, k0_pay42 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay59 x0 x1 x2 x3 x4 x5 x6 x7 x8 x9 x10 x11) (View.ld x8 r0_26) (View.ld x7 r0_27)⟩,
    ⟨r0_25, k0_pay41 (k0_pay52 x0 x1 x2 x3 x4 x5 x6 x7 x8 x9 x10 x11) (k0_pay53 x0 x1 x2 x3 x4 x5 x6 x7 x8 x9 x10 x11) (k0_pay58 x0 x1 x2 x3 x4 x5 x6 x7 x8 x9 x10 x11) (k0_pay40 (k0_pay51 x0 x1 x2 x3 x4 x5 x6 x7 x8 x9 x10 x11) (View.ld x3 r0_20) (View.ld x5 r0_21) (View.ld x6 r0_22)) (View.ld x8 r0_23) (View.ld x7 r0_24)⟩]

/-- Its stores cover the buffer. -/
theorem cover0_24 (p0 : Vec F S1x1x512x256 .f32) (p1 : Vec F S1x1x512x256 .f32) (p2 : Vec F S1x1x512x256 .f32) (p3 : Vec F S1x1x512x256 .f32) (p4 : Vec F S1x1x512x256 .f32) (p5 : Vec F S1x1x512x256 .f32) (p6 : Vec F S1x1x512x256 .f32) (p7 : Vec F S1x1x512x256 .f32) (y : S1x8x512x256.Idx) :
    ∃ pc ∈ ([⟨r0_46, p0⟩, ⟨r0_43, p1⟩, ⟨r0_40, p2⟩, ⟨r0_37, p3⟩, ⟨r0_34, p4⟩, ⟨r0_31, p5⟩, ⟨r0_28, p6⟩, ⟨r0_25, p7⟩] : List (View.Piece (Elt F) S1x8x512x256 .f32)), y ∈ pc.1.set :=
  View.cover_of_tiled [⟨r0_46, p0⟩, ⟨r0_43, p1⟩, ⟨r0_40, p2⟩, ⟨r0_37, p3⟩, ⟨r0_34, p4⟩, ⟨r0_31, p5⟩, ⟨r0_28, p6⟩, ⟨r0_25, p7⟩] S1x1x512x256.size (by rfl) y

/-- What window 25's staging buffer holds after the body. -/
def out0_25 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x128 .f32 :=
  View.canon [⟨r0_18, k0_pay31 (k0_pay55 x0 x1 x2 x3 x4 x5 x6 x7 x8 x9 x10 x11) (k0_pay56 x0 x1 x2 x3 x4 x5 x6 x7 x8 x9 x10 x11) (k0_pay57 x0 x1 x2 x3 x4 x5 x6 x7 x8 x9 x10 x11) (Scalar.ofBits .f32 0x43000000#32)⟩]

/-- Its stores cover the buffer. -/
theorem cover0_25 (p0 : Vec F S1x512x128 .f32) (y : S1x512x128.Idx) :
    ∃ pc ∈ ([⟨r0_18, p0⟩] : List (View.Piece (Elt F) S1x512x128 .f32)), y ∈ pc.1.set :=
  View.cover_of_tiled [⟨r0_18, p0⟩] S1x512x128.size (by rfl) y

/-- What window 26's staging buffer holds after the body. -/
def out0_26 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x256 .bf16 :=
  View.canon [⟨r0_4, k0_pay37 (k0_pay30 (k0_pay55 x0 x1 x2 x3 x4 x5 x6 x7 x8 x9 x10 x11) (k0_pay56 x0 x1 x2 x3 x4 x5 x6 x7 x8 x9 x10 x11) (k0_pay57 x0 x1 x2 x3 x4 x5 x6 x7 x8 x9 x10 x11) (Scalar.ofBits .f32 0x43000000#32)) (k0_pay34 (k0_pay52 x0 x1 x2 x3 x4 x5 x6 x7 x8 x9 x10 x11) (k0_pay53 x0 x1 x2 x3 x4 x5 x6 x7 x8 x9 x10 x11) (k0_pay54 x0 x1 x2 x3 x4 x5 x6 x7 x8 x9 x10 x11)) (iota .tc S512x128 32 [1] iota_S512x128_d1_w32)⟩]

/-- Its stores cover the buffer. -/
theorem cover0_26 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- What window 27's staging buffer holds after the body. -/
def out0_27 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x512 .f32 :=
  View.canon [⟨r0_14, k0_pay23 (k0_pay51 x0 x1 x2 x3 x4 x5 x6 x7 x8 x9 x10 x11) (View.ld x3 r0_13)⟩]

/-- Its stores cover the buffer. -/
theorem cover0_27 (p0 : Vec F S1x512x512 .f32) (y : S1x512x512.Idx) :
    ∃ pc ∈ ([⟨r0_14, p0⟩] : List (View.Piece (Elt F) S1x512x512 .f32)), y ∈ pc.1.set :=
  View.cover_of_tiled [⟨r0_14, p0⟩] S1x512x512.size (by rfl) y

/-- What window 28's staging buffer holds after the body. -/
def out0_28 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x512x128 .f32 :=
  View.canon [⟨r0_18, k0_pay36 (k0_pay35 (k0_pay52 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (View.ld x4 r0_17))⟩]

/-- Its stores cover the buffer. -/
theorem cover0_28 (p0 : Vec F S1x512x128 .f32) (y : S1x512x128.Idx) :
    ∃ pc ∈ ([⟨r0_18, p0⟩] : List (View.Piece (Elt F) S1x512x128 .f32)), y ∈ pc.1.set :=
  View.cover_of_tiled [⟨r0_18, p0⟩] S1x512x128.size (by rfl) y

/-- What window 29's staging buffer holds after the body. -/
def out0_29 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x256x512 .bf16 :=
  View.canon [⟨r0_7, k0_pay11 (k0_pay51 x0 x1 x2 x3 x4 x5 x6 x7 x8 x9 x10 x11) (View.ld x3 r0_6)⟩]

/-- Its stores cover the buffer. -/
theorem cover0_29 (p0 : Vec F S1x256x512 .bf16) (y : S1x256x512.Idx) :
    ∃ pc ∈ ([⟨r0_7, p0⟩] : List (View.Piece (Elt F) S1x256x512 .bf16)), y ∈ pc.1.set :=
  View.cover_of_tiled [⟨r0_7, p0⟩] S1x256x512.size (by rfl) y

/-- What window 30's staging buffer holds after the body. -/
def out0_30 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x256x512 .bf16 :=
  View.canon [⟨r0_7, k0_pay21 (k0_pay18 (k0_pay51 x0 x1 x2 x3 x4 x5 x6 x7 x8 x9 x10 x11) (View.ld x3 r0_11))⟩]

/-- Its stores cover the buffer. -/
theorem cover0_30 (p0 : Vec F S1x256x512 .bf16) (y : S1x256x512.Idx) :
    ∃ pc ∈ ([⟨r0_7, p0⟩] : List (View.Piece (Elt F) S1x256x512 .bf16)), y ∈ pc.1.set :=
  View.cover_of_tiled [⟨r0_7, p0⟩] S1x256x512.size (by rfl) y

/-- What window 31's staging buffer holds after the body. -/
def out0_31 (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) : Vec F S1x144x512 .bf16 :=
  View.canon [⟨r0_19, k0_pay32 (k0_pay55 x0 x1 x2 x3 x4 x5 x6 x7 x8 x9 x10 x11) (k0_pay56 x0 x1 x2 x3 x4 x5 x6 x7 x8 x9 x10 x11) (k0_pay57 x0 x1 x2 x3 x4 x5 x6 x7 x8 x9 x10 x11) (Scalar.ofBits .f32 0x43000000#32)⟩]

/-- Its stores cover the buffer. -/
theorem cover0_31 (p0 : Vec F S1x144x512 .bf16) (y : S1x144x512.Idx) :
    ∃ pc ∈ ([⟨r0_19, p0⟩] : List (View.Piece (Elt F) S1x144x512 .bf16)), y ∈ pc.1.set :=
  View.cover_of_tiled [⟨r0_19, p0⟩] S1x144x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1x128 .f32) (harg6 : arg6.IsWhole) (arg7 : Memref sig .tc .vmem S1x256 .f32) (harg7 : arg7.IsWhole) (arg8 : Memref sig .tc .vmem S256x512 .bf16) (harg8 : arg8.IsWhole) (arg9 : Memref sig .tc .vmem S8x256x256 .bf16) (harg9 : arg9.IsWhole) (arg10 : Memref sig .tc .vmem S8x128x128 .bf16) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x512x256 .bf16) (harg14 : arg14.IsWhole) (arg15 : Memref sig .tc .vmem S1x512x256 .f32) (harg15 : arg15.IsWhole) (arg16 : Memref sig .tc .vmem S1x512x256 .bf16) (harg16 : arg16.IsWhole) (arg17 : Memref sig .tc .vmem S1x512x256 .f32) (harg17 : arg17.IsWhole) (arg18 : Memref sig .tc .vmem S1x512x256 .bf16) (harg18 : arg18.IsWhole) (arg19 : Memref sig .tc .vmem S1x512x256 .f32) (harg19 : arg19.IsWhole) (arg20 : Memref sig .tc .vmem S1x512x256 .bf16) (harg20 : arg20.IsWhole) (arg21 : Memref sig .tc .vmem S1x512x256 .f32) (harg21 : arg21.IsWhole) (arg22 : Memref sig .tc .vmem S1x512x256 .bf16) (harg22 : arg22.IsWhole) (arg23 : Memref sig .tc .vmem S1x512x256 .f32) (harg23 : arg23.IsWhole) (arg24 : Memref sig .tc .vmem S1x512x256 .bf16) (harg24 : arg24.IsWhole) (arg25 : Memref sig .tc .vmem S1x512x256 .f32) (harg25 : arg25.IsWhole) (arg26 : Memref sig .tc .vmem S1x8x512x256 .f32) (harg26 : arg26.IsWhole) (arg27 : Memref sig .tc .vmem S1x512x128 .f32) (harg27 : arg27.IsWhole) (arg28 : Memref sig .tc .vmem S1x512x256 .bf16) (harg28 : arg28.IsWhole) (arg29 : Memref sig .tc .vmem S1x512x512 .f32) (harg29 : arg29.IsWhole) (arg30 : Memref sig .tc .vmem S1x512x128 .f32) (harg30 : arg30.IsWhole) (arg31 : Memref sig .tc .vmem S1x256x512 .bf16) (harg31 : arg31.IsWhole) (arg32 : Memref sig .tc .vmem S1x256x512 .bf16) (harg32 : arg32.IsWhole) (arg33 : Memref sig .tc .vmem S1x144x512 .bf16) (harg33 : arg33.IsWhole)
    (x0 : Vec F S1x512x1024 .f32) (x1 : Vec F S1x1x3072 .f32) (x2 : Vec F S1x1024 .f32) (x3 : Vec F S1024x3072 .bf16) (x4 : Vec F S1x128 .f32) (x5 : Vec F S1x256 .f32) (x6 : Vec F S256x512 .bf16) (x7 : Vec F S8x256x256 .bf16) (x8 : Vec F S8x128x128 .bf16) (x9 : Vec F S1x128 .f32) (x10 : Vec F S512x128 .f32) (x11 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out0_12 x0 x1 x2 x3 x4 x5 x6 x7 x8 x9 x10 x11) ∗ owns (c : Thread nD τ) arg15 fullShare (out0_13 x0 x1 x2 x3 x4 x5 x6 x7 x8 x9 x10 x11) ∗ owns (c : Thread nD τ) arg16 fullShare (out0_14 x0 x1 x2 x3 x4 x5 x6 x7 x8 x9 x10 x11) ∗ owns (c : Thread nD τ) arg17 fullShare (out0_15 x0 x1 x2 x3 x4 x5 x6 x7 x8 x9 x10 x11) ∗ owns (c : Thread nD τ) arg18 fullShare (out0_16 x0 x1 x2 x3 x4 x5 x6 x7 x8 x9 x10 x11) ∗ owns (c : Thread nD τ) arg19 fullShare (out0_17 x0 x1 x2 x3 x4 x5 x6 x7 x8 x9 x10 x11) ∗ owns (c : Thread nD τ) arg20 fullShare (out0_18 x0 x1 x2 x3 x4 x5 x6 x7 x8 x9 x10 x11) ∗ owns (c : Thread nD τ) arg21 fullShare (out0_19 x0 x1 x2 x3 x4 x5 x6 x7 x8 x9 x10 x11) ∗ owns (c : Thread nD τ) arg22 fullShare (out0_20 x0 x1 x2 x3 x4 x5 x6 x7 x8 x9 x10 x11) ∗ owns (c : Thread nD τ) arg23 fullShare (out0_21 x0 x1 x2 x3 x4 x5 x6 x7 x8 x9 x10 x11) ∗ owns (c : Thread nD τ) arg24 fullShare (out0_22 x0 x1 x2 x3 x4 x5 x6 x7 x8 x9 x10 x11) ∗ owns (c : Thread nD τ) arg25 fullShare (out0_23 x0 x1 x2 x3 x4 x5 x6 x7 x8 x9 x10 x11) ∗ owns (c : Thread nD τ) arg26 fullShare (out0_24 x0 x1 x2 x3 x4 x5 x6 x7 x8 x9 x10 x11) ∗ owns (c : Thread nD τ) arg27 fullShare (out0_25 x0 x1 x2 x3 x4 x5 x6 x7 x8 x9 x10 x11) ∗ owns (c : Thread nD τ) arg28 fullShare (out0_26 x0 x1 x2 x3 x4 x5 x6 x7 x8 x9 x10 x11) ∗ owns (c : Thread nD τ) arg29 fullShare (out0_27 x0 x1 x2 x3 x4 x5 x6 x7 x8 x9 x10 x11) ∗ owns (c : Thread nD τ) arg30 fullShare (out0_28 x0 x1 x2 x3 x4 x5 x6 x7 x8 x9 x10 x11) ∗ owns (c : Thread nD τ) arg31 fullShare (out0_29 x0 x1 x2 x3 x4 x5 x6 x7 x8 x9 x10 x11) ∗ owns (c : Thread nD τ) arg32 fullShare (out0_30 x0 x1 x2 x3 x4 x5 x6 x7 x8 x9 x10 x11) ∗ owns (c : Thread nD τ) arg33 fullShare (out0_31 x0 x1 x2 x3 x4 x5 x6 x7 x8 x9 x10 x11)) -∗ K ⟨⟩))
      ⊢ wp frame (wpE (defs₀ (F := F)) Variants.none c none) E (cc0_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_projection_eq_skeleton]; unfold cc0_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact (View.read_writes_eq_canon _ _ _ (cover0_12 _)).trans rfl
  isplitl [H13]
  · iexists _; isplitr
    swap; · iexact H13
    ipureintro
    exact (View.read_writes_eq_canon _ _ _ (cover0_13 _)).trans rfl
  isplitl [H14]
  · iexists _; isplitr
    swap; · iexact H14
    ipureintro
    exact (View.read_writes_eq_canon _ _ _ (cover0_14 _)).trans rfl
  isplitl [H15]
  · iexists _; isplitr
    swap; · iexact H15
    ipureintro
    exact (View.read_writes_eq_canon _ _ _ (cover0_15 _)).trans rfl
  isplitl [H16]
  · iexists _; isplitr
    swap; · iexact H16
    ipureintro
    exact (View.read_writes_eq_canon _ _ _ (cover0_16 _)).trans rfl
  isplitl [H17]
  · iexists _; isplitr
    swap; · iexact H17
    ipureintro
    exact (View.read_writes_eq_canon _ _ _ (cover0_17 _)).trans rfl
  isplitl [H18]
  · iexists _; isplitr
    swap; · iexact H18
    ipureintro
    exact (View.read_writes_eq_canon _ _ _ (cover0_18 _)).trans rfl
  isplitl [H19]
  · iexists _; isplitr
    swap; · iexact H19
    ipureintro
    exact (View.read_writes_eq_canon _ _ _ (cover0_19 _)).trans rfl
  isplitl [H20]
  · iexists _; isplitr
    swap; · iexact H20
    ipureintro
    exact (View.read_writes_eq_canon _ _ _ (cover0_20 _)).trans rfl
  isplitl [H21]
  · iexists _; isplitr
    swap; · iexact H21
    ipureintro
    exact (View.read_writes_eq_canon _ _ _ (cover0_21 _)).trans rfl
  isplitl [H22]
  · iexists _; isplitr
    swap; · iexact H22
    ipureintro
    exact (View.read_writes_eq_canon _ _ _ (cover0_22 _)).trans rfl
  isplitl [H23]
  · iexists _; isplitr
    swap; · iexact H23
    ipureintro
    exact (View.read_writes_eq_canon _ _ _ (cover0_23 _)).trans rfl
  isplitl [H24]
  · iexists _; isplitr
    swap; · iexact H24
    ipureintro
    refine (View.read_writes_eq_canon _ _ _ (cover0_24 _ _ _ _ _ _ _ _)).trans ?_
    rfl
  isplitl [H25]
  · iexists _; isplitr
    swap; · iexact H25
    ipureintro
    exact (View.read_writes_eq_canon _ _ _ (cover0_25 _)).trans rfl
  isplitl [H26]
  · iexists _; isplitr
    swap; · iexact H26
    ipureintro
    exact (View.read_writes_eq_canon _ _ _ (cover0_26 _)).trans rfl
  isplitl [H27]
  · iexists _; isplitr
    swap; · iexact H27
    ipureintro
    exact (View.read_writes_eq_canon _ _ _ (cover0_27 _)).trans rfl
  isplitl [H28]
  · iexists _; isplitr
    swap; · iexact H28
    ipureintro
    exact (View.read_writes_eq_canon _ _ _ (cover0_28 _)).trans rfl
  isplitl [H29]
  · iexists _; isplitr
    swap; · iexact H29
    ipureintro
    exact (View.read_writes_eq_canon _ _ _ (cover0_29 _)).trans rfl
  isplitl [H30]
  · iexists _; isplitr
    swap; · iexact H30
    ipureintro
    exact (View.read_writes_eq_canon _ _ _ (cover0_30 _)).trans rfl
  iexists _; isplitr
  swap; · iexact H31
  ipureintro
  exact (View.read_writes_eq_canon _ _ _ (cover0_31 _)).trans rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_Kernel2Ideal`'s statement (Defs.lean) at any `F` of this module's program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel2Ideal.Prj

end
-- ==== Proof.Frames2.lean ====
module

public import proofs.«01_k».proof.Defs
public import proofs.«01_k».proof.Proof.K2.Run
public import proofs.«01_k».proof.Proof.KI2.Run
public import proofs.«01_k».proof.Proof.Gen.Reference2Ideal.Run
public import Idealize.ShloMosaic.Adequacy
public import Idealize.ShloMosaic.Init

/-! The frames of the projection's kernel, of its idealization and of its reference. -/

@[expose] public section

noncomputable section

namespace Cert.AttFrames

open Idealize.ShloMosaic Idealize.SL.Sem

/-- The projection terminates with its arguments as they were and every counter at zero. -/
theorem frame_kernel2 : Cert.quiescent_Kernel2 (hKernel2 := Cert.Kernel2.Gen.facts) := fun m g _ =>
  Cert.Kernel2.Prj.frame (F := Bits) m g

/-- The idealized projection terminates with its arguments as they were and every counter at zero. -/
theorem frame_ideal2 : Cert.quiescent_Kernel2Ideal (hKernel2Ideal := Cert.Kernel2Ideal.Gen.facts) := fun m g _ =>
  Cert.Kernel2Ideal.Prj.frame (F := Ideal) m g

/-- Its reference terminates with its arguments as they were and every counter at zero. -/
theorem frame_ref2 : Cert.quiescent_Reference2Ideal (hReference2Ideal := Cert.Reference2Ideal.Gen.facts) := fun m g _ =>
  (θ_run _ _ _).mono (fun r h => ⟨fun c => (h c).2.2.2.2.2.2.2.2.2.2.2.2.2.2, sem_eq_zero_of_no_sems (by decide) r.2⟩)
    (Cert.Reference2Ideal.Value.run (F := Ideal) m g)

end Cert.AttFrames

end
-- ==== Proof.Frames3.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Adequacy
public import Idealize.ShloMosaic.Init

/-! The frames of the output projection's kernel, of its idealization and of its reference. -/

@[expose] public section

noncomputable section

namespace Cert.AttFrames

open Idealize.ShloMosaic Idealize.SL.Sem

/-- The output projection terminates with its arguments as they were and every counter at zero. -/
theorem frame_kernel3 : Cert.quiescent_Kernel3 (hKernel3 := Cert.Kernel3.Gen.facts) := fun m g _ =>
  Cert.Kernel3.Gen.frame (F := Bits) m g

/-- The idealized output projection terminates with its arguments as they were and every counter at zero. -/
theorem frame_ideal3 : Cert.quiescent_Kernel3Ideal (hKernel3Ideal := Cert.Kernel3Ideal.Gen.facts) := fun m g _ =>
  Cert.Kernel3Ideal.Gen.frame (F := Ideal) m g

/-- Its reference terminates with its arguments as they were and every counter at zero. -/
theorem frame_ref3 : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run (F := Ideal) m g)

end Cert.AttFrames

end
-- ==== Proof.Frames4.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Adequacy
public import Idealize.ShloMosaic.Init

/-! The frames of the output projection of the sample's kernel, of its idealization and of its reference. -/

@[expose] public section

noncomputable section

namespace Cert.AttFrames

open Idealize.ShloMosaic Idealize.SL.Sem

/-- The output projection of the sample terminates with its arguments as they were and every counter at zero. -/
theorem frame_kernel4 : Cert.quiescent_Kernel4 (hKernel4 := Cert.Kernel4.Gen.facts) := fun m g _ =>
  Cert.Kernel4.Gen.frame (F := Bits) m g

/-- The idealized output projection of the sample terminates with its arguments as they were and every counter at zero. -/
theorem frame_ideal4 : Cert.quiescent_Kernel4Ideal (hKernel4Ideal := Cert.Kernel4Ideal.Gen.facts) := fun m g _ =>
  Cert.Kernel4Ideal.Gen.frame (F := Ideal) m g

/-- Its reference terminates with its arguments as they were and every counter at zero. -/
theorem frame_ref4 : Cert.quiescent_Reference4Ideal (hReference4Ideal := Cert.Reference4Ideal.Gen.facts) := fun m g _ =>
  (θ_run _ _ _).mono (fun r h => ⟨fun c => (h c).2, sem_eq_zero_of_no_sems (by decide) r.2⟩)
    (Cert.Reference4Ideal.Value.run (F := Ideal) m g)

end Cert.AttFrames

end
-- ==== Proof.Frames5.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import Idealize.ShloMosaic.Adequacy
public import Idealize.ShloMosaic.Init

/-! The frames of the modulation's kernel, of its idealization and of its reference. -/

@[expose] public section

noncomputable section

namespace Cert.AttFrames

open Idealize.ShloMosaic Idealize.SL.Sem

/-- The modulation terminates with its arguments as they were and every counter at zero. -/
theorem frame_kernel5 : Cert.quiescent_Kernel5 (hKernel5 := Cert.Kernel5.Gen.facts) := fun m g _ =>
  Cert.Kernel5.Gen.frame (F := Bits) m g

/-- The idealized modulation terminates with its arguments as they were and every counter at zero. -/
theorem frame_ideal5 : Cert.quiescent_Kernel5Ideal (hKernel5Ideal := Cert.Kernel5Ideal.Gen.facts) := fun m g _ =>
  Cert.Kernel5Ideal.Gen.frame (F := Ideal) m g

/-- Its reference terminates with its arguments as they were and every counter at zero. -/
theorem frame_ref5 : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run (F := Ideal) m g)

end Cert.AttFrames

end
-- ==== Proof.KI.Args.lean ====
module

public import proofs.«01_k».proof.Proof.KI.Run
public import Idealize.ShloMosaic.Lib.Pipeline.ValueKit

/-! The attention kernel's body as functions of what its arguments hold: one bundle of arguments, the pieces a
trip of the loop and the last tile write, named by the step they compute. -/

@[expose] public section

set_option maxRecDepth 16384

noncomputable section

namespace Cert.KernelIdeal.Att

open Cert.KernelIdeal Cert.KernelIdeal.Gen
open Idealize.ShloMosaic Idealize.ShloMosaic.TcCoe
open Idealize.SL.Sem

/-- The arguments of the attention body with the contents of those it reads. -/
structure Args where
  c : Dev nD
  i : grid0.Coords
  arg2 : Memref sig .tc .vmem S1x8x256x256 .f32
  harg2 : arg2.IsWhole
  arg3 : Memref sig .tc .vmem S1x4096x256 .bf16
  harg3 : arg3.IsWhole
  arg4 : Memref sig .tc .vmem S1x144x4096 .bf16
  harg4 : arg4.IsWhole
  arg5 : Memref sig .tc .vmem S8x128x512 .bf16
  harg5 : arg5.IsWhole
  arg6 : Memref sig .tc .vmem S1x256x512 .f32
  harg6 : arg6.IsWhole
  arg7 : Memref sig .tc .vmem S1x256x512 .bf16
  harg7 : arg7.IsWhole
  arg8 : Memref sig .tc .vmem S1x2048 .f32
  harg8 : arg8.IsWhole
  arg9 : Memref sig .tc .vmem S144x2048 .f32
  harg9 : arg9.IsWhole
  X2 : BufTy.Contents (Elt Ideal) arg2.view.ty
  X3 : BufTy.Contents (Elt Ideal) arg3.view.ty
  X4 : BufTy.Contents (Elt Ideal) arg4.view.ty
  X5 : BufTy.Contents (Elt Ideal) arg5.view.ty
  X6 : BufTy.Contents (Elt Ideal) arg6.view.ty

/-- The new running maximum of one group of columns. -/
def mNew (S : FVec Ideal S512x512 .f32) (m : Vec Ideal S1x512 .f32) : FVec Ideal S1x512 .f32 := k0_pay13 S m
/-- The new accumulator of one group of columns. -/
def aNew (V : FVec Ideal S144x512 .bf16) (S : FVec Ideal S512x512 .f32) (m : Vec Ideal S1x512 .f32)
    (a : Vec Ideal S144x512 .f32) : FVec Ideal S144x512 .f32 := k0_pay14 V (k0_pay11 S m) (k0_pay12 S m) a
/-- The scores masked to the visible keys, 512 keys. -/
def msk512 (b : IVec S512x512 1) (S : FVec Ideal S512x512 .f32) : FVec Ideal S512x512 .f32 := k0_pay76 b S
/-- The scores masked to the visible keys, 256 keys. -/
def msk256 (b : IVec S256x512 1) (S : FVec Ideal S256x512 .f32) : FVec Ideal S256x512 .f32 := k0_pay52 b S
/-- The new running maximum from a masked tile of 256 keys. -/
def mNew256 (b : IVec S256x512 1) (S : FVec Ideal S256x512 .f32) (m : Vec Ideal S1x512 .f32) : FVec Ideal S1x512 .f32 := k0_pay56 b S m
/-- The new accumulator from a masked tile of 256 keys. -/
def aNew256 (V : FVec Ideal S144x256 .bf16) (b : IVec S256x512 1) (S : FVec Ideal S256x512 .f32) (m : Vec Ideal S1x512 .f32)
    (a : Vec Ideal S144x512 .f32) : FVec Ideal S144x512 .f32 := k0_pay63 V (k0_pay54 b S m) (k0_pay55 b S m) a

/-- The new running maximum from a masked tile of 512 keys. -/
def mNew512 (b : IVec S512x512 1) (S : FVec Ideal S512x512 .f32) (m : Vec Ideal S1x512 .f32) : FVec Ideal S1x512 .f32 := k0_pay80 b S m
/-- The new accumulator from a masked tile of 512 keys. -/
def aNew512 (V : FVec Ideal S144x512 .bf16) (b : IVec S512x512 1) (S : FVec Ideal S512x512 .f32) (m : Vec Ideal S1x512 .f32)
    (a : Vec Ideal S144x512 .f32) : FVec Ideal S144x512 .f32 := k0_pay87 V (k0_pay78 b S m) (k0_pay79 b S m) a
/-- The block of the output from the accumulators' rows, their last row, the heads' parts of `w_v` and the gate. -/
def outOf (a : Vec Ideal S128x2048 .f32) (l : Vec Ideal S1x2048 .f32) (w0 w1 w2 w3 w4 w5 w6 w7 : Vec Ideal S1x128x512 .bf16)
    (g : Vec Ideal S1x256x512 .f32) : FVec Ideal S1x256x512 .bf16 :=
  k0_pay116 (k0_pay113 a l) (k0_pay114 a l w0 w1 w2 w3) (k0_pay115 a l) w4 w5 w6 w7 g

namespace Args
variable (A : Args)

/-- The queries of group `0`. -/
def q0 : Vec Ideal S1x2x256x256 .f32 := View.readAt (Elt Ideal) A.arg2.view (Rect.unit (s := S1x8x256x256) ![0, 0, 0, 0] S1x2x256x256.size inb_S1x8x256x256_S1x2x256x256_0_0_0_0).toLoadRect A.X2
/-- The queries of group `1`. -/
def q1 : Vec Ideal S1x2x256x256 .f32 := View.readAt (Elt Ideal) A.arg2.view (Rect.unit (s := S1x8x256x256) ![0, 2, 0, 0] S1x2x256x256.size inb_S1x8x256x256_S1x2x256x256_0_2_0_0).toLoadRect A.X2
/-- The queries of group `2`. -/
def q2 : Vec Ideal S1x2x256x256 .f32 := View.readAt (Elt Ideal) A.arg2.view (Rect.unit (s := S1x8x256x256) ![0, 4, 0, 0] S1x2x256x256.size inb_S1x8x256x256_S1x2x256x256_0_4_0_0).toLoadRect A.X2
/-- The queries of group `3`. -/
def q3 : Vec Ideal S1x2x256x256 .f32 := View.readAt (Elt Ideal) A.arg2.view (Rect.unit (s := S1x8x256x256) ![0, 6, 0, 0] S1x2x256x256.size inb_S1x8x256x256_S1x2x256x256_0_6_0_0).toLoadRect A.X2

/-- Keys of trip `k` of the loop. -/
def kt (k : Fin (k0_t1_loop A.i).trips) : Vec Ideal S1x512x256 .bf16 :=
  View.readAt (Elt Ideal) A.arg3.view (Rect.unit (s := S1x4096x256) (k0_off1 A.i k) S1x512x256.size (k0_off1_inb A.i k)).toLoadRect A.X3
/-- Values of trip `k` of the loop. -/
def vt (k : Fin (k0_t1_loop A.i).trips) : Vec Ideal S1x144x512 .bf16 :=
  View.readAt (Elt Ideal) A.arg4.view (Rect.unit (s := S1x144x4096) (k0_off2 A.i k) S1x144x512.size (k0_off2_inb A.i k)).toLoadRect A.X4

/-- What one trip leaves in the running maxima. -/
theorem trip_m (k : Fin (k0_t1_loop A.i).trips) (f8 f9) :
    (trip_k0_t1 (F := Ideal) Variants.none A.c none A.i A.arg2 A.harg2 A.arg3 A.harg3 A.arg4 A.harg4 A.arg5 A.harg5 A.arg6 A.harg6 A.arg7 A.harg7 A.arg8 A.harg8 A.arg9 A.harg9 A.X2 A.X3 A.X4 k).1 f8 f9
      = [⟨Rect.unit (s := S1x2048) ![0, 1536] S1x512.size inb_S1x2048_S1x512_0_1536, mNew (k0_pay3 (A.kt k) A.q3) (View.readAt (Elt Ideal) A.arg8.view (Rect.unit (s := S1x2048) ![0, 1536] S1x512.size inb_S1x2048_S1x512_0_1536).toLoadRect f8)⟩,
         ⟨Rect.unit (s := S1x2048) ![0, 1024] S1x512.size inb_S1x2048_S1x512_0_1024, mNew (k0_pay3 (A.kt k) A.q2) (View.readAt (Elt Ideal) A.arg8.view (Rect.unit (s := S1x2048) ![0, 1024] S1x512.size inb_S1x2048_S1x512_0_1024).toLoadRect f8)⟩,
         ⟨Rect.unit (s := S1x2048) ![0, 512] S1x512.size inb_S1x2048_S1x512_0_512, mNew (k0_pay3 (A.kt k) A.q1) (View.readAt (Elt Ideal) A.arg8.view (Rect.unit (s := S1x2048) ![0, 512] S1x512.size inb_S1x2048_S1x512_0_512).toLoadRect f8)⟩,
         ⟨Rect.unit (s := S1x2048) ![0, 0] S1x512.size inb_S1x2048_S1x512_0_0, mNew (k0_pay3 (A.kt k) A.q0) (View.readAt (Elt Ideal) A.arg8.view (Rect.unit (s := S1x2048) ![0, 0] S1x512.size inb_S1x2048_S1x512_0_0).toLoadRect f8)⟩] := by
  unfold trip_k0_t1; rfl

/-- What one trip leaves in the accumulators. -/
theorem trip_a (k : Fin (k0_t1_loop A.i).trips) (f8 f9) :
    (trip_k0_t1 (F := Ideal) Variants.none A.c none A.i A.arg2 A.harg2 A.arg3 A.harg3 A.arg4 A.harg4 A.arg5 A.harg5 A.arg6 A.harg6 A.arg7 A.harg7 A.arg8 A.harg8 A.arg9 A.harg9 A.X2 A.X3 A.X4 k).2.1 f8 f9
      = [⟨Rect.unit (s := S144x2048) ![0, 1536] S144x512.size inb_S144x2048_S144x512_0_1536, aNew (k0_pay2 (A.vt k)) (k0_pay3 (A.kt k) A.q3) (View.readAt (Elt Ideal) A.arg8.view (Rect.unit (s := S1x2048) ![0, 1536] S1x512.size inb_S1x2048_S1x512_0_1536).toLoadRect f8) (View.readAt (Elt Ideal) A.arg9.view (Rect.unit (s := S144x2048) ![0, 1536] S144x512.size inb_S144x2048_S144x512_0_1536).toLoadRect f9)⟩,
         ⟨Rect.unit (s := S144x2048) ![0, 1024] S144x512.size inb_S144x2048_S144x512_0_1024, aNew (k0_pay2 (A.vt k)) (k0_pay3 (A.kt k) A.q2) (View.readAt (Elt Ideal) A.arg8.view (Rect.unit (s := S1x2048) ![0, 1024] S1x512.size inb_S1x2048_S1x512_0_1024).toLoadRect f8) (View.readAt (Elt Ideal) A.arg9.view (Rect.unit (s := S144x2048) ![0, 1024] S144x512.size inb_S144x2048_S144x512_0_1024).toLoadRect f9)⟩,
         ⟨Rect.unit (s := S144x2048) ![0, 512] S144x512.size inb_S144x2048_S144x512_0_512, aNew (k0_pay2 (A.vt k)) (k0_pay3 (A.kt k) A.q1) (View.readAt (Elt Ideal) A.arg8.view (Rect.unit (s := S1x2048) ![0, 512] S1x512.size inb_S1x2048_S1x512_0_512).toLoadRect f8) (View.readAt (Elt Ideal) A.arg9.view (Rect.unit (s := S144x2048) ![0, 512] S144x512.size inb_S144x2048_S144x512_0_512).toLoadRect f9)⟩,
         ⟨Rect.unit (s := S144x2048) ![0, 0] S144x512.size inb_S144x2048_S144x512_0_0, aNew (k0_pay2 (A.vt k)) (k0_pay3 (A.kt k) A.q0) (View.readAt (Elt Ideal) A.arg8.view (Rect.unit (s := S1x2048) ![0, 0] S1x512.size inb_S1x2048_S1x512_0_0).toLoadRect f8) (View.readAt (Elt Ideal) A.arg9.view (Rect.unit (s := S144x2048) ![0, 0] S144x512.size inb_S144x2048_S144x512_0_0).toLoadRect f9)⟩] := by
  unfold trip_k0_t1; rfl

/-! ### The last tile -/

/-- The running maxima's first contents. -/
def m0 : List (View.Piece (Elt Ideal) S1x2048 .f32) := [⟨Rect.unit (s := S1x2048) ![0, 0] S1x2048.size inb_S1x2048_S1x2048_0_0, k0_pay95 (F := Ideal)⟩]
/-- The accumulators' first contents. -/
def a0 : List (View.Piece (Elt Ideal) S144x2048 .f32) := [⟨Rect.unit (s := S144x2048) ![0, 0] S144x2048.size inb_S144x2048_S144x2048_0_0, k0_pay96 (F := Ideal)⟩]
/-- What the first `n` trips of the loop wrote. -/
def pb (n : ℕ) : List (View.Piece (Elt Ideal) S1x2048 .f32) × List (View.Piece (Elt Ideal) S144x2048 .f32) :=
  pb_k0_t1 Variants.none A.c none A.i A.arg2 A.harg2 A.arg3 A.harg3 A.arg4 A.harg4 A.arg5 A.harg5 A.arg6 A.harg6 A.arg7 A.harg7 A.arg8 A.harg8 A.arg9 A.harg9 A.X2 A.X3 A.X4 (A.arg8.view.writes (Elt Ideal) A.arg8.view.junk m0) (A.arg9.view.writes (Elt Ideal) A.arg9.view.junk a0) n
/-- The number of trips. -/
def n1 : ℕ := (k0_t1_loop A.i).trips
/-- What the second loop wrote. -/
def pb2 : List (View.Piece (Elt Ideal) S1x2048 .f32) × List (View.Piece (Elt Ideal) S144x2048 .f32) :=
  pb_k0_t2 Variants.none A.c none A.i A.arg2 A.harg2 A.arg3 A.harg3 A.arg4 A.harg4 A.arg5 A.harg5 A.arg6 A.harg6 A.arg7 A.harg7 A.arg8 A.harg8 A.arg9 A.harg9 (runShort.sl.v20 A.i) A.X2 A.X3 A.X4 (A.arg8.view.writes (Elt Ideal) A.arg8.view.junk ((A.pb A.n1).1 ++ m0)) (A.arg9.view.writes (Elt Ideal) A.arg9.view.junk ((A.pb A.n1).2 ++ a0)) (k0_t2_loop A.i).trips
/-- The running maxima after the loops. -/
def l8 : List (View.Piece (Elt Ideal) S1x2048 .f32) := A.pb2.1 ++ ((A.pb A.n1).1 ++ m0)
/-- The accumulators after the loops. -/
def l9 : List (View.Piece (Elt Ideal) S144x2048 .f32) := A.pb2.2 ++ ((A.pb A.n1).2 ++ a0)
/-- The part of `w_v` of a head. -/
def w0 : Vec Ideal S1x128x512 .bf16 := View.readAt (Elt Ideal) A.arg5.view (Rect.unit (s := S8x128x512) ![0, 0, 0] S1x128x512.size inb_S8x128x512_S1x128x512_0_0_0).toLoadRect A.X5
/-- The part of `w_v` of a head. -/
def w1 : Vec Ideal S1x128x512 .bf16 := View.readAt (Elt Ideal) A.arg5.view (Rect.unit (s := S8x128x512) ![1, 0, 0] S1x128x512.size inb_S8x128x512_S1x128x512_1_0_0).toLoadRect A.X5
/-- The part of `w_v` of a head. -/
def w2 : Vec Ideal S1x128x512 .bf16 := View.readAt (Elt Ideal) A.arg5.view (Rect.unit (s := S8x128x512) ![2, 0, 0] S1x128x512.size inb_S8x128x512_S1x128x512_2_0_0).toLoadRect A.X5
/-- The part of `w_v` of a head. -/
def w3 : Vec Ideal S1x128x512 .bf16 := View.readAt (Elt Ideal) A.arg5.view (Rect.unit (s := S8x128x512) ![3, 0, 0] S1x128x512.size inb_S8x128x512_S1x128x512_3_0_0).toLoadRect A.X5
/-- The part of `w_v` of a head. -/
def w4 : Vec Ideal S1x128x512 .bf16 := View.readAt (Elt Ideal) A.arg5.view (Rect.unit (s := S8x128x512) ![4, 0, 0] S1x128x512.size inb_S8x128x512_S1x128x512_4_0_0).toLoadRect A.X5
/-- The part of `w_v` of a head. -/
def w5 : Vec Ideal S1x128x512 .bf16 := View.readAt (Elt Ideal) A.arg5.view (Rect.unit (s := S8x128x512) ![5, 0, 0] S1x128x512.size inb_S8x128x512_S1x128x512_5_0_0).toLoadRect A.X5
/-- The part of `w_v` of a head. -/
def w6 : Vec Ideal S1x128x512 .bf16 := View.readAt (Elt Ideal) A.arg5.view (Rect.unit (s := S8x128x512) ![6, 0, 0] S1x128x512.size inb_S8x128x512_S1x128x512_6_0_0).toLoadRect A.X5
/-- The part of `w_v` of a head. -/
def w7 : Vec Ideal S1x128x512 .bf16 := View.readAt (Elt Ideal) A.arg5.view (Rect.unit (s := S8x128x512) ![7, 0, 0] S1x128x512.size inb_S8x128x512_S1x128x512_7_0_0).toLoadRect A.X5
/-- The output's gate. -/
def gate : Vec Ideal S1x256x512 .f32 := View.readAt (Elt Ideal) A.arg6.view (Rect.unit (s := S1x256x512) ![0, 0, 0] S1x256x512.size inb_S1x256x512_S1x256x512_0_0_0).toLoadRect A.X6

section
variable (hc1 : k0_cond1 A.i = 1#1)
/-- Keys of the last tile. -/
def sk : Vec Ideal S1x256x256 .bf16 := View.readAt (Elt Ideal) A.arg3.view (Rect.unit (s := S1x4096x256) (k0_off5 A.i) S1x256x256.size (k0_off5_inb A.i hc1)).toLoadRect A.X3
/-- Values of the last tile. -/
def sv : FVec Ideal S144x256 .bf16 := k0_pay48 (View.readAt (Elt Ideal) A.arg4.view (Rect.unit (s := S1x144x4096) (k0_off6 A.i) S1x144x256.size (k0_off6_inb A.i hc1)).toLoadRect A.X4)
/-- Which keys of the last tile are visible. -/
def sb : IVec S256x512 1 := k0_pay49 (BitVec.ofNat 32 (A.i 1).val) (runShort.sl.v15 A.i)
/-- The running maxima after group 0 of the last tile. -/
def sm0 : List (View.Piece (Elt Ideal) S1x2048 .f32) := ⟨(Rect.unit (s := S1x2048) ![0, 0] S1x512.size inb_S1x2048_S1x512_0_0), mNew256 A.sb (k0_pay50 (A.sk hc1) A.q0) (A.arg8.view.readCov A.l8 (Rect.unit (s := S1x2048) ![0, 0] S1x512.size inb_S1x2048_S1x512_0_0).toLoadRect)⟩ :: A.l8
/-- The accumulators after group 0 of the last tile. -/
def sa0 : List (View.Piece (Elt Ideal) S144x2048 .f32) := ⟨(Rect.unit (s := S144x2048) ![0, 0] S144x512.size inb_S144x2048_S144x512_0_0), aNew256 (A.sv hc1) A.sb (k0_pay50 (A.sk hc1) A.q0) (A.arg8.view.readCov A.l8 (Rect.unit (s := S1x2048) ![0, 0] S1x512.size inb_S1x2048_S1x512_0_0).toLoadRect) (A.arg9.view.readCov A.l9 (Rect.unit (s := S144x2048) ![0, 0] S144x512.size inb_S144x2048_S144x512_0_0).toLoadRect)⟩ :: A.l9
/-- The running maxima after group 1 of the last tile. -/
def sm1 : List (View.Piece (Elt Ideal) S1x2048 .f32) := ⟨(Rect.unit (s := S1x2048) ![0, 512] S1x512.size inb_S1x2048_S1x512_0_512), mNew256 A.sb (k0_pay50 (A.sk hc1) A.q1) (A.arg8.view.readCov (A.sm0 hc1) (Rect.unit (s := S1x2048) ![0, 512] S1x512.size inb_S1x2048_S1x512_0_512).toLoadRect)⟩ :: (A.sm0 hc1)
/-- The accumulators after group 1 of the last tile. -/
def sa1 : List (View.Piece (Elt Ideal) S144x2048 .f32) := ⟨(Rect.unit (s := S144x2048) ![0, 512] S144x512.size inb_S144x2048_S144x512_0_512), aNew256 (A.sv hc1) A.sb (k0_pay50 (A.sk hc1) A.q1) (A.arg8.view.readCov (A.sm0 hc1) (Rect.unit (s := S1x2048) ![0, 512] S1x512.size inb_S1x2048_S1x512_0_512).toLoadRect) (A.arg9.view.readCov (A.sa0 hc1) (Rect.unit (s := S144x2048) ![0, 512] S144x512.size inb_S144x2048_S144x512_0_512).toLoadRect)⟩ :: (A.sa0 hc1)
/-- The running maxima after group 2 of the last tile. -/
def sm2 : List (View.Piece (Elt Ideal) S1x2048 .f32) := ⟨(Rect.unit (s := S1x2048) ![0, 1024] S1x512.size inb_S1x2048_S1x512_0_1024), mNew256 A.sb (k0_pay50 (A.sk hc1) A.q2) (A.arg8.view.readCov (A.sm1 hc1) (Rect.unit (s := S1x2048) ![0, 1024] S1x512.size inb_S1x2048_S1x512_0_1024).toLoadRect)⟩ :: (A.sm1 hc1)
/-- The accumulators after group 2 of the last tile. -/
def sa2 : List (View.Piece (Elt Ideal) S144x2048 .f32) := ⟨(Rect.unit (s := S144x2048) ![0, 1024] S144x512.size inb_S144x2048_S144x512_0_1024), aNew256 (A.sv hc1) A.sb (k0_pay50 (A.sk hc1) A.q2) (A.arg8.view.readCov (A.sm1 hc1) (Rect.unit (s := S1x2048) ![0, 1024] S1x512.size inb_S1x2048_S1x512_0_1024).toLoadRect) (A.arg9.view.readCov (A.sa1 hc1) (Rect.unit (s := S144x2048) ![0, 1024] S144x512.size inb_S144x2048_S144x512_0_1024).toLoadRect)⟩ :: (A.sa1 hc1)
/-- The accumulators after group 3 of the last tile. -/
def sa3 : List (View.Piece (Elt Ideal) S144x2048 .f32) := ⟨(Rect.unit (s := S144x2048) ![0, 1536] S144x512.size inb_S144x2048_S144x512_0_1536), aNew256 (A.sv hc1) A.sb (k0_pay50 (A.sk hc1) A.q3) (A.arg8.view.readCov (A.sm2 hc1) (Rect.unit (s := S1x2048) ![0, 1536] S1x512.size inb_S1x2048_S1x512_0_1536).toLoadRect) (A.arg9.view.readCov (A.sa2 hc1) (Rect.unit (s := S144x2048) ![0, 1536] S144x512.size inb_S144x2048_S144x512_0_1536).toLoadRect)⟩ :: (A.sa2 hc1)

/-- What the point stores. -/
theorem runShort_eq (hc2 : ¬ k0_cond2 A.i = 1#1) : (runShort (F := Ideal) A.c A.i A.arg2 A.harg2 A.arg3 A.harg3 A.arg4 A.harg4 A.arg5 A.harg5 A.arg6 A.harg6 A.arg7 A.harg7 A.arg8 A.harg8 A.arg9 A.harg9 A.X2 A.X3 A.X4 A.X5 A.X6 hc1 hc2).1
    = [⟨Rect.unit (s := S1x256x512) ![0, 0, 0] ![1, 256, 512] inb_S1x256x512_S1x256x512_0_0_0, outOf (A.arg9.view.readCov (A.sa3 hc1) (Rect.unit (s := S144x2048) ![0, 0] S128x2048.size inb_S144x2048_S128x2048_0_0).toLoadRect) (A.arg9.view.readCov (A.sa3 hc1) (Rect.unit (s := S144x2048) ![128, 0] S1x2048.size inb_S144x2048_S1x2048_128_0).toLoadRect) A.w0 A.w1 A.w2 A.w3 A.w4 A.w5 A.w6 A.w7 A.gate⟩] := by
  unfold runShort; rfl
end

section
variable (hc2 : k0_cond2 A.i = 1#1)
/-- Keys of the last tile. -/
def fk : Vec Ideal S1x512x256 .bf16 := View.readAt (Elt Ideal) A.arg3.view (Rect.unit (s := S1x4096x256) (k0_off7 A.i) S1x512x256.size (k0_off7_inb A.i hc2)).toLoadRect A.X3
/-- Values of the last tile. -/
def fv : FVec Ideal S144x512 .bf16 := k0_pay72 (View.readAt (Elt Ideal) A.arg4.view (Rect.unit (s := S1x144x4096) (k0_off8 A.i) S1x144x512.size (k0_off8_inb A.i hc2)).toLoadRect A.X4)
/-- Which keys of the last tile are visible. -/
def fb : IVec S512x512 1 := k0_pay73 (BitVec.ofNat 32 (A.i 1).val) (runShort.sl.v15 A.i)
/-- The running maxima after group 0 of the last tile. -/
def fm0 : List (View.Piece (Elt Ideal) S1x2048 .f32) := ⟨(Rect.unit (s := S1x2048) ![0, 0] S1x512.size inb_S1x2048_S1x512_0_0), mNew512 A.fb (k0_pay74 (A.fk hc2) A.q0) (A.arg8.view.readCov A.l8 (Rect.unit (s := S1x2048) ![0, 0] S1x512.size inb_S1x2048_S1x512_0_0).toLoadRect)⟩ :: A.l8
/-- The accumulators after group 0 of the last tile. -/
def fa0 : List (View.Piece (Elt Ideal) S144x2048 .f32) := ⟨(Rect.unit (s := S144x2048) ![0, 0] S144x512.size inb_S144x2048_S144x512_0_0), aNew512 (A.fv hc2) A.fb (k0_pay74 (A.fk hc2) A.q0) (A.arg8.view.readCov A.l8 (Rect.unit (s := S1x2048) ![0, 0] S1x512.size inb_S1x2048_S1x512_0_0).toLoadRect) (A.arg9.view.readCov A.l9 (Rect.unit (s := S144x2048) ![0, 0] S144x512.size inb_S144x2048_S144x512_0_0).toLoadRect)⟩ :: A.l9
/-- The running maxima after group 1 of the last tile. -/
def fm1 : List (View.Piece (Elt Ideal) S1x2048 .f32) := ⟨(Rect.unit (s := S1x2048) ![0, 512] S1x512.size inb_S1x2048_S1x512_0_512), mNew512 A.fb (k0_pay74 (A.fk hc2) A.q1) (A.arg8.view.readCov (A.fm0 hc2) (Rect.unit (s := S1x2048) ![0, 512] S1x512.size inb_S1x2048_S1x512_0_512).toLoadRect)⟩ :: (A.fm0 hc2)
/-- The accumulators after group 1 of the last tile. -/
def fa1 : List (View.Piece (Elt Ideal) S144x2048 .f32) := ⟨(Rect.unit (s := S144x2048) ![0, 512] S144x512.size inb_S144x2048_S144x512_0_512), aNew512 (A.fv hc2) A.fb (k0_pay74 (A.fk hc2) A.q1) (A.arg8.view.readCov (A.fm0 hc2) (Rect.unit (s := S1x2048) ![0, 512] S1x512.size inb_S1x2048_S1x512_0_512).toLoadRect) (A.arg9.view.readCov (A.fa0 hc2) (Rect.unit (s := S144x2048) ![0, 512] S144x512.size inb_S144x2048_S144x512_0_512).toLoadRect)⟩ :: (A.fa0 hc2)
/-- The running maxima after group 2 of the last tile. -/
def fm2 : List (View.Piece (Elt Ideal) S1x2048 .f32) := ⟨(Rect.unit (s := S1x2048) ![0, 1024] S1x512.size inb_S1x2048_S1x512_0_1024), mNew512 A.fb (k0_pay74 (A.fk hc2) A.q2) (A.arg8.view.readCov (A.fm1 hc2) (Rect.unit (s := S1x2048) ![0, 1024] S1x512.size inb_S1x2048_S1x512_0_1024).toLoadRect)⟩ :: (A.fm1 hc2)
/-- The accumulators after group 2 of the last tile. -/
def fa2 : List (View.Piece (Elt Ideal) S144x2048 .f32) := ⟨(Rect.unit (s := S144x2048) ![0, 1024] S144x512.size inb_S144x2048_S144x512_0_1024), aNew512 (A.fv hc2) A.fb (k0_pay74 (A.fk hc2) A.q2) (A.arg8.view.readCov (A.fm1 hc2) (Rect.unit (s := S1x2048) ![0, 1024] S1x512.size inb_S1x2048_S1x512_0_1024).toLoadRect) (A.arg9.view.readCov (A.fa1 hc2) (Rect.unit (s := S144x2048) ![0, 1024] S144x512.size inb_S144x2048_S144x512_0_1024).toLoadRect)⟩ :: (A.fa1 hc2)
/-- The accumulators after group 3 of the last tile. -/
def fa3 : List (View.Piece (Elt Ideal) S144x2048 .f32) := ⟨(Rect.unit (s := S144x2048) ![0, 1536] S144x512.size inb_S144x2048_S144x512_0_1536), aNew512 (A.fv hc2) A.fb (k0_pay74 (A.fk hc2) A.q3) (A.arg8.view.readCov (A.fm2 hc2) (Rect.unit (s := S1x2048) ![0, 1536] S1x512.size inb_S1x2048_S1x512_0_1536).toLoadRect) (A.arg9.view.readCov (A.fa2 hc2) (Rect.unit (s := S144x2048) ![0, 1536] S144x512.size inb_S144x2048_S144x512_0_1536).toLoadRect)⟩ :: (A.fa2 hc2)

/-- What the point stores. -/
theorem runFull_eq (hc1 : ¬ k0_cond1 A.i = 1#1) : (runFull (F := Ideal) A.c A.i A.arg2 A.harg2 A.arg3 A.harg3 A.arg4 A.harg4 A.arg5 A.harg5 A.arg6 A.harg6 A.arg7 A.harg7 A.arg8 A.harg8 A.arg9 A.harg9 A.X2 A.X3 A.X4 A.X5 A.X6 hc1 hc2).1
    = [⟨Rect.unit (s := S1x256x512) ![0, 0, 0] ![1, 256, 512] inb_S1x256x512_S1x256x512_0_0_0, outOf (A.arg9.view.readCov (A.fa3 hc2) (Rect.unit (s := S144x2048) ![0, 0] S128x2048.size inb_S144x2048_S128x2048_0_0).toLoadRect) (A.arg9.view.readCov (A.fa3 hc2) (Rect.unit (s := S144x2048) ![128, 0] S1x2048.size inb_S144x2048_S1x2048_128_0).toLoadRect) A.w0 A.w1 A.w2 A.w3 A.w4 A.w5 A.w6 A.w7 A.gate⟩] := by
  unfold runFull; rfl
end
end Args
end Cert.KernelIdeal.Att
-- ==== Proof.Maths.lean ====
module

public import Idealize.ShloMosaic.Lib.Pipeline.ValueKit

/-! The running softmax over the extended reals: a maximum and a weighted sum kept while the keys come tile by
tile, and what their quotient is at the end. -/

@[expose] public section

noncomputable section

namespace Cert.Maths

open Idealize.ShloMosaic

/-- The weight of key `n` relative to the reference point `μ`. -/
def wt (s : ℕ → ℝ) (μ : ℝ) (n : ℕ) : ℝ := Real.rpow 2 (s n - μ)

/-- The state after the first `N` keys: nothing visible yet, or a real maximum and the weighted sum against it. -/
def St (w : ℕ → Prop) [DecidablePred w] (s v : ℕ → ℝ) (N : ℕ) (m a : EReal) : Prop :=
  (m = ⊥ ∧ a = 0 ∧ ∀ n < N, ¬ w n) ∨
    ∃ μ : ℝ, m = (μ : EReal) ∧ a = ((∑ n ∈ Finset.range N, if w n then v n * wt s μ n else 0 : ℝ) : EReal)

theorem St.init (w : ℕ → Prop) [DecidablePred w] (s v : ℕ → ℝ) : St w s v 0 ⊥ 0 :=
  Or.inl ⟨rfl, rfl, fun n h => absurd h (Nat.not_lt_zero n)⟩

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The greatest score of a tile with a visible key is a real number. -/
theorem fold_real {K : ℕ} (w : ℕ → Prop) [DecidablePred w] (s : ℕ → ℝ) (N : ℕ) (S : Fin K → EReal)
    (hS : ∀ k : Fin K, S k = if w (N + k) then (s (N + k) : EReal) else ⊥) (hw : ∃ k : Fin K, w (N + k)) :
    ∃ M : ℝ, Finset.fold max (⊥ : EReal) S Finset.univ = (M : EReal) := by
  obtain ⟨k0, hk0⟩ := hw
  have hsup : Finset.fold max (⊥ : EReal) S Finset.univ = Finset.univ.sup S := rfl
  obtain ⟨k, -, hk⟩ := Finset.exists_mem_eq_sup Finset.univ ⟨k0, Finset.mem_univ _⟩ S
  rw [hsup, hk]
  have hle : S k0 ≤ S k := hk ▸ Finset.le_sup (Finset.mem_univ k0)
  rw [hS k] at hle ⊢
  by_cases hwk : w (N + k)
  · exact ⟨s (N + k), by rw [if_pos hwk]⟩
  · rw [if_neg hwk, hS k0, if_pos hk0] at hle
    exact absurd (le_bot_iff.mp hle) (EReal.coe_ne_bot _)

/-- One tile: the maximum and the weighted sum go on being what the state says. -/
theorem St.step {w : ℕ → Prop} [DecidablePred w] {s v : ℕ → ℝ} {N K : ℕ} {m a : EReal} (h : St w s v N m a)
    (S V : Fin K → EReal) (hS : ∀ k : Fin K, S k = if w (N + k) then (s (N + k) : EReal) else ⊥)
    (hV : ∀ k : Fin K, V k = (v (N + k) : EReal)) (hw : ∃ k : Fin K, w (N + k)) :
    St w s v (N + K) (max m (Finset.fold max (⊥ : EReal) S Finset.univ))
      (Ideal.exp2 (m - max m (Finset.fold max (⊥ : EReal) S Finset.univ)) * a
        + ∑ k, V k * Ideal.exp2 (S k - max m (Finset.fold max (⊥ : EReal) S Finset.univ))) := by
  obtain ⟨M, hM⟩ := fold_real w s N S hS hw
  rw [hM]
  have key : ∀ μ : ℝ, ∑ k, V k * Ideal.exp2 (S k - (μ : EReal))
      = ((∑ k : Fin K, (if w (N + k) then v (N + k) * wt s μ (N + k) else 0) : ℝ) : EReal) := by
    intro μ
    rw [coe_sum]
    refine Finset.sum_congr rfl fun k _ => ?_
    rw [hS k, hV k]
    by_cases hwk : w (N + k)
    · rw [if_pos hwk, if_pos hwk, ← EReal.coe_sub, Ideal.exp2_coe, ← EReal.coe_mul]; rfl
    · rw [if_neg hwk, if_neg hwk, EReal.bot_sub, Ideal.exp2_bot, mul_zero, EReal.coe_zero]
  have split : ∀ f : ℕ → ℝ, ∑ n ∈ Finset.range (N + K), f n = ∑ n ∈ Finset.range N, f n + ∑ k : Fin K, f (N + k) := by
    intro f
    rw [Finset.sum_range_add, Finset.sum_range (fun k => f (N + k))]
  rcases h with ⟨hm, ha, hN⟩ | ⟨μ, hm, ha⟩
  · right
    refine ⟨M, by rw [hm, max_eq_right bot_le], ?_⟩
    rw [hm, max_eq_right bot_le, ha, mul_zero, zero_add, key, split,
      Finset.sum_eq_zero (fun n hn => if_neg (hN n (Finset.mem_range.mp hn))), zero_add]
  · right
    refine ⟨max μ M, by rw [hm]; exact (EReal.coe_strictMono.monotone.map_max).symm, ?_⟩
    have hmax : max (μ : EReal) (M : EReal) = ((max μ M : ℝ) : EReal) := (EReal.coe_strictMono.monotone.map_max).symm
    rw [hm, hmax, key, ha, ← EReal.coe_sub, Ideal.exp2_coe, ← EReal.coe_mul, ← EReal.coe_add, split, Finset.mul_sum]
    congr 2
    refine Finset.sum_congr rfl fun n _ => ?_
    by_cases hwn : w n
    · rw [if_pos hwn, if_pos hwn]
      unfold wt
      simp only [Real.rpow_eq_pow]
      rw [show s n - max μ M = (μ - max μ M) + (s n - μ) by ring, Real.rpow_add (by norm_num)]
      ring
    · rw [if_neg hwn, if_neg hwn, mul_zero]

/-- The quotient of two weighted sums against one maximum, the second of which has value one at every key: the
weighted mean, with the maximum gone. -/
theorem St.quot {w : ℕ → Prop} [DecidablePred w] {s v o : ℕ → ℝ} {N : ℕ} {m a l : EReal}
    (h : St w s v N m a) (h' : St w s o N m l) (ho : ∀ n, o n = 1) (hw : ∃ n < N, w n) :
    Ideal.div a l = (((∑ n ∈ Finset.range N, if w n then v n * Real.rpow 2 (s n) else 0)
      / (∑ n ∈ Finset.range N, if w n then Real.rpow 2 (s n) else 0) : ℝ) : EReal) := by
  obtain ⟨n0, hn0, hw0⟩ := hw
  rcases h with ⟨hm, ha, hN⟩ | ⟨μ, hm, ha⟩
  · exact absurd hw0 (hN n0 hn0)
  rcases h' with ⟨hm', ha', hN'⟩ | ⟨μ', hm', ha'⟩
  · exact absurd hw0 (hN' n0 hn0)
  have : μ = μ' := EReal.coe_injective (hm.symm.trans hm')
  subst this
  have fac : ∀ g : ℕ → ℝ, (∑ n ∈ Finset.range N, if w n then g n * wt s μ n else 0)
      = Real.rpow 2 (-μ) * ∑ n ∈ Finset.range N, if w n then g n * Real.rpow 2 (s n) else 0 := by
    intro g
    rw [Finset.mul_sum]
    refine Finset.sum_congr rfl fun n _ => ?_
    by_cases hwn : w n
    · rw [if_pos hwn, if_pos hwn]
      unfold wt
      simp only [Real.rpow_eq_pow]
      rw [show s n - μ = -μ + s n by ring, Real.rpow_add (by norm_num)]
      ring
    · rw [if_neg hwn, if_neg hwn, mul_zero]
  have hpos : 0 < ∑ n ∈ Finset.range N, if w n then Real.rpow 2 (s n) else 0 := by
    refine Finset.sum_pos' (fun n _ => ?_) ⟨n0, Finset.mem_range.mpr hn0, ?_⟩
    · split_ifs
      · exact (Real.rpow_pos_of_pos (by norm_num) _).le
      · exact le_refl _
    · rw [if_pos hw0]; exact Real.rpow_pos_of_pos (by norm_num) _
  have hμ : Real.rpow 2 (-μ) ≠ 0 := (Real.rpow_pos_of_pos (by norm_num) _).ne'
  rw [ha, ha', fac, fac]
  simp only [ho, one_mul]
  rw [Ideal.div_coe (mul_ne_zero hμ hpos.ne'), ← EReal.coe_mul]
  congr 1
  field_simp

/-- The reference's softmax row, its maximum subtracted, times a value: the same weighted mean. -/
theorem softmax_mean {K : ℕ} (w : ℕ → Prop) [DecidablePred w] (c : ℕ → ℝ) (v : ℕ → ℝ) (S V : Fin K → EReal)
    (hS : ∀ k : Fin K, S k = if w k then (c k : EReal) else ⊥) (hV : ∀ k : Fin K, V k = (v k : EReal))
    (hw : ∃ k : Fin K, w k) :
    ∑ k, Ideal.div (Ideal.exp (S k - Finset.fold max (⊥ : EReal) S Finset.univ))
        (∑ k', Ideal.exp (S k' - Finset.fold max (⊥ : EReal) S Finset.univ)) * V k
      = (((∑ n ∈ Finset.range K, if w n then v n * Real.exp (c n) else 0)
        / (∑ n ∈ Finset.range K, if w n then Real.exp (c n) else 0) : ℝ) : EReal) := by
  obtain ⟨M, hM⟩ := fold_real w c 0 S (fun k => by simpa using hS k) (by simpa using hw)
  rw [hM]
  obtain ⟨k0, hk0⟩ := hw
  have e : ∀ k : Fin K, Ideal.exp (S k - (M : EReal)) = ((if w k then Real.exp (c k - M) else 0 : ℝ) : EReal) := by
    intro k
    rw [hS k]
    by_cases hwk : w k
    · rw [if_pos hwk, if_pos hwk, ← EReal.coe_sub, Ideal.exp_coe]
    · rw [if_neg hwk, if_neg hwk, EReal.bot_sub, Ideal.exp_bot, EReal.coe_zero]
  have den : ∑ k', Ideal.exp (S k' - (M : EReal)) = ((∑ k : Fin K, if w k then Real.exp (c k - M) else 0 : ℝ) : EReal) := by
    rw [coe_sum]; exact Finset.sum_congr rfl fun k _ => e k
  have hpos : ∀ f : ℕ → ℝ, 0 < ∑ k : Fin K, if w k then Real.exp (f k) else 0 := by
    intro f
    refine Finset.sum_pos' (fun n _ => ?_) ⟨k0, Finset.mem_univ _, ?_⟩
    · split_ifs
      · exact (Real.exp_pos _).le
      · exact le_refl _
    · rw [if_pos hk0]; exact Real.exp_pos _
  rw [den]
  have step : ∀ k : Fin K, Ideal.div (Ideal.exp (S k - (M : EReal))) ((∑ k : Fin K, if w k then Real.exp (c k - M) else 0 : ℝ) : EReal) * V k
      = (((if w k then v k * Real.exp (c k) else 0) / (∑ k : Fin K, if w k then Real.exp (c k) else 0) : ℝ) : EReal) := by
    intro k
    rw [e k, hV k, Ideal.div_coe (hpos (fun n => c n - M)).ne', ← EReal.coe_mul, ← EReal.coe_mul]
    congr 1
    have hd : (∑ k : Fin K, if w k then Real.exp (c k - M) else 0) = Real.exp (-M) * ∑ k : Fin K, if w k then Real.exp (c k) else 0 := by
      rw [Finset.mul_sum]
      refine Finset.sum_congr rfl fun n _ => ?_
      split_ifs
      · rw [← Real.exp_add]; congr 1; ring
      · rw [mul_zero]
    rw [hd]
    have h1 := (hpos c).ne'
    have h2 := (Real.exp_pos (-M)).ne'
    split_ifs with hwk
    · rw [show c k - M = -M + c k by ring, Real.exp_add]
      field_simp
    · simp
  rw [Finset.sum_congr rfl fun k _ => step k, ← coe_sum, ← Finset.sum_div,
    Finset.sum_range (fun n => if w n then v n * Real.exp (c n) else 0),
    Finset.sum_range (fun n => if w n then Real.exp (c n) else 0)]

/-- A power of two of a score scaled by the reciprocal of `log 2` is the exponential of the score. -/
theorem rpow_two_scale (x r : ℝ) : Real.rpow 2 (x * (r * (Real.log 2)⁻¹)) = Real.exp (x * r) := by
  rw [Real.rpow_eq_pow, Real.rpow_def_of_pos (by norm_num)]
  congr 1
  have : Real.log 2 ≠ 0 := (Real.log_pos (by norm_num)).ne'
  field_simp

end Cert.Maths
-- ==== Proof.KI.Step.lean ====
module

public import proofs.«01_k».proof.Proof.KI.Args
public import proofs.«01_k».proof.Proof.Maths

/-! Each step of the attention body at an index, over the extended reals. -/

@[expose] public section

set_option maxRecDepth 16384

noncomputable section

namespace Cert.KernelIdeal.Att

open Cert.KernelIdeal Cert.KernelIdeal.Gen
open Idealize.ShloMosaic Idealize.ShloMosaic.TcCoe
open Idealize.SL.Sem

/-- The negative infinity the maxima start from. -/
theorem ninf : Ideal.ofBits FTy.f32 4286578688#32 = (⊥ : EReal) := by simp [Ideal.ofBits, Ideal.ieee]
/-- The named mask is the least extended real. -/
theorem mask_eq : Named.named (F := Ideal) (φ := .f32) κ "mask" 4048155338#32 = (⊥ : EReal) :=
  IdealRules.named_const.ideal_named_scalar _ _ _ _ rfl
/-- The scale of the exponent, a real number. -/
def esc : ℝ := (3424635 / 33554432) * (Real.log 2)⁻¹
/-- The named scale is that number. -/
theorem scale_eq : Named.named (F := Ideal) (φ := .f32) κ "exp2_scale" 0x3E16C740#32 = (esc : EReal) :=
  IdealRules.named_const.ideal_named_scalar _ _ _ _ rfl

/-- The scores of 512 keys. -/
theorem sc512_at (Kb : Vec Ideal S1x512x256 .bf16) (Qb : Vec Ideal S1x2x256x256 .f32) (k x : Fin 512) :
    k0_pay3 Kb Qb (ix2 k x) = ∑ d : Fin 256, (Kb (ix3 0 k d) : EReal) * ((Qb (ix4 0 ⟨x.val / 256, by omega⟩ ⟨x.val % 256, by omega⟩ d) : EReal) * (esc : EReal)) := by
  pointwise [k0_pay3, k0_pay1]
  simp only [scale_eq]

theorem sc512'_at (Kb : Vec Ideal S1x512x256 .bf16) (Qb : Vec Ideal S1x2x256x256 .f32) (k x : Fin 512) :
    k0_pay74 Kb Qb (ix2 k x) = ∑ d : Fin 256, (Kb (ix3 0 k d) : EReal) * ((Qb (ix4 0 ⟨x.val / 256, by omega⟩ ⟨x.val % 256, by omega⟩ d) : EReal) * (esc : EReal)) := by
  pointwise [k0_pay74, k0_pay71]
  simp only [scale_eq]

/-- The scores of 256 keys. -/
theorem sc256_at (Kb : Vec Ideal S1x256x256 .bf16) (Qb : Vec Ideal S1x2x256x256 .f32) (k : Fin 256) (x : Fin 512) :
    k0_pay50 Kb Qb (ix2 k x) = ∑ d : Fin 256, (Kb (ix3 0 k d) : EReal) * ((Qb (ix4 0 ⟨x.val / 256, by omega⟩ ⟨x.val % 256, by omega⟩ d) : EReal) * (esc : EReal)) := by
  pointwise [k0_pay50, k0_pay47]
  simp only [scale_eq]

/-- The new maximum at a column. -/
theorem mNew_at (S : FVec Ideal S512x512 .f32) (m : Vec Ideal S1x512 .f32) (x : Fin 512) :
    mNew S m (ix2 0 x) = max (m (ix2 0 x) : EReal) (Finset.fold max (⊥ : EReal) (fun k : Fin 512 => (S (ix2 k x) : EReal)) Finset.univ) := by
  pointwise [mNew, k0_pay13, k0_pay10]
  simp only [ninf]

theorem mNew256_at (b : IVec S256x512 1) (S : FVec Ideal S256x512 .f32) (m : Vec Ideal S1x512 .f32) (x : Fin 512) :
    mNew256 b S m (ix2 0 x) = max (m (ix2 0 x) : EReal) (Finset.fold max (⊥ : EReal) (fun k : Fin 256 => (msk256 b S (ix2 k x) : EReal)) Finset.univ) := by
  pointwise [mNew256, k0_pay56, k0_pay53]
  simp only [ninf, msk256]

theorem mNew512_at (b : IVec S512x512 1) (S : FVec Ideal S512x512 .f32) (m : Vec Ideal S1x512 .f32) (x : Fin 512) :
    mNew512 b S m (ix2 0 x) = max (m (ix2 0 x) : EReal) (Finset.fold max (⊥ : EReal) (fun k : Fin 512 => (msk512 b S (ix2 k x) : EReal)) Finset.univ) := by
  pointwise [mNew512, k0_pay80, k0_pay77]
  simp only [ninf, msk512]

/-- The new accumulator at a row and a column. -/
theorem aNew_at (V : FVec Ideal S144x512 .bf16) (S : FVec Ideal S512x512 .f32) (m : Vec Ideal S1x512 .f32) (a : Vec Ideal S144x512 .f32)
    (r : Fin 144) (x : Fin 512) :
    aNew V S m a (ix2 r x) = Ideal.exp2 ((m (ix2 0 x) : EReal) - max (m (ix2 0 x) : EReal) (Finset.fold max (⊥ : EReal) (fun k : Fin 512 => (S (ix2 k x) : EReal)) Finset.univ)) * (a (ix2 r x) : EReal)
      + ∑ k : Fin 512, (V (ix2 r k) : EReal) * Ideal.exp2 ((S (ix2 k x) : EReal) - max (m (ix2 0 x) : EReal) (Finset.fold max (⊥ : EReal) (fun k : Fin 512 => (S (ix2 k x) : EReal)) Finset.univ)) := by
  pointwise [aNew, k0_pay14, k0_pay11, k0_pay12, k0_pay10]
  simp only [ninf]; rfl

theorem aNew256_at (V : FVec Ideal S144x256 .bf16) (b : IVec S256x512 1) (S : FVec Ideal S256x512 .f32) (m : Vec Ideal S1x512 .f32) (a : Vec Ideal S144x512 .f32)
    (r : Fin 144) (x : Fin 512) :
    aNew256 V b S m a (ix2 r x) = Ideal.exp2 ((m (ix2 0 x) : EReal) - max (m (ix2 0 x) : EReal) (Finset.fold max (⊥ : EReal) (fun k : Fin 256 => (msk256 b S (ix2 k x) : EReal)) Finset.univ)) * (a (ix2 r x) : EReal)
      + ∑ k : Fin 256, (V (ix2 r k) : EReal) * Ideal.exp2 ((msk256 b S (ix2 k x) : EReal) - max (m (ix2 0 x) : EReal) (Finset.fold max (⊥ : EReal) (fun k : Fin 256 => (msk256 b S (ix2 k x) : EReal)) Finset.univ)) := by
  pointwise [aNew256, k0_pay63, k0_pay54, k0_pay55, k0_pay53]
  simp only [ninf]; rfl

theorem aNew512_at (V : FVec Ideal S144x512 .bf16) (b : IVec S512x512 1) (S : FVec Ideal S512x512 .f32) (m : Vec Ideal S1x512 .f32) (a : Vec Ideal S144x512 .f32)
    (r : Fin 144) (x : Fin 512) :
    aNew512 V b S m a (ix2 r x) = Ideal.exp2 ((m (ix2 0 x) : EReal) - max (m (ix2 0 x) : EReal) (Finset.fold max (⊥ : EReal) (fun k : Fin 512 => (msk512 b S (ix2 k x) : EReal)) Finset.univ)) * (a (ix2 r x) : EReal)
      + ∑ k : Fin 512, (V (ix2 r k) : EReal) * Ideal.exp2 ((msk512 b S (ix2 k x) : EReal) - max (m (ix2 0 x) : EReal) (Finset.fold max (⊥ : EReal) (fun k : Fin 512 => (msk512 b S (ix2 k x) : EReal)) Finset.univ)) := by
  pointwise [aNew512, k0_pay87, k0_pay78, k0_pay79, k0_pay77]
  simp only [ninf]; rfl

/-- Word arithmetic of the mask: key `n` is visible to query `q` when its segment of 64 is not after the query's. -/
theorem vis_word (i j κ y : ℕ) (hi : i < 16) (hj : j < 8) (hκ : κ < 512) (hy : y < 512) :
    IntOp.cmpi CmpIPredicate.sle
        (IntOp.shrsi ArithUnit.vector (IntOp.addi (Scalar.muli (BitVec.ofNat 32 j) 512#32) (BitVec.ofNat 32 κ)) 6#32)
        (IntOp.shrsi ArithUnit.vector
          (IntOp.addi (Scalar.addi (0#32) (Scalar.muli (BitVec.ofNat 32 i) 256#32)) (IntOp.andi (BitVec.ofNat 32 y) 255#32)) 6#32)
      = if (512 * j + κ) / 64 ≤ (256 * i + y % 256) / 64 then 1#1 else 0#1 := by
  have h1 : IntOp.addi (Scalar.muli (BitVec.ofNat 32 j) 512#32) (BitVec.ofNat 32 κ) = BitVec.ofNat 32 (512 * j + κ) := by
    show BitVec.ofNat 32 j * BitVec.ofNat 32 512 + BitVec.ofNat 32 κ = _
    rw [← BitVec.ofNat_mul, ← BitVec.ofNat_add, Nat.mul_comm]
  have h2 : IntOp.andi (BitVec.ofNat 32 y) 255#32 = BitVec.ofNat 32 (y % 256) := by
    apply BitVec.eq_of_toNat_eq
    show (BitVec.ofNat 32 y &&& 255#32).toNat = _
    rw [BitVec.toNat_and, BitVec.toNat_ofNat, BitVec.toNat_ofNat, BitVec.toNat_ofNat, Nat.mod_eq_of_lt (by omega : y < 2 ^ 32),
      Nat.mod_eq_of_lt (by omega : y % 256 < 2 ^ 32)]
    exact Nat.and_two_pow_sub_one_eq_mod y 8
  have h3 : IntOp.addi (Scalar.addi (0#32) (Scalar.muli (BitVec.ofNat 32 i) 256#32)) (BitVec.ofNat 32 (y % 256)) = BitVec.ofNat 32 (256 * i + y % 256) := by
    show 0#32 + BitVec.ofNat 32 i * BitVec.ofNat 32 256 + BitVec.ofNat 32 (y % 256) = _
    rw [← BitVec.ofNat_mul, BitVec.zero_add, ← BitVec.ofNat_add, Nat.mul_comm]
  have h4 : ∀ n : ℕ, n < 2 ^ 31 → IntOp.shrsi ArithUnit.vector (BitVec.ofNat 32 n) 6#32 = BitVec.ofNat 32 (n / 64) := by
    intro n hn
    show (BitVec.ofNat 32 n).sshiftRight' 6#32 = _
    rw [BitVec.sshiftRight_eq', BitVec.sshiftRight_eq_of_msb_false (by
      rw [BitVec.msb_eq_false_iff_two_mul_lt, BitVec.toNat_ofNat]; omega)]
    apply BitVec.eq_of_toNat_eq
    rw [BitVec.toNat_ushiftRight, BitVec.toNat_ofNat, BitVec.toNat_ofNat, BitVec.toNat_ofNat, Nat.shiftRight_eq_div_pow,
      Nat.mod_eq_of_lt (by omega : n < 2 ^ 32), Nat.mod_eq_of_lt (by omega : n / 64 < 2 ^ 32)]
  rw [h1, h2, h3, h4 _ (by omega), h4 _ (by omega), WordCmp.cmpi_sle_ofNat (by norm_num; omega) (by norm_num; omega)]
  split_ifs with h
  · simp [h]
  · simp [h]

/-- The masked scores of a tile of 256 keys. -/
theorem msk256_at (i j : ℕ) (hi : i < 16) (hj : j < 8) (S : FVec Ideal S256x512 .f32) (k : Fin 256) (x : Fin 512) :
    msk256 (k0_pay49 (BitVec.ofNat 32 i) (BitVec.ofNat 32 j)) S (ix2 k x)
      = if (512 * j + k.val) / 64 ≤ (256 * i + x.val % 256) / 64 then (S (ix2 k x) : EReal) else ⊥ := by
  pointwise [msk256, k0_pay52, k0_pay49]
  rw [vis_word i j k.val x.val hi hj (by omega) x.isLt, mask_eq]
  split_ifs <;> rfl

/-- The masked scores of a tile of 512 keys. -/
theorem msk512_at (i j : ℕ) (hi : i < 16) (hj : j < 8) (S : FVec Ideal S512x512 .f32) (k : Fin 512) (x : Fin 512) :
    msk512 (k0_pay73 (BitVec.ofNat 32 i) (BitVec.ofNat 32 j)) S (ix2 k x)
      = if (512 * j + k.val) / 64 ≤ (256 * i + x.val % 256) / 64 then (S (ix2 k x) : EReal) else ⊥ := by
  pointwise [msk512, k0_pay76, k0_pay73]
  rw [vis_word i j k.val x.val hi hj (by omega) x.isLt, mask_eq]
  split_ifs <;> rfl

theorem k0_pay2_at (X : Vec Ideal S1x144x512 .bf16) (r : Fin 144) (k : Fin 512) : k0_pay2 X (ix2 r k) = (X (ix3 0 r k) : EReal) := by
  pointwise [k0_pay2]
theorem k0_pay72_at (X : Vec Ideal S1x144x512 .bf16) (r : Fin 144) (k : Fin 512) : k0_pay72 X (ix2 r k) = (X (ix3 0 r k) : EReal) := by
  pointwise [k0_pay72]
theorem k0_pay48_at (X : Vec Ideal S1x144x256 .bf16) (r : Fin 144) (k : Fin 256) : k0_pay48 X (ix2 r k) = (X (ix3 0 r k) : EReal) := by
  pointwise [k0_pay48]
theorem k0_pay95_at (x) : k0_pay95 (F := Ideal) x = (⊥ : EReal) := by
  pointwise [k0_pay95]; exact mask_eq
theorem k0_pay96_at (x) : k0_pay96 (F := Ideal) x = (0 : EReal) := by
  pointwise [k0_pay96]

/-- The index facts of the grid points: how many trips, which last tile, where the tiles lie. -/
theorem pts : ∀ t : Fin cfg0.N, (k0_t1_loop (grid0.coords t)).trips = (grid0.coords t 1).val / 2 ∧ (k0_t2_loop (grid0.coords t)).trips = 0
    ∧ ((k0_cond1 (grid0.coords t) = 1#1) ↔ (grid0.coords t 1).val % 2 = 0)
    ∧ k0_off5 (grid0.coords t) = ![0, 512 * ((grid0.coords t 1).val / 2), 0] ∧ k0_off7 (grid0.coords t) = ![0, 512 * ((grid0.coords t 1).val / 2), 0]
    ∧ k0_off6 (grid0.coords t) = ![0, 0, 512 * ((grid0.coords t 1).val / 2)] ∧ k0_off8 (grid0.coords t) = ![0, 0, 512 * ((grid0.coords t 1).val / 2)]
    ∧ runShort.sl.v15 (grid0.coords t) = BitVec.ofNat 32 ((grid0.coords t 1).val / 2)
    ∧ (grid0.coords t 1).val < 16
    ∧ ∀ k : Fin (k0_t1_loop (grid0.coords t)).trips, k0_off1 (grid0.coords t) k = ![0, 512 * k.val, 0] ∧ k0_off2 (grid0.coords t) k = ![0, 0, 512 * k.val] :=
  (by decide +kernel : ∀ t : Fin grid0.N, _)

end Cert.KernelIdeal.Att
-- ==== Proof.KI.Loop.lean ====
module

public import proofs.«01_k».proof.Proof.KI.Step

/-! The loop of the attention body: after `n` trips each column's maximum and accumulators are the running softmax of
the first `512 n` keys; and the last tile brings in its visible keys. -/

@[expose] public section

set_option maxRecDepth 16384

noncomputable section

namespace Cert.KernelIdeal.Att

open Cert.KernelIdeal Cert.KernelIdeal.Gen Cert.Maths
open Idealize.ShloMosaic Idealize.ShloMosaic.TcCoe
open Idealize.SL.Sem

section canon
variable {S : Shape} {e : EltTy}

/-- The last write read back inside its rectangle. -/
theorem canon_hit (off size : Fin S.rank → Nat) (inb) (P : (Rect.unit off size inb).shape.Idx → Elt Ideal e)
    (L : List (View.Piece (Elt Ideal) S e)) (i : S.Idx) (y : (Rect.unit off size inb).shape.Idx) (h : ∀ a, (i a : ℕ) = off a + y a) :
    View.canon (⟨Rect.unit off size inb, P⟩ :: L) i = P y := by
  have : i = (Rect.unit off size inb).emb y := by
    funext a; exact Fin.ext ((h a).trans (Rect.idx_unit_val off size inb y a).symm)
  rw [this]; exact View.canon_cons_emb _ _ _ _

/-- A write read back outside its rectangle. -/
theorem canon_miss (off size : Fin S.rank → Nat) (inb) (P : (Rect.unit off size inb).shape.Idx → Elt Ideal e)
    (L : List (View.Piece (Elt Ideal) S e)) (i : S.Idx) (a : Fin S.rank) (h : (i a : ℕ) < off a ∨ off a + size a ≤ (i a : ℕ)) :
    View.canon (⟨Rect.unit off size inb, P⟩ :: L) i = View.canon L i := by
  refine View.canon_cons_of_not_mem _ _ fun hm => ?_
  have hm' : i ∈ (Rect.unit off size inb).set := hm
  rw [Rect.mem_set_unit] at hm'
  have := hm' a
  omega
end canon

/-- Four writes side by side, read back at a column: the write of the column's group. -/
theorem canon8 (P0 P1 P2 P3 : Vec Ideal S1x512 .f32) (L : List (View.Piece (Elt Ideal) S1x2048 .f32)) (x : Fin 2048)
    (Q0 Q1 Q2 Q3 : Vec Ideal S144x512 .f32) (L' : List (View.Piece (Elt Ideal) S144x2048 .f32)) (r : Fin 144)
    (C : EReal → EReal → Prop)
    (h0 : ∀ y : Fin 512, x.val = y.val → C (P0 (ix2 0 y)) (Q0 (ix2 r y)))
    (h1 : ∀ y : Fin 512, x.val = 512 + y.val → C (P1 (ix2 0 y)) (Q1 (ix2 r y)))
    (h2 : ∀ y : Fin 512, x.val = 1024 + y.val → C (P2 (ix2 0 y)) (Q2 (ix2 r y)))
    (h3 : ∀ y : Fin 512, x.val = 1536 + y.val → C (P3 (ix2 0 y)) (Q3 (ix2 r y))) :
    C (View.canon ([⟨(Rect.unit (s := S1x2048) ![0, 1536] S1x512.size inb_S1x2048_S1x512_0_1536), P3⟩, ⟨(Rect.unit (s := S1x2048) ![0, 1024] S1x512.size inb_S1x2048_S1x512_0_1024), P2⟩, ⟨(Rect.unit (s := S1x2048) ![0, 512] S1x512.size inb_S1x2048_S1x512_0_512), P1⟩, ⟨(Rect.unit (s := S1x2048) ![0, 0] S1x512.size inb_S1x2048_S1x512_0_0), P0⟩] ++ L) (ix2 0 x)) (View.canon ([⟨(Rect.unit (s := S144x2048) ![0, 1536] S144x512.size inb_S144x2048_S144x512_0_1536), Q3⟩, ⟨(Rect.unit (s := S144x2048) ![0, 1024] S144x512.size inb_S144x2048_S144x512_0_1024), Q2⟩, ⟨(Rect.unit (s := S144x2048) ![0, 512] S144x512.size inb_S144x2048_S144x512_0_512), Q1⟩, ⟨(Rect.unit (s := S144x2048) ![0, 0] S144x512.size inb_S144x2048_S144x512_0_0), Q0⟩] ++ L') (ix2 r x)) := by
  have hx := x.isLt
  by_cases c1 : x.val < 512
  · have e := h0 ⟨x.val - 0, by omega⟩ (by show x.val = x.val - 0; omega)
    rw [List.cons_append, List.cons_append, List.cons_append, List.cons_append, List.cons_append, List.cons_append, List.cons_append, List.cons_append, canon_miss _ _ _ _ _ _ 1 (Or.inl (by show x.val < 1536; omega)), canon_miss _ _ _ _ _ _ 1 (Or.inl (by show x.val < 1024; omega)), canon_miss _ _ _ _ _ _ 1 (Or.inl (by show x.val < 512; omega)), canon_hit _ _ _ _ _ _ (ix2 0 ⟨x.val - 0, by omega⟩) (by intro a; fin_cases a; exacts [rfl, (by show x.val = 0 + (x.val - 0); omega)]), canon_miss _ _ _ _ _ _ 1 (Or.inl (by show x.val < 1536; omega)), canon_miss _ _ _ _ _ _ 1 (Or.inl (by show x.val < 1024; omega)), canon_miss _ _ _ _ _ _ 1 (Or.inl (by show x.val < 512; omega)), canon_hit _ _ _ _ _ _ (ix2 r ⟨x.val - 0, by omega⟩) (by intro a; fin_cases a; exacts [(Nat.zero_add _).symm, (by show x.val = 0 + (x.val - 0); omega)])]
    exact e
  by_cases c2 : x.val < 1024
  · have e := h1 ⟨x.val - 512, by omega⟩ (by show x.val = 512 + (x.val - 512); omega)
    rw [List.cons_append, List.cons_append, List.cons_append, List.cons_append, List.cons_append, List.cons_append, List.cons_append, List.cons_append, canon_miss _ _ _ _ _ _ 1 (Or.inl (by show x.val < 1536; omega)), canon_miss _ _ _ _ _ _ 1 (Or.inl (by show x.val < 1024; omega)), canon_hit _ _ _ _ _ _ (ix2 0 ⟨x.val - 512, by omega⟩) (by intro a; fin_cases a; exacts [rfl, (by show x.val = 512 + (x.val - 512); omega)]), canon_miss _ _ _ _ _ _ 1 (Or.inl (by show x.val < 1536; omega)), canon_miss _ _ _ _ _ _ 1 (Or.inl (by show x.val < 1024; omega)), canon_hit _ _ _ _ _ _ (ix2 r ⟨x.val - 512, by omega⟩) (by intro a; fin_cases a; exacts [(Nat.zero_add _).symm, (by show x.val = 512 + (x.val - 512); omega)])]
    exact e
  by_cases c3 : x.val < 1536
  · have e := h2 ⟨x.val - 1024, by omega⟩ (by show x.val = 1024 + (x.val - 1024); omega)
    rw [List.cons_append, List.cons_append, List.cons_append, List.cons_append, List.cons_append, List.cons_append, List.cons_append, List.cons_append, canon_miss _ _ _ _ _ _ 1 (Or.inl (by show x.val < 1536; omega)), canon_hit _ _ _ _ _ _ (ix2 0 ⟨x.val - 1024, by omega⟩) (by intro a; fin_cases a; exacts [rfl, (by show x.val = 1024 + (x.val - 1024); omega)]), canon_miss _ _ _ _ _ _ 1 (Or.inl (by show x.val < 1536; omega)), canon_hit _ _ _ _ _ _ (ix2 r ⟨x.val - 1024, by omega⟩) (by intro a; fin_cases a; exacts [(Nat.zero_add _).symm, (by show x.val = 1024 + (x.val - 1024); omega)])]
    exact e
  · have e := h3 ⟨x.val - 1536, by omega⟩ (by show x.val = 1536 + (x.val - 1536); omega)
    rw [List.cons_append, List.cons_append, List.cons_append, List.cons_append, List.cons_append, List.cons_append, List.cons_append, List.cons_append, canon_hit _ _ _ _ _ _ (ix2 0 ⟨x.val - 1536, by omega⟩) (by intro a; fin_cases a; exacts [rfl, (by show x.val = 1536 + (x.val - 1536); omega)]), canon_hit _ _ _ _ _ _ (ix2 r ⟨x.val - 1536, by omega⟩) (by intro a; fin_cases a; exacts [(Nat.zero_add _).symm, (by show x.val = 1536 + (x.val - 1536); omega)])]
    exact e

namespace Args
variable (A : Args)

/-- What the arrays hold where they are real: the keys, the queries and the values. -/
structure Reals (t : Fin cfg0.N) (kr : ℕ → Fin 256 → ℝ) (qr : ℕ → ℕ → Fin 256 → ℝ) (vr : Fin 144 → ℕ → ℝ) : Prop where
  hi : A.i = grid0.coords t
  hk : ∀ (n : Fin 4096) (d : Fin 256), (A.arg3.view.read (Elt Ideal) A.X3 (ix3 0 n d) : EReal) = (kr n.val d : EReal)
  hq : ∀ (h : Fin 8) (q : Fin 256) (d : Fin 256), (A.arg2.view.read (Elt Ideal) A.X2 (ix4 0 h q d) : EReal) = (qr h.val q.val d : EReal)
  hv : ∀ (r : Fin 144) (n : Fin 4096), (A.arg4.view.read (Elt Ideal) A.X4 (ix3 0 r n) : EReal) = (vr r n.val : EReal)

/-- The score of key `n` at column `x` (head `x / 256`, query `x % 256`). -/
def sc (kr : ℕ → Fin 256 → ℝ) (qr : ℕ → ℕ → Fin 256 → ℝ) (x : ℕ) (n : ℕ) : ℝ :=
  ∑ d : Fin 256, kr n d * (qr (x / 256) (x % 256) d * esc)

section
variable {A} {t : Fin cfg0.N} {kr : ℕ → Fin 256 → ℝ} {qr : ℕ → ℕ → Fin 256 → ℝ} {vr : Fin 144 → ℕ → ℝ} (H : A.Reals t kr qr vr)
include H

theorem Reals.trips : A.n1 = (grid0.coords t 1).val / 2 := by
  unfold n1; rw [H.hi]; exact (pts t).1
theorem Reals.trips2 : (k0_t2_loop A.i).trips = 0 := by rw [H.hi]; exact (pts t).2.1
theorem Reals.off1 (k : Fin (k0_t1_loop A.i).trips) : k0_off1 A.i k = ![0, 512 * k.val, 0] := by
  have h := H.hi
  have hp := (pts t).2.2.2.2.2.2.2.2.2
  rw [← h] at hp; exact (hp k).1
theorem Reals.off2 (k : Fin (k0_t1_loop A.i).trips) : k0_off2 A.i k = ![0, 0, 512 * k.val] := by
  have h := H.hi
  have hp := (pts t).2.2.2.2.2.2.2.2.2
  rw [← h] at hp; exact (hp k).2

theorem Reals.lt (k : Fin (k0_t1_loop A.i).trips) : k.val < 8 := by
  have h1 := k.isLt
  have h2 := H.trips
  unfold n1 at h2
  have h3 := (pts t).2.2.2.2.2.2.2.2.1
  omega

theorem Reals.kt_at (k : Fin (k0_t1_loop A.i).trips) (κ : Fin 512) (d : Fin 256) : (A.kt k (ix3 0 κ d) : EReal) = (kr (512 * k.val + κ.val) d : EReal) := by
  have hlt := H.lt k
  refine Eq.trans ?_ (H.hk ⟨512 * k.val + κ.val, by omega⟩ d)
  unfold kt
  rw [View.readAt_eq_ld]
  refine View.ld_unit_apply_of _ _ _ _ _ _ fun a => ?_
  rw [congrFun (H.off1 k) a]
  fin_cases a
  · rfl
  · rfl
  · exact (Nat.zero_add _).symm

theorem Reals.vt_at (k : Fin (k0_t1_loop A.i).trips) (r : Fin 144) (κ : Fin 512) : (k0_pay2 (A.vt k) (ix2 r κ) : EReal) = (vr r (512 * k.val + κ.val) : EReal) := by
  have hlt := H.lt k
  rw [k0_pay2_at]
  refine Eq.trans ?_ (H.hv r ⟨512 * k.val + κ.val, by omega⟩)
  unfold vt
  rw [View.readAt_eq_ld]
  refine View.ld_unit_apply_of _ _ _ _ _ _ fun a => ?_
  rw [congrFun (H.off2 k) a]
  fin_cases a
  · rfl
  · exact (Nat.zero_add _).symm
  · rfl

theorem Reals.q0_at (h : Fin 2) (q : Fin 256) (d : Fin 256) : (A.q0 (ix4 0 h q d) : EReal) = (qr (0 + h.val) q.val d : EReal) := by
  refine Eq.trans ?_ (H.hq ⟨0 + h.val, by omega⟩ q d)
  unfold q0
  rw [View.readAt_eq_ld]
  refine View.ld_unit_apply_of _ _ _ _ _ _ fun a => ?_
  fin_cases a
  · rfl
  · rfl
  · exact (Nat.zero_add _).symm
  · exact (Nat.zero_add _).symm

theorem Reals.q1_at (h : Fin 2) (q : Fin 256) (d : Fin 256) : (A.q1 (ix4 0 h q d) : EReal) = (qr (2 + h.val) q.val d : EReal) := by
  refine Eq.trans ?_ (H.hq ⟨2 + h.val, by omega⟩ q d)
  unfold q1
  rw [View.readAt_eq_ld]
  refine View.ld_unit_apply_of _ _ _ _ _ _ fun a => ?_
  fin_cases a
  · rfl
  · rfl
  · exact (Nat.zero_add _).symm
  · exact (Nat.zero_add _).symm

theorem Reals.q2_at (h : Fin 2) (q : Fin 256) (d : Fin 256) : (A.q2 (ix4 0 h q d) : EReal) = (qr (4 + h.val) q.val d : EReal) := by
  refine Eq.trans ?_ (H.hq ⟨4 + h.val, by omega⟩ q d)
  unfold q2
  rw [View.readAt_eq_ld]
  refine View.ld_unit_apply_of _ _ _ _ _ _ fun a => ?_
  fin_cases a
  · rfl
  · rfl
  · exact (Nat.zero_add _).symm
  · exact (Nat.zero_add _).symm

theorem Reals.q3_at (h : Fin 2) (q : Fin 256) (d : Fin 256) : (A.q3 (ix4 0 h q d) : EReal) = (qr (6 + h.val) q.val d : EReal) := by
  refine Eq.trans ?_ (H.hq ⟨6 + h.val, by omega⟩ q d)
  unfold q3
  rw [View.readAt_eq_ld]
  refine View.ld_unit_apply_of _ _ _ _ _ _ fun a => ?_
  fin_cases a
  · rfl
  · rfl
  · exact (Nat.zero_add _).symm
  · exact (Nat.zero_add _).symm

theorem Reals.score0 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = y.val) (κ : Fin 512) :
    (k0_pay3 Kb A.q0 (ix2 κ y) : EReal) = (sc kr qr x.val (n0 + κ.val) : EReal) := by
  rw [sc512_at]
  unfold sc
  rw [coe_sum]
  refine Finset.sum_congr rfl fun d _ => ?_
  rw [hK, H.q0_at, ← EReal.coe_mul, ← EReal.coe_mul, show x.val / 256 = 0 + y.val / 256 by omega, show x.val % 256 = y.val % 256 by omega]

theorem Reals.score1 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = 512 + y.val) (κ : Fin 512) :
    (k0_pay3 Kb A.q1 (ix2 κ y) : EReal) = (sc kr qr x.val (n0 + κ.val) : EReal) := by
  rw [sc512_at]
  unfold sc
  rw [coe_sum]
  refine Finset.sum_congr rfl fun d _ => ?_
  rw [hK, H.q1_at, ← EReal.coe_mul, ← EReal.coe_mul, show x.val / 256 = 2 + y.val / 256 by omega, show x.val % 256 = y.val % 256 by omega]

theorem Reals.score2 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = 1024 + y.val) (κ : Fin 512) :
    (k0_pay3 Kb A.q2 (ix2 κ y) : EReal) = (sc kr qr x.val (n0 + κ.val) : EReal) := by
  rw [sc512_at]
  unfold sc
  rw [coe_sum]
  refine Finset.sum_congr rfl fun d _ => ?_
  rw [hK, H.q2_at, ← EReal.coe_mul, ← EReal.coe_mul, show x.val / 256 = 4 + y.val / 256 by omega, show x.val % 256 = y.val % 256 by omega]

theorem Reals.score3 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = 1536 + y.val) (κ : Fin 512) :
    (k0_pay3 Kb A.q3 (ix2 κ y) : EReal) = (sc kr qr x.val (n0 + κ.val) : EReal) := by
  rw [sc512_at]
  unfold sc
  rw [coe_sum]
  refine Finset.sum_congr rfl fun d _ => ?_
  rw [hK, H.q3_at, ← EReal.coe_mul, ← EReal.coe_mul, show x.val / 256 = 6 + y.val / 256 by omega, show x.val % 256 = y.val % 256 by omega]

theorem Reals.scoreF0 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = y.val) (κ : Fin 512) :
    (k0_pay74 Kb A.q0 (ix2 κ y) : EReal) = (sc kr qr x.val (n0 + κ.val) : EReal) := by
  rw [sc512'_at]
  unfold sc
  rw [coe_sum]
  refine Finset.sum_congr rfl fun d _ => ?_
  rw [hK, H.q0_at, ← EReal.coe_mul, ← EReal.coe_mul, show x.val / 256 = 0 + y.val / 256 by omega, show x.val % 256 = y.val % 256 by omega]

theorem Reals.scoreF1 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = 512 + y.val) (κ : Fin 512) :
    (k0_pay74 Kb A.q1 (ix2 κ y) : EReal) = (sc kr qr x.val (n0 + κ.val) : EReal) := by
  rw [sc512'_at]
  unfold sc
  rw [coe_sum]
  refine Finset.sum_congr rfl fun d _ => ?_
  rw [hK, H.q1_at, ← EReal.coe_mul, ← EReal.coe_mul, show x.val / 256 = 2 + y.val / 256 by omega, show x.val % 256 = y.val % 256 by omega]

theorem Reals.scoreF2 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = 1024 + y.val) (κ : Fin 512) :
    (k0_pay74 Kb A.q2 (ix2 κ y) : EReal) = (sc kr qr x.val (n0 + κ.val) : EReal) := by
  rw [sc512'_at]
  unfold sc
  rw [coe_sum]
  refine Finset.sum_congr rfl fun d _ => ?_
  rw [hK, H.q2_at, ← EReal.coe_mul, ← EReal.coe_mul, show x.val / 256 = 4 + y.val / 256 by omega, show x.val % 256 = y.val % 256 by omega]

theorem Reals.scoreF3 (Kb : Vec Ideal S1x512x256 .bf16) (n0 : ℕ) (hK : ∀ (κ : Fin 512) (d : Fin 256), (Kb (ix3 0 κ d) : EReal) = (kr (n0 + κ.val) d : EReal))
    (x : Fin 2048) (y : Fin 512) (hxy : x.val = 1536 + y.val) (κ : Fin 512) :
    (k0_pay74 Kb A.q3 (ix2 κ y) : EReal) = (sc kr qr x.val (n0 + κ.val) : EReal) := by
  rw [sc512'_at]
  unfold sc
  rw [coe_sum]
  refine Finset.sum_congr rfl fun d _ => ?_
  rw [hK, H.q3_at, ← EReal.coe_mul, ← EReal.coe_mul, show x.val / 256 = 6 + y.val / 256 by omega, show x.val % 256 = y.val % 256 by omega]

theorem Reals.scoreS0 (Kb : Vec Ideal S1x256x256 .bf16) (n0 : ℕ) (hK : ∀ (κ : Fin 256) (d : Fin 256), (Kb (ix3 0 κ d) : EReal) = (kr (n0 + κ.val) d : EReal))
    (x : Fin 2048) (y : Fin 512) (hxy : x.val = y.val) (κ : Fin 256) :
    (k0_pay50 Kb A.q0 (ix2 κ y) : EReal) = (sc kr qr x.val (n0 + κ.val) : EReal) := by
  rw [sc256_at]
  unfold sc
  rw [coe_sum]
  refine Finset.sum_congr rfl fun d _ => ?_
  rw [hK, H.q0_at, ← EReal.coe_mul, ← EReal.coe_mul, show x.val / 256 = 0 + y.val / 256 by omega, show x.val % 256 = y.val % 256 by omega]

theorem Reals.scoreS1 (Kb : Vec Ideal S1x256x256 .bf16) (n0 : ℕ) (hK : ∀ (κ : Fin 256) (d : Fin 256), (Kb (ix3 0 κ d) : EReal) = (kr (n0 + κ.val) d : EReal))
    (x : Fin 2048) (y : Fin 512) (hxy : x.val = 512 + y.val) (κ : Fin 256) :
    (k0_pay50 Kb A.q1 (ix2 κ y) : EReal) = (sc kr qr x.val (n0 + κ.val) : EReal) := by
  rw [sc256_at]
  unfold sc
  rw [coe_sum]
  refine Finset.sum_congr rfl fun d _ => ?_
  rw [hK, H.q1_at, ← EReal.coe_mul, ← EReal.coe_mul, show x.val / 256 = 2 + y.val / 256 by omega, show x.val % 256 = y.val % 256 by omega]

theorem Reals.scoreS2 (Kb : Vec Ideal S1x256x256 .bf16) (n0 : ℕ) (hK : ∀ (κ : Fin 256) (d : Fin 256), (Kb (ix3 0 κ d) : EReal) = (kr (n0 + κ.val) d : EReal))
    (x : Fin 2048) (y : Fin 512) (hxy : x.val = 1024 + y.val) (κ : Fin 256) :
    (k0_pay50 Kb A.q2 (ix2 κ y) : EReal) = (sc kr qr x.val (n0 + κ.val) : EReal) := by
  rw [sc256_at]
  unfold sc
  rw [coe_sum]
  refine Finset.sum_congr rfl fun d _ => ?_
  rw [hK, H.q2_at, ← EReal.coe_mul, ← EReal.coe_mul, show x.val / 256 = 4 + y.val / 256 by omega, show x.val % 256 = y.val % 256 by omega]

theorem Reals.scoreS3 (Kb : Vec Ideal S1x256x256 .bf16) (n0 : ℕ) (hK : ∀ (κ : Fin 256) (d : Fin 256), (Kb (ix3 0 κ d) : EReal) = (kr (n0 + κ.val) d : EReal))
    (x : Fin 2048) (y : Fin 512) (hxy : x.val = 1536 + y.val) (κ : Fin 256) :
    (k0_pay50 Kb A.q3 (ix2 κ y) : EReal) = (sc kr qr x.val (n0 + κ.val) : EReal) := by
  rw [sc256_at]
  unfold sc
  rw [coe_sum]
  refine Finset.sum_congr rfl fun d _ => ?_
  rw [hK, H.q3_at, ← EReal.coe_mul, ← EReal.coe_mul, show x.val / 256 = 6 + y.val / 256 by omega, show x.val % 256 = y.val % 256 by omega]

/-- The maxima after `n` trips. -/
def _root_.Cert.KernelIdeal.Att.Args.M (A : Args) (n : ℕ) : S1x2048.Idx → Elt Ideal .f32 := View.canon ((A.pb n).1 ++ m0)
/-- The accumulators after `n` trips. -/
def _root_.Cert.KernelIdeal.Att.Args.Acc (A : Args) (n : ℕ) : S144x2048.Idx → Elt Ideal .f32 := View.canon ((A.pb n).2 ++ a0)
end

theorem rd8 (n : ℕ) (o : ℕ) (inb) (x : Fin 2048) (y : Fin 512) (h : x.val = o + y.val) :
    View.readAt (Elt Ideal) A.arg8.view (Rect.unit (s := S1x2048) ![0, o] S1x512.size inb).toLoadRect (A.arg8.view.writes (Elt Ideal) (A.arg8.view.writes (Elt Ideal) A.arg8.view.junk m0) (A.pb n).1) (ix2 0 y)
      = A.M n (ix2 0 x) := by
  rw [← View.writes_append, View.readAt_writes_junk_eq_canon]
  unfold M
  refine congrArg _ ?_
  funext a
  refine Fin.ext ((Rect.idx_unit_val _ _ _ _ a).trans ?_)
  fin_cases a
  · rfl
  · exact h.symm
theorem rd9 (n : ℕ) (o : ℕ) (inb) (r : Fin 144) (x : Fin 2048) (y : Fin 512) (h : x.val = o + y.val) :
    View.readAt (Elt Ideal) A.arg9.view (Rect.unit (s := S144x2048) ![0, o] S144x512.size inb).toLoadRect (A.arg9.view.writes (Elt Ideal) (A.arg9.view.writes (Elt Ideal) A.arg9.view.junk a0) (A.pb n).2) (ix2 r y)
      = A.Acc n (ix2 r x) := by
  rw [← View.writes_append, View.readAt_writes_junk_eq_canon]
  unfold Acc
  refine congrArg _ ?_
  funext a
  refine Fin.ext ((Rect.idx_unit_val _ _ _ _ a).trans ?_)
  fin_cases a
  · exact Nat.zero_add _
  · exact h.symm

variable {A} {t : Fin cfg0.N} {kr : ℕ → Fin 256 → ℝ} {qr : ℕ → ℕ → Fin 256 → ℝ} {vr : Fin 144 → ℕ → ℝ} (H : A.Reals t kr qr vr)
include H

/-- One trip keeps the running softmax. -/
theorem Reals.step (w : ℕ → Prop) [DecidablePred w] (k : Fin (k0_t1_loop A.i).trips) (x : Fin 2048) (r : Fin 144)
    (hw : ∀ n, n < 512 * (k.val + 1) → w n)
    (h : St w (sc kr qr x.val) (vr r) (512 * k.val) (A.M k.val (ix2 0 x)) (A.Acc k.val (ix2 r x))) :
    St w (sc kr qr x.val) (vr r) (512 * k.val + 512) (A.M (k.val + 1) (ix2 0 x)) (A.Acc (k.val + 1) (ix2 r x)) := by
  have e1 : (A.pb (k.val + 1)).1 ++ m0 = (trip_k0_t1 (F := Ideal) Variants.none A.c none A.i A.arg2 A.harg2 A.arg3 A.harg3 A.arg4 A.harg4 A.arg5 A.harg5 A.arg6 A.harg6 A.arg7 A.harg7 A.arg8 A.harg8 A.arg9 A.harg9 A.X2 A.X3 A.X4 k).1 (A.arg8.view.writes (Elt Ideal) (A.arg8.view.writes (Elt Ideal) A.arg8.view.junk m0) (A.pb k.val).1) (A.arg9.view.writes (Elt Ideal) (A.arg9.view.writes (Elt Ideal) A.arg9.view.junk a0) (A.pb k.val).2) ++ ((A.pb k.val).1 ++ m0) := by
    unfold pb; rw [pb_k0_t1_succ, ← List.append_assoc]
  have e2 : (A.pb (k.val + 1)).2 ++ a0 = (trip_k0_t1 (F := Ideal) Variants.none A.c none A.i A.arg2 A.harg2 A.arg3 A.harg3 A.arg4 A.harg4 A.arg5 A.harg5 A.arg6 A.harg6 A.arg7 A.harg7 A.arg8 A.harg8 A.arg9 A.harg9 A.X2 A.X3 A.X4 k).2.1 (A.arg8.view.writes (Elt Ideal) (A.arg8.view.writes (Elt Ideal) A.arg8.view.junk m0) (A.pb k.val).1) (A.arg9.view.writes (Elt Ideal) (A.arg9.view.writes (Elt Ideal) A.arg9.view.junk a0) (A.pb k.val).2) ++ ((A.pb k.val).2 ++ a0) := by
    unfold pb; rw [pb_k0_t1_succ, ← List.append_assoc]
  have hwk : ∀ κ : Fin 512, w (512 * k.val + κ.val) := fun κ => hw _ (by omega)
  rw [show A.M (k.val + 1) = _ from congrArg View.canon e1, show A.Acc (k.val + 1) = _ from congrArg View.canon e2, trip_m, trip_a]
  refine canon8 _ _ _ _ _ x _ _ _ _ _ r (fun m a => St w (sc kr qr x.val) (vr r) (512 * k.val + 512) m a) ?_ ?_ ?_ ?_

  · intro y hy
    rw [mNew_at, aNew_at, A.rd8 k.val 0 _ x y (by omega), A.rd9 k.val 0 _ r x y (by omega)]
    exact h.step (fun κ : Fin 512 => (k0_pay3 (A.kt k) A.q0 (ix2 κ y) : EReal)) (fun κ : Fin 512 => (k0_pay2 (A.vt k) (ix2 r κ) : EReal))
      (fun κ => by rw [if_pos (hwk κ)]; exact H.score0 (A.kt k) (512 * k.val) (H.kt_at k) x y hy κ) (fun κ => H.vt_at k r κ) ⟨0, hwk 0⟩
  · intro y hy
    rw [mNew_at, aNew_at, A.rd8 k.val 512 _ x y (by omega), A.rd9 k.val 512 _ r x y (by omega)]
    exact h.step (fun κ : Fin 512 => (k0_pay3 (A.kt k) A.q1 (ix2 κ y) : EReal)) (fun κ : Fin 512 => (k0_pay2 (A.vt k) (ix2 r κ) : EReal))
      (fun κ => by rw [if_pos (hwk κ)]; exact H.score1 (A.kt k) (512 * k.val) (H.kt_at k) x y hy κ) (fun κ => H.vt_at k r κ) ⟨0, hwk 0⟩
  · intro y hy
    rw [mNew_at, aNew_at, A.rd8 k.val 1024 _ x y (by omega), A.rd9 k.val 1024 _ r x y (by omega)]
    exact h.step (fun κ : Fin 512 => (k0_pay3 (A.kt k) A.q2 (ix2 κ y) : EReal)) (fun κ : Fin 512 => (k0_pay2 (A.vt k) (ix2 r κ) : EReal))
      (fun κ => by rw [if_pos (hwk κ)]; exact H.score2 (A.kt k) (512 * k.val) (H.kt_at k) x y hy κ) (fun κ => H.vt_at k r κ) ⟨0, hwk 0⟩
  · intro y hy
    rw [mNew_at, aNew_at, A.rd8 k.val 1536 _ x y (by omega), A.rd9 k.val 1536 _ r x y (by omega)]
    exact h.step (fun κ : Fin 512 => (k0_pay3 (A.kt k) A.q3 (ix2 κ y) : EReal)) (fun κ : Fin 512 => (k0_pay2 (A.vt k) (ix2 r κ) : EReal))
      (fun κ => by rw [if_pos (hwk κ)]; exact H.score3 (A.kt k) (512 * k.val) (H.kt_at k) x y hy κ) (fun κ => H.vt_at k r κ) ⟨0, hwk 0⟩

/-- After the trips of the loop. -/
theorem Reals.loop (w : ℕ → Prop) [DecidablePred w] (x : Fin 2048) (r : Fin 144) (hw : ∀ n, n < 512 * A.n1 → w n) :
    ∀ n ≤ A.n1, St w (sc kr qr x.val) (vr r) (512 * n) (A.M n (ix2 0 x)) (A.Acc n (ix2 r x))
  | 0, _ => by
    have hm : A.M 0 (ix2 0 x) = (⊥ : EReal) := by
      unfold M m0
      rw [show (A.pb 0).1 = [] from rfl, List.nil_append, canon_hit _ _ _ _ _ _ (ix2 0 x) (by intro a; fin_cases a; exacts [rfl, (Nat.zero_add _).symm])]
      exact k0_pay95_at _
    have ha : A.Acc 0 (ix2 r x) = (0 : EReal) := by
      unfold Acc a0
      rw [show (A.pb 0).2 = [] from rfl, List.nil_append, canon_hit _ _ _ _ _ _ (ix2 r x) (by intro a; fin_cases a; exacts [(Nat.zero_add _).symm, (Nat.zero_add _).symm])]
      exact k0_pay96_at _
    rw [hm, ha]; exact St.init _ _ _
  | n + 1, h => by
    have ih := Reals.loop w x r hw n (by omega)
    exact H.step w ⟨n, h⟩ x r (fun k hk => hw k (lt_of_lt_of_le hk (Nat.mul_le_mul_left 512 h))) ih

theorem Reals.pb2_eq : A.pb2 = ([], []) := by
  unfold pb2; rw [H.trips2, pb_k0_t2]
theorem Reals.l8_eq : A.l8 = (A.pb A.n1).1 ++ m0 := by
  unfold l8; rw [H.pb2_eq]; exact List.nil_append _
theorem Reals.l9_eq : A.l9 = (A.pb A.n1).2 ++ a0 := by
  unfold l9; rw [H.pb2_eq]; exact List.nil_append _

/-- The maxima a group of the last tile reads. -/
theorem Reals.l8_at (i : S1x2048.Idx) : View.canon A.l8 i = A.M A.n1 i := by rw [H.l8_eq]; rfl
theorem Reals.l9_at (i : S144x2048.Idx) : View.canon A.l9 i = A.Acc A.n1 i := by rw [H.l9_eq]; rfl

end Args
end Cert.KernelIdeal.Att
-- ==== Proof.KI.Last.lean ====
module

public import proofs.«01_k».proof.Proof.KI.Loop

/-! The last tile of the attention body, whose keys are masked: after it each column's maximum and accumulators are the
running softmax of all the keys the point reads. -/

@[expose] public section

set_option maxRecDepth 16384

noncomputable section

namespace Cert.KernelIdeal.Att

open Cert.KernelIdeal Cert.KernelIdeal.Gen Cert.Maths
open Idealize.ShloMosaic Idealize.ShloMosaic.TcCoe
open Idealize.SL.Sem

namespace Args
variable (A : Args)

/-- Maxima read after some writes. -/
theorem cov8 (L : List (View.Piece (Elt Ideal) S1x2048 .f32)) (o : ℕ) (inb) (x : Fin 2048) (y : Fin 512) (h : x.val = o + y.val) :
    A.arg8.view.readCov L (Rect.unit (s := S1x2048) ![0, o] S1x512.size inb).toLoadRect (ix2 0 y) = View.canon L (ix2 0 x) := by
  rw [View.readCov_eq_canon']
  refine congrArg _ ?_
  funext a
  refine Fin.ext ((Rect.idx_unit_val _ _ _ _ a).trans ?_)
  fin_cases a
  · rfl
  · exact h.symm
/-- Accumulators read after some writes. -/
theorem cov9 (L : List (View.Piece (Elt Ideal) S144x2048 .f32)) (o : ℕ) (inb) (r : Fin 144) (x : Fin 2048) (y : Fin 512) (h : x.val = o + y.val) :
    A.arg9.view.readCov L (Rect.unit (s := S144x2048) ![0, o] S144x512.size inb).toLoadRect (ix2 r y) = View.canon L (ix2 r x) := by
  rw [View.readCov_eq_canon']
  refine congrArg _ ?_
  funext a
  refine Fin.ext ((Rect.idx_unit_val _ _ _ _ a).trans ?_)
  fin_cases a
  · exact Nat.zero_add _
  · exact h.symm

/-- The keys query `x % 256` of block `i` sees. -/
def vis (i x n : ℕ) : Prop := n / 64 ≤ (256 * i + x % 256) / 64
instance (i x n : ℕ) : Decidable (vis i x n) := by unfold vis; infer_instance

variable {A} {t : Fin cfg0.N} {kr : ℕ → Fin 256 → ℝ} {qr : ℕ → ℕ → Fin 256 → ℝ} {vr : Fin 144 → ℕ → ℝ} (H : A.Reals t kr qr vr)
include H

/-! ## The tile of 256 keys -/
section
variable (hc1 : k0_cond1 A.i = 1#1)
theorem Reals.off5 : k0_off5 A.i = ![0, 512 * ((grid0.coords t 1).val / 2), 0] := by rw [H.hi]; exact (pts t).2.2.2.1
theorem Reals.off6 : k0_off6 A.i = ![0, 0, 512 * ((grid0.coords t 1).val / 2)] := by rw [H.hi]; exact (pts t).2.2.2.2.2.1

theorem Reals.sk_at (κ : Fin 256) (d : Fin 256) : (A.sk hc1 (ix3 0 κ d) : EReal) = (kr (512 * ((grid0.coords t 1).val / 2) + κ.val) d : EReal) := by
  have hlt := (pts t).2.2.2.2.2.2.2.2.1
  refine Eq.trans ?_ (H.hk ⟨512 * ((grid0.coords t 1).val / 2) + κ.val, by omega⟩ d)
  unfold sk
  rw [View.readAt_eq_ld]
  refine View.ld_unit_apply_of _ _ _ _ _ _ fun a => ?_
  rw [congrFun H.off5 a]
  fin_cases a
  · rfl
  · rfl
  · exact (Nat.zero_add _).symm

theorem Reals.sv_at (r : Fin 144) (κ : Fin 256) : (A.sv hc1 (ix2 r κ) : EReal) = (vr r (512 * ((grid0.coords t 1).val / 2) + κ.val) : EReal) := by
  have hlt := (pts t).2.2.2.2.2.2.2.2.1
  unfold sv
  rw [k0_pay48_at]
  refine Eq.trans ?_ (H.hv r ⟨512 * ((grid0.coords t 1).val / 2) + κ.val, by omega⟩)
  rw [View.readAt_eq_ld]
  refine View.ld_unit_apply_of _ _ _ _ _ _ fun a => ?_
  rw [congrFun H.off6 a]
  fin_cases a
  · rfl
  · exact (Nat.zero_add _).symm
  · rfl

theorem Reals.smsk (S : FVec Ideal S256x512 .f32) (n0 : ℕ) (hn : n0 = 512 * ((grid0.coords t 1).val / 2)) (κ : Fin 256) (x : ℕ) (y : Fin 512) (hxy : x % 256 = y.val % 256) :
    msk256 A.sb S (ix2 κ y) = if vis (grid0.coords t 1).val x (n0 + κ.val) then (S (ix2 κ y) : EReal) else ⊥ := by
  have hlt := (pts t).2.2.2.2.2.2.2.2.1
  unfold sb
  rw [H.hi, (pts t).2.2.2.2.2.2.2.1, msk256_at _ _ hlt (by omega)]
  subst hn
  refine if_congr ?_ rfl rfl
  unfold vis
  rw [hxy]

/-- After the last tile. -/
theorem Reals.s_st (x : Fin 2048) : ∃ m : EReal, ∀ r : Fin 144,
    St (vis (grid0.coords t 1).val x.val) (sc kr qr x.val) (vr r) (512 * ((grid0.coords t 1).val / 2) + 256) m (View.canon (A.sa3 hc1) (ix2 r x)) := by
  have hx := x.isLt
  have hN : A.n1 = (grid0.coords t 1).val / 2 := H.trips
  have hl : ∀ r, St (vis (grid0.coords t 1).val x.val) (sc kr qr x.val) (vr r) (512 * ((grid0.coords t 1).val / 2)) (A.M A.n1 (ix2 0 x)) (A.Acc A.n1 (ix2 r x)) := fun r => by
    have := H.loop (vis (grid0.coords t 1).val x.val) x r (fun n hn => by rw [hN] at hn; unfold vis; omega) A.n1 le_rfl
    rwa [show 512 * A.n1 = 512 * ((grid0.coords t 1).val / 2) by rw [hN]] at this
  have hw : ∃ κ : Fin 256, vis (grid0.coords t 1).val x.val (512 * ((grid0.coords t 1).val / 2) + κ.val) := ⟨0, by unfold vis; show (_ + 0) / 64 ≤ _; omega⟩

  by_cases c0 : x.val < 512
  · have hy : x.val = 0 + (x.val - 0) := by omega
    have hm : A.arg8.view.readCov A.l8 (Rect.unit (s := S1x2048) ![0, 0] S1x512.size inb_S1x2048_S1x512_0_0).toLoadRect (ix2 0 ⟨x.val - 0, by omega⟩) = A.M A.n1 (ix2 0 x) := by
      rw [A.cov8 _ 0 _ x ⟨x.val - 0, by omega⟩ hy, H.l8_at]
    refine ⟨max (A.M A.n1 (ix2 0 x) : EReal) (Finset.fold max (⊥ : EReal) (fun κ : Fin 256 => (msk256 A.sb (k0_pay50 (A.sk hc1) A.q0) (ix2 κ ⟨x.val - 0, by omega⟩) : EReal)) Finset.univ), fun r => ?_⟩
    have ha : A.arg9.view.readCov A.l9 (Rect.unit (s := S144x2048) ![0, 0] S144x512.size inb_S144x2048_S144x512_0_0).toLoadRect (ix2 r ⟨x.val - 0, by omega⟩) = A.Acc A.n1 (ix2 r x) := by
      rw [A.cov9 _ 0 _ r x ⟨x.val - 0, by omega⟩ hy, H.l9_at]
    rw [sa3, canon_miss _ _ _ _ _ _ 1 (Or.inl (by show x.val < 1536; omega)), sa2, canon_miss _ _ _ _ _ _ 1 (Or.inl (by show x.val < 1024; omega)), sa1, canon_miss _ _ _ _ _ _ 1 (Or.inl (by show x.val < 512; omega)), sa0, canon_hit _ _ _ _ _ _ (ix2 r ⟨x.val - 0, by omega⟩) (by intro a; fin_cases a; exacts [(Nat.zero_add _).symm, hy]), aNew256_at, hm, ha]
    exact (hl r).step (fun κ : Fin 256 => (msk256 A.sb (k0_pay50 (A.sk hc1) A.q0) (ix2 κ ⟨x.val - 0, by omega⟩) : EReal)) (fun κ : Fin 256 => (A.sv hc1 (ix2 r κ) : EReal))
      (fun κ => by
        rw [H.smsk _ (512 * ((grid0.coords t 1).val / 2)) rfl κ x.val ⟨x.val - 0, by omega⟩ (by show x.val % 256 = (x.val - 0) % 256; omega), H.scoreS0 _ _ (H.sk_at hc1) x ⟨x.val - 0, by omega⟩ (by show x.val = x.val - 0; omega) κ])
      (fun κ => H.sv_at hc1 r κ) hw
  by_cases c1 : x.val < 1024
  · have hy : x.val = 512 + (x.val - 512) := by omega
    have hm : A.arg8.view.readCov (A.sm0 hc1) (Rect.unit (s := S1x2048) ![0, 512] S1x512.size inb_S1x2048_S1x512_0_512).toLoadRect (ix2 0 ⟨x.val - 512, by omega⟩) = A.M A.n1 (ix2 0 x) := by
      rw [A.cov8 _ 512 _ x ⟨x.val - 512, by omega⟩ hy, sm0, canon_miss _ _ _ _ _ _ 1 (Or.inr (by show 0 + 512 ≤ x.val; omega)), H.l8_at]
    refine ⟨max (A.M A.n1 (ix2 0 x) : EReal) (Finset.fold max (⊥ : EReal) (fun κ : Fin 256 => (msk256 A.sb (k0_pay50 (A.sk hc1) A.q1) (ix2 κ ⟨x.val - 512, by omega⟩) : EReal)) Finset.univ), fun r => ?_⟩
    have ha : A.arg9.view.readCov (A.sa0 hc1) (Rect.unit (s := S144x2048) ![0, 512] S144x512.size inb_S144x2048_S144x512_0_512).toLoadRect (ix2 r ⟨x.val - 512, by omega⟩) = A.Acc A.n1 (ix2 r x) := by
      rw [A.cov9 _ 512 _ r x ⟨x.val - 512, by omega⟩ hy, sa0, canon_miss _ _ _ _ _ _ 1 (Or.inr (by show 0 + 512 ≤ x.val; omega)), H.l9_at]
    rw [sa3, canon_miss _ _ _ _ _ _ 1 (Or.inl (by show x.val < 1536; omega)), sa2, canon_miss _ _ _ _ _ _ 1 (Or.inl (by show x.val < 1024; omega)), sa1, canon_hit _ _ _ _ _ _ (ix2 r ⟨x.val - 512, by omega⟩) (by intro a; fin_cases a; exacts [(Nat.zero_add _).symm, hy]), aNew256_at, hm, ha]
    exact (hl r).step (fun κ : Fin 256 => (msk256 A.sb (k0_pay50 (A.sk hc1) A.q1) (ix2 κ ⟨x.val - 512, by omega⟩) : EReal)) (fun κ : Fin 256 => (A.sv hc1 (ix2 r κ) : EReal))
      (fun κ => by
        rw [H.smsk _ (512 * ((grid0.coords t 1).val / 2)) rfl κ x.val ⟨x.val - 512, by omega⟩ (by show x.val % 256 = (x.val - 512) % 256; omega), H.scoreS1 _ _ (H.sk_at hc1) x ⟨x.val - 512, by omega⟩ hy κ])
      (fun κ => H.sv_at hc1 r κ) hw
  by_cases c2 : x.val < 1536
  · have hy : x.val = 1024 + (x.val - 1024) := by omega
    have hm : A.arg8.view.readCov (A.sm1 hc1) (Rect.unit (s := S1x2048) ![0, 1024] S1x512.size inb_S1x2048_S1x512_0_1024).toLoadRect (ix2 0 ⟨x.val - 1024, by omega⟩) = A.M A.n1 (ix2 0 x) := by
      rw [A.cov8 _ 1024 _ x ⟨x.val - 1024, by omega⟩ hy, sm1, canon_miss _ _ _ _ _ _ 1 (Or.inr (by show 512 + 512 ≤ x.val; omega)), sm0, canon_miss _ _ _ _ _ _ 1 (Or.inr (by show 0 + 512 ≤ x.val; omega)), H.l8_at]
    refine ⟨max (A.M A.n1 (ix2 0 x) : EReal) (Finset.fold max (⊥ : EReal) (fun κ : Fin 256 => (msk256 A.sb (k0_pay50 (A.sk hc1) A.q2) (ix2 κ ⟨x.val - 1024, by omega⟩) : EReal)) Finset.univ), fun r => ?_⟩
    have ha : A.arg9.view.readCov (A.sa1 hc1) (Rect.unit (s := S144x2048) ![0, 1024] S144x512.size inb_S144x2048_S144x512_0_1024).toLoadRect (ix2 r ⟨x.val - 1024, by omega⟩) = A.Acc A.n1 (ix2 r x) := by
      rw [A.cov9 _ 1024 _ r x ⟨x.val - 1024, by omega⟩ hy, sa1, canon_miss _ _ _ _ _ _ 1 (Or.inr (by show 512 + 512 ≤ x.val; omega)), sa0, canon_miss _ _ _ _ _ _ 1 (Or.inr (by show 0 + 512 ≤ x.val; omega)), H.l9_at]
    rw [sa3, canon_miss _ _ _ _ _ _ 1 (Or.inl (by show x.val < 1536; omega)), sa2, canon_hit _ _ _ _ _ _ (ix2 r ⟨x.val - 1024, by omega⟩) (by intro a; fin_cases a; exacts [(Nat.zero_add _).symm, hy]), aNew256_at, hm, ha]
    exact (hl r).step (fun κ : Fin 256 => (msk256 A.sb (k0_pay50 (A.sk hc1) A.q2) (ix2 κ ⟨x.val - 1024, by omega⟩) : EReal)) (fun κ : Fin 256 => (A.sv hc1 (ix2 r κ) : EReal))
      (fun κ => by
        rw [H.smsk _ (512 * ((grid0.coords t 1).val / 2)) rfl κ x.val ⟨x.val - 1024, by omega⟩ (by show x.val % 256 = (x.val - 1024) % 256; omega), H.scoreS2 _ _ (H.sk_at hc1) x ⟨x.val - 1024, by omega⟩ hy κ])
      (fun κ => H.sv_at hc1 r κ) hw
  · have hy : x.val = 1536 + (x.val - 1536) := by omega
    have hm : A.arg8.view.readCov (A.sm2 hc1) (Rect.unit (s := S1x2048) ![0, 1536] S1x512.size inb_S1x2048_S1x512_0_1536).toLoadRect (ix2 0 ⟨x.val - 1536, by omega⟩) = A.M A.n1 (ix2 0 x) := by
      rw [A.cov8 _ 1536 _ x ⟨x.val - 1536, by omega⟩ hy, sm2, canon_miss _ _ _ _ _ _ 1 (Or.inr (by show 1024 + 512 ≤ x.val; omega)), sm1, canon_miss _ _ _ _ _ _ 1 (Or.inr (by show 512 + 512 ≤ x.val; omega)), sm0, canon_miss _ _ _ _ _ _ 1 (Or.inr (by show 0 + 512 ≤ x.val; omega)), H.l8_at]
    refine ⟨max (A.M A.n1 (ix2 0 x) : EReal) (Finset.fold max (⊥ : EReal) (fun κ : Fin 256 => (msk256 A.sb (k0_pay50 (A.sk hc1) A.q3) (ix2 κ ⟨x.val - 1536, by omega⟩) : EReal)) Finset.univ), fun r => ?_⟩
    have ha : A.arg9.view.readCov (A.sa2 hc1) (Rect.unit (s := S144x2048) ![0, 1536] S144x512.size inb_S144x2048_S144x512_0_1536).toLoadRect (ix2 r ⟨x.val - 1536, by omega⟩) = A.Acc A.n1 (ix2 r x) := by
      rw [A.cov9 _ 1536 _ r x ⟨x.val - 1536, by omega⟩ hy, sa2, canon_miss _ _ _ _ _ _ 1 (Or.inr (by show 1024 + 512 ≤ x.val; omega)), sa1, canon_miss _ _ _ _ _ _ 1 (Or.inr (by show 512 + 512 ≤ x.val; omega)), sa0, canon_miss _ _ _ _ _ _ 1 (Or.inr (by show 0 + 512 ≤ x.val; omega)), H.l9_at]
    rw [sa3, canon_hit _ _ _ _ _ _ (ix2 r ⟨x.val - 1536, by omega⟩) (by intro a; fin_cases a; exacts [(Nat.zero_add _).symm, hy]), aNew256_at, hm, ha]
    exact (hl r).step (fun κ : Fin 256 => (msk256 A.sb (k0_pay50 (A.sk hc1) A.q3) (ix2 κ ⟨x.val - 1536, by omega⟩) : EReal)) (fun κ : Fin 256 => (A.sv hc1 (ix2 r κ) : EReal))
      (fun κ => by
        rw [H.smsk _ (512 * ((grid0.coords t 1).val / 2)) rfl κ x.val ⟨x.val - 1536, by omega⟩ (by show x.val % 256 = (x.val - 1536) % 256; omega), H.scoreS3 _ _ (H.sk_at hc1) x ⟨x.val - 1536, by omega⟩ hy κ])
      (fun κ => H.sv_at hc1 r κ) hw
end

/-! ## The tile of 512 keys -/
section
variable (hc2 : k0_cond2 A.i = 1#1)
theorem Reals.off7 : k0_off7 A.i = ![0, 512 * ((grid0.coords t 1).val / 2), 0] := by rw [H.hi]; exact (pts t).2.2.2.2.1
theorem Reals.off8 : k0_off8 A.i = ![0, 0, 512 * ((grid0.coords t 1).val / 2)] := by rw [H.hi]; exact (pts t).2.2.2.2.2.2.1

theorem Reals.fk_at (κ : Fin 512) (d : Fin 256) : (A.fk hc2 (ix3 0 κ d) : EReal) = (kr (512 * ((grid0.coords t 1).val / 2) + κ.val) d : EReal) := by
  have hlt := (pts t).2.2.2.2.2.2.2.2.1
  refine Eq.trans ?_ (H.hk ⟨512 * ((grid0.coords t 1).val / 2) + κ.val, by omega⟩ d)
  unfold fk
  rw [View.readAt_eq_ld]
  refine View.ld_unit_apply_of _ _ _ _ _ _ fun a => ?_
  rw [congrFun H.off7 a]
  fin_cases a
  · rfl
  · rfl
  · exact (Nat.zero_add _).symm

theorem Reals.fv_at (r : Fin 144) (κ : Fin 512) : (A.fv hc2 (ix2 r κ) : EReal) = (vr r (512 * ((grid0.coords t 1).val / 2) + κ.val) : EReal) := by
  have hlt := (pts t).2.2.2.2.2.2.2.2.1
  unfold fv
  rw [k0_pay72_at]
  refine Eq.trans ?_ (H.hv r ⟨512 * ((grid0.coords t 1).val / 2) + κ.val, by omega⟩)
  rw [View.readAt_eq_ld]
  refine View.ld_unit_apply_of _ _ _ _ _ _ fun a => ?_
  rw [congrFun H.off8 a]
  fin_cases a
  · rfl
  · exact (Nat.zero_add _).symm
  · rfl

theorem Reals.fmsk (S : FVec Ideal S512x512 .f32) (n0 : ℕ) (hn : n0 = 512 * ((grid0.coords t 1).val / 2)) (κ : Fin 512) (x : ℕ) (y : Fin 512) (hxy : x % 256 = y.val % 256) :
    msk512 A.fb S (ix2 κ y) = if vis (grid0.coords t 1).val x (n0 + κ.val) then (S (ix2 κ y) : EReal) else ⊥ := by
  have hlt := (pts t).2.2.2.2.2.2.2.2.1
  unfold fb
  rw [H.hi, (pts t).2.2.2.2.2.2.2.1, msk512_at _ _ hlt (by omega)]
  subst hn
  refine if_congr ?_ rfl rfl
  unfold vis
  rw [hxy]

/-- After the last tile. -/
theorem Reals.f_st (x : Fin 2048) : ∃ m : EReal, ∀ r : Fin 144,
    St (vis (grid0.coords t 1).val x.val) (sc kr qr x.val) (vr r) (512 * ((grid0.coords t 1).val / 2) + 512) m (View.canon (A.fa3 hc2) (ix2 r x)) := by
  have hx := x.isLt
  have hN : A.n1 = (grid0.coords t 1).val / 2 := H.trips
  have hl : ∀ r, St (vis (grid0.coords t 1).val x.val) (sc kr qr x.val) (vr r) (512 * ((grid0.coords t 1).val / 2)) (A.M A.n1 (ix2 0 x)) (A.Acc A.n1 (ix2 r x)) := fun r => by
    have := H.loop (vis (grid0.coords t 1).val x.val) x r (fun n hn => by rw [hN] at hn; unfold vis; omega) A.n1 le_rfl
    rwa [show 512 * A.n1 = 512 * ((grid0.coords t 1).val / 2) by rw [hN]] at this
  have hw : ∃ κ : Fin 512, vis (grid0.coords t 1).val x.val (512 * ((grid0.coords t 1).val / 2) + κ.val) := ⟨0, by unfold vis; show (_ + 0) / 64 ≤ _; omega⟩

  by_cases c0 : x.val < 512
  · have hy : x.val = 0 + (x.val - 0) := by omega
    have hm : A.arg8.view.readCov A.l8 (Rect.unit (s := S1x2048) ![0, 0] S1x512.size inb_S1x2048_S1x512_0_0).toLoadRect (ix2 0 ⟨x.val - 0, by omega⟩) = A.M A.n1 (ix2 0 x) := by
      rw [A.cov8 _ 0 _ x ⟨x.val - 0, by omega⟩ hy, H.l8_at]
    refine ⟨max (A.M A.n1 (ix2 0 x) : EReal) (Finset.fold max (⊥ : EReal) (fun κ : Fin 512 => (msk512 A.fb (k0_pay74 (A.fk hc2) A.q0) (ix2 κ ⟨x.val - 0, by omega⟩) : EReal)) Finset.univ), fun r => ?_⟩
    have ha : A.arg9.view.readCov A.l9 (Rect.unit (s := S144x2048) ![0, 0] S144x512.size inb_S144x2048_S144x512_0_0).toLoadRect (ix2 r ⟨x.val - 0, by omega⟩) = A.Acc A.n1 (ix2 r x) := by
      rw [A.cov9 _ 0 _ r x ⟨x.val - 0, by omega⟩ hy, H.l9_at]
    rw [fa3, canon_miss _ _ _ _ _ _ 1 (Or.inl (by show x.val < 1536; omega)), fa2, canon_miss _ _ _ _ _ _ 1 (Or.inl (by show x.val < 1024; omega)), fa1, canon_miss _ _ _ _ _ _ 1 (Or.inl (by show x.val < 512; omega)), fa0, canon_hit _ _ _ _ _ _ (ix2 r ⟨x.val - 0, by omega⟩) (by intro a; fin_cases a; exacts [(Nat.zero_add _).symm, hy]), aNew512_at, hm, ha]
    exact (hl r).step (fun κ : Fin 512 => (msk512 A.fb (k0_pay74 (A.fk hc2) A.q0) (ix2 κ ⟨x.val - 0, by omega⟩) : EReal)) (fun κ : Fin 512 => (A.fv hc2 (ix2 r κ) : EReal))
      (fun κ => by
        rw [H.fmsk _ (512 * ((grid0.coords t 1).val / 2)) rfl κ x.val ⟨x.val - 0, by omega⟩ (by show x.val % 256 = (x.val - 0) % 256; omega), H.scoreF0 _ _ (H.fk_at hc2) x ⟨x.val - 0, by omega⟩ (by show x.val = x.val - 0; omega) κ])
      (fun κ => H.fv_at hc2 r κ) hw
  by_cases c1 : x.val < 1024
  · have hy : x.val = 512 + (x.val - 512) := by omega
    have hm : A.arg8.view.readCov (A.fm0 hc2) (Rect.unit (s := S1x2048) ![0, 512] S1x512.size inb_S1x2048_S1x512_0_512).toLoadRect (ix2 0 ⟨x.val - 512, by omega⟩) = A.M A.n1 (ix2 0 x) := by
      rw [A.cov8 _ 512 _ x ⟨x.val - 512, by omega⟩ hy, fm0, canon_miss _ _ _ _ _ _ 1 (Or.inr (by show 0 + 512 ≤ x.val; omega)), H.l8_at]
    refine ⟨max (A.M A.n1 (ix2 0 x) : EReal) (Finset.fold max (⊥ : EReal) (fun κ : Fin 512 => (msk512 A.fb (k0_pay74 (A.fk hc2) A.q1) (ix2 κ ⟨x.val - 512, by omega⟩) : EReal)) Finset.univ), fun r => ?_⟩
    have ha : A.arg9.view.readCov (A.fa0 hc2) (Rect.unit (s := S144x2048) ![0, 512] S144x512.size inb_S144x2048_S144x512_0_512).toLoadRect (ix2 r ⟨x.val - 512, by omega⟩) = A.Acc A.n1 (ix2 r x) := by
      rw [A.cov9 _ 512 _ r x ⟨x.val - 512, by omega⟩ hy, fa0, canon_miss _ _ _ _ _ _ 1 (Or.inr (by show 0 + 512 ≤ x.val; omega)), H.l9_at]
    rw [fa3, canon_miss _ _ _ _ _ _ 1 (Or.inl (by show x.val < 1536; omega)), fa2, canon_miss _ _ _ _ _ _ 1 (Or.inl (by show x.val < 1024; omega)), fa1, canon_hit _ _ _ _ _ _ (ix2 r ⟨x.val - 512, by omega⟩) (by intro a; fin_cases a; exacts [(Nat.zero_add _).symm, hy]), aNew512_at, hm, ha]
    exact (hl r).step (fun κ : Fin 512 => (msk512 A.fb (k0_pay74 (A.fk hc2) A.q1) (ix2 κ ⟨x.val - 512, by omega⟩) : EReal)) (fun κ : Fin 512 => (A.fv hc2 (ix2 r κ) : EReal))
      (fun κ => by
        rw [H.fmsk _ (512 * ((grid0.coords t 1).val / 2)) rfl κ x.val ⟨x.val - 512, by omega⟩ (by show x.val % 256 = (x.val - 512) % 256; omega), H.scoreF1 _ _ (H.fk_at hc2) x ⟨x.val - 512, by omega⟩ hy κ])
      (fun κ => H.fv_at hc2 r κ) hw
  by_cases c2 : x.val < 1536
  · have hy : x.val = 1024 + (x.val - 1024) := by omega
    have hm : A.arg8.view.readCov (A.fm1 hc2) (Rect.unit (s := S1x2048) ![0, 1024] S1x512.size inb_S1x2048_S1x512_0_1024).toLoadRect (ix2 0 ⟨x.val - 1024, by omega⟩) = A.M A.n1 (ix2 0 x) := by
      rw [A.cov8 _ 1024 _ x ⟨x.val - 1024, by omega⟩ hy, fm1, canon_miss _ _ _ _ _ _ 1 (Or.inr (by show 512 + 512 ≤ x.val; omega)), fm0, canon_miss _ _ _ _ _ _ 1 (Or.inr (by show 0 + 512 ≤ x.val; omega)), H.l8_at]
    refine ⟨max (A.M A.n1 (ix2 0 x) : EReal) (Finset.fold max (⊥ : EReal) (fun κ : Fin 512 => (msk512 A.fb (k0_pay74 (A.fk hc2) A.q2) (ix2 κ ⟨x.val - 1024, by omega⟩) : EReal)) Finset.univ), fun r => ?_⟩
    have ha : A.arg9.view.readCov (A.fa1 hc2) (Rect.unit (s := S144x2048) ![0, 1024] S144x512.size inb_S144x2048_S144x512_0_1024).toLoadRect (ix2 r ⟨x.val - 1024, by omega⟩) = A.Acc A.n1 (ix2 r x) := by
      rw [A.cov9 _ 1024 _ r x ⟨x.val - 1024, by omega⟩ hy, fa1, canon_miss _ _ _ _ _ _ 1 (Or.inr (by show 512 + 512 ≤ x.val; omega)), fa0, canon_miss _ _ _ _ _ _ 1 (Or.inr (by show 0 + 512 ≤ x.val; omega)), H.l9_at]
    rw [fa3, canon_miss _ _ _ _ _ _ 1 (Or.inl (by show x.val < 1536; omega)), fa2, canon_hit _ _ _ _ _ _ (ix2 r ⟨x.val - 1024, by omega⟩) (by intro a; fin_cases a; exacts [(Nat.zero_add _).symm, hy]), aNew512_at, hm, ha]
    exact (hl r).step (fun κ : Fin 512 => (msk512 A.fb (k0_pay74 (A.fk hc2) A.q2) (ix2 κ ⟨x.val - 1024, by omega⟩) : EReal)) (fun κ : Fin 512 => (A.fv hc2 (ix2 r κ) : EReal))
      (fun κ => by
        rw [H.fmsk _ (512 * ((grid0.coords t 1).val / 2)) rfl κ x.val ⟨x.val - 1024, by omega⟩ (by show x.val % 256 = (x.val - 1024) % 256; omega), H.scoreF2 _ _ (H.fk_at hc2) x ⟨x.val - 1024, by omega⟩ hy κ])
      (fun κ => H.fv_at hc2 r κ) hw
  · have hy : x.val = 1536 + (x.val - 1536) := by omega
    have hm : A.arg8.view.readCov (A.fm2 hc2) (Rect.unit (s := S1x2048) ![0, 1536] S1x512.size inb_S1x2048_S1x512_0_1536).toLoadRect (ix2 0 ⟨x.val - 1536, by omega⟩) = A.M A.n1 (ix2 0 x) := by
      rw [A.cov8 _ 1536 _ x ⟨x.val - 1536, by omega⟩ hy, fm2, canon_miss _ _ _ _ _ _ 1 (Or.inr (by show 1024 + 512 ≤ x.val; omega)), fm1, canon_miss _ _ _ _ _ _ 1 (Or.inr (by show 512 + 512 ≤ x.val; omega)), fm0, canon_miss _ _ _ _ _ _ 1 (Or.inr (by show 0 + 512 ≤ x.val; omega)), H.l8_at]
    refine ⟨max (A.M A.n1 (ix2 0 x) : EReal) (Finset.fold max (⊥ : EReal) (fun κ : Fin 512 => (msk512 A.fb (k0_pay74 (A.fk hc2) A.q3) (ix2 κ ⟨x.val - 1536, by omega⟩) : EReal)) Finset.univ), fun r => ?_⟩
    have ha : A.arg9.view.readCov (A.fa2 hc2) (Rect.unit (s := S144x2048) ![0, 1536] S144x512.size inb_S144x2048_S144x512_0_1536).toLoadRect (ix2 r ⟨x.val - 1536, by omega⟩) = A.Acc A.n1 (ix2 r x) := by
      rw [A.cov9 _ 1536 _ r x ⟨x.val - 1536, by omega⟩ hy, fa2, canon_miss _ _ _ _ _ _ 1 (Or.inr (by show 1024 + 512 ≤ x.val; omega)), fa1, canon_miss _ _ _ _ _ _ 1 (Or.inr (by show 512 + 512 ≤ x.val; omega)), fa0, canon_miss _ _ _ _ _ _ 1 (Or.inr (by show 0 + 512 ≤ x.val; omega)), H.l9_at]
    rw [fa3, canon_hit _ _ _ _ _ _ (ix2 r ⟨x.val - 1536, by omega⟩) (by intro a; fin_cases a; exacts [(Nat.zero_add _).symm, hy]), aNew512_at, hm, ha]
    exact (hl r).step (fun κ : Fin 512 => (msk512 A.fb (k0_pay74 (A.fk hc2) A.q3) (ix2 κ ⟨x.val - 1536, by omega⟩) : EReal)) (fun κ : Fin 512 => (A.fv hc2 (ix2 r κ) : EReal))
      (fun κ => by
        rw [H.fmsk _ (512 * ((grid0.coords t 1).val / 2)) rfl κ x.val ⟨x.val - 1536, by omega⟩ (by show x.val % 256 = (x.val - 1536) % 256; omega), H.scoreF3 _ _ (H.fk_at hc2) x ⟨x.val - 1536, by omega⟩ hy κ])
      (fun κ => H.fv_at hc2 r κ) hw
end

end Args
end Cert.KernelIdeal.Att
-- ==== Proof.KI.Out.lean ====
module

public import proofs.«01_k».proof.Proof.KI.Last

/-! What a point of the attention's grid stores, at an index of its block. -/

@[expose] public section

set_option maxRecDepth 16384

noncomputable section

namespace Cert.KernelIdeal.Att

open Cert.KernelIdeal Cert.KernelIdeal.Gen Cert.Maths
open Idealize.ShloMosaic Idealize.ShloMosaic.TcCoe
open Idealize.SL.Sem

/-- The stored block at an index: the heads' latent means against their parts of `w_v`, times the gate. -/
theorem outOf_at (a : Vec Ideal S128x2048 .f32) (l : Vec Ideal S1x2048 .f32) (w0 w1 w2 w3 w4 w5 w6 w7 : Vec Ideal S1x128x512 .bf16)
    (g : Vec Ideal S1x256x512 .f32) (y1 : Fin 256) (y2 : Fin 512) (f W : Fin 8 → Fin 128 → EReal)
    (hf : ∀ (h : Fin 8) (x : Fin 128) (j : Fin 2048), j.val = 256 * h.val + y1.val → Ideal.div (a (ix2 x j) : EReal) (l (ix2 0 j)) = f h x)

    (h0 : ∀ x, (w0 (ix3 0 x y2) : EReal) = W 0 x)
    (h1 : ∀ x, (w1 (ix3 0 x y2) : EReal) = W 1 x)
    (h2 : ∀ x, (w2 (ix3 0 x y2) : EReal) = W 2 x)
    (h3 : ∀ x, (w3 (ix3 0 x y2) : EReal) = W 3 x)
    (h4 : ∀ x, (w4 (ix3 0 x y2) : EReal) = W 4 x)
    (h5 : ∀ x, (w5 (ix3 0 x y2) : EReal) = W 5 x)
    (h6 : ∀ x, (w6 (ix3 0 x y2) : EReal) = W 6 x)
    (h7 : ∀ x, (w7 (ix3 0 x y2) : EReal) = W 7 x)
    : outOf a l w0 w1 w2 w3 w4 w5 w6 w7 g (ix3 0 y1 y2) = (∑ h : Fin 8, ∑ x : Fin 128, f h x * W h x) * Ideal.div (g (ix3 0 y1 y2) : EReal) (1 + Ideal.exp (0 - (g (ix3 0 y1 y2) : EReal))) := by
  have e : ∀ (h : Fin 8) (v : Vec Ideal S1x128x512 .bf16) (j : Fin 2048), j.val = 256 * h.val + y1.val → (∀ x, (v (ix3 0 x y2) : EReal) = W h x) →
      ∑ x : Fin 128, Ideal.div (a (ix2 x j) : EReal) (l (ix2 0 j)) * (v (ix3 0 x y2) : EReal) = ∑ x : Fin 128, f h x * W h x :=
    fun h v j hj hv => Finset.sum_congr rfl fun x _ => by rw [hf h x j hj, hv x]
  pointwise [outOf, k0_pay116, k0_pay115, k0_pay114, k0_pay113]
  rw [Fin.sum_univ_eight, ← e 0 w0 ⟨y1.val, by omega⟩ (Nat.zero_add _).symm h0, ← e 1 w1 ⟨256 + y1.val, by omega⟩ rfl h1, ← e 2 w2 ⟨512 + y1.val, by omega⟩ rfl h2, ← e 3 w3 ⟨768 + y1.val, by omega⟩ rfl h3, ← e 4 w4 ⟨1024 + y1.val, by omega⟩ rfl h4, ← e 5 w5 ⟨1280 + y1.val, by omega⟩ rfl h5, ← e 6 w6 ⟨1536 + y1.val, by omega⟩ rfl h6, ← e 7 w7 ⟨1792 + y1.val, by omega⟩ rfl h7]

/-- The latent mean of a column: the visible keys' values weighted by the powers of two of their scores. -/
def mean (kr : ℕ → Fin 256 → ℝ) (qr : ℕ → ℕ → Fin 256 → ℝ) (vr : Fin 144 → ℕ → ℝ) (i x : ℕ) (r : Fin 144) : ℝ :=
  (∑ n ∈ Finset.range 4096, if Args.vis i x n then vr r n * Real.rpow 2 (Args.sc kr qr x n) else 0)
    / (∑ n ∈ Finset.range 4096, if Args.vis i x n then Real.rpow 2 (Args.sc kr qr x n) else 0)

/-- Sums over the keys a point reads are sums over all keys: the others are not visible. -/
theorem sum_vis (i x N : ℕ) (hN : 256 * (i + 1) ≤ N) (hN' : N ≤ 4096) (f : ℕ → ℝ) :
    (∑ n ∈ Finset.range N, if Args.vis i x n then f n else 0) = ∑ n ∈ Finset.range 4096, if Args.vis i x n then f n else 0 := by
  refine Finset.sum_subset (Finset.range_mono hN') fun n _ hn => if_neg fun hv => hn ?_
  unfold Args.vis at hv
  rw [Finset.mem_range]
  omega

namespace Args
variable (A : Args)

theorem w0_at (x : Fin 128) (y : Fin 512) : A.w0 (ix3 0 x y) = A.arg5.view.read (Elt Ideal) A.X5 (ix3 0 x y) := by
  unfold w0
  rw [View.readAt_eq_ld]
  refine View.ld_unit_apply_of _ _ _ _ _ _ fun a => ?_
  fin_cases a
  · rfl
  · exact (Nat.zero_add _).symm
  · exact (Nat.zero_add _).symm
theorem w1_at (x : Fin 128) (y : Fin 512) : A.w1 (ix3 0 x y) = A.arg5.view.read (Elt Ideal) A.X5 (ix3 1 x y) := by
  unfold w1
  rw [View.readAt_eq_ld]
  refine View.ld_unit_apply_of _ _ _ _ _ _ fun a => ?_
  fin_cases a
  · rfl
  · exact (Nat.zero_add _).symm
  · exact (Nat.zero_add _).symm
theorem w2_at (x : Fin 128) (y : Fin 512) : A.w2 (ix3 0 x y) = A.arg5.view.read (Elt Ideal) A.X5 (ix3 2 x y) := by
  unfold w2
  rw [View.readAt_eq_ld]
  refine View.ld_unit_apply_of _ _ _ _ _ _ fun a => ?_
  fin_cases a
  · rfl
  · exact (Nat.zero_add _).symm
  · exact (Nat.zero_add _).symm
theorem w3_at (x : Fin 128) (y : Fin 512) : A.w3 (ix3 0 x y) = A.arg5.view.read (Elt Ideal) A.X5 (ix3 3 x y) := by
  unfold w3
  rw [View.readAt_eq_ld]
  refine View.ld_unit_apply_of _ _ _ _ _ _ fun a => ?_
  fin_cases a
  · rfl
  · exact (Nat.zero_add _).symm
  · exact (Nat.zero_add _).symm
theorem w4_at (x : Fin 128) (y : Fin 512) : A.w4 (ix3 0 x y) = A.arg5.view.read (Elt Ideal) A.X5 (ix3 4 x y) := by
  unfold w4
  rw [View.readAt_eq_ld]
  refine View.ld_unit_apply_of _ _ _ _ _ _ fun a => ?_
  fin_cases a
  · rfl
  · exact (Nat.zero_add _).symm
  · exact (Nat.zero_add _).symm
theorem w5_at (x : Fin 128) (y : Fin 512) : A.w5 (ix3 0 x y) = A.arg5.view.read (Elt Ideal) A.X5 (ix3 5 x y) := by
  unfold w5
  rw [View.readAt_eq_ld]
  refine View.ld_unit_apply_of _ _ _ _ _ _ fun a => ?_
  fin_cases a
  · rfl
  · exact (Nat.zero_add _).symm
  · exact (Nat.zero_add _).symm
theorem w6_at (x : Fin 128) (y : Fin 512) : A.w6 (ix3 0 x y) = A.arg5.view.read (Elt Ideal) A.X5 (ix3 6 x y) := by
  unfold w6
  rw [View.readAt_eq_ld]
  refine View.ld_unit_apply_of _ _ _ _ _ _ fun a => ?_
  fin_cases a
  · rfl
  · exact (Nat.zero_add _).symm
  · exact (Nat.zero_add _).symm
theorem w7_at (x : Fin 128) (y : Fin 512) : A.w7 (ix3 0 x y) = A.arg5.view.read (Elt Ideal) A.X5 (ix3 7 x y) := by
  unfold w7
  rw [View.readAt_eq_ld]
  refine View.ld_unit_apply_of _ _ _ _ _ _ fun a => ?_
  fin_cases a
  · rfl
  · exact (Nat.zero_add _).symm
  · exact (Nat.zero_add _).symm
theorem gate_at (x : Fin 256) (y : Fin 512) : A.gate (ix3 0 x y) = A.arg6.view.read (Elt Ideal) A.X6 (ix3 0 x y) := by
  unfold gate
  rw [View.readAt_eq_ld]
  refine View.ld_unit_apply_of _ _ _ _ _ _ fun a => ?_
  fin_cases a
  · rfl
  · exact (Nat.zero_add _).symm
  · exact (Nat.zero_add _).symm

/-- The accumulators' first rows read back. -/
theorem rows (L : List (View.Piece (Elt Ideal) S144x2048 .f32)) (inb) (x : Fin 128) (j : Fin 2048) :
    A.arg9.view.readCov L (Rect.unit (s := S144x2048) ![0, 0] S128x2048.size inb).toLoadRect (ix2 x j) = View.canon L (ix2 ⟨x.val, by omega⟩ j) := by
  rw [View.readCov_eq_canon']
  refine congrArg _ ?_
  funext a
  refine Fin.ext ((Rect.idx_unit_val _ _ _ _ a).trans ?_)
  fin_cases a
  · exact Nat.zero_add _
  · exact Nat.zero_add _
/-- The accumulators' row of the weights' sums read back. -/
theorem row128 (L : List (View.Piece (Elt Ideal) S144x2048 .f32)) (inb) (j : Fin 2048) :
    A.arg9.view.readCov L (Rect.unit (s := S144x2048) ![128, 0] S1x2048.size inb).toLoadRect (ix2 0 j) = View.canon L (ix2 ⟨128, by omega⟩ j) := by
  rw [View.readCov_eq_canon']
  refine congrArg _ ?_
  funext a
  refine Fin.ext ((Rect.idx_unit_val _ _ _ _ a).trans ?_)
  fin_cases a
  · rfl
  · exact Nat.zero_add _

variable {A} {t : Fin cfg0.N} {kr : ℕ → Fin 256 → ℝ} {qr : ℕ → ℕ → Fin 256 → ℝ} {vr : Fin 144 → ℕ → ℝ} (H : A.Reals t kr qr vr)
include H

/-- Accumulators in the state of all the keys a point reads give the latent mean. -/
theorem mean_of (L : List (View.Piece (Elt Ideal) S144x2048 .f32)) (ho : ∀ n, vr ⟨128, by omega⟩ n = 1) (N : ℕ) (hN : 256 * ((grid0.coords t 1).val + 1) ≤ N) (hN' : N ≤ 4096) (j : Fin 2048)
    (hs : ∃ m : EReal, ∀ r : Fin 144, St (vis (grid0.coords t 1).val j.val) (sc kr qr j.val) (vr r) N m (View.canon L (ix2 r j))) (x : Fin 128) :
    Ideal.div (View.canon L (ix2 ⟨x.val, by omega⟩ j) : EReal) (View.canon L (ix2 ⟨128, by omega⟩ j)) = (mean kr qr vr (grid0.coords t 1).val j.val ⟨x.val, by omega⟩ : EReal) := by
  obtain ⟨m, hs⟩ := hs
  rw [(hs _).quot (hs _) ho ⟨0, by omega, by unfold vis; omega⟩, sum_vis _ _ _ hN hN', sum_vis _ _ _ hN hN']
  rfl

/-- The block a point stores, at an index. -/
def outVal (A : Args) (t : Fin cfg0.N) (kr : ℕ → Fin 256 → ℝ) (qr : ℕ → ℕ → Fin 256 → ℝ) (vr : Fin 144 → ℕ → ℝ) (y1 : Fin 256) (y2 : Fin 512) : EReal :=
  (∑ h : Fin 8, ∑ x : Fin 128, (mean kr qr vr (grid0.coords t 1).val (256 * h.val + y1.val) ⟨x.val, by omega⟩ : EReal) * (A.arg5.view.read (Elt Ideal) A.X5 (ix3 h x y2) : EReal))
    * Ideal.div (A.arg6.view.read (Elt Ideal) A.X6 (ix3 0 y1 y2) : EReal) (1 + Ideal.exp (0 - (A.arg6.view.read (Elt Ideal) A.X6 (ix3 0 y1 y2) : EReal)))

theorem Reals.s_out (hc1 : k0_cond1 A.i = 1#1) (hc2 : ¬ k0_cond2 A.i = 1#1) (ho : ∀ n, vr ⟨128, by omega⟩ n = 1) (y1 : Fin 256) (y2 : Fin 512) :
    View.canon (runShort (F := Ideal) A.c A.i A.arg2 A.harg2 A.arg3 A.harg3 A.arg4 A.harg4 A.arg5 A.harg5 A.arg6 A.harg6 A.arg7 A.harg7 A.arg8 A.harg8 A.arg9 A.harg9 A.X2 A.X3 A.X4 A.X5 A.X6 hc1 hc2).1 (ix3 0 y1 y2)
      = A.outVal t kr qr vr y1 y2 := by
  have hlt := (pts t).2.2.2.2.2.2.2.2.1
  have he := (pts t).2.2.1.mp (by rw [← H.hi]; exact hc1)
  rw [A.runShort_eq hc1 hc2, canon_hit _ _ _ _ _ _ (ix3 0 y1 y2) (by intro a; fin_cases a; exacts [rfl, (Nat.zero_add _).symm, (Nat.zero_add _).symm])]
  unfold outVal
  rw [← A.gate_at y1 y2]
  exact outOf_at _ _ _ _ _ _ _ _ _ _ _ y1 y2 _ (fun h x => (A.arg5.view.read (Elt Ideal) A.X5 (ix3 h x y2) : EReal))
    (fun h x j hj => by rw [A.rows, A.row128, ← hj]; exact mean_of H _ ho (512 * ((grid0.coords t 1).val / 2) + 256) (by omega) (by omega) j (H.s_st hc1 j) x)
    (fun x => A.w0_at x y2) (fun x => A.w1_at x y2) (fun x => A.w2_at x y2) (fun x => A.w3_at x y2) (fun x => A.w4_at x y2) (fun x => A.w5_at x y2) (fun x => A.w6_at x y2) (fun x => A.w7_at x y2)

theorem Reals.f_out (hc1 : ¬ k0_cond1 A.i = 1#1) (hc2 : k0_cond2 A.i = 1#1) (ho : ∀ n, vr ⟨128, by omega⟩ n = 1) (y1 : Fin 256) (y2 : Fin 512) :
    View.canon (runFull (F := Ideal) A.c A.i A.arg2 A.harg2 A.arg3 A.harg3 A.arg4 A.harg4 A.arg5 A.harg5 A.arg6 A.harg6 A.arg7 A.harg7 A.arg8 A.harg8 A.arg9 A.harg9 A.X2 A.X3 A.X4 A.X5 A.X6 hc1 hc2).1 (ix3 0 y1 y2)
      = A.outVal t kr qr vr y1 y2 := by
  have hlt := (pts t).2.2.2.2.2.2.2.2.1
  have he : ¬ (grid0.coords t 1).val % 2 = 0 := fun h => hc1 (by rw [H.hi]; exact (pts t).2.2.1.mpr h)
  rw [A.runFull_eq hc2 hc1, canon_hit _ _ _ _ _ _ (ix3 0 y1 y2) (by intro a; fin_cases a; exacts [rfl, (Nat.zero_add _).symm, (Nat.zero_add _).symm])]
  unfold outVal
  rw [← A.gate_at y1 y2]
  exact outOf_at _ _ _ _ _ _ _ _ _ _ _ y1 y2 _ (fun h x => (A.arg5.view.read (Elt Ideal) A.X5 (ix3 h x y2) : EReal))
    (fun h x j hj => by rw [A.rows, A.row128, ← hj]; exact mean_of H _ ho (512 * ((grid0.coords t 1).val / 2) + 512) (by omega) (by omega) j (H.f_st hc2 j) x)
    (fun x => A.w0_at x y2) (fun x => A.w1_at x y2) (fun x => A.w2_at x y2) (fun x => A.w3_at x y2) (fun x => A.w4_at x y2) (fun x => A.w5_at x y2) (fun x => A.w6_at x y2) (fun x => A.w7_at x y2)

end Args
end Cert.KernelIdeal.Att
-- ==== Proof.Spec.lean ====
module

public import proofs.«01_k».proof.Proof.Maths

/-! The attention's result in closed form over its arguments, which the kernel and the reference both reach. -/

@[expose] public section

noncomputable section

namespace Cert.Maths

open Idealize.ShloMosaic

/-- The arguments: the two parts of the queries, the latents, the shared keys, the heads' value weights and the gate. -/
structure In where
  ql : Fin 8 → Fin 4096 → Fin 8 → Fin 128 → EReal
  qr : Fin 8 → Fin 4096 → Fin 8 → Fin 32 → EReal
  ck : Fin 8 → Fin 4096 → Fin 128 → EReal
  kp : Fin 8 → Fin 4096 → Fin 32 → EReal
  wu : Fin 128 → Fin 8 → Fin 64 → EReal
  g : Fin 8 → Fin 4096 → Fin 512 → EReal

namespace In
variable (I : In)

/-- The queries, the latents and the keys are real numbers. -/
structure Real : Prop where
  ql : ∀ b n h d, I.ql b n h d = ((I.ql b n h d).toReal : EReal)
  qr : ∀ b n h d, I.qr b n h d = ((I.qr b n h d).toReal : EReal)
  ck : ∀ b n d, I.ck b n d = ((I.ck b n d).toReal : EReal)
  kp : ∀ b n d, I.kp b n d = ((I.kp b n d).toReal : EReal)

/-- The latent of key `n`. -/
def ckN (b : Fin 8) (n : ℕ) (d : Fin 128) : ℝ := if h : n < 4096 then (I.ck b ⟨n, h⟩ d).toReal else 0
/-- The rotary key of key `n`. -/
def kpN (b : Fin 8) (n : ℕ) (d : Fin 32) : ℝ := if h : n < 4096 then (I.kp b ⟨n, h⟩ d).toReal else 0

theorem ckN_fin (b : Fin 8) (n : Fin 4096) (d : Fin 128) : I.ckN b n.val d = (I.ck b n d).toReal := dif_pos n.isLt
theorem kpN_fin (b : Fin 8) (n : Fin 4096) (d : Fin 32) : I.kpN b n.val d = (I.kp b n d).toReal := dif_pos n.isLt

/-- The reference's factor of the scores. -/
def fac : ℝ := 3424635 / 33554432

/-- The score of key `n` for a query of a head, before the factor. -/
def dot (b : Fin 8) (q : Fin 4096) (h : Fin 8) (n : ℕ) : ℝ :=
  (∑ d : Fin 128, I.ckN b n d * (I.ql b q h d).toReal) + ∑ d : Fin 32, I.kpN b n d * (I.qr b q h d).toReal

/-- The softmax mean of the latents of the visible keys. -/
def lat (b : Fin 8) (q : Fin 4096) (h : Fin 8) (d : Fin 128) : ℝ :=
  (∑ n ∈ Finset.range 4096, if n / 64 ≤ q.val / 64 then I.ckN b n d * Real.exp (I.dot b q h n * fac) else 0)
    / (∑ n ∈ Finset.range 4096, if n / 64 ≤ q.val / 64 then Real.exp (I.dot b q h n * fac) else 0)

/-- The gate of an output. -/
def gateOf (g : EReal) : EReal := Ideal.div g (1 + Ideal.exp (0 - g))

/-- The result at an index. -/
def val (b : Fin 8) (q : Fin 4096) (y : Fin 512) : EReal :=
  (∑ d : Fin 128, (I.lat b q ⟨y.val / 64, by omega⟩ d : EReal) * I.wu d ⟨y.val / 64, by omega⟩ ⟨y.val % 64, by omega⟩) * gateOf (I.g b q y)

end In

/-- A sum over 256 lanes: 128 and 32 lanes, one lane of ones against nothing, and nothing. -/
theorem sum_lanes (f : Fin 256 → ℝ) (f0 : Fin 128 → ℝ) (f1 : Fin 32 → ℝ)
    (h0 : ∀ d : Fin 128, f ⟨d.val, by omega⟩ = f0 d) (h1 : ∀ d : Fin 32, f ⟨128 + d.val, by omega⟩ = f1 d)
    (h2 : ∀ d : Fin 256, 160 ≤ d.val → f d = 0) : ∑ d, f d = (∑ d, f0 d) + ∑ d, f1 d := by
  have e : ∑ d : Fin 256, f d = ∑ d : Fin (128 + (32 + 96)), f ⟨d.val, by omega⟩ := rfl
  rw [e, Fin.sum_univ_add, Fin.sum_univ_add]
  refine congrArg₂ (· + ·) (Finset.sum_congr rfl fun d _ => h0 d) ?_
  rw [Finset.sum_eq_zero (s := Finset.univ) (f := fun d : Fin 96 => _) fun d _ => h2 _ (by simp), add_zero]
  exact Finset.sum_congr rfl fun d _ => h1 d

end Cert.Maths
-- ==== Proof.KI.Final.lean ====
module

public import proofs.«01_k».proof.Proof.KI.Out
public import proofs.«01_k».proof.Proof.Spec
public import Idealize.ShloMosaic.Lib.StableHlo.RunRead

/-! The kernel's result array in closed form. -/

@[expose] public section

set_option maxRecDepth 16384

noncomputable section

namespace Cert.KernelIdeal.Att

open Cert.KernelIdeal Cert.KernelIdeal.Gen Cert.Maths
open Idealize.ShloMosaic Idealize.ShloMosaic.TcCoe Idealize.ShloMosaic.Tactic
open Idealize.SL.Sem

variable (m : (ℓ : Loc nD τ sig) → Buf (Elt Ideal) ℓ)

/-- The arguments of the program. -/
def arg0 (c : Dev nD) : FVec Ideal S8x4096x8x128 .f32 := m ((c : Thread nD τ).loc main_arg0)
def arg1 (c : Dev nD) : FVec Ideal S8x4096x8x32 .f32 := m ((c : Thread nD τ).loc main_arg1)
def arg2 (c : Dev nD) : FVec Ideal S8x4096x128 .f32 := m ((c : Thread nD τ).loc main_arg2)
def arg3 (c : Dev nD) : FVec Ideal S8x4096x32 .f32 := m ((c : Thread nD τ).loc main_arg3)
def arg4 (c : Dev nD) : FVec Ideal S128x8x64 .f32 := m ((c : Thread nD τ).loc main_arg4)
def arg5 (c : Dev nD) : FVec Ideal S8x4096x512 .f32 := m ((c : Thread nD τ).loc main_arg5)

/-- The arguments at their indices. -/
def inp (c : Dev nD) : In where
  ql b n h d := arg0 m c (ix4 b n h d)
  qr b n h d := arg1 m c (ix4 b n h d)
  ck b n d := arg2 m c (ix3 b n d)
  kp b n d := arg3 m c (ix3 b n d)
  wu d h v := arg4 m c (ix3 d h v)
  g b n y := arg5 m c (ix3 b n y)

/-! ## The prepared operands -/

/-- The queries' operand. -/
theorem V3_at (c : Dev nD) (b h : Fin 8) (n : Fin 4096) (d : Fin 256) : (V m c main_v3 (ix4 b h n d) : EReal)
    = if h1 : d.val < 128 then (inp m c).ql b n h ⟨d.val, h1⟩ else if h2 : d.val - 128 < 32 then (inp m c).qr b n h ⟨d.val - 128, h2⟩ else 0 := by
  unfold V
  after_reads_simp
  pointwise
  after_reads_simp
  pointwise
  rfl

/-- The keys' operand. -/
theorem V7_at (c : Dev nD) (b : Fin 8) (n : Fin 4096) (d : Fin 256) : (V m c main_v7 (ix3 b n d) : EReal)
    = if h1 : d.val < 128 then (inp m c).ck b n ⟨d.val, h1⟩ else if h2 : d.val - 128 < 32 then (inp m c).kp b n ⟨d.val - 128, h2⟩
      else if d.val - 128 - 32 < 1 then 1 else 0 := by
  unfold V
  after_reads_simp
  pointwise
  after_reads_simp
  pointwise
  rfl

/-- The values' operand. -/
theorem V11_at (c : Dev nD) (b : Fin 8) (n : Fin 4096) (r : Fin 144) : (V m c main_v11 (ix3 b r n) : EReal)
    = if h1 : r.val < 128 then (inp m c).ck b n ⟨r.val, h1⟩ else 1 := by
  entry_read
  pointwise
  rfl

theorem eq_word (h y : ℕ) (hh : h < 8) (hy : y < 8) :
    (FloatOps.uitofp FTy.f32 (IntOp.cmpi CmpIPredicate.eq (BitVec.ofNat 32 h) (BitVec.ofNat 32 y)) : Ideal .f32) = if h = y then (1 : EReal) else 0 := by
  have e : IntOp.cmpi CmpIPredicate.eq (BitVec.ofNat 32 h) (BitVec.ofNat 32 y) = if h = y then 1#1 else 0#1 := by
    interval_cases h <;> interval_cases y <;> rfl
  rw [e]
  split_ifs
  · exact congrArg (fun z : ℝ => (z : EReal)) (by simp)
  · exact congrArg (fun z : ℝ => (z : EReal)) (by simp)

/-- The heads' value weights' operand. -/
theorem V27_at (c : Dev nD) (h : Fin 8) (x : Fin 128) (y : Fin 512) : (V m c main_v27 (ix3 h x y) : EReal)
    = (inp m c).wu x h ⟨y.val % 64, by omega⟩ * if h.val = y.val / 64 then 1 else 0 := by
  unfold V
  after_reads_simp
  pointwise
  rw [eq_word h.val (y.val / 64) h.isLt (by omega)]
  rfl

/-! ## The windows' blocks -/

theorem idx : ∀ t : Fin cfg0.N, win0_0.index t = ![(grid0.coords t 0).val, 0, (grid0.coords t 1).val, 0] ∧ win0_1.index t = ![(grid0.coords t 0).val, 0, 0]
   ∧ win0_2.index t = ![(grid0.coords t 0).val, 0, 0] ∧ win0_3.index t = ![0, 0, 0] ∧ win0_4.index t = ![(grid0.coords t 0).val, (grid0.coords t 1).val, 0] ∧ win0_5.index t = ![(grid0.coords t 0).val, (grid0.coords t 1).val, 0]
   ∧ (grid0.coords t 0).val < 8 := (by decide +kernel : ∀ t : Fin grid0.N, _)

/-- The row of the batch of a point. -/
def bt (t : Fin cfg0.N) : Fin 8 := ⟨(grid0.coords t 0).val, (idx t).2.2.2.2.2.2⟩
/-- The query of a point at a place of its block. -/
def qt (t : Fin cfg0.N) (q : Fin 256) : Fin 4096 := ⟨256 * (grid0.coords t 1).val + q.val, by have := (pts t).2.2.2.2.2.2.2.2.1; omega⟩

theorem ib0 (c : Dev nD) (t : Fin cfg0.N) (h : Fin 8) (q : Fin 256) (d : Fin 256) : iblk m c 0 t (ix4 0 h q d) = V m c main_v3 (ix4 (bt t) h (qt t q) d) := by
  unfold bt qt
  blk_ext [iblk, idx t]
theorem ib1 (c : Dev nD) (t : Fin cfg0.N) (n : Fin 4096) (d : Fin 256) : iblk m c 1 t (ix3 0 n d) = V m c main_v7 (ix3 (bt t) n d) := by
  unfold bt
  blk_ext [iblk, idx t]
theorem ib2 (c : Dev nD) (t : Fin cfg0.N) (r : Fin 144) (n : Fin 4096) : iblk m c 2 t (ix3 0 r n) = V m c main_v11 (ix3 (bt t) r n) := by
  unfold bt
  blk_ext [iblk, idx t]
theorem ib3 (c : Dev nD) (t : Fin cfg0.N) (h : Fin 8) (x : Fin 128) (y : Fin 512) : iblk m c 3 t (ix3 h x y) = V m c main_v27 (ix3 h x y) := by
  blk_ext [iblk, idx t]
theorem ib4 (c : Dev nD) (t : Fin cfg0.N) (q : Fin 256) (y : Fin 512) : iblk m c 4 t (ix3 0 q y) = (inp m c).g (bt t) (qt t q) y := by
  unfold inp arg5 bt qt
  blk_ext [iblk, V, idx t]

/-! ## A point's block -/

/-- The point's memory. -/
def argsAt (c : Dev nD) (t : Fin cfg0.N) : Args :=
  { c := c, i := grid0.coords t,
    arg2 := win0_0.stage (cfg0.slots t 0), harg2 := hstage0_0 ((cfg0.slots t 0).cast nbuf0_0),
    arg3 := win0_1.stage (cfg0.slots t 1), harg3 := hstage0_1 ((cfg0.slots t 1).cast nbuf0_1),
    arg4 := win0_2.stage (cfg0.slots t 2), harg4 := hstage0_2 ((cfg0.slots t 2).cast nbuf0_2),
    arg5 := win0_3.stage (cfg0.slots t 3), harg5 := hstage0_3 ((cfg0.slots t 3).cast nbuf0_3),
    arg6 := win0_4.stage (cfg0.slots t 4), harg6 := hstage0_4 ((cfg0.slots t 4).cast nbuf0_4),
    arg7 := win0_5.stage (cfg0.slots t 5), harg7 := hstage0_5 ((cfg0.slots t 5).cast nbuf0_5),
    arg8 := Memref.whole cc0_scratch0, harg8 := Memref.isWhole_whole _,
    arg9 := Memref.whole cc0_scratch1, harg9 := Memref.isWhole_whole _,
    X2 := (hstage0_0 ((cfg0.slots t 0).cast nbuf0_0)).unread (iblk m c 0 t),
    X3 := (hstage0_1 ((cfg0.slots t 1).cast nbuf0_1)).unread (iblk m c 1 t),
    X4 := (hstage0_2 ((cfg0.slots t 2).cast nbuf0_2)).unread (iblk m c 2 t),
    X5 := (hstage0_3 ((cfg0.slots t 3).cast nbuf0_3)).unread (iblk m c 3 t),
    X6 := (hstage0_4 ((cfg0.slots t 4).cast nbuf0_4)).unread (iblk m c 4 t) }

/-- The keys, the queries and the values of a point as real numbers. -/
def krOf (I : In) (b : Fin 8) (n : ℕ) (d : Fin 256) : ℝ :=
  if h1 : d.val < 128 then I.ckN b n ⟨d.val, h1⟩ else if h2 : d.val - 128 < 32 then I.kpN b n ⟨d.val - 128, h2⟩ else if d.val - 128 - 32 < 1 then 1 else 0
def qrOf (I : In) (b : Fin 8) (i : ℕ) (h q : ℕ) (d : Fin 256) : ℝ :=
  if hb : h < 8 ∧ 256 * i + q < 4096 then
    if h1 : d.val < 128 then (I.ql b ⟨256 * i + q, hb.2⟩ ⟨h, hb.1⟩ ⟨d.val, h1⟩).toReal
    else if h2 : d.val - 128 < 32 then (I.qr b ⟨256 * i + q, hb.2⟩ ⟨h, hb.1⟩ ⟨d.val - 128, h2⟩).toReal else 0
  else 0
def vrOf (I : In) (b : Fin 8) (r : Fin 144) (n : ℕ) : ℝ := if h1 : r.val < 128 then I.ckN b n ⟨r.val, h1⟩ else 1

theorem reals (c : Dev nD) (t : Fin cfg0.N) (hI : (inp m c).Real) :
    (argsAt m c t).Reals t (krOf (inp m c) (bt t)) (qrOf (inp m c) (bt t) (grid0.coords t 1).val) (vrOf (inp m c) (bt t)) where
  hi := rfl
  hk n d := by
    refine Eq.trans (congrFun (Memref.IsWhole.read_unread (argsAt m c t).harg3 _) _) ?_
    refine (ib1 m c t n d).trans ((V7_at m c _ _ _).trans ?_)
    unfold krOf
    split_ifs with h1 h2 h3
    · exact (hI.ck _ _ _).trans (congrArg _ ((inp m c).ckN_fin _ n _).symm)
    · exact (hI.kp _ _ _).trans (congrArg _ ((inp m c).kpN_fin _ n _).symm)
    · rfl
    · rfl
  hq h q d := by
    refine Eq.trans (congrFun (Memref.IsWhole.read_unread (argsAt m c t).harg2 _) _) ?_
    refine (ib0 m c t h q d).trans ((V3_at m c _ _ _ _).trans ?_)
    rw [show qrOf (inp m c) (bt t) (grid0.coords t 1).val h.val q.val d = _ from dif_pos ⟨h.isLt, (qt t q).isLt⟩]
    split_ifs with h1 h2
    · exact hI.ql _ _ _ _
    · exact hI.qr _ _ _ _
    · rfl
  hv r n := by
    refine Eq.trans (congrFun (Memref.IsWhole.read_unread (argsAt m c t).harg4 _) _) ?_
    refine (ib2 m c t r n).trans ((V11_at m c _ _ _).trans ?_)
    unfold vrOf
    split_ifs with h1
    · exact (hI.ck _ _ _).trans (congrArg _ ((inp m c).ckN_fin _ n _).symm)
    · rfl

/-- The kernel's score is the reference's, with the power of two for the exponential. -/
theorem sc_eq (I : In) (b : Fin 8) (i : ℕ) (hi : i < 16) (h : Fin 8) (q : Fin 256) (n : ℕ) :
    Real.rpow 2 (Args.sc (krOf I b) (qrOf I b i) (256 * h.val + q.val) n) = Real.exp (I.dot b ⟨256 * i + q.val, by omega⟩ h n * In.fac) := by
  have e : Args.sc (krOf I b) (qrOf I b i) (256 * h.val + q.val) n = I.dot b ⟨256 * i + q.val, by omega⟩ h n * esc := by
    unfold Args.sc In.dot
    rw [show (256 * h.val + q.val) / 256 = h.val by omega, show (256 * h.val + q.val) % 256 = q.val by omega]
    simp only [← mul_assoc]
    rw [← Finset.sum_mul]
    refine congrArg (· * esc) (sum_lanes _ _ _ (fun d => ?_) (fun d => ?_) fun d hd => ?_)
    · unfold krOf qrOf
      rw [dif_pos d.isLt, dif_pos ⟨h.isLt, by omega⟩, dif_pos d.isLt]
    · unfold krOf qrOf
      have h1 : ¬ (128 + d.val < 128) := by omega
      have h2 : 128 + d.val - 128 < 32 := by omega
      rw [dif_neg h1, dif_pos h2, dif_pos ⟨h.isLt, by omega⟩, dif_neg h1, dif_pos h2]
      have e3 : (⟨128 + d.val - 128, h2⟩ : Fin 32) = d := Fin.ext (by show 128 + d.val - 128 = d.val; omega)
      rw [e3]
    · unfold qrOf
      have h1 : ¬ (d.val < 128) := by omega
      have h2 : ¬ (d.val - 128 < 32) := by omega
      rw [dif_pos ⟨h.isLt, by omega⟩, dif_neg h1, dif_neg h2, mul_zero]
  rw [e, show esc = In.fac * (Real.log 2)⁻¹ from rfl, rpow_two_scale]

/-- The kernel's latent mean is the softmax mean. -/
theorem mean_eq (I : In) (b : Fin 8) (i : ℕ) (hi : i < 16) (h : Fin 8) (q : Fin 256) (x : Fin 128) :
    mean (krOf I b) (qrOf I b i) (vrOf I b) i (256 * h.val + q.val) ⟨x.val, by omega⟩ = I.lat b ⟨256 * i + q.val, by omega⟩ h x := by
  unfold mean In.lat
  have hv : ∀ n, Args.vis i (256 * h.val + q.val) n ↔ n / 64 ≤ (256 * i + q.val) / 64 := fun n => by
    unfold Args.vis; rw [show (256 * h.val + q.val) % 256 = q.val by omega]
  refine congrArg₂ (· / ·) (Finset.sum_congr rfl fun n _ => ?_) (Finset.sum_congr rfl fun n _ => ?_)
  · refine if_congr (hv n) ?_ rfl
    rw [sc_eq I b i hi h q n]
    unfold vrOf
    rw [dif_pos x.isLt]
  · exact if_congr (hv n) (sc_eq I b i hi h q n) rfl

/-- The block a point stores, at an index. -/
theorem block_at (c : Dev nD) (t : Fin cfg0.N) (hI : (inp m c).Real) (y1 : Fin 256) (y2 : Fin 512) :
    (View.canon (outL m c t) (ix3 0 y1 y2) : EReal) = (inp m c).val (bt t) (qt t y1) y2 := by
  have hlt := (pts t).2.2.2.2.2.2.2.2.1
  have ho : ∀ n, vrOf (inp m c) (bt t) ⟨128, by omega⟩ n = 1 := fun n => by unfold vrOf; exact dif_neg (by simp)
  have e : (View.canon (outL m c t) (ix3 0 y1 y2) : EReal)
      = (argsAt m c t).outVal t (krOf (inp m c) (bt t)) (qrOf (inp m c) (bt t) (grid0.coords t 1).val) (vrOf (inp m c) (bt t)) y1 y2 := by
    by_cases hc : k0_cond1 (grid0.coords t) = 1#1
    · refine Eq.trans ?_ ((reals m c t hI).s_out hc (notFull t hc) ho y1 y2)
      unfold outL
      rw [dif_pos hc]
      rfl
    · refine Eq.trans ?_ ((reals m c t hI).f_out hc (isFull t hc) ho y1 y2)
      unfold outL
      rw [dif_neg hc]
      rfl
  rw [e]
  unfold Args.outVal In.val
  have hg : ((argsAt m c t).arg6.view.read (Elt Ideal) (argsAt m c t).X6 (ix3 0 y1 y2) : EReal) = (inp m c).g (bt t) (qt t y1) y2 :=
    (congrFun (Memref.IsWhole.read_unread (argsAt m c t).harg6 _) _).trans (ib4 m c t y1 y2)
  have hw : ∀ (h : Fin 8) (x : Fin 128), ((argsAt m c t).arg5.view.read (Elt Ideal) (argsAt m c t).X5 (ix3 h x y2) : EReal)
      = (inp m c).wu x h ⟨y2.val % 64, by omega⟩ * if h.val = y2.val / 64 then 1 else 0 := fun h x =>
    (congrFun (Memref.IsWhole.read_unread (argsAt m c t).harg5 _) _).trans ((ib3 m c t h x y2).trans (V27_at m c h x y2))
  rw [hg]
  refine congrArg₂ (· * ·) ?_ rfl
  rw [Finset.sum_eq_single (⟨y2.val / 64, by omega⟩ : Fin 8) ?_ (fun h => absurd (Finset.mem_univ _) h)]
  · refine Finset.sum_congr rfl fun x _ => ?_
    rw [hw, if_pos rfl, mul_one]
    exact congrArg (fun z : ℝ => (z : EReal) * _) (mean_eq (inp m c) (bt t) _ hlt ⟨y2.val / 64, by omega⟩ y1 x)
  · intro h _ hh
    refine Finset.sum_eq_zero fun x _ => ?_
    rw [hw, if_neg (fun he => hh (Fin.ext he)), mul_zero, mul_zero]

/-- The result array after the run. -/
theorem final (c : Dev nD) (hI : (inp m c).Real) : (dats m 0 c).arrAt 5 (cfgs 0).N
    = fun j : S8x4096x512.Idx => (inp m c).val (j 0) (j 1) (j 2) := by
  refine (dats m 0 c).arrAt_eq_of_covers 5 _ (by decide +kernel) fun t _ y => ?_
  blk_simp
  rw [after_5]
  have h0 : (y 0).val < 1 := (y 0).isLt
  have hy : y = (ix3 0 (y 1) (y 2) : S1x256x512.Idx) := by
    funext a
    fin_cases a
    · exact Fin.ext (Nat.lt_one_iff.mp h0)
    · rfl
    · rfl
  refine (congrArg (View.canon (outL m c t)) hy).trans ((block_at m c t hI (y 1) (y 2)).trans ?_)
  have e0 : bt t = (win0_5.blk t).view.emb y 0 := Fin.ext (by blk_simp [idx t]; show (grid0.coords t 0).val = _; omega)
  have e1 : qt t (y 1) = (win0_5.blk t).view.emb y 1 := Fin.ext (by blk_simp [idx t]; show 256 * (grid0.coords t 1).val + (y 1).val = _; omega)
  have e2 : y 2 = (win0_5.blk t).view.emb y 2 := Fin.ext (by blk_simp [idx t])
  rw [e0, e1]
  exact congrArg _ e2
end Cert.KernelIdeal.Att
-- ==== Proof.RI.Value.lean ====
module

public import proofs.«01_k».proof.Proof.Gen.ReferenceIdeal.Run
public import proofs.«01_k».proof.Proof.Spec
public import proofs.«01_k».proof.Proof.Maths
public import Idealize.ShloMosaic.Lib.WordCmp

/-! The reference's result in closed form: its parts named, each read at an index. -/

@[expose] public section

set_option maxRecDepth 16384

noncomputable section

namespace Cert.ReferenceIdeal.Att

open Cert.ReferenceIdeal Cert.ReferenceIdeal.Gen Cert.ReferenceIdeal.Value Cert.Maths
open Idealize.ShloMosaic Idealize.ShloMosaic.TcCoe Idealize.ShloMosaic.Tactic
open Idealize.SL.Sem

variable (m : (ℓ : Loc nD τ sig) → Buf (Elt Ideal) ℓ)

/-- The keys' segments. -/
def flRow : IVec S1x4096 32 := (select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32)))))
/-- The queries' segments. -/
def flCol : IVec S4096x1 32 := (select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32)))))
/-- Which keys a query sees. -/
def mask : IVec S4096x4096 1 := (cmpi .sle (broadcastInDim S4096x4096 ![0, 1] bcast_S1x4096_S4096x4096_0_1 flRow) (broadcastInDim S4096x4096 ![0, 1] bcast_S4096x1_S4096x4096_0_1 flCol))
/-- The masked scores. -/
def scores (a0 : FVec Ideal S8x4096x8x128 .f32) (a1 : FVec Ideal S8x4096x8x32 .f32) (a2 : FVec Ideal S8x4096x128 .f32) (a3 : FVec Ideal S8x4096x32 .f32) : FVec Ideal S8x8x4096x4096 .f32 :=
  (select (broadcastInDim S8x8x4096x4096 ![2, 3] bcast_S4096x4096_S8x8x4096x4096_2_3 mask) (mulf (addf (transpose S8x8x4096x4096 [0, 3, 2, 1] (Host.dotGeneral dot_S8x4096x128_S8x4096x8x128_S8x4096x4096x8_2_3_1_12_0_0 none a2 a0) transposes_S8x4096x4096x8_S8x8x4096x4096_0_3_2_1) (transpose S8x8x4096x4096 [0, 3, 2, 1] (Host.dotGeneral dot_S8x4096x32_S8x4096x8x32_S8x4096x4096x8_2_3_1_12_0_0 none a3 a1) transposes_S8x4096x4096x8_S8x8x4096x4096_0_3_2_1)) (broadcastInDim S8x8x4096x4096 ![] bcast_S_S8x8x4096x4096 (constant S_ .f32 0x3DD105EC#32))) (broadcastInDim S8x8x4096x4096 ![] bcast_S_S8x8x4096x4096 (id (constant S_ .f32 0xFF800000#32))))
/-- The rows' maxima. -/
def maxi (S : FVec Ideal S8x8x4096x4096 .f32) : FVec Ideal S8x8x4096 .f32 := (Host.reduce FloatOps.maximumf S (constant S_ .f32 0xFF800000#32) reducesTo_S8x8x4096x4096_S8x8x4096_d3 h_S_)
/-- The exponentials of the scores over their maximum. -/
def expo (S : FVec Ideal S8x8x4096x4096 .f32) (M : FVec Ideal S8x8x4096 .f32) : FVec Ideal S8x8x4096x4096 .f32 := (Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (broadcastInDim S8x8x4096 ![] bcast_S_S8x8x4096 (constant S_ .f32 0xFF800000#32)) M)))))
/-- The softmax, from the exponentials. -/
def soft (E : FVec Ideal S8x8x4096x4096 .f32) : FVec Ideal S8x8x4096x4096 .f32 := (Host.divf E (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd E (constant S_ .f32 0x00000000#32) reducesTo_S8x8x4096x4096_S8x8x4096_d3 h_S_))))
/-- The latent means. -/
def lats (p : FVec Ideal S8x8x4096x4096 .f32) (a2 : FVec Ideal S8x4096x128 .f32) : FVec Ideal S8x128x8x4096 .f32 := (Host.dotGeneral dot_S8x4096x128_S8x8x4096x4096_S8x128x8x4096_1_3_2_12_0_0 none a2 p)
/-- The result from the latent means. -/
def outs (o : FVec Ideal S8x128x8x4096 .f32) (a4 : FVec Ideal S128x8x64 .f32) (a5 : FVec Ideal S8x4096x512 .f32) : FVec Ideal S8x4096x512 .bf16 :=
  truncf .bf16 (mulf (shapeCast _ (transpose S8x4096x8x64 [2, 3, 0, 1] (Host.dotGeneral dot_S128x8x64_S8x4096x8x128_S8x64x8x4096_0_3_2_01_1_2 none a4 (transpose S8x4096x8x128 [0, 3, 2, 1] o transposes_S8x128x8x4096_S8x4096x8x128_0_3_2_1)) transposes_S8x64x8x4096_S8x4096x8x64_2_3_0_1) shapeCasts_S8x4096x8x64_S8x4096x512) (mulf a5 (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf a5)))))) bitsLt_bf16_f32

/-- The arguments of the program. -/
def arg0 (c : Dev nD) : FVec Ideal S8x4096x8x128 .f32 := m ((c.tc : Thread nD τ).loc main_arg0)
def arg1 (c : Dev nD) : FVec Ideal S8x4096x8x32 .f32 := m ((c.tc : Thread nD τ).loc main_arg1)
def arg2 (c : Dev nD) : FVec Ideal S8x4096x128 .f32 := m ((c.tc : Thread nD τ).loc main_arg2)
def arg3 (c : Dev nD) : FVec Ideal S8x4096x32 .f32 := m ((c.tc : Thread nD τ).loc main_arg3)
def arg4 (c : Dev nD) : FVec Ideal S128x8x64 .f32 := m ((c.tc : Thread nD τ).loc main_arg4)
def arg5 (c : Dev nD) : FVec Ideal S8x4096x512 .f32 := m ((c.tc : Thread nD τ).loc main_arg5)

theorem res_eq (c : Dev nD) : (res_main_v34 m c : FVec Ideal S8x4096x512 .bf16)
    = outs (lats (soft (expo (scores (arg0 m c) (arg1 m c) (arg2 m c) (arg3 m c)) (maxi (scores (arg0 m c) (arg1 m c) (arg2 m c) (arg3 m c))))) (arg2 m c)) (arg4 m c) (arg5 m c) := by
  unfold res_main_v34 outs lats soft expo maxi scores mask flRow flCol
  rfl

/-- The word of minus infinity. -/
theorem ninf : Ideal.ofBits FTy.f32 4286578688#32 = (⊥ : EReal) := by simp [Ideal.ofBits, Ideal.ieee]

/-- The word of the scores' factor. -/
theorem fac_word : Ideal.ofBits FTy.f32 1037108716#32 = ((In.fac : ℝ) : EReal) := by
  have e1 : 1037108716 >>> 23 % 256 = 123 := by decide
  have e2 : BitVec.extractLsb' 31 1 1037108716#32 = 0#1 := by decide
  simp only [Ideal.ofBits, Ideal.ieee, In.fac]
  norm_num [e1, e2]

/-- The floor division by 64, as the reference's host spells it, of a position. -/
theorem floor_word (n : ℕ) (h : n < 4096) :
    Scalar.select
      (IntOp.andi
        (IntOp.cmpi CmpIPredicate.ne
          (if BitVec.ofNat 32 n = 0 then (0 : BitVec 32) else if (BitVec.ofNat 32 n).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32)
    = BitVec.ofNat 32 (n / 64) := by
  have key : ∀ c : Fin 4096, Scalar.select
      (IntOp.andi
        (IntOp.cmpi CmpIPredicate.ne
          (if BitVec.ofNat 32 c.val = 0 then (0 : BitVec 32) else if (BitVec.ofNat 32 c.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 c.val) 64#32) 0#32))
      (IntOp.subi (IntOp.divsi ArithUnit.host (BitVec.ofNat 32 c.val) 64#32) 1#32)
      (IntOp.divsi ArithUnit.host (BitVec.ofNat 32 c.val) 64#32)
    = BitVec.ofNat 32 (c.val / 64) := by decide +kernel
  exact key ⟨n, h⟩

theorem flRow_at (k : Fin 4096) : flRow (ix2 0 k) = BitVec.ofNat 32 (k.val / 64) := by
  pointwise [flRow]
  exact floor_word k.val k.isLt

theorem flCol_at (k : Fin 4096) : flCol (ix2 k 0) = BitVec.ofNat 32 (k.val / 64) := by
  pointwise [flCol]
  exact floor_word k.val k.isLt

/-- A query sees the keys of its own segment and of the earlier ones. -/
theorem mask_at (q k : Fin 4096) : mask (ix2 q k) = if k.val / 64 ≤ q.val / 64 then 1#1 else 0#1 := by
  pointwise [mask]
  rw [flRow_at, flCol_at, Idealize.ShloMosaic.WordCmp.cmpi_sle_ofNat (by omega) (by omega)]
  split_ifs with h <;> simp [h]

theorem scores_at (a0 a1 a2 a3) (b h : Fin 8) (q k : Fin 4096) : (scores a0 a1 a2 a3 (ix4 b h q k) : EReal)
    = if k.val / 64 ≤ q.val / 64 then
        ((∑ x, (a2 (ix3 b k x) : EReal) * a0 (ix4 b q h x)) + ∑ x, (a3 (ix3 b k x) : EReal) * a1 (ix4 b q h x))
          * Ideal.ofBits FTy.f32 1037108716#32
      else ⊥ := by
  pointwise [scores]
  rw [mask_at]
  split_ifs
  · rfl
  · exact ninf

/-- A maximum along the last of four axes, at an index of the result. -/
theorem rowmax_at {n0 n1 n2 n3 : ℕ} {t u : Shape} (h : (⟨4, ![n0, n1, n2, n3]⟩ : Shape).ReducesTo [3] t) (hu : 0 < u.numel)
    (x : FVec Ideal ⟨4, ![n0, n1, n2, n3]⟩ .f32) (init : FVec Ideal u .f32) (j : t.Idx) :
    ((Host.reduce FloatOps.maximumf x init h hu : FVec Ideal t .f32) j : EReal)
      = Finset.fold max (init (Shape.Idx.first hu) : EReal)
        (fun k : Fin n3 => x (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) Finset.univ := by
  rw [Host.reduce_eq_fold, h.fold_fiber_r4_a3]
  rfl

theorem maxi_at (S : FVec Ideal S8x8x4096x4096 .f32) (b h : Fin 8) (q : Fin 4096) : (maxi S (ix3 b h q) : EReal)
    = Finset.fold max (⊥ : EReal) (fun x => S (ix4 b h q x)) Finset.univ := by
  unfold maxi
  refine (rowmax_at _ _ S _ _).trans ?_
  exact congrArg (fun z => Finset.fold max z (fun x => (S (ix4 b h q x) : EReal)) Finset.univ) ninf

theorem expo_at (S : FVec Ideal S8x8x4096x4096 .f32) (M : FVec Ideal S8x8x4096 .f32) (b h : Fin 8) (q k : Fin 4096) : (expo S M (ix4 b h q k) : EReal)
    = Ideal.exp ((S (ix4 b h q k) : EReal) - M (ix3 b h q)) := by
  pointwise [expo]
  rw [ninf, max_eq_right bot_le]

theorem soft_at (E : FVec Ideal S8x8x4096x4096 .f32) (b h : Fin 8) (q k : Fin 4096) : (soft E (ix4 b h q k) : EReal)
    = Ideal.div (E (ix4 b h q k)) (∑ x, (E (ix4 b h q x) : EReal)) := by
  pointwise [soft]

theorem lats_at (p : FVec Ideal S8x8x4096x4096 .f32) (a2 : FVec Ideal S8x4096x128 .f32) (b h : Fin 8) (q : Fin 4096) (d : Fin 128) : (lats p a2 (ix4 b d h q) : EReal)
    = ∑ x, (a2 (ix3 b x d) : EReal) * p (ix4 b h q x) := by
  pointwise [lats]

theorem outs_at (o a4 a5) (b : Fin 8) (q : Fin 4096) (y : Fin 512) : (outs o a4 a5 (ix3 b q y) : EReal)
    = (∑ x, (a4 (ix3 x ⟨y.val / 64, by omega⟩ ⟨y.val % 64, by omega⟩) : EReal) * o (ix4 b x ⟨y.val / 64, by omega⟩ q)) *
      ((a5 (ix3 b q y) : EReal) * Ideal.div 1 (1 + Ideal.exp (-a5 (ix3 b q y)))) := by
  pointwise [outs]

/-- The arguments at their indices. -/
def inp (c : Dev nD) : In where
  ql b n h d := arg0 m c (ix4 b n h d)
  qr b n h d := arg1 m c (ix4 b n h d)
  ck b n d := arg2 m c (ix3 b n d)
  kp b n d := arg3 m c (ix3 b n d)
  wu d h v := arg4 m c (ix3 d h v)
  g b n y := arg5 m c (ix3 b n y)

/-- The scores of real arguments. -/
theorem scores_val (c : Dev nD) (hI : (inp m c).Real) (b h : Fin 8) (q k : Fin 4096) :
    (scores (arg0 m c) (arg1 m c) (arg2 m c) (arg3 m c) (ix4 b h q k) : EReal)
      = if k.val / 64 ≤ q.val / 64 then (((inp m c).dot b q h k.val * In.fac : ℝ) : EReal) else ⊥ := by
  rw [scores_at]
  refine if_congr Iff.rfl ?_ rfl
  rw [fac_word, EReal.coe_mul]
  congr 1
  unfold In.dot
  rw [EReal.coe_add, coe_sum, coe_sum]
  congr 1
  · refine Finset.sum_congr rfl fun x _ => ?_
    rw [In.ckN_fin, EReal.coe_mul, ← hI.ck, ← hI.ql]
    rfl
  · refine Finset.sum_congr rfl fun x _ => ?_
    rw [In.kpN_fin, EReal.coe_mul, ← hI.kp, ← hI.qr]
    rfl

/-- The latent means of real arguments. -/
theorem lats_val (c : Dev nD) (hI : (inp m c).Real) (b h : Fin 8) (q : Fin 4096) (d : Fin 128) :
    (lats (soft (expo (scores (arg0 m c) (arg1 m c) (arg2 m c) (arg3 m c)) (maxi (scores (arg0 m c) (arg1 m c) (arg2 m c) (arg3 m c))))) (arg2 m c) (ix4 b d h q) : EReal)
      = (((inp m c).lat b q h d : ℝ) : EReal) := by
  rw [lats_at]
  have key := softmax_mean (K := 4096) (fun n => n / 64 ≤ q.val / 64) (fun n => (inp m c).dot b q h n * In.fac)
    (fun n => (inp m c).ckN b n d) (fun k => scores (arg0 m c) (arg1 m c) (arg2 m c) (arg3 m c) (ix4 b h q k))
    (fun k => (inp m c).ck b k d) (scores_val m c hI b h q)
    (fun k => by rw [In.ckN_fin, ← hI.ck]) ⟨0, Nat.zero_le _⟩
  refine Eq.trans (Finset.sum_congr rfl fun x _ => ?_) key
  rw [soft_at, mul_comm, expo_at, maxi_at]
  refine congrArg₂ (· * ·) (congrArg (Ideal.div _) (Finset.sum_congr rfl fun y _ => ?_)) rfl
  rw [expo_at, maxi_at]

/-- The gate, spelt as a product with a quotient. -/
theorem gate_eq (g : EReal) : g * Ideal.div 1 (1 + Ideal.exp (-g)) = In.gateOf g := by
  have h0 : (0 : EReal) ≤ Ideal.exp (-g) := by
    induction h : -g using EReal.rec with
    | bot => rw [Ideal.exp_bot]
    | coe r => rw [Ideal.exp_coe]; exact_mod_cast (Real.exp_pos r).le
    | top => rw [Ideal.exp_top]; exact le_top
  have h1 : (1 : EReal) + Ideal.exp (-g) ≠ 0 := (lt_of_lt_of_le zero_lt_one (le_add_of_nonneg_right h0)).ne'
  unfold In.gateOf
  rw [zero_sub]
  unfold Ideal.div
  rw [if_neg h1, if_neg h1, one_mul]

/-- The reference's result in closed form. -/
theorem res_val (c : Dev nD) (hI : (inp m c).Real) : (res_main_v34 m c : FVec Ideal S8x4096x512 .bf16)
    = fun j : S8x4096x512.Idx => (inp m c).val (j 0) (j 1) (j 2) := by
  rw [res_eq]
  funext j
  obtain ⟨b, q, y, rfl⟩ : ∃ (b : Fin 8) (q : Fin 4096) (y : Fin 512), j = ix3 b q y :=
    ⟨j 0, j 1, j 2, by funext a; fin_cases a <;> rfl⟩
  refine (outs_at _ _ _ b q y).trans ?_
  rw [gate_eq]
  show _ = (inp m c).val b q y
  unfold In.val
  congr 1
  refine Finset.sum_congr rfl fun x _ => ?_
  rw [lats_val m c hI, mul_comm]
  rfl

end Cert.ReferenceIdeal.Att
-- ==== Proof.Pre.lean ====
module

public import proofs.«01_k».proof.Defs
public import proofs.«01_k».proof.Proof.Spec
public import Idealize.ShloMosaic.Lib.ReduceAll

/-! The precondition read back: finite queries, latents and keys are real numbers. -/

@[expose] public section

set_option maxRecDepth 16384

noncomputable section

namespace Cert.AttPre

open Idealize.ShloMosaic Cert.Pre_finite_inputs

/-- The side conditions the precondition states. -/
instance facts : Cert.Pre_finite_inputs.Facts where
  bcast_S_S8x4096x8x128 := by decide
  reducesTo_S8x4096x8x128_S_d0_1_2_3 := by decide
  h_S_ := by decide
  bcast_S_S8x4096x8x32 := by decide
  reducesTo_S8x4096x8x32_S_d0_1_2_3 := by decide
  bcast_S_S8x4096x128 := by decide
  reducesTo_S8x4096x128_S_d0_1_2 := by decide
  bcast_S_S8x4096x32 := by decide
  reducesTo_S8x4096x32_S_d0_1_2 := by decide

/-- A value whose magnitude is below plus infinity is a real number. -/
theorem real_of_lt (x : EReal) (h : FloatOps.cmpf (F := Ideal) (φ := FTy.f32) .olt (FloatOps.absf (F := Ideal) (φ := FTy.f32) x) (Ideal.ofBits FTy.f32 0x7F800000#32) = 1#1) :
    x = (x.toReal : EReal) := by
  have e : Ideal.ofBits FTy.f32 0x7F800000#32 = (⊤ : EReal) := by simp [Ideal.ofBits, Ideal.ieee]
  rw [e] at h
  induction x using EReal.rec with
  | bot => exfalso; revert h; simp [FloatOps.cmpf, FloatOps.absf, Ideal.cmp]
  | coe r => rw [EReal.toReal_coe]
  | top => exfalso; revert h; simp [FloatOps.cmpf, FloatOps.absf, Ideal.cmp]

instance : Subsingleton S_.Idx := ⟨fun a b => funext fun d => d.elim0⟩

/-- Where the precondition holds, every element of the queries, the latents and the keys is a real number. -/
theorem real_of_pre (a0 : FVec Ideal S8x4096x8x128 .f32) (a1 : FVec Ideal S8x4096x8x32 .f32) (a2 : FVec Ideal S8x4096x128 .f32)
    (a3 : FVec Ideal S8x4096x32 .f32) (a4 : FVec Ideal S128x8x64 .f32) (a5 : FVec Ideal S8x4096x512 .f32)
    (h : fn (F := Ideal) a0 a1 a2 a3 a4 a5 = fun _ => 1#1) :
    ((∀ i, (a0 i : EReal) = ((a0 i : EReal).toReal : EReal)) ∧ ∀ i, (a1 i : EReal) = ((a1 i : EReal).toReal : EReal))
      ∧ (∀ i, (a2 i : EReal) = ((a2 i : EReal).toReal : EReal)) ∧ ∀ i, (a3 i : EReal) = ((a3 i : EReal).toReal : EReal) := by
  have h' := congrFun h (fun d => d.elim0)
  obtain ⟨h1, e3⟩ := IntOp.andi_eq_one.1 h'
  obtain ⟨h2, e2⟩ := IntOp.andi_eq_one.1 h1
  obtain ⟨e0, e1⟩ := IntOp.andi_eq_one.1 h2
  exact ⟨⟨fun i => real_of_lt _ (Host.reduce_andi_all _ _ _ _ _ e0 i), fun i => real_of_lt _ (Host.reduce_andi_all _ _ _ _ _ e1 i)⟩,
    fun i => real_of_lt _ (Host.reduce_andi_all _ _ _ _ _ e2 i), fun i => real_of_lt _ (Host.reduce_andi_all _ _ _ _ _ e3 i)⟩

end Cert.AttPre

end
-- ==== Proof.Algebraic.lean ====
module

public import proofs.«01_k».proof.Proof.KI.Final
public import proofs.«01_k».proof.Proof.RI.Value
public import proofs.«01_k».proof.Proof.Pre

/-! The value claim: where the queries, the latents and the keys are finite, the kernel's result is the reference's. -/

@[expose] public section

set_option maxRecDepth 16384

noncomputable section

namespace Cert.AttValue

open Idealize.ShloMosaic Idealize.SL.Sem Cert.Maths

/-- The precondition makes the inputs real. -/
theorem inp_real (m : (ℓ : Loc Cert.KernelIdeal.nD Cert.KernelIdeal.τ Cert.KernelIdeal.sig) → Buf (Elt Ideal) ℓ)
    (h : Cert.Pre_KernelIdeal_finite_inputs (hPre_finite_inputs := Cert.AttPre.facts) m) (c : Dev Cert.KernelIdeal.nD) : (Cert.KernelIdeal.Att.inp m c).Real := by
  obtain ⟨⟨h0, h1⟩, h2, h3⟩ := Cert.AttPre.real_of_pre _ _ _ _ _ _ (h c)
  exact ⟨fun b n k d => h0 _, fun b n k d => h1 _, fun b n d => h2 _, fun b n d => h3 _⟩

/-- The value claim. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.AttPre.facts) := by
  intro m g m' g' hp hA
  have hI := inp_real m hp
  have e : ∀ c : Dev Cert.KernelIdeal.nD, Cert.ReferenceIdeal.Att.inp m' c = Cert.KernelIdeal.Att.inp m c := by
    intro c
    obtain ⟨a0, a1, a2, a3, a4, a5⟩ := hA c
    have e0 : Cert.ReferenceIdeal.Att.arg0 m' c = Cert.KernelIdeal.Att.arg0 m c := a0
    have e1 : Cert.ReferenceIdeal.Att.arg1 m' c = Cert.KernelIdeal.Att.arg1 m c := a1
    have e2 : Cert.ReferenceIdeal.Att.arg2 m' c = Cert.KernelIdeal.Att.arg2 m c := a2
    have e3 : Cert.ReferenceIdeal.Att.arg3 m' c = Cert.KernelIdeal.Att.arg3 m c := a3
    have e4 : Cert.ReferenceIdeal.Att.arg4 m' c = Cert.KernelIdeal.Att.arg4 m c := a4
    have e5 : Cert.ReferenceIdeal.Att.arg5 m' c = Cert.KernelIdeal.Att.arg5 m c := a5
    unfold Cert.ReferenceIdeal.Att.inp Cert.KernelIdeal.Att.inp
    rw [e0, e1, e2, e3, e4, e5]
  refine ⟨fun c => fun j : Cert.KernelIdeal.S8x4096x512.Idx => (Cert.KernelIdeal.Att.inp m c).val (j 0) (j 1) (j 2), ?_, ?_⟩
  · exact (θ_run _ _ _).mono (fun _ h c => ⟨((h.1 c).1 5).trans (Cert.KernelIdeal.Att.final m c (hI c)),
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c),
      ((h.1 c).2 Cert.KernelIdeal.main_arg4 (Pipeline.mem_restRefs_of Cert.KernelIdeal.main_arg4 (by decide) (by decide))).trans (Cert.KernelIdeal.Gen.V_main_arg4 m c),
      ((h.1 c).1 4).trans ((((Cert.KernelIdeal.Att.dats m 0 c).arrAt_in 4 rfl _).trans (Cert.KernelIdeal.Att.A_eq m c 4)).trans (Cert.KernelIdeal.Gen.V_main_arg5 m c))⟩)
      (Cert.KernelIdeal.Att.run_main (F := Ideal) m g)
  · refine (θ_run _ _ _).mono (fun _ h c => ?_) (Cert.ReferenceIdeal.Value.run (F := Ideal) m' g')
    have hr : (Cert.ReferenceIdeal.Att.inp m' c).Real := by rw [e c]; exact hI c
    have hv := Cert.ReferenceIdeal.Att.res_val m' c hr
    rw [e c] at hv
    exact ⟨(h c).1.trans hv, (h c).2⟩

end Cert.AttValue

end
-- ==== Proof.Spec2.lean ====
module

public import proofs.«01_k».proof.Proof.Maths

/-! The projection in closed form: its inputs at their indices, the modulated rows, their products, and the results. -/

@[expose] public section

noncomputable section

namespace Cert.Maths

open Idealize.ShloMosaic

/-- The projection's inputs: the rows, the modulation, the first norm's weights, the input weights, the gate's bias,
the query norm's weights, the query weights, the latent norm's weights and the latent keys' weights. -/
structure PIn where
  x : Fin 8 → Fin 4096 → Fin 1024 → EReal
  md : Fin 8 → Fin 3072 → EReal
  gp : Fin 1024 → EReal
  w : Fin 1024 → Fin 2980 → EReal
  bf : Fin 4 → EReal
  gq : Fin 256 → EReal
  uq : Fin 256 → Fin 768 → EReal
  gkv : Fin 128 → EReal
  uk : Fin 128 → Fin 8 → Fin 64 → EReal

/-- The rotation's angle of a position and a place. -/
def ang (n : ℕ) (i : ℕ) : EReal :=
  FloatOps.sitofp (F := Ideal) FTy.f32 (BitVec.ofNat 32 n) *
    Ideal.pow (Ideal.ofBits FTy.f32 1176256512#32)
      (Ideal.div (-(FloatOps.sitofp (F := Ideal) FTy.f32 (BitVec.ofNat 32 i) : EReal)) (Ideal.ofBits FTy.f32 1098907648#32))

/-- The logarithm of the logistic function, as the kernel writes it. -/
def logsig (z : EReal) : EReal := min z 0 - Ideal.log (1 + Ideal.exp (0 - FloatOps.absf (F := Ideal) (φ := FTy.f32) z))

/-- The factor that normalizes a row of products. -/
def nrm {k : ℕ} (f : Fin k → EReal) (d : EReal) : EReal :=
  Ideal.rsqrt (Ideal.div (∑ j, f j * f j) d + Ideal.ofBits FTy.f32 897988541#32)

namespace PIn
variable (I : PIn)

/-- The normalized and modulated row. -/
def h (b : Fin 8) (n : Fin 4096) (e : Fin 1024) : EReal :=
  I.x b n e * nrm (I.x b n) (Ideal.ofBits FTy.f32 1149239296#32) * I.gp e * (1 + I.md b ⟨1024 + e.val, by omega⟩) + I.md b ⟨e.val, by omega⟩

/-- The row's product with a column of the input weights. -/
def pr (b : Fin 8) (n : Fin 4096) (j : Fin 2980) : EReal := ∑ k, I.h b n k * I.w k j

/-- A product scaled. -/
def sc (b : Fin 8) (n : Fin 4096) (j : Fin 2980) : EReal := I.pr b n j * Ideal.ofBits FTy.f32 1040187392#32

/-- The logarithm of the forget gate. -/
def lf (b : Fin 8) (n : Fin 4096) (e : Fin 4) : EReal := logsig (I.pr b n ⟨768 + e.val, by omega⟩ + I.bf e)

/-- The normalized latent. -/
def cv (b : Fin 8) (n : Fin 4096) (e : Fin 128) : EReal :=
  I.pr b n ⟨2308 + e.val, by omega⟩ * nrm (fun j : Fin 128 => I.pr b n ⟨2308 + j.val, by omega⟩) (Ideal.ofBits FTy.f32 1124073472#32) * I.gkv e

/-- The normalized query latent. -/
def cq (b : Fin 8) (n : Fin 4096) (e : Fin 256) : EReal :=
  I.pr b n ⟨2052 + e.val, by omega⟩ * nrm (fun j : Fin 256 => I.pr b n ⟨2052 + j.val, by omega⟩) (Ideal.ofBits FTy.f32 1132462080#32) * I.gq e

/-- The query's product with a column of the query weights. -/
def q (b : Fin 8) (n : Fin 4096) (j : Fin 768) : EReal := ∑ k, I.cq b n k * I.uq k j

/-- The latent query of a head. -/
def ql (b : Fin 8) (hh : Fin 8) (n : Fin 4096) (e : Fin 128) : EReal :=
  ∑ k : Fin 64, I.q b n ⟨96 * hh.val + k.val, by omega⟩ * I.uk e hh k

/-- A pair of halves rotated at a position: the place of the first half or of the second. -/
def rot (n : Fin 4096) (f : Fin 32 → EReal) (e : Fin 32) : EReal :=
  if h : e.val < 16 then f e * Ideal.cos (ang n.val e.val) - f ⟨16 + e.val, by omega⟩ * Ideal.sin (ang n.val e.val)
  else f e * Ideal.cos (ang n.val (e.val - 16)) + f ⟨e.val - 16, by omega⟩ * Ideal.sin (ang n.val (e.val - 16))

/-- The rotated key. -/
def kp (b : Fin 8) (n : Fin 4096) (e : Fin 32) : EReal := rot n (fun i => I.pr b n ⟨2436 + i.val, by omega⟩) e

/-- The rotated query of a head. -/
def qr (b : Fin 8) (hh : Fin 8) (n : Fin 4096) (e : Fin 32) : EReal :=
  rot n (fun i => I.q b n ⟨96 * hh.val + 64 + i.val, by omega⟩) e

/-- The inputs whose finiteness the claim asks for: the modulation's first two thirds, the two norms' weights, and the
columns of the second halves that the kernel negates. -/
def Fin' : Prop :=
  ((∀ b (e : Fin 2048), I.md b ⟨e.val, by omega⟩ = ((I.md b ⟨e.val, by omega⟩).toReal : EReal)) ∧ ∀ e, I.gp e = ((I.gp e).toReal : EReal))
   ∧ (∀ k (i : Fin 16), I.w k ⟨2452 + i.val, by omega⟩ = ((I.w k ⟨2452 + i.val, by omega⟩).toReal : EReal))
   ∧ (∀ e, I.gq e = ((I.gq e).toReal : EReal))
   ∧ ∀ k (hh : Fin 8) (i : Fin 16), I.uq k ⟨96 * hh.val + 80 + i.val, by omega⟩ = ((I.uq k ⟨96 * hh.val + 80 + i.val, by omega⟩).toReal : EReal)

end PIn

end Cert.Maths

end
-- ==== Proof.ScatterRow.lean ====
module

public import Idealize.ShloMosaic.Lib.Routing.OpsOne

/-! A stretch of a row written at a pair of index words. -/

@[expose] public section

namespace Cert.ScatterRow

open Idealize.ShloMosaic Idealize.ShloMosaic.ValueIdx Idealize.ShloMosaic.Routing

/-- Where an update of a stretch of a row lands. -/
theorem lands_row {R C U w : ℕ} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (e : Fin C) :
    d.resultIdx? (ix1 k) idx = some (ix2 r e) ↔ (idx (ix1 (0 : Fin 2))).toInt = r.val ∧ (idx (ix1 (1 : Fin 2))).toInt + (k.val : ℤ) = e.val := by
  have h1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have h0 : d.window (ix1 k) 0 = 0 := by
    unfold ScatterDims.window
    rw [dif_neg fun h => (of_decide_eq_true (List.mem_filter.1 h).2) (by rw [hiw]; simp)]
  rw [Routing.resultIdx?_ix2, Routing.start_pair d hsd hivd, Routing.start_pair d hsd hivd, h0, h1]
  omega

/-- A stretch of a row written at a pair of index words, read in the stretch. -/
theorem scatter_row {α : Type} {R C U w : ℕ} (d : ScatterDims (shape2 R C) (shape1 2) (shape1 U)) (hiw : d.insertedWindowDims = [0])
    (hsd : d.scatterDimsToOperandDims = [0, 1]) (hivd : d.indexVectorDim = 0) (x : (shape2 R C).Idx → α) (idx : IVec (shape1 2) w) (u : (shape1 U).Idx → α)
    (k : Fin U) (r : Fin R) (e : Fin C) (hr : (idx (ix1 (0 : Fin 2))).toInt = r.val) (he : (idx (ix1 (1 : Fin 2))).toInt + (k.val : ℤ) = e.val) :
    Host.scatter d (fun _ b => b) x idx u (ix2 r e) = u (ix1 k) := by
  refine Routing.scatter_set_hit d x idx u _ _ (fun j hj => ?_) (ix1 k) ((lands_row d hiw hsd hivd idx k r e).2 ⟨hr, he⟩)
  obtain ⟨l, rfl⟩ : ∃ l : Fin U, j = ix1 l := ⟨j 0, eq_ix1 j⟩
  have h := ((lands_row d hiw hsd hivd idx l r e).1 hj).2
  exact congrArg (fun i => u (ix1 i)) (Fin.ext (by omega))

end Cert.ScatterRow
end
-- ==== Proof.KI2.Args.lean ====
module

public import proofs.«01_k».proof.Proof.KI2.Run
public import proofs.«01_k».proof.Proof.Spec2
public import Idealize.ShloMosaic.Lib.WordCmp
public import Idealize.ShloMosaic.Lib.Pipeline.Value
public import Idealize.ShloMosaic.Lib.Pipeline.ValueKit
public import Idealize.ShloMosaic.Lib.StableHlo.RunRead
public import proofs.«01_k».proof.Proof.ScatterRow

/-! The projection's prepared operands, each read at an index of the program's arguments. -/

@[expose] public section

set_option maxRecDepth 16384

noncomputable section

namespace Cert.Kernel2Ideal.Out

open Cert.Kernel2Ideal Cert.Kernel2Ideal.Gen Cert.Kernel2Ideal.Prj Cert.Maths
open Idealize.ShloMosaic Idealize.ShloMosaic.TcCoe Idealize.ShloMosaic.Tactic
open Idealize.SL.Sem

/-- A pair of coordinates is decided by their values. -/
theorem ix2_ext {A B : ℕ} {a a' : Fin A} {b b' : Fin B} (h : a.val = a'.val) (h' : b.val = b'.val) : ix2 a b = ix2 a' b' := by
  rw [Fin.ext h, Fin.ext h']

variable (m : (ℓ : Loc nD τ sig) → Buf (Elt Ideal) ℓ)

/-- The arguments of the program. -/
def arg0 (c : Dev nD) : FVec Ideal S8x4096x1024 .f32 := m ((c : Thread nD τ).loc main_arg0)
def arg1 (c : Dev nD) : FVec Ideal S8x3072 .f32 := m ((c : Thread nD τ).loc main_arg1)
def arg2 (c : Dev nD) : FVec Ideal S1024 .f32 := m ((c : Thread nD τ).loc main_arg2)
def arg3 (c : Dev nD) : FVec Ideal S1024x2980 .f32 := m ((c : Thread nD τ).loc main_arg3)
def arg4 (c : Dev nD) : FVec Ideal S4 .f32 := m ((c : Thread nD τ).loc main_arg4)
def arg5 (c : Dev nD) : FVec Ideal S256 .f32 := m ((c : Thread nD τ).loc main_arg5)
def arg6 (c : Dev nD) : FVec Ideal S256x768 .f32 := m ((c : Thread nD τ).loc main_arg6)
def arg7 (c : Dev nD) : FVec Ideal S128 .f32 := m ((c : Thread nD τ).loc main_arg7)
def arg8 (c : Dev nD) : FVec Ideal S128x8x64 .f32 := m ((c : Thread nD τ).loc main_arg8)

/-- The arguments at their indices. -/
def inp (c : Dev nD) : PIn where
  x b n e := arg0 m c (ix3 b n e)
  md b e := arg1 m c (ix2 b e)
  gp e := arg2 m c (ix1 e)
  w k j := arg3 m c (ix2 k j)
  bf e := arg4 m c (ix1 e)
  gq e := arg5 m c (ix1 e)
  uq k j := arg6 m c (ix2 k j)
  gkv e := arg7 m c (ix1 e)
  uk e hh k := arg8 m c (ix3 e hh k)

theorem V71_at (c : Dev nD) (b : Fin 8) (e : Fin 3072) : V m c main_v71 (ix3 b 0 e) = (inp m c).md b e := by
  unfold V; after_reads_simp
  pointwise
  rfl
theorem V48_at (c : Dev nD) (e : Fin 1024) : V m c main_v48 (ix2 0 e) = (inp m c).gp e := by
  unfold V; after_reads_simp
  pointwise
  rfl
theorem V49_at (c : Dev nD) (e : Fin 256) : V m c main_v49 (ix2 0 e) = (inp m c).gq e := by
  unfold V; after_reads_simp
  pointwise
  rfl
theorem V50_at (c : Dev nD) (e : Fin 128) : V m c main_v50 (ix2 0 e) = (inp m c).gkv e := by
  unfold V; after_reads_simp
  pointwise
  rfl
theorem V29_at (c : Dev nD) (k : Fin 256) (e : Fin 512) : V m c main_v29 (ix2 k e) = (inp m c).uq k ⟨e.val / 64 * 96 + e.val % 64, by omega⟩ := by
  unfold V; after_reads_simp
  pointwise
  rfl
theorem V25_at (c : Dev nD) (e : Fin 4) : V m c main_v25 (ix2 0 ⟨32 + e.val, by omega⟩) = (inp m c).bf e := by
  unfold V; after_reads_simp
  pointwise
  refine (ScatterRow.scatter_row scatter_S1x128_S2_S4_0_0_01_0 rfl rfl rfl _ _ _ e 0 ⟨32 + e.val, by omega⟩ ?_ ?_).trans rfl
  · pointwise
    after_reads_simp
    pointwise
    rfl
  · pointwise
    after_reads_simp
    pointwise
    rfl
set_option maxHeartbeats 2000000 in
/-- The packed input weights, columns 0 on. -/
theorem w0_at (c : Dev nD) (k : Fin 1024) (e : Fin 256) : V m c main_v20 (ix2 k ⟨e.val, by omega⟩) = (inp m c).w k ⟨e.val, by omega⟩ := by
  unfold V; after_reads_simp
  pointwise

  after_reads_simp
  pointwise
  exact congrArg (arg3 m c) (ix2_ext rfl (by first | omega | (dsimp only; omega)))
set_option maxHeartbeats 2000000 in
/-- The packed input weights, columns 256 on. -/
theorem w256_at (c : Dev nD) (k : Fin 1024) (e : Fin 256) : V m c main_v20 (ix2 k ⟨256 + e.val, by omega⟩) = (inp m c).w k ⟨256 + e.val, by omega⟩ := by
  unfold V; after_reads_simp
  pointwise
  try rw [dif_neg (by omega)]
  try rw [dif_pos (by omega)]
  after_reads_simp
  pointwise
  exact congrArg (arg3 m c) (ix2_ext rfl (by first | omega | (dsimp only; omega)))
set_option maxHeartbeats 2000000 in
/-- The packed input weights, columns 512 on. -/
theorem w512_at (c : Dev nD) (k : Fin 1024) (e : Fin 256) : V m c main_v20 (ix2 k ⟨512 + e.val, by omega⟩) = (inp m c).w k ⟨512 + e.val, by omega⟩ := by
  unfold V; after_reads_simp
  pointwise
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 768 on. -/
theorem w768_at (c : Dev nD) (k : Fin 1024) (e : Fin 256) : V m c main_v20 (ix2 k ⟨768 + e.val, by omega⟩) = (inp m c).w k ⟨772 + e.val, by omega⟩ := by
  unfold V; after_reads_simp
  pointwise
  rw [dif_neg (by omega)]
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 1024 on. -/
theorem w1024_at (c : Dev nD) (k : Fin 1024) (e : Fin 256) : V m c main_v20 (ix2 k ⟨1024 + e.val, by omega⟩) = (inp m c).w k ⟨1028 + e.val, by omega⟩ := by
  unfold V; after_reads_simp
  pointwise
  rw [dif_neg (by omega)]
  rw [dif_neg (by omega)]
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 1280 on. -/
theorem w1280_at (c : Dev nD) (k : Fin 1024) (e : Fin 256) : V m c main_v20 (ix2 k ⟨1280 + e.val, by omega⟩) = (inp m c).w k ⟨1284 + e.val, by omega⟩ := by
  unfold V; after_reads_simp
  pointwise
  rw [dif_neg (by omega)]
  rw [dif_neg (by omega)]
  rw [dif_neg (by omega)]
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 1536 on. -/
theorem w1536_at (c : Dev nD) (k : Fin 1024) (e : Fin 256) : V m c main_v20 (ix2 k ⟨1536 + e.val, by omega⟩) = (inp m c).w k ⟨1540 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 1792 on. -/
theorem w1792_at (c : Dev nD) (k : Fin 1024) (e : Fin 256) : V m c main_v20 (ix2 k ⟨1792 + e.val, by omega⟩) = (inp m c).w k ⟨1796 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 2048 on. -/
theorem w2048_at (c : Dev nD) (k : Fin 1024) (e : Fin 256) : V m c main_v20 (ix2 k ⟨2048 + e.val, by omega⟩) = (inp m c).w k ⟨2052 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 2304 on. -/
theorem w2304_at (c : Dev nD) (k : Fin 1024) (e : Fin 128) : V m c main_v20 (ix2 k ⟨2304 + e.val, by omega⟩) = (inp m c).w k ⟨2308 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  exact congrArg (arg3 m c) (ix2_ext rfl (by first | omega | (dsimp only; omega)))
set_option maxHeartbeats 2000000 in
/-- The packed input weights, columns 2432 on. -/
theorem w2432_at (c : Dev nD) (k : Fin 1024) (e : Fin 32) : V m c main_v20 (ix2 k ⟨2432 + e.val, by omega⟩) = (inp m c).w k ⟨2436 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  after_reads_simp
  pointwise
  split_ifs <;> first | (exfalso; omega) | exact congrArg (arg3 m c) (ix2_ext rfl (by first | omega | (dsimp only; omega)))
set_option maxHeartbeats 2000000 in
/-- The packed input weights, columns 2464 on. -/
theorem w2464_at (c : Dev nD) (k : Fin 1024) (e : Fin 4) : V m c main_v20 (ix2 k ⟨2464 + e.val, by omega⟩) = (inp m c).w k ⟨768 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  after_reads_simp
  pointwise
  split_ifs <;> first | (exfalso; omega) | exact congrArg (arg3 m c) (ix2_ext rfl (by first | omega | (dsimp only; omega)))
set_option maxHeartbeats 2000000 in
/-- The packed input weights, columns 2512 on. -/
theorem w2512_at (c : Dev nD) (k : Fin 1024) (e : Fin 16) : V m c main_v20 (ix2 k ⟨2512 + e.val, by omega⟩) = (inp m c).w k ⟨2436 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  after_reads_simp
  pointwise
  split_ifs <;> first | (exfalso; omega) | exact congrArg (arg3 m c) (ix2_ext rfl (by first | omega | (dsimp only; omega)))
set_option maxHeartbeats 2000000 in
/-- The packed input weights, columns 2560 on. -/
theorem w2560_at (c : Dev nD) (k : Fin 1024) (e : Fin 512) : V m c main_v20 (ix2 k ⟨2560 + e.val, by omega⟩) = (inp m c).w k ⟨2468 + e.val, by omega⟩ := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  after_reads_simp
  pointwise
  exact congrArg (arg3 m c) (ix2_ext rfl (by first | omega | (dsimp only; omega)))
set_option maxHeartbeats 2000000 in
/-- The packed input weights, columns 2496 on: the negated second halves. -/
theorem w2496_at (c : Dev nD) (k : Fin 1024) (e : Fin 16) : V m c main_v20 (ix2 k ⟨2496 + e.val, by omega⟩) = (-(inp m c).w k ⟨2452 + e.val, by omega⟩ : EReal) := by
  unfold V; after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  after_reads_simp
  pointwise
  after_reads_simp
  pointwise
  split_ifs <;> first | (exfalso; omega) | exact congrArg (fun z : EReal => -z) (congrArg (arg3 m c) (ix2_ext rfl (by first | omega | (dsimp only; omega))))
set_option maxHeartbeats 2000000 in
/-- The packed rotated query weights, columns 0 on. -/
theorem xy0_at (c : Dev nD) (hh : Fin 8) (k : Fin 256) (e : Fin 32) : V m c main_v36 (ix3 hh k ⟨e.val, by omega⟩) = (inp m c).uq k ⟨96 * hh.val + 64 + e.val, by omega⟩ := by
  unfold V; after_reads_simp
  pointwise
  after_reads_simp
  pointwise
  split_ifs <;> first | (exfalso; omega) | exact congrArg (arg6 m c) (ix2_ext rfl (by first | omega | (dsimp only; omega)))
set_option maxHeartbeats 2000000 in
/-- The packed rotated query weights, columns 128 on. -/
theorem xy128_at (c : Dev nD) (hh : Fin 8) (k : Fin 256) (e : Fin 16) : V m c main_v36 (ix3 hh k ⟨128 + e.val, by omega⟩) = (-(inp m c).uq k ⟨96 * hh.val + 80 + e.val, by omega⟩ : EReal) := by
  unfold V; after_reads_simp
  pointwise
  after_reads_simp
  pointwise
  split_ifs <;> first | (exfalso; omega) | exact congrArg (fun z : EReal => -z) (congrArg (arg6 m c) (ix2_ext rfl (by first | omega | (dsimp only; omega))))
set_option maxHeartbeats 2000000 in
/-- The packed rotated query weights, columns 144 on. -/
theorem xy144_at (c : Dev nD) (hh : Fin 8) (k : Fin 256) (e : Fin 16) : V m c main_v36 (ix3 hh k ⟨144 + e.val, by omega⟩) = (inp m c).uq k ⟨96 * hh.val + 64 + e.val, by omega⟩ := by
  unfold V; after_reads_simp
  pointwise
  after_reads_simp
  pointwise
  split_ifs <;> first | (exfalso; omega) | exact congrArg (arg6 m c) (ix2_ext rfl (by first | omega | (dsimp only; omega)))
set_option maxHeartbeats 2000000 in
/-- The rotation's cos table, places 0 on. -/
theorem cos0_at (c : Dev nD) (n : Fin 4096) (e : Fin 16) : V m c main_v67 (ix2 n ⟨e.val, by omega⟩) = Ideal.cos (ang n.val e.val) := by
  unfold V; after_reads_simp
  pointwise
  after_reads_simp
  pointwise

  rfl
set_option maxHeartbeats 2000000 in
/-- The rotation's cos table, places 16 on. -/
theorem cos16_at (c : Dev nD) (n : Fin 4096) (e : Fin 16) : V m c main_v67 (ix2 n ⟨16 + e.val, by omega⟩) = Ideal.cos (ang n.val e.val) := by
  unfold V; after_reads_simp
  pointwise
  after_reads_simp
  pointwise
  try simp only [Nat.add_sub_cancel_left]
  rfl
set_option maxHeartbeats 2000000 in
/-- The rotation's sin table, places 0 on. -/
theorem sin0_at (c : Dev nD) (n : Fin 4096) (e : Fin 16) : V m c main_v70 (ix2 n ⟨e.val, by omega⟩) = Ideal.sin (ang n.val e.val) := by
  unfold V; after_reads_simp
  pointwise
  after_reads_simp
  pointwise

  rfl
set_option maxHeartbeats 2000000 in
/-- The rotation's sin table, places 16 on. -/
theorem sin16_at (c : Dev nD) (n : Fin 4096) (e : Fin 16) : V m c main_v70 (ix2 n ⟨16 + e.val, by omega⟩) = Ideal.sin (ang n.val e.val) := by
  unfold V; after_reads_simp
  pointwise
  after_reads_simp
  pointwise
  try simp only [Nat.add_sub_cancel_left]
  rfl
/-- The parity of a head, as the program computes it. -/
theorem parity : ∀ hh : Fin 8, IntOp.cmpi CmpIPredicate.eq
        (Scalar.select
          (IntOp.andi
            (IntOp.cmpi CmpIPredicate.ne
              (IntOp.cmpi CmpIPredicate.slt
                (IntOp.remsi ArithUnit.host (BitVec.ofNat 32 hh.val)
                  (Scalar.select (IntOp.cmpi CmpIPredicate.eq 2#32 0#32) 1#32 2#32))
                0#32)
              (IntOp.cmpi CmpIPredicate.slt (Scalar.select (IntOp.cmpi CmpIPredicate.eq 2#32 0#32) 1#32 2#32) 0#32))
            (IntOp.cmpi CmpIPredicate.ne
              (IntOp.remsi ArithUnit.host (BitVec.ofNat 32 hh.val)
                (Scalar.select (IntOp.cmpi CmpIPredicate.eq 2#32 0#32) 1#32 2#32))
              0#32))
          (IntOp.addi
            (IntOp.remsi ArithUnit.host (BitVec.ofNat 32 hh.val)
              (Scalar.select (IntOp.cmpi CmpIPredicate.eq 2#32 0#32) 1#32 2#32))
            (Scalar.select (IntOp.cmpi CmpIPredicate.eq 2#32 0#32) 1#32 2#32))
          (IntOp.remsi ArithUnit.host (BitVec.ofNat 32 hh.val)
            (Scalar.select (IntOp.cmpi CmpIPredicate.eq 2#32 0#32) 1#32 2#32)))
        1#32 = if hh.val % 2 = 1 then 1#1 else 0#1 := by decide +kernel

set_option maxHeartbeats 2000000 in
/-- The packed latent keys' weights: a head's rows in the half of its parity. -/
theorem V47_at (c : Dev nD) (hh : Fin 8) (k : Fin 128) (e : Fin 128) : V m c main_v47 (ix3 hh k e)
    = if h : k.val / 64 = hh.val % 2 then (inp m c).uk e hh ⟨k.val % 64, by omega⟩ else (0 : EReal) := by
  unfold V; after_reads_simp; simp only [StableHlo.TRef.toBuf, StableHlo.TRef.ofBuf, cast_eq, id]
  pointwise
  after_reads_simp
  pointwise
  rw [parity hh]
  by_cases hp : hh.val % 2 = 1
  · rw [if_pos hp]
    show (if h : k.val < 64 then (0 : EReal) else m (c, Proc.tc.devRef main_arg8) (ix3 e hh ⟨k.val - 64, _⟩)) = _
    by_cases hk : k.val < 64
    · rw [dif_pos hk, dif_neg (by omega)]
    · rw [dif_neg hk, dif_pos (by omega)]
      have hi : (⟨k.val - 64, by omega⟩ : Fin 64) = ⟨k.val % 64, by omega⟩ := Fin.ext (by show k.val - 64 = k.val % 64; omega)
      rw [hi]
      rfl
  · rw [if_neg hp]
    show (if h : k.val < 64 then m (c, Proc.tc.devRef main_arg8) (ix3 e hh ⟨k.val, _⟩) else (0 : EReal)) = _
    by_cases hk : k.val < 64
    · rw [dif_pos hk, dif_pos (by omega)]
      have hi : (⟨k.val, by omega⟩ : Fin 64) = ⟨k.val % 64, by omega⟩ := Fin.ext (by show k.val = k.val % 64; omega)
      rw [hi]
      rfl
    · rw [dif_neg hk, dif_neg (by omega)]

/-! ## The windows' blocks -/

theorem idx : ∀ t : Fin cfg0.N, win0_0.index t = ![(grid0.coords t 0).val, (grid0.coords t 1).val, 0] ∧ win0_1.index t = ![(grid0.coords t 0).val, 0, 0] ∧ win0_2.index t = ![0, 0] ∧ win0_3.index t = ![0, 0] ∧ win0_4.index t = ![0, 0] ∧ win0_5.index t = ![0, 0] ∧ win0_6.index t = ![0, 0] ∧ win0_7.index t = ![0, 0, 0] ∧ win0_8.index t = ![0, 0, 0] ∧ win0_9.index t = ![0, 0] ∧ win0_10.index t = ![(grid0.coords t 1).val, 0] ∧ win0_11.index t = ![(grid0.coords t 1).val, 0] :=
  (by decide +kernel : ∀ t : Fin grid0.N, _)

theorem odx : ∀ t : Fin cfg0.N, win0_12.index t = ![(grid0.coords t 0).val, (grid0.coords t 1).val, 0] ∧ win0_13.index t = ![(grid0.coords t 0).val, (grid0.coords t 1).val, 0] ∧ win0_15.index t = ![(grid0.coords t 0).val, (grid0.coords t 1).val, 0] ∧ win0_17.index t = ![(grid0.coords t 0).val, (grid0.coords t 1).val, 0] ∧ win0_18.index t = ![(grid0.coords t 0).val, (grid0.coords t 1).val, 0] ∧ win0_19.index t = ![(grid0.coords t 0).val, (grid0.coords t 1).val, 0] ∧ win0_21.index t = ![(grid0.coords t 0).val, (grid0.coords t 1).val, 0] ∧ win0_23.index t = ![(grid0.coords t 0).val, (grid0.coords t 1).val, 0] ∧ win0_25.index t = ![(grid0.coords t 0).val, (grid0.coords t 1).val, 0] ∧ win0_27.index t = ![(grid0.coords t 0).val, (grid0.coords t 1).val, 0] ∧ win0_28.index t = ![(grid0.coords t 0).val, (grid0.coords t 1).val, 0] ∧ win0_24.index t = ![(grid0.coords t 0).val, 0, (grid0.coords t 1).val, 0] :=
  (by decide +kernel : ∀ t : Fin grid0.N, _)

theorem cdx : ∀ t : Fin cfg0.N, (grid0.coords t 0).val < 8 ∧ (grid0.coords t 1).val < 8 := (by decide +kernel : ∀ t : Fin grid0.N, _)

/-- The row of the batch of a point. -/
def bt (t : Fin cfg0.N) : Fin 8 := ⟨(grid0.coords t 0).val, (cdx t).1⟩
/-- The row of a point at a place of its block. -/
def qt (t : Fin cfg0.N) (q : Fin 512) : Fin 4096 := ⟨512 * (grid0.coords t 1).val + q.val, by have := (cdx t).2; omega⟩

theorem ib0 (c : Dev nD) (t : Fin cfg0.N) (q : Fin 512) (k : Fin 1024) : iblk m c 0 t (ix3 0 q k) = (inp m c).x (bt t) (qt t q) k := by
  unfold inp arg0 bt qt
  blk_ext [iblk, V, idx t]
theorem ib1 (c : Dev nD) (t : Fin cfg0.N) (e : Fin 3072) : iblk m c 1 t (ix3 0 0 e) = (inp m c).md (bt t) e := by
  refine Eq.trans ?_ (V71_at m c _ e)
  unfold bt
  blk_ext [iblk, idx t]
theorem ib2 (c : Dev nD) (t : Fin cfg0.N) (e : Fin 1024) : iblk m c 2 t (ix2 0 e) = V m c main_v48 (ix2 0 e) := by
  blk_ext [iblk, idx t]
theorem ib3 (c : Dev nD) (t : Fin cfg0.N) (k : Fin 1024) (e : Fin 3072) : iblk m c 3 t (ix2 k e) = V m c main_v20 (ix2 k e) := by
  blk_ext [iblk, idx t]
theorem ib4 (c : Dev nD) (t : Fin cfg0.N) (e : Fin 128) : iblk m c 4 t (ix2 0 e) = V m c main_v25 (ix2 0 e) := by
  blk_ext [iblk, idx t]
theorem ib5 (c : Dev nD) (t : Fin cfg0.N) (e : Fin 256) : iblk m c 5 t (ix2 0 e) = V m c main_v49 (ix2 0 e) := by
  blk_ext [iblk, idx t]
theorem ib6 (c : Dev nD) (t : Fin cfg0.N) (k : Fin 256) (e : Fin 512) : iblk m c 6 t (ix2 k e) = V m c main_v29 (ix2 k e) := by
  blk_ext [iblk, idx t]
theorem ib7 (c : Dev nD) (t : Fin cfg0.N) (hh : Fin 8) (k : Fin 256) (e : Fin 256) : iblk m c 7 t (ix3 hh k e) = V m c main_v36 (ix3 hh k e) := by
  blk_ext [iblk, idx t]
theorem ib8 (c : Dev nD) (t : Fin cfg0.N) (hh : Fin 8) (k e : Fin 128) : iblk m c 8 t (ix3 hh k e) = V m c main_v47 (ix3 hh k e) := by
  blk_ext [iblk, idx t]
theorem ib9 (c : Dev nD) (t : Fin cfg0.N) (e : Fin 128) : iblk m c 9 t (ix2 0 e) = V m c main_v50 (ix2 0 e) := by
  blk_ext [iblk, idx t]
theorem ib10 (c : Dev nD) (t : Fin cfg0.N) (q : Fin 512) (e : Fin 128) : iblk m c 10 t (ix2 q e) = V m c main_v67 (ix2 (qt t q) e) := by
  unfold qt
  blk_ext [iblk, idx t]
theorem ib11 (c : Dev nD) (t : Fin cfg0.N) (q : Fin 512) (e : Fin 128) : iblk m c 11 t (ix2 q e) = V m c main_v70 (ix2 (qt t q) e) := by
  unfold qt
  blk_ext [iblk, idx t]

end Cert.Kernel2Ideal.Out
end
-- ==== Proof.KI2.Pay.lean ====
module

public import proofs.«01_k».proof.Proof.KI2.Run
public import proofs.«01_k».proof.Proof.Spec2
public import Idealize.ShloMosaic.Lib.WordCmp
public import Idealize.ShloMosaic.Lib.Pipeline.Value
public import Idealize.ShloMosaic.Lib.Pipeline.ValueKit
public import Idealize.ShloMosaic.Lib.StableHlo.RunRead

/-! The projection's stored values, each read at an index of the blocks. -/

@[expose] public section

set_option maxRecDepth 16384

noncomputable section

namespace Cert.Kernel2Ideal.Out

open Cert.Kernel2Ideal Cert.Kernel2Ideal.Gen Cert.Kernel2Ideal.Prj Cert.Maths
open Idealize.ShloMosaic Idealize.ShloMosaic.TcCoe Idealize.ShloMosaic.Tactic
open Idealize.SL.Sem

/-- The modulated rows. -/
theorem h_at (x0 : Vec Ideal S1x512x1024 .f32) (x1 : Vec Ideal S1x1x3072 .f32) (x2 : Vec Ideal S1x1024 .f32) (n : Fin 512) (e : Fin 1024) :
    (k0_pay3 (F := Ideal) (View.ld x0 r0_0) (View.ld x1 r0_1) (View.ld x2 r0_2) (ix2 n e) : EReal)
      = x0 (ix3 0 n e) * nrm (fun k : Fin 1024 => (x0 (ix3 0 n k) : EReal)) (Ideal.ofBits FTy.f32 1149239296#32) * x2 (ix2 0 e)
        * (1 + x1 (ix3 0 0 ⟨1024 + e.val, by omega⟩)) + x1 (ix3 0 0 ⟨e.val, by omega⟩) := by
  pointwise [k0_pay3]
  rfl

/-- The first product, scaled. -/
theorem p12_at (x0 : Vec Ideal S1x512x1024 .f32) (x1 : Vec Ideal S1x1x3072 .f32) (x2 : Vec Ideal S1x1024 .f32) (x3 : Vec Ideal S1024x3072 .bf16) (n : Fin 512) (e : Fin 256) :
    (k0_pay4 (F := Ideal) (View.ld x0 r0_0) (View.ld x1 r0_1) (View.ld x2 r0_2) (View.ld x3 r0_3) (ix3 0 n e) : EReal)
      = (∑ k : Fin 1024, (k0_pay3 (F := Ideal) (View.ld x0 r0_0) (View.ld x1 r0_1) (View.ld x2 r0_2) (ix2 n k) : EReal) * x3 (ix2 k ⟨e.val, by omega⟩))
        * Ideal.ofBits FTy.f32 1040187392#32 := by
  pointwise [k0_pay4]

/-- The product that window 13 stores. -/
theorem p13_at (h : FVec Ideal S512x1024 .bf16) (x3 : Vec Ideal S1024x3072 .bf16) (n : Fin 512) (e : Fin 256) :
    (k0_pay6 h (View.ld x3 r0_5) (ix3 0 n e) : EReal) = ∑ k : Fin 1024, (h (ix2 n k) : EReal) * x3 (ix2 k ⟨256 + e.val, by omega⟩) := by
  pointwise [k0_pay6, k0_pay5]

/-- The product that window 15 stores. -/
theorem p15_at (h : FVec Ideal S512x1024 .bf16) (x3 : Vec Ideal S1024x3072 .bf16) (n : Fin 512) (e : Fin 256) :
    (k0_pay9 h (View.ld x3 r0_6) (ix3 0 n e) : EReal) = ∑ k : Fin 1024, (h (ix2 n k) : EReal) * x3 (ix2 k ⟨512 + e.val, by omega⟩) := by
  pointwise [k0_pay9, k0_pay8]

/-- The product that window 17 stores. -/
theorem p17_at (h : FVec Ideal S512x1024 .bf16) (x3 : Vec Ideal S1024x3072 .bf16) (n : Fin 512) (e : Fin 256) :
    (k0_pay13 (k0_pay12 h (View.ld x3 r0_8)) (ix3 0 n e) : EReal) = ∑ k : Fin 1024, (h (ix2 n k) : EReal) * x3 (ix2 k ⟨768 + e.val, by omega⟩) := by
  pointwise [k0_pay13, k0_pay12, k0_pay11]

/-- The product that window 18 stores. -/
theorem p18_at (h : FVec Ideal S512x1024 .bf16) (x3 : Vec Ideal S1024x3072 .bf16) (n : Fin 512) (e : Fin 256) :
    (k0_pay14 h (View.ld x3 r0_9) (ix3 0 n e) : EReal) = (∑ k : Fin 1024, (h (ix2 n k) : EReal) * x3 (ix2 k ⟨1024 + e.val, by omega⟩)) * Ideal.ofBits FTy.f32 1040187392#32 := by
  pointwise [k0_pay14]

/-- The product that window 19 stores. -/
theorem p19_at (h : FVec Ideal S512x1024 .bf16) (x3 : Vec Ideal S1024x3072 .bf16) (n : Fin 512) (e : Fin 256) :
    (k0_pay16 h (View.ld x3 r0_10) (ix3 0 n e) : EReal) = ∑ k : Fin 1024, (h (ix2 n k) : EReal) * x3 (ix2 k ⟨1280 + e.val, by omega⟩) := by
  pointwise [k0_pay16, k0_pay15]

/-- The product that window 21 stores. -/
theorem p21_at (h : FVec Ideal S512x1024 .bf16) (x3 : Vec Ideal S1024x3072 .bf16) (n : Fin 512) (e : Fin 256) :
    (k0_pay19 h (View.ld x3 r0_11) (ix3 0 n e) : EReal) = ∑ k : Fin 1024, (h (ix2 n k) : EReal) * x3 (ix2 k ⟨1536 + e.val, by omega⟩) := by
  pointwise [k0_pay19, k0_pay18]

/-- The product that window 23 stores. -/
theorem p23_at (h : FVec Ideal S512x1024 .bf16) (x3 : Vec Ideal S1024x3072 .bf16) (n : Fin 512) (e : Fin 256) :
    (k0_pay22 h (View.ld x3 r0_12) (ix3 0 n e) : EReal) = ∑ k : Fin 1024, (h (ix2 n k) : EReal) * x3 (ix2 k ⟨1792 + e.val, by omega⟩) := by
  pointwise [k0_pay22, k0_pay21]

/-- The product that window 27 stores. -/
theorem p27_at (h : FVec Ideal S512x1024 .bf16) (x3 : Vec Ideal S1024x3072 .bf16) (n : Fin 512) (e : Fin 512) :
    (k0_pay23 h (View.ld x3 r0_13) (ix3 0 n e) : EReal) = ∑ k : Fin 1024, (h (ix2 n k) : EReal) * x3 (ix2 k ⟨2560 + e.val, by omega⟩) := by
  pointwise [k0_pay23]

/-- The latent's and the group's products. -/
theorem g_at (h : FVec Ideal S512x1024 .bf16) (x3 : Vec Ideal S1024x3072 .bf16) (n : Fin 512) (e : Fin 256) :
    (k0_pay26 h (View.ld x3 r0_16) (ix2 n e) : EReal) = ∑ k : Fin 1024, (h (ix2 n k) : EReal) * x3 (ix2 k ⟨2304 + e.val, by omega⟩) := by
  pointwise [k0_pay26]

/-- The rotation's tables, as blocks. -/
theorem ct_at (x : Vec Ideal S512x128 .f32) (n : Fin 512) (e : Fin 128) : (k0_pay24 (F := Ideal) (View.ld x r0_15) (ix2 n e) : EReal) = x (ix2 n e) := by
  pointwise [k0_pay24]
theorem st_at (x : Vec Ideal S512x128 .f32) (n : Fin 512) (e : Fin 128) : (k0_pay25 (F := Ideal) (View.ld x r0_15) (ix2 n e) : EReal) = x (ix2 n e) := by
  pointwise [k0_pay25]

/-- The normalized latent. -/
theorem p25_at (h : FVec Ideal S512x1024 .bf16) (x3 : Vec Ideal S1024x3072 .bf16) (x9 : Vec Ideal S1x128 .f32) (n : Fin 512) (e : Fin 128) :
    (k0_pay31 (k0_pay27 h (View.ld x3 r0_16)) (k0_pay28 (View.ld x9 r0_17)) (k0_pay29 h (View.ld x3 r0_16)) (Scalar.ofBits .f32 0x43000000#32) (ix3 0 n e) : EReal)
      = (∑ k : Fin 1024, (h (ix2 n k) : EReal) * x3 (ix2 k ⟨2304 + e.val, by omega⟩))
        * nrm (fun j : Fin 128 => ∑ k : Fin 1024, (h (ix2 n k) : EReal) * x3 (ix2 k ⟨2304 + j.val, by omega⟩)) (Ideal.ofBits FTy.f32 1124073472#32) * x9 (ix2 0 e) := by
  pointwise [k0_pay31, k0_pay30, k0_pay27, k0_pay28, k0_pay29, k0_pay26]
  rfl

/-- The group's block: the rotated key in the first lanes, the forget gate's logarithm in the others. -/
theorem p28_at (ct st : FVec Ideal S512x128 .f32) (g : FVec Ideal S512x256 .f32) (x4 : Vec Ideal S1x128 .f32) (n : Fin 512) (e : Fin 128) :
    (k0_pay36 (k0_pay35 ct st g (View.ld x4 r0_17)) (ix3 0 n e) : EReal)
      = if e.val < 32 then g (ix2 n ⟨128 + e.val, by omega⟩) * ct (ix2 n e) + g (ix2 n ⟨128 + (e.val + 128 - 64) % 128, by omega⟩) * st (ix2 n e)
        else logsig (g (ix2 n ⟨128 + e.val, by omega⟩) + x4 (ix2 0 e)) := by
  pointwise [k0_pay36, k0_pay35, k0_pay34, k0_pay33]
  have hc : IntOp.cmpi .slt (BitVec.ofNat 32 e.val) 32#32 = if e.val < 32 then 1#1 else 0#1 :=
    (by decide +kernel : ∀ e : Fin 128, IntOp.cmpi .slt (BitVec.ofNat 32 e.val) 32#32 = if e.val < 32 then 1#1 else 0#1) e
  rw [hc]
  by_cases h : e.val < 32
  · rw [if_pos h, if_pos h]
    rfl
  · rw [if_neg h, if_neg h]
    rfl

/-- The normalized query latent. -/
theorem cq_at (h : FVec Ideal S512x1024 .bf16) (x3 : Vec Ideal S1024x3072 .bf16) (x5 : Vec Ideal S1x256 .f32) (n : Fin 512) (e : Fin 256) :
    (k0_pay38 h (View.ld x3 r0_20) (View.ld x5 r0_21) (ix2 n e) : EReal)
      = (∑ k : Fin 1024, (h (ix2 n k) : EReal) * x3 (ix2 k ⟨2048 + e.val, by omega⟩))
        * nrm (fun j : Fin 256 => ∑ k : Fin 1024, (h (ix2 n k) : EReal) * x3 (ix2 k ⟨2048 + j.val, by omega⟩)) (Ideal.ofBits FTy.f32 1132462080#32) * x5 (ix2 0 e) := by
  pointwise [k0_pay38]
  rfl

/-- The unrotated queries of every head. -/
theorem qn_at (h : FVec Ideal S512x1024 .bf16) (x3 : Vec Ideal S1024x3072 .bf16) (x5 : Vec Ideal S1x256 .f32) (x6 : Vec Ideal S256x512 .bf16) (n : Fin 512) (e : Fin 512) :
    (k0_pay39 h (View.ld x3 r0_20) (View.ld x5 r0_21) (View.ld x6 r0_22) (ix2 n e) : EReal)
      = ∑ k : Fin 256, (k0_pay38 h (View.ld x3 r0_20) (View.ld x5 r0_21) (ix2 n k) : EReal) * x6 (ix2 k e) := by
  pointwise [k0_pay39]

/-- A head's latent query and rotated query, from the unrotated queries' block `s`. -/
def hd (ct st : FVec Ideal S512x128 .f32) (cq : FVec Ideal S512x256 .bf16) (qn : FVec Ideal S512x512 .bf16) (x8 : Vec Ideal S8x128x128 .bf16) (x7 : Vec Ideal S8x256x256 .bf16)
    (hh : Fin 8) (n : Fin 512) (e : Fin 256) : EReal :=
  if h : e.val < 128 then ∑ k : Fin 128, (qn (ix2 n ⟨128 * (hh.val / 2) + k.val, by omega⟩) : EReal) * x8 (ix3 hh k ⟨e.val, h⟩)
  else (∑ k : Fin 256, (cq (ix2 n k) : EReal) * x7 (ix3 hh k ⟨e.val - 128, by omega⟩)) * ct (ix2 n ⟨e.val - 128, by omega⟩)
    + (∑ k : Fin 256, (cq (ix2 n k) : EReal) * x7 (ix3 hh k ⟨128 + (e.val - 128), by omega⟩)) * st (ix2 n ⟨e.val - 128, by omega⟩)

/-- The block that head 0 stores. -/
theorem hd0_at (ct st : FVec Ideal S512x128 .f32) (cq : FVec Ideal S512x256 .bf16) (h : FVec Ideal S512x1024 .bf16) (x3 : Vec Ideal S1024x3072 .bf16) (x5 : Vec Ideal S1x256 .f32) (x6 : Vec Ideal S256x512 .bf16)
    (x8 : Vec Ideal S8x128x128 .bf16) (x7 : Vec Ideal S8x256x256 .bf16) (n : Fin 512) (e : Fin 256) :
    (k0_pay41 ct st cq (k0_pay40 h (View.ld x3 r0_20) (View.ld x5 r0_21) (View.ld x6 r0_22)) (View.ld x8 r0_23) (View.ld x7 r0_24) (ix4 0 0 n e) : EReal) = hd ct st cq (k0_pay39 h (View.ld x3 r0_20) (View.ld x5 r0_21) (View.ld x6 r0_22)) x8 x7 0 n e := by
  pointwise [k0_pay41, k0_pay40]
  unfold hd
  simp only [qn_at, Fin.val_zero, Nat.zero_div, Nat.mul_zero, Nat.zero_add]

/-- The block that head 1 stores. -/
theorem hd1_at (ct st : FVec Ideal S512x128 .f32) (cq : FVec Ideal S512x256 .bf16) (qn : FVec Ideal S512x512 .bf16)
    (x8 : Vec Ideal S8x128x128 .bf16) (x7 : Vec Ideal S8x256x256 .bf16) (n : Fin 512) (e : Fin 256) :
    (k0_pay42 ct st cq qn (View.ld x8 r0_26) (View.ld x7 r0_27) (ix4 0 0 n e) : EReal) = hd ct st cq qn x8 x7 1 n e := by
  pointwise [k0_pay42]
  rfl

/-- The block that head 2 stores. -/
theorem hd2_at (ct st : FVec Ideal S512x128 .f32) (cq : FVec Ideal S512x256 .bf16) (qn : FVec Ideal S512x512 .bf16)
    (x8 : Vec Ideal S8x128x128 .bf16) (x7 : Vec Ideal S8x256x256 .bf16) (n : Fin 512) (e : Fin 256) :
    (k0_pay44 ct st cq (k0_pay43 qn) (View.ld x8 r0_29) (View.ld x7 r0_30) (ix4 0 0 n e) : EReal) = hd ct st cq qn x8 x7 2 n e := by
  pointwise [k0_pay44, k0_pay43]
  rfl

/-- The block that head 3 stores. -/
theorem hd3_at (ct st : FVec Ideal S512x128 .f32) (cq : FVec Ideal S512x256 .bf16) (qn : FVec Ideal S512x512 .bf16)
    (x8 : Vec Ideal S8x128x128 .bf16) (x7 : Vec Ideal S8x256x256 .bf16) (n : Fin 512) (e : Fin 256) :
    (k0_pay45 ct st cq qn (View.ld x8 r0_32) (View.ld x7 r0_33) (ix4 0 0 n e) : EReal) = hd ct st cq qn x8 x7 3 n e := by
  pointwise [k0_pay45]
  rfl

/-- The block that head 4 stores. -/
theorem hd4_at (ct st : FVec Ideal S512x128 .f32) (cq : FVec Ideal S512x256 .bf16) (qn : FVec Ideal S512x512 .bf16)
    (x8 : Vec Ideal S8x128x128 .bf16) (x7 : Vec Ideal S8x256x256 .bf16) (n : Fin 512) (e : Fin 256) :
    (k0_pay48 ct st cq (k0_pay46 qn) (k0_pay47 (View.ld x8 r0_35)) (constant S512x128 .f32 0#32) (View.ld x7 r0_36) (ix4 0 0 n e) : EReal) = hd ct st cq qn x8 x7 4 n e := by
  pointwise [k0_pay48, k0_pay46, k0_pay47]
  rfl

/-- The block that head 5 stores. -/
theorem hd5_at (ct st : FVec Ideal S512x128 .f32) (cq : FVec Ideal S512x256 .bf16) (qn : FVec Ideal S512x512 .bf16)
    (x8 : Vec Ideal S8x128x128 .bf16) (x7 : Vec Ideal S8x256x256 .bf16) (n : Fin 512) (e : Fin 256) :
    (k0_pay49 ct st cq qn (View.ld x8 r0_38) (View.ld x7 r0_39) (ix4 0 0 n e) : EReal) = hd ct st cq qn x8 x7 5 n e := by
  pointwise [k0_pay49]
  rfl

/-- The block that head 6 stores. -/
theorem hd6_at (ct st : FVec Ideal S512x128 .f32) (cq : FVec Ideal S512x256 .bf16) (qn : FVec Ideal S512x512 .bf16)
    (x8 : Vec Ideal S8x128x128 .bf16) (x7 : Vec Ideal S8x256x256 .bf16) (n : Fin 512) (e : Fin 256) :
    (k0_pay1 ct st cq (k0_pay50 qn (View.ld x8 r0_41)) (View.ld x7 r0_42) (ix4 0 0 n e) : EReal) = hd ct st cq qn x8 x7 6 n e := by
  pointwise [k0_pay1, k0_pay50]
  rfl

/-- The block that head 7 stores. -/
theorem hd7_at (ct st : FVec Ideal S512x128 .f32) (cq : FVec Ideal S512x256 .bf16) (qn : FVec Ideal S512x512 .bf16)
    (x8 : Vec Ideal S8x128x128 .bf16) (x7 : Vec Ideal S8x256x256 .bf16) (n : Fin 512) (e : Fin 256) :
    (k0_pay2 ct st cq qn (View.ld x8 r0_44) (View.ld x7 r0_45) (ix4 0 0 n e) : EReal) = hd ct st cq qn x8 x7 7 n e := by
  pointwise [k0_pay2]
  rfl

end Cert.Kernel2Ideal.Out
end
-- ==== Proof.KI2.Final.lean ====
module

public import proofs.«01_k».proof.Proof.KI2.Args
public import proofs.«01_k».proof.Proof.KI2.Pay

/-! The projection's arrays after the run. -/

@[expose] public section

set_option maxRecDepth 16384

noncomputable section

namespace Cert.Kernel2Ideal.Out

open Cert.Kernel2Ideal Cert.Kernel2Ideal.Gen Cert.Kernel2Ideal.Prj Cert.Maths
open Idealize.ShloMosaic Idealize.ShloMosaic.TcCoe Idealize.ShloMosaic.Tactic
open Idealize.SL.Sem

variable (m : (ℓ : Loc nD τ sig) → Buf (Elt Ideal) ℓ)

/-- The modulated rows of a point. -/
def H (c : Dev nD) (t : Fin cfg0.N) : FVec Ideal S512x1024 .bf16 :=
  k0_pay3 (View.ld (iblk m c 0 t) r0_0) (View.ld (iblk m c 1 t) r0_1) (View.ld (iblk m c 2 t) r0_2)

theorem H_at (c : Dev nD) (t : Fin cfg0.N) (n : Fin 512) (e : Fin 1024) : (H m c t (ix2 n e) : EReal) = (inp m c).h (bt t) (qt t n) e := by
  refine (h_at _ _ _ n e).trans ?_
  simp only [ib0, ib1]
  rw [ib2, V48_at]
  rfl

/-- A product of the modulated rows with a column of the packed weights. -/
theorem pr_at (c : Dev nD) (t : Fin cfg0.N) (n : Fin 512) (j : Fin 3072) (i : Fin 2980) (hw : ∀ k, V m c main_v20 (ix2 k j) = (inp m c).w k i) :
    (∑ k : Fin 1024, (H m c t (ix2 n k) : EReal) * iblk m c 3 t (ix2 k j)) = (inp m c).pr (bt t) (qt t n) i :=
  Finset.sum_congr rfl fun k _ => congrArg₂ (· * ·) (H_at m c t n k) ((ib3 m c t k j).trans (hw k))

/-- The block a point stores in window 12 is the body's one store. -/
theorem out12_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_12 x0 x1 x2 x3 x4 x5 x6 x7 x8 x9 x10 x11 = k0_pay4 (View.ld x0 r0_0) (View.ld x1 r0_1) (View.ld x2 r0_2) (View.ld x3 r0_3) := by
  unfold out0_12
  exact View.canon_unit_zero (by decide) _ _

/-- The array of window 12. -/
def f12 (c : Dev nD) (b : Fin 8) (n : Fin 4096) (e : Fin 256) : EReal := (inp m c).sc b n ⟨e.val, by omega⟩

/-- The block a point stores in window 12, at an index. -/
theorem block12 (c : Dev nD) (t : Fin cfg0.N) (n : Fin 512) (e : Fin 256) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f12 m c (bt t) (qt t n) e := by
  rw [out12_eq]
  exact (p12_at _ _ _ _ n e).trans (congrArg (fun z : EReal => z * Ideal.ofBits FTy.f32 1040187392#32) (pr_at m c t n _ _ (w0_at m c · e)))

/-- Window 12's array after the run. -/
theorem final12 (c : Dev nD) : (dats m 0 c).arrAt 12 (cfgs 0).N
    = fun j : S8x4096x256.Idx => f12 m c (j 0) (j 1) (j 2) := by
  refine (dats m 0 c).arrAt_eq_of_covers 12 _ (by decide +kernel) fun t _ y => ?_
  blk_simp
  rw [after0_12]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block12 m c t (y 1) (y 2)).trans ?_)
  have e0 : bt t = (win0_12.blk t).view.emb y 0 := Fin.ext (by blk_simp [odx t]; show (grid0.coords t 0).val = _; omega)
  have e1 : qt t (y 1) = (win0_12.blk t).view.emb y 1 := Fin.ext (by blk_simp [odx t]; show 512 * (grid0.coords t 1).val + (y 1).val = _; omega)
  have e2 : y 2 = (win0_12.blk t).view.emb y 2 := Fin.ext (by blk_simp [odx t])
  rw [e0, e1]
  exact congrArg _ e2

/-- The block a point stores in window 13 is the body's one store. -/
theorem out13_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_13 x0 x1 x2 x3 x4 x5 x6 x7 x8 x9 x10 x11 = k0_pay6 (k0_pay3 (View.ld x0 r0_0) (View.ld x1 r0_1) (View.ld x2 r0_2)) (View.ld x3 r0_5) := by
  unfold out0_13
  exact View.canon_unit_zero (by decide) _ _

/-- The array of window 13. -/
def f13 (c : Dev nD) (b : Fin 8) (n : Fin 4096) (e : Fin 256) : EReal := (inp m c).pr b n ⟨256 + e.val, by omega⟩

/-- The block a point stores in window 13, at an index. -/
theorem block13 (c : Dev nD) (t : Fin cfg0.N) (n : Fin 512) (e : Fin 256) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f13 m c (bt t) (qt t n) e := by
  rw [out13_eq]
  exact (p13_at _ _ n e).trans (pr_at m c t n _ _ (w256_at m c · e))

/-- Window 13's array after the run. -/
theorem final13 (c : Dev nD) : (dats m 0 c).arrAt 13 (cfgs 0).N
    = fun j : S8x4096x256.Idx => f13 m c (j 0) (j 1) (j 2) := by
  refine (dats m 0 c).arrAt_eq_of_covers 13 _ (by decide +kernel) fun t _ y => ?_
  blk_simp
  rw [after0_13]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block13 m c t (y 1) (y 2)).trans ?_)
  have e0 : bt t = (win0_13.blk t).view.emb y 0 := Fin.ext (by blk_simp [odx t]; show (grid0.coords t 0).val = _; omega)
  have e1 : qt t (y 1) = (win0_13.blk t).view.emb y 1 := Fin.ext (by blk_simp [odx t]; show 512 * (grid0.coords t 1).val + (y 1).val = _; omega)
  have e2 : y 2 = (win0_13.blk t).view.emb y 2 := Fin.ext (by blk_simp [odx t])
  rw [e0, e1]
  exact congrArg _ e2

/-- The block a point stores in window 15 is the body's one store. -/
theorem out15_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_15 x0 x1 x2 x3 x4 x5 x6 x7 x8 x9 x10 x11 = k0_pay9 (k0_pay3 (View.ld x0 r0_0) (View.ld x1 r0_1) (View.ld x2 r0_2)) (View.ld x3 r0_6) := by
  unfold out0_15
  exact View.canon_unit_zero (by decide) _ _

/-- The array of window 15. -/
def f15 (c : Dev nD) (b : Fin 8) (n : Fin 4096) (e : Fin 256) : EReal := (inp m c).pr b n ⟨512 + e.val, by omega⟩

/-- The block a point stores in window 15, at an index. -/
theorem block15 (c : Dev nD) (t : Fin cfg0.N) (n : Fin 512) (e : Fin 256) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f15 m c (bt t) (qt t n) e := by
  rw [out15_eq]
  exact (p15_at _ _ n e).trans (pr_at m c t n _ _ (w512_at m c · e))

/-- Window 15's array after the run. -/
theorem final15 (c : Dev nD) : (dats m 0 c).arrAt 15 (cfgs 0).N
    = fun j : S8x4096x256.Idx => f15 m c (j 0) (j 1) (j 2) := by
  refine (dats m 0 c).arrAt_eq_of_covers 15 _ (by decide +kernel) fun t _ y => ?_
  blk_simp
  rw [after0_15]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block15 m c t (y 1) (y 2)).trans ?_)
  have e0 : bt t = (win0_15.blk t).view.emb y 0 := Fin.ext (by blk_simp [odx t]; show (grid0.coords t 0).val = _; omega)
  have e1 : qt t (y 1) = (win0_15.blk t).view.emb y 1 := Fin.ext (by blk_simp [odx t]; show 512 * (grid0.coords t 1).val + (y 1).val = _; omega)
  have e2 : y 2 = (win0_15.blk t).view.emb y 2 := Fin.ext (by blk_simp [odx t])
  rw [e0, e1]
  exact congrArg _ e2

/-- The block a point stores in window 17 is the body's one store. -/
theorem out17_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_17 x0 x1 x2 x3 x4 x5 x6 x7 x8 x9 x10 x11 = k0_pay13 (k0_pay12 (k0_pay3 (View.ld x0 r0_0) (View.ld x1 r0_1) (View.ld x2 r0_2)) (View.ld x3 r0_8)) := by
  unfold out0_17
  exact View.canon_unit_zero (by decide) _ _

/-- The array of window 17. -/
def f17 (c : Dev nD) (b : Fin 8) (n : Fin 4096) (e : Fin 256) : EReal := (inp m c).pr b n ⟨772 + e.val, by omega⟩

/-- The block a point stores in window 17, at an index. -/
theorem block17 (c : Dev nD) (t : Fin cfg0.N) (n : Fin 512) (e : Fin 256) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f17 m c (bt t) (qt t n) e := by
  rw [out17_eq]
  exact (p17_at _ _ n e).trans (pr_at m c t n _ _ (w768_at m c · e))

/-- Window 17's array after the run. -/
theorem final17 (c : Dev nD) : (dats m 0 c).arrAt 17 (cfgs 0).N
    = fun j : S8x4096x256.Idx => f17 m c (j 0) (j 1) (j 2) := by
  refine (dats m 0 c).arrAt_eq_of_covers 17 _ (by decide +kernel) fun t _ y => ?_
  blk_simp
  rw [after0_17]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block17 m c t (y 1) (y 2)).trans ?_)
  have e0 : bt t = (win0_17.blk t).view.emb y 0 := Fin.ext (by blk_simp [odx t]; show (grid0.coords t 0).val = _; omega)
  have e1 : qt t (y 1) = (win0_17.blk t).view.emb y 1 := Fin.ext (by blk_simp [odx t]; show 512 * (grid0.coords t 1).val + (y 1).val = _; omega)
  have e2 : y 2 = (win0_17.blk t).view.emb y 2 := Fin.ext (by blk_simp [odx t])
  rw [e0, e1]
  exact congrArg _ e2

/-- The block a point stores in window 18 is the body's one store. -/
theorem out18_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_18 x0 x1 x2 x3 x4 x5 x6 x7 x8 x9 x10 x11 = k0_pay14 (k0_pay3 (View.ld x0 r0_0) (View.ld x1 r0_1) (View.ld x2 r0_2)) (View.ld x3 r0_9) := by
  unfold out0_18
  exact View.canon_unit_zero (by decide) _ _

/-- The array of window 18. -/
def f18 (c : Dev nD) (b : Fin 8) (n : Fin 4096) (e : Fin 256) : EReal := (inp m c).sc b n ⟨1028 + e.val, by omega⟩

/-- The block a point stores in window 18, at an index. -/
theorem block18 (c : Dev nD) (t : Fin cfg0.N) (n : Fin 512) (e : Fin 256) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f18 m c (bt t) (qt t n) e := by
  rw [out18_eq]
  exact (p18_at _ _ n e).trans (congrArg (fun z : EReal => z * Ideal.ofBits FTy.f32 1040187392#32) (pr_at m c t n _ _ (w1024_at m c · e)))

/-- Window 18's array after the run. -/
theorem final18 (c : Dev nD) : (dats m 0 c).arrAt 18 (cfgs 0).N
    = fun j : S8x4096x256.Idx => f18 m c (j 0) (j 1) (j 2) := by
  refine (dats m 0 c).arrAt_eq_of_covers 18 _ (by decide +kernel) fun t _ y => ?_
  blk_simp
  rw [after0_18]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block18 m c t (y 1) (y 2)).trans ?_)
  have e0 : bt t = (win0_18.blk t).view.emb y 0 := Fin.ext (by blk_simp [odx t]; show (grid0.coords t 0).val = _; omega)
  have e1 : qt t (y 1) = (win0_18.blk t).view.emb y 1 := Fin.ext (by blk_simp [odx t]; show 512 * (grid0.coords t 1).val + (y 1).val = _; omega)
  have e2 : y 2 = (win0_18.blk t).view.emb y 2 := Fin.ext (by blk_simp [odx t])
  rw [e0, e1]
  exact congrArg _ e2

/-- The block a point stores in window 19 is the body's one store. -/
theorem out19_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_19 x0 x1 x2 x3 x4 x5 x6 x7 x8 x9 x10 x11 = k0_pay16 (k0_pay3 (View.ld x0 r0_0) (View.ld x1 r0_1) (View.ld x2 r0_2)) (View.ld x3 r0_10) := by
  unfold out0_19
  exact View.canon_unit_zero (by decide) _ _

/-- The array of window 19. -/
def f19 (c : Dev nD) (b : Fin 8) (n : Fin 4096) (e : Fin 256) : EReal := (inp m c).pr b n ⟨1284 + e.val, by omega⟩

/-- The block a point stores in window 19, at an index. -/
theorem block19 (c : Dev nD) (t : Fin cfg0.N) (n : Fin 512) (e : Fin 256) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f19 m c (bt t) (qt t n) e := by
  rw [out19_eq]
  exact (p19_at _ _ n e).trans (pr_at m c t n _ _ (w1280_at m c · e))

/-- Window 19's array after the run. -/
theorem final19 (c : Dev nD) : (dats m 0 c).arrAt 19 (cfgs 0).N
    = fun j : S8x4096x256.Idx => f19 m c (j 0) (j 1) (j 2) := by
  refine (dats m 0 c).arrAt_eq_of_covers 19 _ (by decide +kernel) fun t _ y => ?_
  blk_simp
  rw [after0_19]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block19 m c t (y 1) (y 2)).trans ?_)
  have e0 : bt t = (win0_19.blk t).view.emb y 0 := Fin.ext (by blk_simp [odx t]; show (grid0.coords t 0).val = _; omega)
  have e1 : qt t (y 1) = (win0_19.blk t).view.emb y 1 := Fin.ext (by blk_simp [odx t]; show 512 * (grid0.coords t 1).val + (y 1).val = _; omega)
  have e2 : y 2 = (win0_19.blk t).view.emb y 2 := Fin.ext (by blk_simp [odx t])
  rw [e0, e1]
  exact congrArg _ e2

/-- The block a point stores in window 21 is the body's one store. -/
theorem out21_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_21 x0 x1 x2 x3 x4 x5 x6 x7 x8 x9 x10 x11 = k0_pay19 (k0_pay3 (View.ld x0 r0_0) (View.ld x1 r0_1) (View.ld x2 r0_2)) (View.ld x3 r0_11) := by
  unfold out0_21
  exact View.canon_unit_zero (by decide) _ _

/-- The array of window 21. -/
def f21 (c : Dev nD) (b : Fin 8) (n : Fin 4096) (e : Fin 256) : EReal := (inp m c).pr b n ⟨1540 + e.val, by omega⟩

/-- The block a point stores in window 21, at an index. -/
theorem block21 (c : Dev nD) (t : Fin cfg0.N) (n : Fin 512) (e : Fin 256) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f21 m c (bt t) (qt t n) e := by
  rw [out21_eq]
  exact (p21_at _ _ n e).trans (pr_at m c t n _ _ (w1536_at m c · e))

/-- Window 21's array after the run. -/
theorem final21 (c : Dev nD) : (dats m 0 c).arrAt 21 (cfgs 0).N
    = fun j : S8x4096x256.Idx => f21 m c (j 0) (j 1) (j 2) := by
  refine (dats m 0 c).arrAt_eq_of_covers 21 _ (by decide +kernel) fun t _ y => ?_
  blk_simp
  rw [after0_21]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block21 m c t (y 1) (y 2)).trans ?_)
  have e0 : bt t = (win0_21.blk t).view.emb y 0 := Fin.ext (by blk_simp [odx t]; show (grid0.coords t 0).val = _; omega)
  have e1 : qt t (y 1) = (win0_21.blk t).view.emb y 1 := Fin.ext (by blk_simp [odx t]; show 512 * (grid0.coords t 1).val + (y 1).val = _; omega)
  have e2 : y 2 = (win0_21.blk t).view.emb y 2 := Fin.ext (by blk_simp [odx t])
  rw [e0, e1]
  exact congrArg _ e2

/-- The block a point stores in window 23 is the body's one store. -/
theorem out23_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_23 x0 x1 x2 x3 x4 x5 x6 x7 x8 x9 x10 x11 = k0_pay22 (k0_pay3 (View.ld x0 r0_0) (View.ld x1 r0_1) (View.ld x2 r0_2)) (View.ld x3 r0_12) := by
  unfold out0_23
  exact View.canon_unit_zero (by decide) _ _

/-- The array of window 23. -/
def f23 (c : Dev nD) (b : Fin 8) (n : Fin 4096) (e : Fin 256) : EReal := (inp m c).pr b n ⟨1796 + e.val, by omega⟩

/-- The block a point stores in window 23, at an index. -/
theorem block23 (c : Dev nD) (t : Fin cfg0.N) (n : Fin 512) (e : Fin 256) :
    (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f23 m c (bt t) (qt t n) e := by
  rw [out23_eq]
  exact (p23_at _ _ n e).trans (pr_at m c t n _ _ (w1792_at m c · e))

/-- Window 23's array after the run. -/
theorem final23 (c : Dev nD) : (dats m 0 c).arrAt 23 (cfgs 0).N
    = fun j : S8x4096x256.Idx => f23 m c (j 0) (j 1) (j 2) := by
  refine (dats m 0 c).arrAt_eq_of_covers 23 _ (by decide +kernel) fun t _ y => ?_
  blk_simp
  rw [after0_23]
  have h0 : (y 0).val < 1 := (y 0).isLt
  have h2 : (y 2).val < 256 := (y 2).isLt
  have hy : y = (ix3 0 (y 1) (y 2) : S1x512x256.Idx) := by
    funext a
    fin_cases a
    · exact Fin.ext (Nat.lt_one_iff.mp h0)
    · rfl
    · rfl
  refine (congrArg (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block23 m c t (y 1) (y 2)).trans ?_)
  have e0 : bt t = (win0_23.blk t).view.emb y 0 := Fin.ext (by blk_simp [odx t]; show (grid0.coords t 0).val = _; omega)
  have e1 : qt t (y 1) = (win0_23.blk t).view.emb y 1 := Fin.ext (by blk_simp [odx t]; show 512 * (grid0.coords t 1).val + (y 1).val = _; omega)
  have e2 : y 2 = (win0_23.blk t).view.emb y 2 := Fin.ext (by blk_simp [odx t])
  rw [e0, e1]
  exact congrArg _ e2

/-- The block a point stores in window 25 is the body's one store. -/
theorem out25_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_25 x0 x1 x2 x3 x4 x5 x6 x7 x8 x9 x10 x11 = k0_pay31 (k0_pay27 (k0_pay3 (View.ld x0 r0_0) (View.ld x1 r0_1) (View.ld x2 r0_2)) (View.ld x3 r0_16)) (k0_pay28 (View.ld x9 r0_17)) (k0_pay29 (k0_pay3 (View.ld x0 r0_0) (View.ld x1 r0_1) (View.ld x2 r0_2)) (View.ld x3 r0_16)) (Scalar.ofBits .f32 0x43000000#32) := by
  unfold out0_25
  exact View.canon_unit_zero (by decide) _ _

/-- The block a point stores in window 25, at an index. -/
theorem block25 (c : Dev nD) (t : Fin cfg0.N) (n : Fin 512) (e : Fin 128) :
    (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = (inp m c).cv (bt t) (qt t n) e := by
  rw [out25_eq]
  refine (p25_at _ _ _ n e).trans ?_
  have h : ∀ j : Fin 128, (∑ k : Fin 1024, (H m c t (ix2 n k) : EReal) * iblk m c 3 t (ix2 k ⟨2304 + j.val, by omega⟩)) = (inp m c).pr (bt t) (qt t n) ⟨2308 + j.val, by omega⟩ :=
    fun j => pr_at m c t n _ _ (w2304_at m c · j)
  rw [ib9, V50_at]
  refine congrArg (fun z : EReal => z * (inp m c).gkv e) (congrArg₂ (· * ·) (h e) ?_)
  exact congrArg (fun f : Fin 128 → EReal => nrm f (Ideal.ofBits FTy.f32 1124073472#32)) (funext h)

/-- Window 25's array after the run. -/
theorem final25 (c : Dev nD) : (dats m 0 c).arrAt 25 (cfgs 0).N
    = fun j : S8x4096x128.Idx => (inp m c).cv (j 0) (j 1) (j 2) := by
  refine (dats m 0 c).arrAt_eq_of_covers 25 _ (by decide +kernel) fun t _ y => ?_
  blk_simp
  rw [after0_25]
  have h0 : (y 0).val < 1 := (y 0).isLt
  have h2 : (y 2).val < 128 := (y 2).isLt
  have hy : y = (ix3 0 (y 1) (y 2) : S1x512x128.Idx) := by
    funext a
    fin_cases a
    · exact Fin.ext (Nat.lt_one_iff.mp h0)
    · rfl
    · rfl
  refine (congrArg (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block25 m c t (y 1) (y 2)).trans ?_)
  have e0 : bt t = (win0_25.blk t).view.emb y 0 := Fin.ext (by blk_simp [odx t]; show (grid0.coords t 0).val = _; omega)
  have e1 : qt t (y 1) = (win0_25.blk t).view.emb y 1 := Fin.ext (by blk_simp [odx t]; show 512 * (grid0.coords t 1).val + (y 1).val = _; omega)
  have e2 : y 2 = (win0_25.blk t).view.emb y 2 := Fin.ext (by blk_simp [odx t])
  rw [e0, e1]
  exact congrArg _ e2

/-- The block a point stores in window 27 is the body's one store. -/
theorem out27_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_27 x0 x1 x2 x3 x4 x5 x6 x7 x8 x9 x10 x11 = k0_pay23 (k0_pay3 (View.ld x0 r0_0) (View.ld x1 r0_1) (View.ld x2 r0_2)) (View.ld x3 r0_13) := by
  unfold out0_27
  exact View.canon_unit_zero (by decide) _ _

/-- The array of window 27. -/
def f27 (c : Dev nD) (b : Fin 8) (n : Fin 4096) (e : Fin 512) : EReal := (inp m c).pr b n ⟨2468 + e.val, by omega⟩

/-- The block a point stores in window 27, at an index. -/
theorem block27 (c : Dev nD) (t : Fin cfg0.N) (n : Fin 512) (e : Fin 512) :
    (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = f27 m c (bt t) (qt t n) e := by
  rw [out27_eq]
  exact (p27_at _ _ n e).trans (pr_at m c t n _ _ (w2560_at m c · e))

/-- Window 27's array after the run. -/
theorem final27 (c : Dev nD) : (dats m 0 c).arrAt 27 (cfgs 0).N
    = fun j : S8x4096x512.Idx => f27 m c (j 0) (j 1) (j 2) := by
  refine (dats m 0 c).arrAt_eq_of_covers 27 _ (by decide +kernel) fun t _ y => ?_
  blk_simp
  rw [after0_27]
  have h0 : (y 0).val < 1 := (y 0).isLt
  have h2 : (y 2).val < 512 := (y 2).isLt
  have hy : y = (ix3 0 (y 1) (y 2) : S1x512x512.Idx) := by
    funext a
    fin_cases a
    · exact Fin.ext (Nat.lt_one_iff.mp h0)
    · rfl
    · rfl
  refine (congrArg (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block27 m c t (y 1) (y 2)).trans ?_)
  have e0 : bt t = (win0_27.blk t).view.emb y 0 := Fin.ext (by blk_simp [odx t]; show (grid0.coords t 0).val = _; omega)
  have e1 : qt t (y 1) = (win0_27.blk t).view.emb y 1 := Fin.ext (by blk_simp [odx t]; show 512 * (grid0.coords t 1).val + (y 1).val = _; omega)
  have e2 : y 2 = (win0_27.blk t).view.emb y 2 := Fin.ext (by blk_simp [odx t])
  rw [e0, e1]
  exact congrArg _ e2

/-- The block a point stores in window 28 is the body's one store. -/
theorem out28_eq (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) :
    out0_28 x0 x1 x2 x3 x4 x5 x6 x7 x8 x9 x10 x11 = k0_pay36 (k0_pay35 (k0_pay24 (View.ld x10 r0_15)) (k0_pay25 (View.ld x11 r0_15)) (k0_pay26 (k0_pay3 (View.ld x0 r0_0) (View.ld x1 r0_1) (View.ld x2 r0_2)) (View.ld x3 r0_16)) (View.ld x4 r0_17)) := by
  unfold out0_28
  exact View.canon_unit_zero (by decide) _ _

/-- The latent's and the group's products with the packed weights. -/
def gg (c : Dev nD) (b : Fin 8) (n : Fin 4096) (j : Fin 256) : EReal := ∑ k, (inp m c).h b n k * V m c main_v20 (ix2 k ⟨2304 + j.val, by omega⟩)
/-- The group's array. -/
def gv (c : Dev nD) (b : Fin 8) (n : Fin 4096) (e : Fin 128) : EReal :=
  if e.val < 32 then gg m c b n ⟨128 + e.val, by omega⟩ * V m c main_v67 (ix2 n e) + gg m c b n ⟨128 + (e.val + 128 - 64) % 128, by omega⟩ * V m c main_v70 (ix2 n e)
  else logsig (gg m c b n ⟨128 + e.val, by omega⟩ + V m c main_v25 (ix2 0 e))

theorem gg_at (c : Dev nD) (t : Fin cfg0.N) (n : Fin 512) (j : Fin 256) : (k0_pay26 (H m c t) (View.ld (iblk m c 3 t) r0_16) (ix2 n j) : EReal)
    = gg m c (bt t) (qt t n) j :=
  (g_at _ _ n j).trans (Finset.sum_congr rfl fun k _ => congrArg₂ (· * ·) (H_at m c t n k) (ib3 m c t k _))

/-- The block a point stores in window 28, at an index. -/
theorem block28 (c : Dev nD) (t : Fin cfg0.N) (n : Fin 512) (e : Fin 128) :
    (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 n e) : EReal)
      = gv m c (bt t) (qt t n) e := by
  rw [out28_eq]
  refine (p28_at _ _ _ _ n e).trans ?_
  unfold gv
  have hg : ∀ j : Fin 256, (k0_pay26 (k0_pay3 (View.ld (iblk m c 0 t) r0_0) (View.ld (iblk m c 1 t) r0_1) (View.ld (iblk m c 2 t) r0_2)) (View.ld (iblk m c 3 t) r0_16) (ix2 n j) : EReal)
      = gg m c (bt t) (qt t n) j := gg_at m c t n
  by_cases h : e.val < 32
  · rw [if_pos h, if_pos h]
    exact congrArg₂ (· + ·) (congrArg₂ (· * ·) (hg _) ((ct_at _ n e).trans (ib10 m c t n e))) (congrArg₂ (· * ·) (hg _) ((st_at _ n e).trans (ib11 m c t n e)))
  · rw [if_neg h, if_neg h]
    exact congrArg logsig (congrArg₂ (· + ·) (hg _) (ib4 m c t e))

/-- Window 28's array after the run. -/
theorem final28 (c : Dev nD) : (dats m 0 c).arrAt 28 (cfgs 0).N
    = fun j : S8x4096x128.Idx => gv m c (j 0) (j 1) (j 2) := by
  refine (dats m 0 c).arrAt_eq_of_covers 28 _ (by decide +kernel) fun t _ y => ?_
  blk_simp
  rw [after0_28]
  have h0 : (y 0).val < 1 := (y 0).isLt
  have h2 : (y 2).val < 128 := (y 2).isLt
  have hy : y = (ix3 0 (y 1) (y 2) : S1x512x128.Idx) := by
    funext a
    fin_cases a
    · exact Fin.ext (Nat.lt_one_iff.mp h0)
    · rfl
    · rfl
  refine (congrArg (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block28 m c t (y 1) (y 2)).trans ?_)
  have e0 : bt t = (win0_28.blk t).view.emb y 0 := Fin.ext (by blk_simp [odx t]; show (grid0.coords t 0).val = _; omega)
  have e1 : qt t (y 1) = (win0_28.blk t).view.emb y 1 := Fin.ext (by blk_simp [odx t]; show 512 * (grid0.coords t 1).val + (y 1).val = _; omega)
  have e2 : y 2 = (win0_28.blk t).view.emb y 2 := Fin.ext (by blk_simp [odx t])
  rw [e0, e1]
  exact congrArg _ e2

end Cert.Kernel2Ideal.Out
end
-- ==== Proof.Maths2.lean ====
module

public import proofs.«01_k».proof.Proof.Spec2

/-! The projection's arithmetic over the extended reals: the two forms of the logistic function's logarithm, the
reality of normalized rows, and sums of negated products. -/

@[expose] public section

noncomputable section

namespace Cert.Maths

open Idealize.ShloMosaic

/-- The logarithm of one plus the exponential of a real number is a real number. -/
theorem log_one_exp (r : ℝ) : ∃ l : ℝ, Ideal.log (1 + Ideal.exp (r : EReal)) = (l : EReal) := by
  refine ⟨Real.log (1 + Real.exp r), ?_⟩
  have h : (1 + Ideal.exp (r : EReal) : EReal) = ((1 + Real.exp r : ℝ) : EReal) := by
    rw [Ideal.exp_coe, EReal.coe_add, EReal.coe_one]
  rw [h, Ideal.log_coe, if_neg (by have := Real.exp_pos r; linarith)]

/-- The two forms of the logistic function's logarithm agree. -/
theorem logsig_neg (z : EReal) :
    -(max (-z) 0 + Ideal.log1p (Ideal.exp (-(FloatOps.absf (F := Ideal) (φ := FTy.f32) (-z) : EReal)))) = logsig z := by
  have ha : (FloatOps.absf (F := Ideal) (φ := FTy.f32) (-z) : EReal) = max (-z) z := by
    show max (-z) (- -z) = _
    rw [neg_neg]
  have hb : (FloatOps.absf (F := Ideal) (φ := FTy.f32) z : EReal) = max (-z) z := by
    show max z (-z) = _
    rw [max_comm]
  unfold logsig Ideal.log1p
  rw [ha, hb, zero_sub]
  have h1 : Ideal.log 1 = 0 := by
    rw [← EReal.coe_one, Ideal.log_coe, if_neg (by norm_num), Real.log_one, EReal.coe_zero]
  have hl : ∃ l : ℝ, Ideal.log (1 + Ideal.exp (-max (-z) z)) = (l : EReal) := by
    induction z using EReal.rec with
    | bot => exact ⟨0, by simpa using h1⟩
    | top => exact ⟨0, by simpa using h1⟩
    | coe r =>
      have : (-max (-(r : EReal)) r) = ((-max (-r) r : ℝ) : EReal) := by
        rw [← EReal.coe_neg, ← EReal.coe_strictMono.monotone.map_max, EReal.coe_neg]
      rw [this]
      exact log_one_exp _
  obtain ⟨l, hl⟩ := hl
  rw [hl, EReal.neg_add (Or.inr (EReal.coe_ne_top l)) (Or.inr (EReal.coe_ne_bot l))]
  refine congrArg (fun y : EReal => y - (l : EReal)) ?_
  rcases le_total z 0 with h | h
  · rw [min_eq_left h, max_eq_left (EReal.neg_nonneg.2 h), neg_neg]
  · rw [min_eq_right h, max_eq_right (EReal.neg_le.1 (by rwa [neg_zero])), neg_zero]

/-- Being a real number. -/
def Re (x : EReal) : Prop := x = (x.toReal : EReal)

theorem Re.coe (r : ℝ) : Re (r : EReal) := by rw [Re, EReal.toReal_coe]
theorem Re.ex {x : EReal} (h : Re x) : ∃ r : ℝ, x = (r : EReal) := ⟨_, h⟩
theorem Re.mul {x y : EReal} (hx : Re x) (hy : Re y) : Re (x * y) := by
  obtain ⟨a, rfl⟩ := hx.ex
  obtain ⟨b, rfl⟩ := hy.ex
  rw [← EReal.coe_mul]
  exact Re.coe _
theorem Re.add {x y : EReal} (hx : Re x) (hy : Re y) : Re (x + y) := by
  obtain ⟨a, rfl⟩ := hx.ex
  obtain ⟨b, rfl⟩ := hy.ex
  rw [← EReal.coe_add]
  exact Re.coe _

/-- A sum of real products with negated real weights is the negated sum. -/
theorem sum_neg {k : ℕ} (a w : Fin k → EReal) (ha : ∀ i, Re (a i)) (hw : ∀ i, Re (w i)) :
    ∑ i, a i * -w i = -∑ i, a i * w i := by
  have e1 : ∀ i, a i * -w i = ((-((a i).toReal * (w i).toReal) : ℝ) : EReal) := fun i => by
    conv_lhs => rw [ha i, hw i]
    rw [EReal.coe_neg, EReal.coe_mul, mul_neg]
  have e2 : ∀ i, a i * w i = (((a i).toReal * (w i).toReal : ℝ) : EReal) := fun i => by
    conv_lhs => rw [ha i, hw i]
    rw [EReal.coe_mul]
  rw [Finset.sum_congr rfl fun i _ => e1 i, Finset.sum_congr rfl fun i _ => e2 i, ← coe_sum, ← coe_sum, ← EReal.coe_neg, Finset.sum_neg_distrib]

/-- The norm's small constant is a positive real number. -/
theorem eps_pos : ∃ r : ℝ, 0 < r ∧ Ideal.ofBits FTy.f32 897988541#32 = (r : EReal) := by
  refine ⟨_, ?_, by simp [Ideal.ofBits, Ideal.ieee]; rfl⟩
  positivity

/-- A normalized element is a real number, whatever the row. -/
theorem nrm_re {k : ℕ} (f : Fin k → EReal) (d : ℝ) (hd : 0 < d) (i : Fin k) : Re (f i * nrm f (d : EReal)) := by
  obtain ⟨ε, hε, e⟩ := eps_pos
  unfold nrm
  rw [e]
  have hsq : ∀ x : EReal, 0 ≤ x * x := fun x => by
    induction x using EReal.rec with
    | bot => simp
    | top => simp
    | coe r => rw [← EReal.coe_mul]; exact EReal.coe_nonneg.2 (mul_self_nonneg r)
  by_cases h : ∀ j, Re (f j)
  · have hs : (∑ j, f j * f j) = ((∑ j, (f j).toReal * (f j).toReal : ℝ) : EReal) := by
      rw [coe_sum]
      refine Finset.sum_congr rfl fun j _ => ?_
      conv_lhs => rw [h j]
      rw [EReal.coe_mul]
    have h0 : (0 : ℝ) ≤ ∑ j, (f j).toReal * (f j).toReal := Finset.sum_nonneg fun j _ => mul_self_nonneg _
    have hq : Ideal.div (∑ j, f j * f j) (d : EReal) + (ε : EReal) = (((∑ j, (f j).toReal * (f j).toReal) * d⁻¹ + ε : ℝ) : EReal) := by
      rw [hs, Ideal.div, if_neg (by exact_mod_cast hd.ne'), ← EReal.coe_inv, ← EReal.coe_mul, ← EReal.coe_add]
    have hp : 0 < (∑ j, (f j).toReal * (f j).toReal) * d⁻¹ + ε := by positivity
    rw [hq, Ideal.rsqrt_coe, if_neg (not_lt.2 hp.le), if_neg hp.ne']
    exact (h i).mul (Re.coe _)
  · obtain ⟨j, hj⟩ := not_forall.1 h
    have hj' : f j * f j = ⊤ := by
      revert hj
      generalize f j = x
      intro hj
      induction x using EReal.rec with
      | bot => simp
      | top => simp
      | coe r => exact absurd (Re.coe r) hj
    have hs : (∑ j, f j * f j) = ⊤ := by
      rw [eq_top_iff, ← hj']
      exact Finset.single_le_sum (f := fun j => f j * f j) (fun i _ => hsq (f i)) (Finset.mem_univ j)
    have hq : Ideal.div (⊤ : EReal) (d : EReal) + (ε : EReal) = ⊤ := by
      rw [Ideal.div, if_neg (by exact_mod_cast hd.ne'), ← EReal.coe_inv, EReal.top_mul_coe_of_pos (inv_pos.2 hd), EReal.top_add_coe]
    rw [hs, hq, Ideal.rsqrt_top, mul_zero]
    exact Re.coe 0

theorem d1024 : Ideal.ofBits FTy.f32 1149239296#32 = ((1024 : ℝ) : EReal) := by
  simp [Ideal.ofBits, Ideal.ieee]
  norm_num
  rw [← EReal.coe_mul]
  norm_num
theorem d256 : Ideal.ofBits FTy.f32 1132462080#32 = ((256 : ℝ) : EReal) := by
  simp [Ideal.ofBits, Ideal.ieee]
  norm_num
  rw [← EReal.coe_mul]
  norm_num

namespace PIn
variable (I : PIn)

/-- The modulated rows are real numbers where the modulation and the norm's weights are. -/
theorem h_re (hI : I.Fin') (b : Fin 8) (n : Fin 4096) (e : Fin 1024) : Re (I.h b n e) := by
  unfold h
  rw [d1024]
  exact (((nrm_re (I.x b n) 1024 (by norm_num) e).mul (hI.1.2 e)).mul ((Re.coe 1).add (hI.1.1 b ⟨1024 + e.val, by omega⟩))).add
    (hI.1.1 b ⟨e.val, by omega⟩)

/-- The normalized query latents are real numbers where the norm's weights are. -/
theorem cq_re (hI : I.Fin') (b : Fin 8) (n : Fin 4096) (e : Fin 256) : Re (I.cq b n e) := by
  unfold cq
  rw [d256]
  exact (nrm_re (fun j : Fin 256 => I.pr b n ⟨2052 + j.val, by omega⟩) 256 (by norm_num) e).mul (hI.2.2.1 e)

end PIn

end Cert.Maths

end
-- ==== Proof.KI2.Heads.lean ====
module

public import proofs.«01_k».proof.Proof.KI2.Args
public import proofs.«01_k».proof.Proof.KI2.Final

/-! The projection's heads' array after the run. -/

@[expose] public section

set_option maxRecDepth 16384

noncomputable section

namespace Cert.Kernel2Ideal.Out

open Cert.Kernel2Ideal Cert.Kernel2Ideal.Gen Cert.Kernel2Ideal.Prj Cert.Maths
open Idealize.ShloMosaic Idealize.ShloMosaic.TcCoe Idealize.ShloMosaic.Tactic
open Idealize.SL.Sem

variable (m : (ℓ : Loc nD τ sig) → Buf (Elt Ideal) ℓ)

/-- A head's block at the coordinates it has. -/
theorem blk_idx (x : S1x1x512x256.Idx) (n : Fin 512) (e : Fin 256) (h0 : (x 0).val < 1) (h1 : (x 1).val < 1) (h2 : n.val = (x 2).val)
    (h3 : e.val = (x 3).val) : x = (ix4 0 0 n e : S1x1x512x256.Idx) := by
  funext a
  fin_cases a
  · exact Fin.ext (Nat.lt_one_iff.mp h0)
  · exact Fin.ext (Nat.lt_one_iff.mp h1)
  · exact Fin.ext h2.symm
  · exact Fin.ext h3.symm

/-- The block a point stores in the heads' window, at an index. -/
theorem out24_at (x0 : Vec Ideal S1x512x1024 .f32) (x1 : Vec Ideal S1x1x3072 .f32) (x2 : Vec Ideal S1x1024 .f32) (x3 : Vec Ideal S1024x3072 .bf16) (x4 : Vec Ideal S1x128 .f32) (x5 : Vec Ideal S1x256 .f32) (x6 : Vec Ideal S256x512 .bf16) (x7 : Vec Ideal S8x256x256 .bf16) (x8 : Vec Ideal S8x128x128 .bf16) (x9 : Vec Ideal S1x128 .f32) (x10 : Vec Ideal S512x128 .f32) (x11 : Vec Ideal S512x128 .f32) (hh : Fin 8) (n : Fin 512) (e : Fin 256) :
    (out0_24 x0 x1 x2 x3 x4 x5 x6 x7 x8 x9 x10 x11 (ix4 0 hh n e) : EReal)
      = hd (k0_pay24 (View.ld x10 r0_15)) (k0_pay25 (View.ld x11 r0_15)) (k0_pay38 (k0_pay3 (View.ld x0 r0_0) (View.ld x1 r0_1) (View.ld x2 r0_2)) (View.ld x3 r0_20) (View.ld x5 r0_21)) (k0_pay39 (k0_pay3 (View.ld x0 r0_0) (View.ld x1 r0_1) (View.ld x2 r0_2)) (View.ld x3 r0_20) (View.ld x5 r0_21) (View.ld x6 r0_22)) x8 x7 hh n e := by
  canon_tiles x h using cover0_24 ..
  case piece0 =>
    have g1 : hh.val = 7 + (x 1).val := h1
    have g2 : n.val = (x 2).val := h2
    have g3 : e.val = (x 3).val := h3
    obtain rfl : hh = 7 := Fin.ext (by show hh.val = 7; omega)
    rw [blk_idx x n e x0_lt x1_lt g2 g3]
    exact hd7_at _ _ _ _ _ _ n e
  case piece1 =>
    have g1 : hh.val = 6 + (x 1).val := h1
    have g2 : n.val = (x 2).val := h2
    have g3 : e.val = (x 3).val := h3
    obtain rfl : hh = 6 := Fin.ext (by show hh.val = 6; omega)
    rw [blk_idx x n e x0_lt x1_lt g2 g3]
    exact hd6_at _ _ _ _ _ _ n e
  case piece2 =>
    have g1 : hh.val = 5 + (x 1).val := h1
    have g2 : n.val = (x 2).val := h2
    have g3 : e.val = (x 3).val := h3
    obtain rfl : hh = 5 := Fin.ext (by show hh.val = 5; omega)
    rw [blk_idx x n e x0_lt x1_lt g2 g3]
    exact hd5_at _ _ _ _ _ _ n e
  case piece3 =>
    have g1 : hh.val = 4 + (x 1).val := h1
    have g2 : n.val = (x 2).val := h2
    have g3 : e.val = (x 3).val := h3
    obtain rfl : hh = 4 := Fin.ext (by show hh.val = 4; omega)
    rw [blk_idx x n e x0_lt x1_lt g2 g3]
    exact hd4_at _ _ _ _ _ _ n e
  case piece4 =>
    have g1 : hh.val = 3 + (x 1).val := h1
    have g2 : n.val = (x 2).val := h2
    have g3 : e.val = (x 3).val := h3
    obtain rfl : hh = 3 := Fin.ext (by show hh.val = 3; omega)
    rw [blk_idx x n e x0_lt x1_lt g2 g3]
    exact hd3_at _ _ _ _ _ _ n e
  case piece5 =>
    have g1 : hh.val = 2 + (x 1).val := h1
    have g2 : n.val = (x 2).val := h2
    have g3 : e.val = (x 3).val := h3
    obtain rfl : hh = 2 := Fin.ext (by show hh.val = 2; omega)
    rw [blk_idx x n e x0_lt x1_lt g2 g3]
    exact hd2_at _ _ _ _ _ _ n e
  case piece6 =>
    have g1 : hh.val = 1 + (x 1).val := h1
    have g2 : n.val = (x 2).val := h2
    have g3 : e.val = (x 3).val := h3
    obtain rfl : hh = 1 := Fin.ext (by show hh.val = 1; omega)
    rw [blk_idx x n e x0_lt x1_lt g2 g3]
    exact hd1_at _ _ _ _ _ _ n e
  case piece7 =>
    have g1 : hh.val = (x 1).val := h1
    have g2 : n.val = (x 2).val := h2
    have g3 : e.val = (x 3).val := h3
    obtain rfl : hh = 0 := Fin.ext (by show hh.val = 0; omega)
    rw [blk_idx x n e x0_lt x1_lt g2 g3]
    exact hd0_at _ _ _ _ _ _ _ _ _ n e

/-- The unrotated queries' products with the packed query weights. -/
def qn (c : Dev nD) (b : Fin 8) (n : Fin 4096) (e : Fin 512) : EReal := ∑ k, (inp m c).cq b n k * (inp m c).uq k ⟨e.val / 64 * 96 + e.val % 64, by omega⟩
/-- The query latent's products with a head's packed rotated weights. -/
def qx (c : Dev nD) (hh : Fin 8) (b : Fin 8) (n : Fin 4096) (e : Fin 256) : EReal := ∑ k, (inp m c).cq b n k * V m c main_v36 (ix3 hh k e)
/-- The heads' array. -/
def hv (c : Dev nD) (b : Fin 8) (hh : Fin 8) (n : Fin 4096) (e : Fin 256) : EReal :=
  if h : e.val < 128 then ∑ k : Fin 128, qn m c b n ⟨128 * (hh.val / 2) + k.val, by omega⟩ * V m c main_v47 (ix3 hh k ⟨e.val, h⟩)
  else qx m c hh b n ⟨e.val - 128, by omega⟩ * V m c main_v67 (ix2 n ⟨e.val - 128, by omega⟩)
    + qx m c hh b n ⟨128 + (e.val - 128), by omega⟩ * V m c main_v70 (ix2 n ⟨e.val - 128, by omega⟩)

/-- The normalized query latent of a point. -/
theorem CQ_at (c : Dev nD) (t : Fin cfg0.N) (n : Fin 512) (e : Fin 256) :
    (k0_pay38 (H m c t) (View.ld (iblk m c 3 t) r0_20) (View.ld (iblk m c 5 t) r0_21) (ix2 n e) : EReal) = (inp m c).cq (bt t) (qt t n) e := by
  refine (cq_at _ _ _ n e).trans ?_
  have h : ∀ j : Fin 256, (∑ k : Fin 1024, (H m c t (ix2 n k) : EReal) * iblk m c 3 t (ix2 k ⟨2048 + j.val, by omega⟩)) = (inp m c).pr (bt t) (qt t n) ⟨2052 + j.val, by omega⟩ :=
    fun j => pr_at m c t n _ _ (w2048_at m c · j)
  rw [ib5, V49_at]
  refine congrArg (fun z : EReal => z * (inp m c).gq e) (congrArg₂ (· * ·) (h e) ?_)
  exact congrArg (fun f : Fin 256 → EReal => nrm f (Ideal.ofBits FTy.f32 1132462080#32)) (funext h)

/-- The unrotated queries of a point. -/
theorem QN_at (c : Dev nD) (t : Fin cfg0.N) (n : Fin 512) (e : Fin 512) :
    (k0_pay39 (H m c t) (View.ld (iblk m c 3 t) r0_20) (View.ld (iblk m c 5 t) r0_21) (View.ld (iblk m c 6 t) r0_22) (ix2 n e) : EReal) = qn m c (bt t) (qt t n) e :=
  (qn_at _ _ _ _ n e).trans (Finset.sum_congr rfl fun k _ => congrArg₂ (· * ·) (CQ_at m c t n k) ((ib6 m c t k e).trans (V29_at m c k e)))

/-- The block a point stores in the heads' window is the heads' array's. -/
theorem block24 (c : Dev nD) (t : Fin cfg0.N) (hh : Fin 8) (n : Fin 512) (e : Fin 256) :
    (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 hh n e) : EReal)
      = hv m c (bt t) hh (qt t n) e := by
  refine (out24_at _ _ _ _ _ _ _ _ _ _ _ _ hh n e).trans ?_
  unfold hd hv
  by_cases h : e.val < 128
  · rw [dif_pos h, dif_pos h]
    exact Finset.sum_congr rfl fun k _ => congrArg₂ (· * ·) (QN_at m c t n _) (ib8 m c t hh k _)
  · rw [dif_neg h, dif_neg h]
    refine congrArg₂ (· + ·) (congrArg₂ (· * ·) ?_ ((ct_at _ n _).trans (ib10 m c t n _))) (congrArg₂ (· * ·) ?_ ((st_at _ n _).trans (ib11 m c t n _)))
    · exact Finset.sum_congr rfl fun k _ => congrArg₂ (· * ·) (CQ_at m c t n k) (ib7 m c t hh k _)
    · exact Finset.sum_congr rfl fun k _ => congrArg₂ (· * ·) (CQ_at m c t n k) (ib7 m c t hh k _)

/-- The heads' array after the run. -/
theorem final24 (c : Dev nD) : (dats m 0 c).arrAt 24 (cfgs 0).N
    = fun j : S8x8x4096x256.Idx => hv m c (j 0) (j 1) (j 2) (j 3) := by
  refine (dats m 0 c).arrAt_eq_of_covers 24 _ (by decide +kernel) fun t _ y => ?_
  blk_simp
  rw [after0_24]
  have h0 : (y 0).val < 1 := (y 0).isLt
  have hy : y = (ix4 0 (y 1) (y 2) (y 3) : S1x8x512x256.Idx) := by
    funext a
    fin_cases a
    · exact Fin.ext (Nat.lt_one_iff.mp h0)
    · rfl
    · rfl
    · rfl
  refine (congrArg (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy).trans ((block24 m c t (y 1) (y 2) (y 3)).trans ?_)
  have e0 : bt t = (win0_24.blk t).view.emb y 0 := Fin.ext (by blk_simp [odx t]; show (grid0.coords t 0).val = _; omega)
  have e1 : y 1 = (win0_24.blk t).view.emb y 1 := Fin.ext (by blk_simp [odx t])
  have e2 : qt t (y 2) = (win0_24.blk t).view.emb y 2 := Fin.ext (by blk_simp [odx t]; show 512 * (grid0.coords t 1).val + (y 2).val = _; omega)
  have e3 : y 3 = (win0_24.blk t).view.emb y 3 := Fin.ext (by blk_simp [odx t])
  rw [e0, e2]
  exact congrArg₂ (fun a b => hv m c _ a _ b) e1 e3

end Cert.Kernel2Ideal.Out
end
-- ==== Proof.KI2.Tail.lean ====
module

public import proofs.«01_k».proof.Proof.KI2.Args

/-! The lines after the projection's call: each slices one of its arrays. -/

@[expose] public section

set_option maxRecDepth 16384

noncomputable section

namespace Cert.Kernel2Ideal.Out

open Cert.Kernel2Ideal Cert.Kernel2Ideal.Gen Cert.Kernel2Ideal.Prj
open Idealize.ShloMosaic Idealize.ShloMosaic.TcCoe Idealize.ShloMosaic.Tactic
open Idealize.SL.Sem

variable (m : (ℓ : Loc nD τ sig) → Buf (Elt Ideal) ℓ)

/-- The group's array as the lines after the call find it. -/
theorem found28 (c : Dev nD) : Pipeline.withArrays (cfgs 0).spec c (V0 m c) (fun w => (dats m 0 c).arrAt w (cfgs 0).N) (Proc.devRef .tc main_v72_16)
    = (dats m 0 c).arrAt 28 (cfgs 0).N :=
  Pipeline.withArrays_arr (cfgs 0).spec launch0.win.arr_inj c _ _ 28
/-- The heads' array as the lines after the call find it. -/
theorem found24 (c : Dev nD) : Pipeline.withArrays (cfgs 0).spec c (V0 m c) (fun w => (dats m 0 c).arrAt w (cfgs 0).N) (Proc.devRef .tc main_v72_12)
    = (dats m 0 c).arrAt 24 (cfgs 0).N :=
  Pipeline.withArrays_arr (cfgs 0).spec launch0.win.arr_inj c _ _ 24

/-- The rotated keys' array is the group's first lanes. -/
theorem tail73 (c : Dev nD) : Pipeline.afterTail₀ cfgs (dats m) 0 (V0 m) [hostOps1] c main_v73
    = (extractStridedSlice S8x4096x32 ![0, 0, 0] ((dats m 0 c).arrAt 28 (cfgs 0).N) slices_S8x4096x128_S8x4096x32_0_0_0 : FVec Ideal S8x4096x32 .f32) := by
  rw [← found28]
  unfold Pipeline.afterTail₀
  generalize Pipeline.withArrays (cfgs 0).spec c (V0 m c) (fun w => (dats m 0 c).arrAt w (cfgs 0).N) = W
  simp only [List.flatten_cons, List.flatten_nil, List.append_nil]
  after_reads_simp

/-- The gate's array is the group's next lanes. -/
theorem tail74 (c : Dev nD) : Pipeline.afterTail₀ cfgs (dats m) 0 (V0 m) [hostOps1] c main_v74
    = (extractStridedSlice S8x4096x4 ![0, 0, 32] ((dats m 0 c).arrAt 28 (cfgs 0).N) slices_S8x4096x128_S8x4096x4_0_0_32 : FVec Ideal S8x4096x4 .f32) := by
  rw [← found28]
  unfold Pipeline.afterTail₀
  generalize Pipeline.withArrays (cfgs 0).spec c (V0 m c) (fun w => (dats m 0 c).arrAt w (cfgs 0).N) = W
  simp only [List.flatten_cons, List.flatten_nil, List.append_nil]
  after_reads_simp

/-- The latent queries' array is the heads' first lanes. -/
theorem tail75 (c : Dev nD) : Pipeline.afterTail₀ cfgs (dats m) 0 (V0 m) [hostOps1] c main_v75
    = (extractStridedSlice S8x8x4096x128 ![0, 0, 0, 0] ((dats m 0 c).arrAt 24 (cfgs 0).N) slices_S8x8x4096x256_S8x8x4096x128_0_0_0_0 : FVec Ideal S8x8x4096x128 .f32) := by
  rw [← found24]
  unfold Pipeline.afterTail₀
  generalize Pipeline.withArrays (cfgs 0).spec c (V0 m c) (fun w => (dats m 0 c).arrAt w (cfgs 0).N) = W
  simp only [List.flatten_cons, List.flatten_nil, List.append_nil]
  after_reads_simp

/-- The rotated queries' array is the heads' next lanes. -/
theorem tail76 (c : Dev nD) : Pipeline.afterTail₀ cfgs (dats m) 0 (V0 m) [hostOps1] c main_v76
    = (extractStridedSlice S8x8x4096x32 ![0, 0, 0, 128] ((dats m 0 c).arrAt 24 (cfgs 0).N) slices_S8x8x4096x256_S8x8x4096x32_0_0_0_128 : FVec Ideal S8x8x4096x32 .f32) := by
  rw [← found24]
  unfold Pipeline.afterTail₀
  generalize Pipeline.withArrays (cfgs 0).spec c (V0 m c) (fun w => (dats m 0 c).arrAt w (cfgs 0).N) = W
  simp only [List.flatten_cons, List.flatten_nil, List.append_nil]
  after_reads_simp

end Cert.Kernel2Ideal.Out

end
-- ==== Proof.KI2.Result.lean ====
module

public import proofs.«01_k».proof.Proof.Maths2
public import proofs.«01_k».proof.Proof.KI2.Heads
public import proofs.«01_k».proof.Proof.KI2.Tail

/-! The projection's packed results read back: the rotated keys and the gate out of the group's array, the latent and
the rotated queries out of the heads' array, and the slices after the call. -/

@[expose] public section

set_option maxRecDepth 16384

noncomputable section

namespace Cert.Kernel2Ideal.Out

open Cert.Kernel2Ideal Cert.Kernel2Ideal.Gen Cert.Kernel2Ideal.Prj Cert.Maths
open Idealize.ShloMosaic Idealize.ShloMosaic.TcCoe Idealize.ShloMosaic.Tactic
open Idealize.SL.Sem

variable (m : (ℓ : Loc nD τ sig) → Buf (Elt Ideal) ℓ)

/-- The cosines' table in the first half of a rotation. -/
theorem cos_lo (c : Dev nD) (n : Fin 4096) (e : Fin 128) (h : e.val < 16) : V m c main_v67 (ix2 n e) = Ideal.cos (ang n.val e.val) :=
  cos0_at m c n ⟨e.val, h⟩
/-- The cosines' table in the second half of a rotation. -/
theorem cos_hi (c : Dev nD) (n : Fin 4096) (e : Fin 128) (h : 16 ≤ e.val) (h' : e.val < 32) : V m c main_v67 (ix2 n e) = Ideal.cos (ang n.val (e.val - 16)) :=
  (congrArg (fun i => V m c main_v67 (ix2 n i)) (Fin.ext (by show e.val = 16 + (e.val - 16); omega))).trans (cos16_at m c n ⟨e.val - 16, by omega⟩)
/-- The sines' table in the first half of a rotation. -/
theorem sin_lo (c : Dev nD) (n : Fin 4096) (e : Fin 128) (h : e.val < 16) : V m c main_v70 (ix2 n e) = Ideal.sin (ang n.val e.val) :=
  sin0_at m c n ⟨e.val, h⟩
/-- The sines' table in the second half of a rotation. -/
theorem sin_hi (c : Dev nD) (n : Fin 4096) (e : Fin 128) (h : 16 ≤ e.val) (h' : e.val < 32) : V m c main_v70 (ix2 n e) = Ideal.sin (ang n.val (e.val - 16)) :=
  (congrArg (fun i => V m c main_v70 (ix2 n i)) (Fin.ext (by show e.val = 16 + (e.val - 16); omega))).trans (sin16_at m c n ⟨e.val - 16, by omega⟩)

/-- A packed column that is an input column gives that column's product. -/
theorem gg_pr (c : Dev nD) (b : Fin 8) (n : Fin 4096) (j : Fin 256) (i : Fin 3072) (s : Fin 2980) (hi : i.val = 2304 + j.val)
    (h : ∀ k, V m c main_v20 (ix2 k i) = (inp m c).w k s) : gg m c b n j = (inp m c).pr b n s := by
  have hj : 2304 + j.val < 3072 := by omega
  obtain rfl : i = ⟨2304 + j.val, hj⟩ := Fin.ext hi
  exact Finset.sum_congr rfl fun k _ => congrArg (fun z : EReal => (inp m c).h b n k * z) (h k)

/-- A packed column that is a negated input column gives the negated product. -/
theorem gg_neg (c : Dev nD) (hI : (inp m c).Fin') (b : Fin 8) (n : Fin 4096) (j : Fin 256) (i : Fin 3072) (s : Fin 2980) (hi : i.val = 2304 + j.val)
    (hs : ∀ k, Re ((inp m c).w k s)) (h : ∀ k, V m c main_v20 (ix2 k i) = (-(inp m c).w k s : EReal)) : gg m c b n j = -(inp m c).pr b n s := by
  have hj : 2304 + j.val < 3072 := by omega
  obtain rfl : i = ⟨2304 + j.val, hj⟩ := Fin.ext hi
  refine (Finset.sum_congr rfl fun k _ => congrArg (fun z : EReal => (inp m c).h b n k * z) (h k)).trans ?_
  exact sum_neg _ _ ((inp m c).h_re hI b n) hs

/-- The group's first lanes are the rotated keys. -/
theorem gv_kp (c : Dev nD) (hI : (inp m c).Fin') (b : Fin 8) (n : Fin 4096) (e : Fin 32) :
    gv m c b n ⟨e.val, by omega⟩ = (inp m c).kp b n e := by
  unfold gv PIn.kp PIn.rot
  rw [if_pos e.isLt]
  have h1 : gg m c b n ⟨128 + e.val, by omega⟩ = (inp m c).pr b n ⟨2436 + e.val, by omega⟩ :=
    gg_pr m c b n _ ⟨2432 + e.val, by omega⟩ _ (by show 2432 + e.val = 2304 + (128 + e.val); omega) fun k => w2432_at m c k e
  by_cases h : e.val < 16
  · rw [dif_pos h]
    have h2 : gg m c b n ⟨128 + (e.val + 128 - 64) % 128, by omega⟩ = -(inp m c).pr b n ⟨2436 + (16 + e.val), by omega⟩ := by
      refine (gg_neg m c hI b n _ ⟨2496 + e.val, by omega⟩ ⟨2452 + e.val, by omega⟩ (by show 2496 + e.val = 2304 + (128 + (e.val + 128 - 64) % 128); omega)
        (fun k => hI.2.1 k ⟨e.val, h⟩) fun k => w2496_at m c k ⟨e.val, h⟩).trans ?_
      exact congrArg (fun i => -(inp m c).pr b n i) (Fin.ext (by show 2452 + e.val = 2436 + (16 + e.val); omega))
    rw [h1, cos_lo m c n ⟨e.val, by omega⟩ h, sin_lo m c n ⟨e.val, by omega⟩ h]
    refine (congrArg (fun z : EReal => _ + z * _) h2).trans ?_
    rw [EReal.neg_mul, ← sub_eq_add_neg]
  · rw [dif_neg h]
    have h2 : gg m c b n ⟨128 + (e.val + 128 - 64) % 128, by omega⟩ = (inp m c).pr b n ⟨2436 + (e.val - 16), by omega⟩ :=
      gg_pr m c b n _ ⟨2512 + (e.val - 16), by omega⟩ _ (by show 2512 + (e.val - 16) = 2304 + (128 + (e.val + 128 - 64) % 128); omega)
        fun k => w2512_at m c k ⟨e.val - 16, by omega⟩
    rw [h1, cos_hi m c n ⟨e.val, by omega⟩ (by show 16 ≤ e.val; omega) e.isLt, sin_hi m c n ⟨e.val, by omega⟩ (by show 16 ≤ e.val; omega) e.isLt]
    exact congrArg (fun z : EReal => _ + z * _) h2

/-- The group's next lanes are the gate's logarithm. -/
theorem gv_lf (c : Dev nD) (b : Fin 8) (n : Fin 4096) (e : Fin 4) : gv m c b n ⟨32 + e.val, by omega⟩ = (inp m c).lf b n e := by
  unfold gv PIn.lf
  rw [if_neg (by show ¬ 32 + e.val < 32; omega)]
  have h1 : gg m c b n ⟨128 + (32 + e.val), by omega⟩ = (inp m c).pr b n ⟨768 + e.val, by omega⟩ :=
    gg_pr m c b n _ ⟨2464 + e.val, by omega⟩ _ (by show 2464 + e.val = 2304 + (128 + (32 + e.val)); omega) fun k => w2464_at m c k e
  exact congrArg logsig (congrArg₂ (· + ·) h1 (V25_at m c e))

/-- The unrotated queries' columns. -/
theorem qn_q (c : Dev nD) (b : Fin 8) (n : Fin 4096) (e : Fin 512) (s : Fin 768) (hs : s.val = e.val / 64 * 96 + e.val % 64) :
    qn m c b n e = (inp m c).q b n s := by
  have he : e.val / 64 * 96 + e.val % 64 < 768 := by omega
  obtain rfl : s = ⟨e.val / 64 * 96 + e.val % 64, he⟩ := Fin.ext hs
  rfl

/-- The heads' first lanes are the latent queries: the other head of the pair meets zeros. -/
theorem hv_ql (c : Dev nD) (b hh : Fin 8) (n : Fin 4096) (e : Fin 128) :
    hv m c b hh n ⟨e.val, by omega⟩ = (inp m c).ql b hh n e := by
  unfold hv PIn.ql
  rw [dif_pos e.isLt]
  symm
  refine Finset.sum_of_injOn (fun k : Fin 64 => (⟨64 * (hh.val % 2) + k.val, by omega⟩ : Fin 128)) ?_ (fun _ _ => Finset.mem_coe.2 (Finset.mem_univ _)) ?_ ?_
  · intro a _ a' _ h
    have := congrArg Fin.val h
    exact Fin.ext (by dsimp only at this; omega)
  · intro k _ hk
    have hne : ¬ k.val / 64 = hh.val % 2 := fun h => hk ⟨⟨k.val % 64, by omega⟩, Finset.mem_coe.2 (Finset.mem_univ _), Fin.ext (by show 64 * (hh.val % 2) + k.val % 64 = k.val; omega)⟩
    rw [V47_at, dif_neg hne, mul_zero]
  · intro k _
    have hy : (64 * (hh.val % 2) + k.val) / 64 = hh.val % 2 := by omega
    dsimp only
    rw [V47_at, dif_pos hy]
    refine congrArg₂ (· * ·) (qn_q m c b n _ _ ?_).symm ?_
    · show 96 * hh.val + k.val = (128 * (hh.val / 2) + (64 * (hh.val % 2) + k.val)) / 64 * 96 + (128 * (hh.val / 2) + (64 * (hh.val % 2) + k.val)) % 64
      omega
    · exact congrArg (fun i => (inp m c).uk e hh i) (Fin.ext (by show k.val = (64 * (hh.val % 2) + k.val) % 64; omega))

/-- A packed query column that is a query column gives that column's product. -/
theorem qx_q (c : Dev nD) (hh b : Fin 8) (n : Fin 4096) (j i : Fin 256) (s : Fin 768) (hi : i = j)
    (h : ∀ k, V m c main_v36 (ix3 hh k i) = (inp m c).uq k s) : qx m c hh b n j = (inp m c).q b n s := by
  subst hi
  exact Finset.sum_congr rfl fun k _ => congrArg (fun z : EReal => (inp m c).cq b n k * z) (h k)

/-- A packed query column that is a negated query column gives the negated product. -/
theorem qx_neg (c : Dev nD) (hI : (inp m c).Fin') (hh b : Fin 8) (n : Fin 4096) (j i : Fin 256) (s : Fin 768) (hi : i = j)
    (hs : ∀ k, Re ((inp m c).uq k s)) (h : ∀ k, V m c main_v36 (ix3 hh k i) = (-(inp m c).uq k s : EReal)) : qx m c hh b n j = -(inp m c).q b n s := by
  subst hi
  refine (Finset.sum_congr rfl fun k _ => congrArg (fun z : EReal => (inp m c).cq b n k * z) (h k)).trans ?_
  exact sum_neg _ _ ((inp m c).cq_re hI b n) hs

/-- The heads' next lanes are the rotated queries. -/
theorem hv_qr (c : Dev nD) (hI : (inp m c).Fin') (b hh : Fin 8) (n : Fin 4096) (e : Fin 32) :
    hv m c b hh n ⟨128 + e.val, by omega⟩ = (inp m c).qr b hh n e := by
  unfold hv PIn.qr PIn.rot
  rw [dif_neg (by show ¬ 128 + e.val < 128; omega)]
  have x0 : (⟨(128 + e.val) - 128, by omega⟩ : Fin 128) = ⟨e.val, by omega⟩ := Fin.ext (by show 128 + e.val - 128 = e.val; omega)
  have h1 : qx m c hh b n ⟨(128 + e.val) - 128, by omega⟩ = (inp m c).q b n ⟨96 * hh.val + 64 + e.val, by omega⟩ :=
    qx_q m c hh b n _ ⟨e.val, by omega⟩ _ (Fin.ext (by show e.val = 128 + e.val - 128; omega)) fun k => xy0_at m c hh k e
  by_cases h : e.val < 16
  · rw [dif_pos h]
    have h2 : qx m c hh b n ⟨128 + ((128 + e.val) - 128), by omega⟩ = -(inp m c).q b n ⟨96 * hh.val + 64 + (16 + e.val), by omega⟩ := by
      refine (qx_neg m c hI hh b n _ ⟨128 + e.val, by omega⟩ ⟨96 * hh.val + 80 + e.val, by omega⟩ (Fin.ext (by show 128 + e.val = 128 + (128 + e.val - 128); omega))
        (fun k => hI.2.2.2 k hh ⟨e.val, h⟩) fun k => xy128_at m c hh k ⟨e.val, h⟩).trans ?_
      exact congrArg (fun i => -(inp m c).q b n i) (Fin.ext (by show 96 * hh.val + 80 + e.val = 96 * hh.val + 64 + (16 + e.val); omega))
    refine (congrArg₂ (· + ·) (congrArg₂ (· * ·) h1 ((congrArg (fun i => V m c main_v67 (ix2 n i)) x0).trans (cos_lo m c n ⟨e.val, by omega⟩ h)))
      (congrArg₂ (· * ·) h2 ((congrArg (fun i => V m c main_v70 (ix2 n i)) x0).trans (sin_lo m c n ⟨e.val, by omega⟩ h)))).trans ?_
    rw [EReal.neg_mul, ← sub_eq_add_neg]
  · rw [dif_neg h]
    have h2 : qx m c hh b n ⟨128 + ((128 + e.val) - 128), by omega⟩ = (inp m c).q b n ⟨96 * hh.val + 64 + (e.val - 16), by omega⟩ :=
      qx_q m c hh b n _ ⟨144 + (e.val - 16), by omega⟩ _ (Fin.ext (by show 144 + (e.val - 16) = 128 + (128 + e.val - 128); omega))
        fun k => xy144_at m c hh k ⟨e.val - 16, by omega⟩
    exact congrArg₂ (· + ·) (congrArg₂ (· * ·) h1 ((congrArg (fun i => V m c main_v67 (ix2 n i)) x0).trans (cos_hi m c n ⟨e.val, by omega⟩ (by show 16 ≤ e.val; omega) e.isLt)))
      (congrArg₂ (· * ·) h2 ((congrArg (fun i => V m c main_v70 (ix2 n i)) x0).trans (sin_hi m c n ⟨e.val, by omega⟩ (by show 16 ≤ e.val; omega) e.isLt)))

/-- An index of three axes, by its coordinates. -/
theorem at3 {a b k : ℕ} (j : (⟨3, ![a, b, k]⟩ : Shape).Idx) : ∃ (x : Fin a) (y : Fin b) (z : Fin k), j = ix3 x y z :=
  ⟨j 0, j 1, j 2, by funext a; fin_cases a <;> rfl⟩
/-- An index of four axes, by its coordinates. -/
theorem at4 {a b k l : ℕ} (j : (⟨4, ![a, b, k, l]⟩ : Shape).Idx) : ∃ (x : Fin a) (y : Fin b) (z : Fin k) (w : Fin l), j = ix4 x y z w :=
  ⟨j 0, j 1, j 2, j 3, by funext a; fin_cases a <;> rfl⟩

/-- The rotated keys' array after the run. -/
theorem val73 (c : Dev nD) (hI : (inp m c).Fin') : Pipeline.afterTail₀ cfgs (dats m) 0 (V0 m) [hostOps1] c main_v73
    = fun j : S8x4096x32.Idx => (inp m c).kp (j 0) (j 1) (j 2) := by
  rw [tail73, final28]
  refine funext fun j => ?_
  obtain ⟨b, n, e, rfl⟩ := at3 j
  have h : (extractStridedSlice S8x4096x32 ![0, 0, 0] (fun j : S8x4096x128.Idx => gv m c (j 0) (j 1) (j 2)) slices_S8x4096x128_S8x4096x32_0_0_0 (ix3 b n e) : EReal)
      = gv m c b n ⟨e.val, by omega⟩ := by
    pointwise
  exact h.trans (gv_kp m c hI b n e)

/-- The gate's array after the run. -/
theorem val74 (c : Dev nD) : Pipeline.afterTail₀ cfgs (dats m) 0 (V0 m) [hostOps1] c main_v74
    = fun j : S8x4096x4.Idx => (inp m c).lf (j 0) (j 1) (j 2) := by
  rw [tail74, final28]
  refine funext fun j => ?_
  obtain ⟨b, n, e, rfl⟩ := at3 j
  have h : (extractStridedSlice S8x4096x4 ![0, 0, 32] (fun j : S8x4096x128.Idx => gv m c (j 0) (j 1) (j 2)) slices_S8x4096x128_S8x4096x4_0_0_32 (ix3 b n e) : EReal)
      = gv m c b n ⟨32 + e.val, by omega⟩ := by
    pointwise
  exact h.trans (gv_lf m c b n e)

/-- The latent queries' array after the run. -/
theorem val75 (c : Dev nD) : Pipeline.afterTail₀ cfgs (dats m) 0 (V0 m) [hostOps1] c main_v75
    = fun j : S8x8x4096x128.Idx => (inp m c).ql (j 0) (j 1) (j 2) (j 3) := by
  rw [tail75, final24]
  refine funext fun j => ?_
  obtain ⟨b, hh, n, e, rfl⟩ := at4 j
  have h : (extractStridedSlice S8x8x4096x128 ![0, 0, 0, 0] (fun j : S8x8x4096x256.Idx => hv m c (j 0) (j 1) (j 2) (j 3)) slices_S8x8x4096x256_S8x8x4096x128_0_0_0_0 (ix4 b hh n e) : EReal)
      = hv m c b hh n ⟨e.val, by omega⟩ := by
    pointwise
  exact h.trans (hv_ql m c b hh n e)

/-- The rotated queries' array after the run. -/
theorem val76 (c : Dev nD) (hI : (inp m c).Fin') : Pipeline.afterTail₀ cfgs (dats m) 0 (V0 m) [hostOps1] c main_v76
    = fun j : S8x8x4096x32.Idx => (inp m c).qr (j 0) (j 1) (j 2) (j 3) := by
  rw [tail76, final24]
  refine funext fun j => ?_
  obtain ⟨b, hh, n, e, rfl⟩ := at4 j
  have h : (extractStridedSlice S8x8x4096x32 ![0, 0, 0, 128] (fun j : S8x8x4096x256.Idx => hv m c (j 0) (j 1) (j 2) (j 3)) slices_S8x8x4096x256_S8x8x4096x32_0_0_0_128 (ix4 b hh n e) : EReal)
      = hv m c b hh n ⟨128 + e.val, by omega⟩ := by
    pointwise
  exact h.trans (hv_qr m c hI b hh n e)

end Cert.Kernel2Ideal.Out

end
-- ==== Proof.RI2.Value.lean ====
module

public import proofs.«01_k».proof.Proof.Gen.Reference2Ideal.Run
public import proofs.«01_k».proof.Proof.Maths2
public import Idealize.ShloMosaic.Lib.WordCmp

/-! The projection's reference in closed form: its parts named, each read at an index. -/

@[expose] public section

set_option maxRecDepth 16384

noncomputable section

namespace Cert.Reference2Ideal.Out

open Cert.Reference2Ideal Cert.Reference2Ideal.Gen Cert.Reference2Ideal.Value Cert.Maths
open Idealize.ShloMosaic Idealize.ShloMosaic.TcCoe Idealize.ShloMosaic.Tactic
open Idealize.SL.Sem

variable (m : (ℓ : Loc nD τ sig) → Buf (Elt Ideal) ℓ)

/-- The normalized and modulated rows. -/
def hrow (x : FVec Ideal S8x4096x1024 .f32) (md : FVec Ideal S8x3072 .f32) (g : FVec Ideal S1024 .f32) : FVec Ideal S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] md slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] md slices_S8x3072_S8x1024_0_0)))
/-- The rows' products with the input weights. -/
def prod (h : FVec Ideal S8x4096x1024 .f32) (w : FVec Ideal S1024x2980 .f32) : FVec Ideal S8x4096x2980 .f32 :=
  Host.dotGeneral dot_S8x4096x1024_S1024x2980_S8x4096x2980_2_0_01_1_n_n none h w
/-- The normalized latent. -/
def cvn (p : FVec Ideal S8x4096x2980 .f32) (g : FVec Ideal S128 .f32) : FVec Ideal S8x4096x128 .f32 :=
  mulf (mulf (extractStridedSlice S8x4096x128 ![0, 0, 2308] p slices_S8x4096x2980_S8x4096x128_0_0_2308) (broadcastInDim S8x4096x128 ![0, 1, 2] bcast_S8x4096x1_S8x4096x128_0_1_2 (Host.rsqrt (addf (Host.divf (broadcastInDim S8x4096x1 ![0, 1] bcast_S8x4096_S8x4096x1_0_1 (Host.reduceAdd (mulf (extractStridedSlice S8x4096x128 ![0, 0, 2308] p slices_S8x4096x2980_S8x4096x128_0_0_2308) (extractStridedSlice S8x4096x128 ![0, 0, 2308] p slices_S8x4096x2980_S8x4096x128_0_0_2308)) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x358637BD#32)))))) (broadcastInDim S8x4096x128 ![0, 1, 2] bcast_S1x1x128_S8x4096x128_0_1_2 (broadcastInDim S1x1x128 ![2] bcast_S128_S1x1x128_2 g))
/-- The normalized query latent. -/
def cqn (p : FVec Ideal S8x4096x2980 .f32) (g : FVec Ideal S256 .f32) : FVec Ideal S8x4096x256 .f32 :=
  mulf (mulf (extractStridedSlice S8x4096x256 ![0, 0, 2052] p slices_S8x4096x2980_S8x4096x256_0_0_2052) (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf (extractStridedSlice S8x4096x256 ![0, 0, 2052] p slices_S8x4096x2980_S8x4096x256_0_0_2052) (extractStridedSlice S8x4096x256 ![0, 0, 2052] p slices_S8x4096x2980_S8x4096x256_0_0_2052)) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 g))
/-- The queries. -/
def qrow (a : FVec Ideal S8x4096x256 .f32) (w : FVec Ideal S256x768 .f32) : FVec Ideal S8x4096x768 .f32 :=
  Host.dotGeneral dot_S8x4096x256_S256x768_S8x4096x768_2_0_01_1_n_n none a w
/-- The negated logits of the forget gate. -/
def lgt (p : FVec Ideal S8x4096x2980 .f32) (bf : FVec Ideal S4 .f32) : FVec Ideal S8x4096x4 .f32 :=
  Host.negf (addf (extractStridedSlice S8x4096x4 ![0, 0, 768] p slices_S8x4096x2980_S8x4096x4_0_0_768) (broadcastInDim S8x4096x4 ![0, 1, 2] bcast_S1x1x4_S8x4096x4_0_1_2 (broadcastInDim S1x1x4 ![2] bcast_S4_S1x1x4_2 bf)))
/-- The logarithm of the forget gate from its negated logits. -/
def lgf (z : FVec Ideal S8x4096x4 .f32) : FVec Ideal S8x4096x4 .f32 :=
  Host.negf (select (cmpf .une (subf z (broadcastInDim S8x4096x4 ![] bcast_S_S8x4096x4 (constant S_ .f32 0x00000000#32))) (subf z (broadcastInDim S8x4096x4 ![] bcast_S_S8x4096x4 (constant S_ .f32 0x00000000#32)))) (addf z (broadcastInDim S8x4096x4 ![] bcast_S_S8x4096x4 (constant S_ .f32 0x00000000#32))) (addf (maximumf z (broadcastInDim S8x4096x4 ![] bcast_S_S8x4096x4 (constant S_ .f32 0x00000000#32))) (Host.log1p (Host.exp (Host.negf (Host.absf (subf z (broadcastInDim S8x4096x4 ![] bcast_S_S8x4096x4 (constant S_ .f32 0x00000000#32)))))))))
/-- The rotation's cosines. -/
def ct : FVec Ideal S4096x16 .f32 := Host.cos (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))
/-- The rotation's sines. -/
def st : FVec Ideal S4096x16 .f32 := Host.sin (mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))
/-- The rotated keys. -/
def kpe (ct st : FVec Ideal S4096x16 .f32) (p : FVec Ideal S8x4096x2980 .f32) : FVec Ideal S8x4096x32 .f32 :=
  shapeCast _ (concatenate S8x4096x1x32 3 [⟨S8x4096x1x16, (subf (mulf (extractStridedSlice S8x4096x1x16 ![0, 0, 0, 0] (broadcastInDim S8x4096x1x32 ![0, 1, 3] bcast_S8x4096x32_S8x4096x1x32_0_1_3 (extractStridedSlice S8x4096x32 ![0, 0, 2436] p slices_S8x4096x2980_S8x4096x32_0_0_2436)) slices_S8x4096x1x32_S8x4096x1x16_0_0_0_0) (broadcastInDim S8x4096x1x16 ![0, 1, 2, 3] bcast_S1x4096x1x16_S8x4096x1x16_0_1_2_3 (broadcastInDim S1x4096x1x16 ![1, 3] bcast_S4096x16_S1x4096x1x16_1_3 ct))) (mulf (extractStridedSlice S8x4096x1x16 ![0, 0, 0, 16] (broadcastInDim S8x4096x1x32 ![0, 1, 3] bcast_S8x4096x32_S8x4096x1x32_0_1_3 (extractStridedSlice S8x4096x32 ![0, 0, 2436] p slices_S8x4096x2980_S8x4096x32_0_0_2436)) slices_S8x4096x1x32_S8x4096x1x16_0_0_0_16) (broadcastInDim S8x4096x1x16 ![0, 1, 2, 3] bcast_S1x4096x1x16_S8x4096x1x16_0_1_2_3 (broadcastInDim S1x4096x1x16 ![1, 3] bcast_S4096x16_S1x4096x1x16_1_3 st))))⟩, ⟨S8x4096x1x16, (addf (mulf (extractStridedSlice S8x4096x1x16 ![0, 0, 0, 16] (broadcastInDim S8x4096x1x32 ![0, 1, 3] bcast_S8x4096x32_S8x4096x1x32_0_1_3 (extractStridedSlice S8x4096x32 ![0, 0, 2436] p slices_S8x4096x2980_S8x4096x32_0_0_2436)) slices_S8x4096x1x32_S8x4096x1x16_0_0_0_16) (broadcastInDim S8x4096x1x16 ![0, 1, 2, 3] bcast_S1x4096x1x16_S8x4096x1x16_0_1_2_3 (broadcastInDim S1x4096x1x16 ![1, 3] bcast_S4096x16_S1x4096x1x16_1_3 ct))) (mulf (extractStridedSlice S8x4096x1x16 ![0, 0, 0, 0] (broadcastInDim S8x4096x1x32 ![0, 1, 3] bcast_S8x4096x32_S8x4096x1x32_0_1_3 (extractStridedSlice S8x4096x32 ![0, 0, 2436] p slices_S8x4096x2980_S8x4096x32_0_0_2436)) slices_S8x4096x1x32_S8x4096x1x16_0_0_0_0) (broadcastInDim S8x4096x1x16 ![0, 1, 2, 3] bcast_S1x4096x1x16_S8x4096x1x16_0_1_2_3 (broadcastInDim S1x4096x1x16 ![1, 3] bcast_S4096x16_S1x4096x1x16_1_3 st))))⟩] concatenates_S8x4096x1x16_S8x4096x1x16_S8x4096x1x32_d3) shapeCasts_S8x4096x1x32_S8x4096x32
/-- The latent queries. -/
def qlat (q : FVec Ideal S8x4096x768 .f32) (u : FVec Ideal S128x8x64 .f32) : FVec Ideal S8x8x4096x128 .f32 :=
  transpose S8x8x4096x128 [0, 2, 1, 3] (transpose S8x4096x8x128 [2, 3, 0, 1] (Host.dotGeneral dot_S128x8x64_S8x4096x8x64_S8x128x8x4096_2_3_0_01_1_2 none u (extractStridedSlice S8x4096x8x64 ![0, 0, 0, 0] (shapeCast _ q shapeCasts_S8x4096x768_S8x4096x8x96) slices_S8x4096x8x96_S8x4096x8x64_0_0_0_0)) transposes_S8x128x8x4096_S8x4096x8x128_2_3_0_1) transposes_S8x4096x8x128_S8x8x4096x128_0_2_1_3
/-- The rotated queries. -/
def qrope (ct st : FVec Ideal S4096x16 .f32) (q : FVec Ideal S8x4096x768 .f32) : FVec Ideal S8x8x4096x32 .f32 :=
  transpose S8x8x4096x32 [0, 2, 1, 3] (concatenate S8x4096x8x32 3 [⟨S8x4096x8x16, (subf (mulf (extractStridedSlice S8x4096x8x16 ![0, 0, 0, 0] (extractStridedSlice S8x4096x8x32 ![0, 0, 0, 64] (shapeCast _ q shapeCasts_S8x4096x768_S8x4096x8x96) slices_S8x4096x8x96_S8x4096x8x32_0_0_0_64) slices_S8x4096x8x32_S8x4096x8x16_0_0_0_0) (broadcastInDim S8x4096x8x16 ![0, 1, 2, 3] bcast_S1x4096x1x16_S8x4096x8x16_0_1_2_3 (broadcastInDim S1x4096x1x16 ![1, 3] bcast_S4096x16_S1x4096x1x16_1_3 ct))) (mulf (extractStridedSlice S8x4096x8x16 ![0, 0, 0, 16] (extractStridedSlice S8x4096x8x32 ![0, 0, 0, 64] (shapeCast _ q shapeCasts_S8x4096x768_S8x4096x8x96) slices_S8x4096x8x96_S8x4096x8x32_0_0_0_64) slices_S8x4096x8x32_S8x4096x8x16_0_0_0_16) (broadcastInDim S8x4096x8x16 ![0, 1, 2, 3] bcast_S1x4096x1x16_S8x4096x8x16_0_1_2_3 (broadcastInDim S1x4096x1x16 ![1, 3] bcast_S4096x16_S1x4096x1x16_1_3 st))))⟩, ⟨S8x4096x8x16, (addf (mulf (extractStridedSlice S8x4096x8x16 ![0, 0, 0, 16] (extractStridedSlice S8x4096x8x32 ![0, 0, 0, 64] (shapeCast _ q shapeCasts_S8x4096x768_S8x4096x8x96) slices_S8x4096x8x96_S8x4096x8x32_0_0_0_64) slices_S8x4096x8x32_S8x4096x8x16_0_0_0_16) (broadcastInDim S8x4096x8x16 ![0, 1, 2, 3] bcast_S1x4096x1x16_S8x4096x8x16_0_1_2_3 (broadcastInDim S1x4096x1x16 ![1, 3] bcast_S4096x16_S1x4096x1x16_1_3 ct))) (mulf (extractStridedSlice S8x4096x8x16 ![0, 0, 0, 0] (extractStridedSlice S8x4096x8x32 ![0, 0, 0, 64] (shapeCast _ q shapeCasts_S8x4096x768_S8x4096x8x96) slices_S8x4096x8x96_S8x4096x8x32_0_0_0_64) slices_S8x4096x8x32_S8x4096x8x16_0_0_0_0) (broadcastInDim S8x4096x8x16 ![0, 1, 2, 3] bcast_S1x4096x1x16_S8x4096x8x16_0_1_2_3 (broadcastInDim S1x4096x1x16 ![1, 3] bcast_S4096x16_S1x4096x1x16_1_3 st))))⟩] concatenates_S8x4096x8x16_S8x4096x8x16_S8x4096x8x32_d3) transposes_S8x4096x8x32_S8x8x4096x32_0_2_1_3

/-- The arguments of the program. -/
def arg0 (c : Dev nD) : FVec Ideal S8x4096x1024 .f32 := m ((c.tc : Thread nD τ).loc main_arg0)
def arg1 (c : Dev nD) : FVec Ideal S8x3072 .f32 := m ((c.tc : Thread nD τ).loc main_arg1)
def arg2 (c : Dev nD) : FVec Ideal S1024 .f32 := m ((c.tc : Thread nD τ).loc main_arg2)
def arg3 (c : Dev nD) : FVec Ideal S1024x2980 .f32 := m ((c.tc : Thread nD τ).loc main_arg3)
def arg4 (c : Dev nD) : FVec Ideal S4 .f32 := m ((c.tc : Thread nD τ).loc main_arg4)
def arg5 (c : Dev nD) : FVec Ideal S256 .f32 := m ((c.tc : Thread nD τ).loc main_arg5)
def arg6 (c : Dev nD) : FVec Ideal S256x768 .f32 := m ((c.tc : Thread nD τ).loc main_arg6)
def arg7 (c : Dev nD) : FVec Ideal S128 .f32 := m ((c.tc : Thread nD τ).loc main_arg7)
def arg8 (c : Dev nD) : FVec Ideal S128x8x64 .f32 := m ((c.tc : Thread nD τ).loc main_arg8)

/-- The arguments at their indices. -/
def inp (c : Dev nD) : PIn where
  x b n e := arg0 m c (ix3 b n e)
  md b e := arg1 m c (ix2 b e)
  gp e := arg2 m c (ix1 e)
  w k j := arg3 m c (ix2 k j)
  bf e := arg4 m c (ix1 e)
  gq e := arg5 m c (ix1 e)
  uq k j := arg6 m c (ix2 k j)
  gkv e := arg7 m c (ix1 e)
  uk e hh k := arg8 m c (ix3 e hh k)

/-- The products of the arguments. -/
def pp (c : Dev nD) : FVec Ideal S8x4096x2980 .f32 := prod (hrow (arg0 m c) (arg1 m c) (arg2 m c)) (arg3 m c)
/-- The queries of the arguments. -/
def qq (c : Dev nD) : FVec Ideal S8x4096x768 .f32 := qrow (cqn (pp m c) (arg5 m c)) (arg6 m c)

theorem hrow_at (x md g) (b : Fin 8) (n : Fin 4096) (e : Fin 1024) : (hrow x md g (ix3 b n e) : EReal)
    = x (ix3 b n e) * nrm (fun k => (x (ix3 b n k) : EReal)) (Ideal.ofBits FTy.f32 1149239296#32) * g (ix1 e) * (1 + md (ix2 b ⟨1024 + e.val, by omega⟩)) + md (ix2 b ⟨e.val, by omega⟩) := by
  pointwise [hrow, nrm]

theorem prod_at (h w) (b : Fin 8) (n : Fin 4096) (j : Fin 2980) : (prod h w (ix3 b n j) : EReal)
    = ∑ k, (h (ix3 b n k) : EReal) * w (ix2 k j) := by
  pointwise [prod]

theorem cvn_at (p g) (b : Fin 8) (n : Fin 4096) (e : Fin 128) : (cvn p g (ix3 b n e) : EReal)
    = p (ix3 b n ⟨2308 + e.val, by omega⟩) * nrm (fun j : Fin 128 => (p (ix3 b n ⟨2308 + j.val, by omega⟩) : EReal)) (Ideal.ofBits FTy.f32 1124073472#32) * g (ix1 e) := by
  pointwise [cvn, nrm]

theorem cqn_at (p g) (b : Fin 8) (n : Fin 4096) (e : Fin 256) : (cqn p g (ix3 b n e) : EReal)
    = p (ix3 b n ⟨2052 + e.val, by omega⟩) * nrm (fun j : Fin 256 => (p (ix3 b n ⟨2052 + j.val, by omega⟩) : EReal)) (Ideal.ofBits FTy.f32 1132462080#32) * g (ix1 e) := by
  pointwise [cqn, nrm]

theorem qrow_at (a w) (b : Fin 8) (n : Fin 4096) (j : Fin 768) : (qrow a w (ix3 b n j) : EReal)
    = ∑ k, (a (ix3 b n k) : EReal) * w (ix2 k j) := by
  pointwise [qrow]

theorem lgt_at (p bf) (b : Fin 8) (n : Fin 4096) (e : Fin 4) : (lgt p bf (ix3 b n e) : EReal)
    = -(p (ix3 b n ⟨768 + e.val, by omega⟩) + bf (ix1 e)) := by
  pointwise [lgt]

theorem lgf_at (z) (b : Fin 8) (n : Fin 4096) (e : Fin 4) : (lgf z (ix3 b n e) : EReal)
    = -(max (z (ix3 b n e) : EReal) 0 + Ideal.log1p (Ideal.exp (-(FloatOps.absf (F := Ideal) (φ := FTy.f32) (z (ix3 b n e)) : EReal)))) := by
  pointwise [lgf]
  exact congrArg Neg.neg (if_neg (not_not.mpr rfl))

theorem ct_at (n : Fin 4096) (i : Fin 16) : (ct (ix2 n i) : EReal) = Ideal.cos (ang n.val i.val) := by
  pointwise [ct, ang]

theorem st_at (n : Fin 4096) (i : Fin 16) : (st (ix2 n i) : EReal) = Ideal.sin (ang n.val i.val) := by
  pointwise [st, ang]

theorem qlat_at (q u) (b : Fin 8) (hh : Fin 8) (n : Fin 4096) (e : Fin 128) : (qlat q u (ix4 b hh n e) : EReal)
    = ∑ k : Fin 64, (q (ix3 b n ⟨96 * hh.val + k.val, by omega⟩) : EReal) * u (ix3 e hh k) := by
  pointwise [qlat]
  refine Finset.sum_congr rfl fun k _ => ?_
  rw [mul_comm (u (ix3 e hh k) : EReal)]
  exact congrArg (fun i => (q (ix3 b n i) : EReal) * u (ix3 e hh k)) (Fin.ext (by show hh.val * 96 + k.val = 96 * hh.val + k.val; omega))

theorem kpe_at (p) (b : Fin 8) (n : Fin 4096) (e : Fin 32) : (kpe ct st p (ix3 b n e) : EReal)
    = PIn.rot n (fun i => (p (ix3 b n ⟨2436 + i.val, by omega⟩) : EReal)) e := by
  pointwise [kpe]
  unfold PIn.rot
  by_cases h : e.val < 16
  · rw [dif_pos h, dif_pos h, ct_at, st_at]
  · rw [dif_neg h, dif_neg h, ct_at, st_at]
    refine congrArg₂ (· + ·) (congrArg (fun z : EReal => z * _) ?_) rfl
    exact congrArg (fun i => (p (ix3 b n i) : EReal)) (Fin.ext (by show 2436 + (16 + (e.val - 16)) = 2436 + e.val; omega))

theorem qrope_at (q) (b : Fin 8) (hh : Fin 8) (n : Fin 4096) (e : Fin 32) : (qrope ct st q (ix4 b hh n e) : EReal)
    = PIn.rot n (fun i => (q (ix3 b n ⟨96 * hh.val + 64 + i.val, by omega⟩) : EReal)) e := by
  pointwise [qrope]
  unfold PIn.rot
  have hq : ∀ (a c : ℕ) (ha : a < 768) (hc : c < 768), a = c → (q (ix3 b n ⟨a, ha⟩) : EReal) = q (ix3 b n ⟨c, hc⟩) := by
    intro a c ha hc e
    subst e
    rfl
  by_cases h : e.val < 16
  · rw [dif_pos h, dif_pos h, ct_at, st_at]
    refine congrArg₂ (· - ·) (congrArg (fun z : EReal => z * _) (hq _ _ _ _ ?_)) (congrArg (fun z : EReal => z * _) (hq _ _ _ _ ?_)) <;> first | omega | (dsimp only; omega)
  · rw [dif_neg h, dif_neg h, ct_at, st_at]
    refine congrArg₂ (· + ·) (congrArg (fun z : EReal => z * _) (hq _ _ _ _ ?_)) (congrArg (fun z : EReal => z * _) (hq _ _ _ _ ?_)) <;> first | omega | (dsimp only; omega)

theorem v103_eq (c : Dev nD) : res_main_v103 m c = cvn (pp m c) (arg7 m c) := rfl
theorem v42_eq (c : Dev nD) : res_main_v42 m c = lgf (lgt (pp m c) (arg4 m c)) := rfl
theorem v134_eq (c : Dev nD) : res_main_v134 m c = kpe ct st (pp m c) := rfl
theorem v141_eq (c : Dev nD) : res_main_v141 m c = qlat (qq m c) (arg8 m c) := rfl
theorem v142_eq (c : Dev nD) : res_main_v142 m c = qrope ct st (qq m c) := rfl

/-- An index of three axes, by its coordinates. -/
theorem at3 {a b k : ℕ} (j : (⟨3, ![a, b, k]⟩ : Shape).Idx) : ∃ (x : Fin a) (y : Fin b) (z : Fin k), j = ix3 x y z :=
  ⟨j 0, j 1, j 2, by funext a; fin_cases a <;> rfl⟩
/-- An index of four axes, by its coordinates. -/
theorem at4 {a b k l : ℕ} (j : (⟨4, ![a, b, k, l]⟩ : Shape).Idx) : ∃ (x : Fin a) (y : Fin b) (z : Fin k) (w : Fin l), j = ix4 x y z w :=
  ⟨j 0, j 1, j 2, j 3, by funext a; fin_cases a <;> rfl⟩

theorem pp_at (c : Dev nD) (b : Fin 8) (n : Fin 4096) (j : Fin 2980) : (pp m c (ix3 b n j) : EReal) = (inp m c).pr b n j :=
  (prod_at _ _ b n j).trans (Finset.sum_congr rfl fun k _ => congrArg (fun z : EReal => z * _) (hrow_at _ _ _ b n k))

theorem qq_at (c : Dev nD) (b : Fin 8) (n : Fin 4096) (j : Fin 768) : (qq m c (ix3 b n j) : EReal) = (inp m c).q b n j := by
  refine (qrow_at _ _ b n j).trans (Finset.sum_congr rfl fun k _ => congrArg (fun z : EReal => z * _) ((cqn_at _ _ b n k).trans ?_))
  simp only [pp_at]
  rfl

/-- The normalized latent. -/
theorem v103_val (c : Dev nD) : res_main_v103 m c = fun j : S8x4096x128.Idx => (inp m c).cv (j 0) (j 1) (j 2) := by
  rw [v103_eq]
  refine funext fun j => ?_
  obtain ⟨b, n, e, rfl⟩ := at3 j
  refine (cvn_at _ _ b n e).trans ?_
  simp only [pp_at]
  rfl

/-- The logarithm of the forget gate. -/
theorem v42_val (c : Dev nD) : res_main_v42 m c = fun j : S8x4096x4.Idx => (inp m c).lf (j 0) (j 1) (j 2) := by
  rw [v42_eq]
  refine funext fun j => ?_
  obtain ⟨b, n, e, rfl⟩ := at3 j
  refine (lgf_at _ b n e).trans ?_
  rw [lgt_at, pp_at]
  exact logsig_neg _

/-- The rotated keys. -/
theorem v134_val (c : Dev nD) : res_main_v134 m c = fun j : S8x4096x32.Idx => (inp m c).kp (j 0) (j 1) (j 2) := by
  rw [v134_eq]
  refine funext fun j => ?_
  obtain ⟨b, n, e, rfl⟩ := at3 j
  refine (kpe_at _ b n e).trans ?_
  simp only [pp_at]
  rfl

/-- The latent queries. -/
theorem v141_val (c : Dev nD) : res_main_v141 m c = fun j : S8x8x4096x128.Idx => (inp m c).ql (j 0) (j 1) (j 2) (j 3) := by
  rw [v141_eq]
  refine funext fun j => ?_
  obtain ⟨b, hh, n, e, rfl⟩ := at4 j
  refine (qlat_at _ _ b hh n e).trans ?_
  simp only [qq_at]
  rfl

/-- The rotated queries. -/
theorem v142_val (c : Dev nD) : res_main_v142 m c = fun j : S8x8x4096x32.Idx => (inp m c).qr (j 0) (j 1) (j 2) (j 3) := by
  rw [v142_eq]
  refine funext fun j => ?_
  obtain ⟨b, hh, n, e, rfl⟩ := at4 j
  refine (qrope_at _ b hh n e).trans ?_
  simp only [qq_at]
  rfl

/-- The products' columns from 256. -/
theorem v27_val (c : Dev nD) : extractStridedSlice S8x4096x256 ![0, 0, 256] (pp m c) slices_S8x4096x2980_S8x4096x256_0_0_256 = fun j : S8x4096x256.Idx => (inp m c).pr (j 0) (j 1) ⟨256 + (j 2).val, by have h : (j 2).val < 256 := (j 2).isLt; omega⟩ := by
  refine funext fun j => ?_
  obtain ⟨b, n, e, rfl⟩ := at3 j
  pointwise [pp_at]

/-- The products' columns from 512. -/
theorem v28_val (c : Dev nD) : extractStridedSlice S8x4096x256 ![0, 0, 512] (pp m c) slices_S8x4096x2980_S8x4096x256_0_0_512 = fun j : S8x4096x256.Idx => (inp m c).pr (j 0) (j 1) ⟨512 + (j 2).val, by have h : (j 2).val < 256 := (j 2).isLt; omega⟩ := by
  refine funext fun j => ?_
  obtain ⟨b, n, e, rfl⟩ := at3 j
  pointwise [pp_at]

/-- The products' columns from 772. -/
theorem v30_val (c : Dev nD) : extractStridedSlice S8x4096x256 ![0, 0, 772] (pp m c) slices_S8x4096x2980_S8x4096x256_0_0_772 = fun j : S8x4096x256.Idx => (inp m c).pr (j 0) (j 1) ⟨772 + (j 2).val, by have h : (j 2).val < 256 := (j 2).isLt; omega⟩ := by
  refine funext fun j => ?_
  obtain ⟨b, n, e, rfl⟩ := at3 j
  pointwise [pp_at]

/-- The products' columns from 1284. -/
theorem v32_val (c : Dev nD) : extractStridedSlice S8x4096x256 ![0, 0, 1284] (pp m c) slices_S8x4096x2980_S8x4096x256_0_0_1284 = fun j : S8x4096x256.Idx => (inp m c).pr (j 0) (j 1) ⟨1284 + (j 2).val, by have h : (j 2).val < 256 := (j 2).isLt; omega⟩ := by
  refine funext fun j => ?_
  obtain ⟨b, n, e, rfl⟩ := at3 j
  pointwise [pp_at]

/-- The products' columns from 1540. -/
theorem v33_val (c : Dev nD) : extractStridedSlice S8x4096x256 ![0, 0, 1540] (pp m c) slices_S8x4096x2980_S8x4096x256_0_0_1540 = fun j : S8x4096x256.Idx => (inp m c).pr (j 0) (j 1) ⟨1540 + (j 2).val, by have h : (j 2).val < 256 := (j 2).isLt; omega⟩ := by
  refine funext fun j => ?_
  obtain ⟨b, n, e, rfl⟩ := at3 j
  pointwise [pp_at]

/-- The products' columns from 1796. -/
theorem v34_val (c : Dev nD) : extractStridedSlice S8x4096x256 ![0, 0, 1796] (pp m c) slices_S8x4096x2980_S8x4096x256_0_0_1796 = fun j : S8x4096x256.Idx => (inp m c).pr (j 0) (j 1) ⟨1796 + (j 2).val, by have h : (j 2).val < 256 := (j 2).isLt; omega⟩ := by
  refine funext fun j => ?_
  obtain ⟨b, n, e, rfl⟩ := at3 j
  pointwise [pp_at]

/-- The products' columns from 2468. -/
theorem v38_val (c : Dev nD) : extractStridedSlice S8x4096x512 ![0, 0, 2468] (pp m c) slices_S8x4096x2980_S8x4096x512_0_0_2468 = fun j : S8x4096x512.Idx => (inp m c).pr (j 0) (j 1) ⟨2468 + (j 2).val, by have h : (j 2).val < 512 := (j 2).isLt; omega⟩ := by
  refine funext fun j => ?_
  obtain ⟨b, n, e, rfl⟩ := at3 j
  pointwise [pp_at]

/-- The products' columns from 0, scaled. -/
theorem v137_val (c : Dev nD) : truncf .bf16 (mulf (extractStridedSlice S8x4096x256 ![0, 0, 0] (pp m c) slices_S8x4096x2980_S8x4096x256_0_0_0) (broadcastInDim S8x4096x256 ![] bcast_S_S8x4096x256 (constant S_ .f32 0x3E000000#32))) bitsLt_bf16_f32 = fun j : S8x4096x256.Idx => (inp m c).sc (j 0) (j 1) ⟨(j 2).val, by have h : (j 2).val < 256 := (j 2).isLt; omega⟩ := by
  refine funext fun j => ?_
  obtain ⟨b, n, e, rfl⟩ := at3 j
  pointwise [pp_at, PIn.sc]

/-- The products' columns from 1028, scaled. -/
theorem v140_val (c : Dev nD) : truncf .bf16 (mulf (extractStridedSlice S8x4096x256 ![0, 0, 1028] (pp m c) slices_S8x4096x2980_S8x4096x256_0_0_1028) (broadcastInDim S8x4096x256 ![] bcast_S_S8x4096x256 (constant S_ .f32 0x3E000000#32))) bitsLt_bf16_f32 = fun j : S8x4096x256.Idx => (inp m c).sc (j 0) (j 1) ⟨1028 + (j 2).val, by have h : (j 2).val < 256 := (j 2).isLt; omega⟩ := by
  refine funext fun j => ?_
  obtain ⟨b, n, e, rfl⟩ := at3 j
  pointwise [pp_at, PIn.sc]

end Cert.Reference2Ideal.Out

end
-- ==== Proof.Pre2.lean ====
module

public import proofs.«01_k».proof.Defs
public import proofs.«01_k».proof.Proof.Maths2
public import proofs.«01_k».proof.Proof.Pre
public import Idealize.ShloMosaic.Lib.Pipeline.ValueKit

/-! The projection's precondition read back: the listed inputs are real numbers. -/

@[expose] public section

set_option maxRecDepth 16384

noncomputable section

namespace Cert.AttPre

open Idealize.ShloMosaic Idealize.ShloMosaic.Tactic Cert.Pre_finite_inputs2

/-- The side conditions the projection's precondition states. -/
instance facts2 : Cert.Pre_finite_inputs2.Facts where
  shapeCasts_S256x768_S256x8x96 := by decide
  slices_S8x3072_S8x2048_0_0 := by decide
  bcast_S_S8x2048 := by decide
  reducesTo_S8x2048_S_d0_1 := by decide
  h_S_ := by decide
  bcast_S_S1024 := by decide
  reducesTo_S1024_S_d0 := by decide
  slices_S1024x2980_S1024x16_0_2452 := by decide
  bcast_S_S1024x16 := by decide
  reducesTo_S1024x16_S_d0_1 := by decide
  bcast_S_S256 := by decide
  reducesTo_S256_S_d0 := by decide
  slices_S256x8x96_S256x8x16_0_0_80 := by decide
  bcast_S_S256x8x16 := by decide
  reducesTo_S256x8x16_S_d0_1_2 := by decide

instance : Subsingleton S_.Idx := ⟨fun a b => funext fun d => d.elim0⟩

/-- Where the precondition holds, the modulation's first two thirds, the norms' weights and the listed columns are
real numbers. -/
theorem real_of_pre2 (a0 : FVec Ideal S8x4096x1024 .f32) (a1 : FVec Ideal S8x3072 .f32) (a2 : FVec Ideal S1024 .f32)
    (a3 : FVec Ideal S1024x2980 .f32) (a4 : FVec Ideal S4 .f32) (a5 : FVec Ideal S256 .f32) (a6 : FVec Ideal S256x768 .f32)
    (a7 : FVec Ideal S128 .f32) (a8 : FVec Ideal S128x8x64 .f32)
    (h : fn (F := Ideal) a0 a1 a2 a3 a4 a5 a6 a7 a8 = fun _ => 1#1) :
    ((∀ (b : Fin 8) (e : Fin 2048), Cert.Maths.Re (a1 (ix2 b ⟨e.val, by omega⟩))) ∧ ∀ e : Fin 1024, Cert.Maths.Re (a2 (ix1 e)))
      ∧ (∀ (k : Fin 1024) (i : Fin 16), Cert.Maths.Re (a3 (ix2 k ⟨2452 + i.val, by omega⟩)))
      ∧ (∀ e : Fin 256, Cert.Maths.Re (a5 (ix1 e)))
      ∧ ∀ (k : Fin 256) (hh : Fin 8) (i : Fin 16), Cert.Maths.Re (a6 (ix2 k ⟨96 * hh.val + 80 + i.val, by omega⟩)) := by
  have h' := congrFun h (fun d => d.elim0)
  obtain ⟨h1, e6⟩ := IntOp.andi_eq_one.1 h'
  obtain ⟨h2, e5⟩ := IntOp.andi_eq_one.1 h1
  obtain ⟨h3, e3⟩ := IntOp.andi_eq_one.1 h2
  obtain ⟨e1, e2⟩ := IntOp.andi_eq_one.1 h3
  refine ⟨⟨fun b e => ?_, fun e => ?_⟩, fun k i => ?_, fun e => ?_, fun k hh i => ?_⟩
  · have := real_of_lt _ (Host.reduce_andi_all _ _ _ _ _ e1 (ix2 b e))
    have q : (extractStridedSlice S8x2048 ![0, 0] a1 Facts.slices_S8x3072_S8x2048_0_0 (ix2 b e) : EReal) = a1 (ix2 b ⟨e.val, by omega⟩) := by
      pointwise
    exact (congrArg Cert.Maths.Re q).mp this
  · exact real_of_lt _ (Host.reduce_andi_all _ _ _ _ _ e2 (ix1 e))
  · have := real_of_lt _ (Host.reduce_andi_all _ _ _ _ _ e3 (ix2 k i))
    have q : (extractStridedSlice S1024x16 ![0, 2452] a3 Facts.slices_S1024x2980_S1024x16_0_2452 (ix2 k i) : EReal) = a3 (ix2 k ⟨2452 + i.val, by omega⟩) := by
      pointwise
    exact (congrArg Cert.Maths.Re q).mp this
  · exact real_of_lt _ (Host.reduce_andi_all _ _ _ _ _ e5 (ix1 e))
  · have := real_of_lt _ (Host.reduce_andi_all _ _ _ _ _ e6 (ix3 k hh i))
    have q : (extractStridedSlice S256x8x16 ![0, 0, 80] (shapeCast S256x8x96 a6 Facts.shapeCasts_S256x768_S256x8x96) Facts.slices_S256x8x96_S256x8x16_0_0_80 (ix3 k hh i) : EReal)
        = a6 (ix2 k ⟨96 * hh.val + 80 + i.val, by omega⟩) := by
      pointwise
      exact congrArg (fun j => (a6 (ix2 k j) : EReal)) (Fin.ext (by show hh.val * 96 + (80 + i.val) = 96 * hh.val + 80 + i.val; omega))
    exact (congrArg Cert.Maths.Re q).mp this

end Cert.AttPre

end
-- ==== Proof.Algebraic2.lean ====
module

public import proofs.«01_k».proof.Defs
public import proofs.«01_k».proof.Proof.KI2.Final
public import proofs.«01_k».proof.Proof.KI2.Result
public import proofs.«01_k».proof.Proof.RI2.Value
public import proofs.«01_k».proof.Proof.Pre2
public import Idealize.ShloMosaic.Adequacy
public import Idealize.ShloMosaic.Init

/-! The value claim of the projection: its idealized kernel and its reference end with the same arrays. -/

@[expose] public section

set_option maxRecDepth 16384

noncomputable section

namespace Cert.AttValue

open Idealize.ShloMosaic Idealize.SL.Sem Cert.Maths

/-- The precondition makes the listed inputs real. -/
theorem inp_fin2 (m : (ℓ : Loc Kernel2Ideal.nD Kernel2Ideal.τ Kernel2Ideal.sig) → Buf (Elt Ideal) ℓ)
    (h : Pre_Kernel2Ideal_finite_inputs2 (hPre_finite_inputs2 := AttPre.facts2) m) (c : Dev Kernel2Ideal.nD) :
    (Kernel2Ideal.Out.inp m c).Fin' := by
  obtain ⟨⟨h0, h1⟩, h2, h3, h4⟩ := AttPre.real_of_pre2 _ _ _ _ _ _ _ _ _ (h c)
  exact ⟨⟨fun b e => h0 b e, fun e => h1 e⟩, fun k i => h2 k i, fun e => h3 e, fun k hh i => h4 k hh i⟩

/-- The projection's result 0. -/
def out0 (I : PIn) : FVec Ideal Kernel2Ideal.S8x4096x256 .f32 :=
  fun j : Kernel2Ideal.S8x4096x256.Idx => I.pr (j 0) (j 1) ⟨256 + (j 2).val, by have h : (j 2).val < 256 := (j 2).isLt; omega⟩
/-- The projection's result 1. -/
def out1 (I : PIn) : FVec Ideal Kernel2Ideal.S8x4096x256 .f32 :=
  fun j : Kernel2Ideal.S8x4096x256.Idx => I.pr (j 0) (j 1) ⟨512 + (j 2).val, by have h : (j 2).val < 256 := (j 2).isLt; omega⟩
/-- The projection's result 2. -/
def out2 (I : PIn) : FVec Ideal Kernel2Ideal.S8x4096x4 .f32 :=
  fun j : Kernel2Ideal.S8x4096x4.Idx => I.lf (j 0) (j 1) (j 2)
/-- The projection's result 3. -/
def out3 (I : PIn) : FVec Ideal Kernel2Ideal.S8x4096x256 .f32 :=
  fun j : Kernel2Ideal.S8x4096x256.Idx => I.pr (j 0) (j 1) ⟨1284 + (j 2).val, by have h : (j 2).val < 256 := (j 2).isLt; omega⟩
/-- The projection's result 4. -/
def out4 (I : PIn) : FVec Ideal Kernel2Ideal.S8x4096x256 .f32 :=
  fun j : Kernel2Ideal.S8x4096x256.Idx => I.pr (j 0) (j 1) ⟨1540 + (j 2).val, by have h : (j 2).val < 256 := (j 2).isLt; omega⟩
/-- The projection's result 5. -/
def out5 (I : PIn) : FVec Ideal Kernel2Ideal.S8x4096x128 .f32 :=
  fun j : Kernel2Ideal.S8x4096x128.Idx => I.cv (j 0) (j 1) (j 2)
/-- The projection's result 6. -/
def out6 (I : PIn) : FVec Ideal Kernel2Ideal.S8x4096x32 .f32 :=
  fun j : Kernel2Ideal.S8x4096x32.Idx => I.kp (j 0) (j 1) (j 2)
/-- The projection's result 7. -/
def out7 (I : PIn) : FVec Ideal Kernel2Ideal.S8x4096x256 .f32 :=
  fun j : Kernel2Ideal.S8x4096x256.Idx => I.sc (j 0) (j 1) ⟨(j 2).val, by have h : (j 2).val < 256 := (j 2).isLt; omega⟩
/-- The projection's result 8. -/
def out8 (I : PIn) : FVec Ideal Kernel2Ideal.S8x4096x256 .f32 :=
  fun j : Kernel2Ideal.S8x4096x256.Idx => I.pr (j 0) (j 1) ⟨772 + (j 2).val, by have h : (j 2).val < 256 := (j 2).isLt; omega⟩
/-- The projection's result 9. -/
def out9 (I : PIn) : FVec Ideal Kernel2Ideal.S8x4096x256 .f32 :=
  fun j : Kernel2Ideal.S8x4096x256.Idx => I.sc (j 0) (j 1) ⟨1028 + (j 2).val, by have h : (j 2).val < 256 := (j 2).isLt; omega⟩
/-- The projection's result 10. -/
def out10 (I : PIn) : FVec Ideal Kernel2Ideal.S8x4096x256 .f32 :=
  fun j : Kernel2Ideal.S8x4096x256.Idx => I.pr (j 0) (j 1) ⟨1796 + (j 2).val, by have h : (j 2).val < 256 := (j 2).isLt; omega⟩
/-- The projection's result 11. -/
def out11 (I : PIn) : FVec Ideal Kernel2Ideal.S8x4096x512 .f32 :=
  fun j : Kernel2Ideal.S8x4096x512.Idx => I.pr (j 0) (j 1) ⟨2468 + (j 2).val, by have h : (j 2).val < 512 := (j 2).isLt; omega⟩
/-- The projection's result 12. -/
def out12 (I : PIn) : FVec Ideal Kernel2Ideal.S8x8x4096x128 .f32 :=
  fun j : Kernel2Ideal.S8x8x4096x128.Idx => I.ql (j 0) (j 1) (j 2) (j 3)
/-- The projection's result 13. -/
def out13 (I : PIn) : FVec Ideal Kernel2Ideal.S8x8x4096x32 .f32 :=
  fun j : Kernel2Ideal.S8x8x4096x32.Idx => I.qr (j 0) (j 1) (j 2) (j 3)

set_option maxHeartbeats 4000000 in
/-- The value claim of the projection. -/
theorem algebraic2 : Cert.algebraic_Kernel2Ideal_Reference2Ideal_pre_finite_inputs2 (hKernel2Ideal := Kernel2Ideal.Gen.facts)
    (hReference2Ideal := Reference2Ideal.Gen.facts) (hPre_finite_inputs2 := AttPre.facts2) := by
  intro m g m' g' hp hA
  have hI := inp_fin2 m hp
  have e : ∀ c : Dev Kernel2Ideal.nD, Reference2Ideal.Out.inp m' c = Kernel2Ideal.Out.inp m c := by
    intro c
    obtain ⟨a0, a1, a2, a3, a4, a5, a6, a7, a8⟩ := hA c
    have e0 : Reference2Ideal.Out.arg0 m' c = Kernel2Ideal.Out.arg0 m c := a0
    have e1 : Reference2Ideal.Out.arg1 m' c = Kernel2Ideal.Out.arg1 m c := a1
    have e2 : Reference2Ideal.Out.arg2 m' c = Kernel2Ideal.Out.arg2 m c := a2
    have e3 : Reference2Ideal.Out.arg3 m' c = Kernel2Ideal.Out.arg3 m c := a3
    have e4 : Reference2Ideal.Out.arg4 m' c = Kernel2Ideal.Out.arg4 m c := a4
    have e5 : Reference2Ideal.Out.arg5 m' c = Kernel2Ideal.Out.arg5 m c := a5
    have e6 : Reference2Ideal.Out.arg6 m' c = Kernel2Ideal.Out.arg6 m c := a6
    have e7 : Reference2Ideal.Out.arg7 m' c = Kernel2Ideal.Out.arg7 m c := a7
    have e8 : Reference2Ideal.Out.arg8 m' c = Kernel2Ideal.Out.arg8 m c := a8
    unfold Reference2Ideal.Out.inp Kernel2Ideal.Out.inp
    rw [e0, e1, e2, e3, e4, e5, e6, e7, e8]
  refine ⟨fun c => out0 (Kernel2Ideal.Out.inp m c), fun c => out1 (Kernel2Ideal.Out.inp m c), fun c => out2 (Kernel2Ideal.Out.inp m c), fun c => out3 (Kernel2Ideal.Out.inp m c), fun c => out4 (Kernel2Ideal.Out.inp m c), fun c => out5 (Kernel2Ideal.Out.inp m c), fun c => out6 (Kernel2Ideal.Out.inp m c), fun c => out7 (Kernel2Ideal.Out.inp m c), fun c => out8 (Kernel2Ideal.Out.inp m c), fun c => out9 (Kernel2Ideal.Out.inp m c), fun c => out10 (Kernel2Ideal.Out.inp m c), fun c => out11 (Kernel2Ideal.Out.inp m c), fun c => out12 (Kernel2Ideal.Out.inp m c), fun c => out13 (Kernel2Ideal.Out.inp m c), ?_, ?_⟩
  · refine (θ_run _ _ _).mono (fun _ hh c => ?_) (θ_run_and (Kernel2Ideal.Prj.run_main (F := Ideal) m g) (Kernel2Ideal.Prj.unchanged (F := Ideal) m g))
    obtain ⟨h, hu⟩ := hh
    exact ⟨((h c).1 13).trans (Kernel2Ideal.Out.final13 m c),
      ((h c).1 15).trans (Kernel2Ideal.Out.final15 m c),
      ((h c).2 Kernel2Ideal.main_v74 (Pipeline.mem_restRefs_of Kernel2Ideal.main_v74 (by decide) (by decide))).trans (Kernel2Ideal.Out.val74 m c),
      ((h c).1 19).trans (Kernel2Ideal.Out.final19 m c),
      ((h c).1 21).trans (Kernel2Ideal.Out.final21 m c),
      ((h c).1 25).trans (Kernel2Ideal.Out.final25 m c),
      ((h c).2 Kernel2Ideal.main_v73 (Pipeline.mem_restRefs_of Kernel2Ideal.main_v73 (by decide) (by decide))).trans (Kernel2Ideal.Out.val73 m c (hI c)),
      ((h c).1 12).trans (Kernel2Ideal.Out.final12 m c),
      ((h c).1 17).trans (Kernel2Ideal.Out.final17 m c),
      ((h c).1 18).trans (Kernel2Ideal.Out.final18 m c),
      ((h c).1 23).trans (Kernel2Ideal.Out.final23 m c),
      ((h c).1 27).trans (Kernel2Ideal.Out.final27 m c),
      ((h c).2 Kernel2Ideal.main_v75 (Pipeline.mem_restRefs_of Kernel2Ideal.main_v75 (by decide) (by decide))).trans (Kernel2Ideal.Out.val75 m c),
      ((h c).2 Kernel2Ideal.main_v76 (Pipeline.mem_restRefs_of Kernel2Ideal.main_v76 (by decide) (by decide))).trans (Kernel2Ideal.Out.val76 m c (hI c)),
      hu c⟩
  · refine (θ_run _ _ _).mono (fun _ h c => ?_) (Reference2Ideal.Value.run (F := Ideal) m' g')
    obtain ⟨r0, r1, r2, r3, r4, r5, r6, r7, r8, r9, r10, r11, r12, r13, hu⟩ := h c
    exact ⟨r0.trans ((show _ = out0 (Reference2Ideal.Out.inp m' c) from Reference2Ideal.Out.v27_val m' c).trans (congrArg out0 (e c))),
      r1.trans ((show _ = out1 (Reference2Ideal.Out.inp m' c) from Reference2Ideal.Out.v28_val m' c).trans (congrArg out1 (e c))),
      r2.trans ((show _ = out2 (Reference2Ideal.Out.inp m' c) from Reference2Ideal.Out.v42_val m' c).trans (congrArg out2 (e c))),
      r3.trans ((show _ = out3 (Reference2Ideal.Out.inp m' c) from Reference2Ideal.Out.v32_val m' c).trans (congrArg out3 (e c))),
      r4.trans ((show _ = out4 (Reference2Ideal.Out.inp m' c) from Reference2Ideal.Out.v33_val m' c).trans (congrArg out4 (e c))),
      r5.trans ((show _ = out5 (Reference2Ideal.Out.inp m' c) from Reference2Ideal.Out.v103_val m' c).trans (congrArg out5 (e c))),
      r6.trans ((show _ = out6 (Reference2Ideal.Out.inp m' c) from Reference2Ideal.Out.v134_val m' c).trans (congrArg out6 (e c))),
      r7.trans ((show _ = out7 (Reference2Ideal.Out.inp m' c) from Reference2Ideal.Out.v137_val m' c).trans (congrArg out7 (e c))),
      r8.trans ((show _ = out8 (Reference2Ideal.Out.inp m' c) from Reference2Ideal.Out.v30_val m' c).trans (congrArg out8 (e c))),
      r9.trans ((show _ = out9 (Reference2Ideal.Out.inp m' c) from Reference2Ideal.Out.v140_val m' c).trans (congrArg out9 (e c))),
      r10.trans ((show _ = out10 (Reference2Ideal.Out.inp m' c) from Reference2Ideal.Out.v34_val m' c).trans (congrArg out10 (e c))),
      r11.trans ((show _ = out11 (Reference2Ideal.Out.inp m' c) from Reference2Ideal.Out.v38_val m' c).trans (congrArg out11 (e c))),
      r12.trans ((show _ = out12 (Reference2Ideal.Out.inp m' c) from Reference2Ideal.Out.v141_val m' c).trans (congrArg out12 (e c))),
      r13.trans ((show _ = out13 (Reference2Ideal.Out.inp m' c) from Reference2Ideal.Out.v142_val m' c).trans (congrArg out13 (e c))),
      hu⟩

end Cert.AttValue

end
-- ==== Proof.Spec3.lean ====
module

public import proofs.«01_k».proof.Proof.Maths

/-! The output projection in closed form: its inputs at their indices, the projected rows and the result. -/

@[expose] public section

noncomputable section

namespace Cert.Maths

open Idealize.ShloMosaic

/-- The output projection's inputs, for a number of batches and of positions: the three branches' gated outputs, the weights, the residual, the gate and the norm's weights. -/
structure OIn (nb s : ℕ) where
  yf : Fin nb → Fin s → Fin 256 → EReal
  ys : Fin nb → Fin s → Fin 256 → EReal
  ym : Fin nb → Fin s → Fin 512 → EReal
  w : Fin 1024 → Fin 1024 → EReal
  x : Fin nb → Fin s → Fin 1024 → EReal
  md : Fin nb → Fin 3072 → EReal
  g : Fin 1024 → EReal

namespace OIn
variable {nb s : ℕ} (I : OIn nb s)

/-- The projected row: one product per branch. -/
def y (b : Fin nb) (n : Fin s) (e : Fin 1024) : EReal :=
  (∑ k : Fin 256, I.yf b n k * I.w ⟨k.val, by omega⟩ e) + (∑ k : Fin 256, I.ys b n k * I.w ⟨256 + k.val, by omega⟩ e)
    + ∑ k : Fin 512, I.ym b n k * I.w ⟨512 + k.val, by omega⟩ e

/-- The result: the residual and the gate times the normalized row. -/
def val (b : Fin nb) (n : Fin s) (e : Fin 1024) : EReal :=
  I.x b n e + I.md b ⟨2048 + e.val, by omega⟩ *
    (I.y b n e * Ideal.rsqrt (Ideal.div (∑ k, I.y b n k * I.y b n k) (Ideal.ofBits FTy.f32 1149239296#32) + Ideal.ofBits FTy.f32 897988541#32) * I.g e)

/-- The result of eight batches of sixteen positions, by the row of all the positions one after the other. -/
def row (I : OIn 8 16) (r : Fin 128) (e : Fin 1024) : EReal := I.val ⟨r.val / 16, by omega⟩ ⟨r.val % 16, by omega⟩ e

end OIn

/-- A sum over 1024 places by its first 256, its next 256 and its last 512. -/
theorem sum_three (f : Fin 1024 → EReal) : ∑ k, f k = (∑ k : Fin 256, f ⟨k.val, by omega⟩) + (∑ k : Fin 256, f ⟨256 + k.val, by omega⟩)
    + ∑ k : Fin 512, f ⟨512 + k.val, by omega⟩ := by
  have h1 := Fin.sum_univ_add (a := 512) (b := 512) f
  have h2 := Fin.sum_univ_add (a := 256) (b := 256) fun k => f (Fin.castAdd 512 k)
  rw [h1, h2]
  rfl

end Cert.Maths

end
-- ==== Proof.KI3.Final.lean ====
module

public import proofs.«01_k».proof.Proof.Gen.Kernel3Ideal.Frame
public import proofs.«01_k».proof.Proof.Spec3
public import Idealize.ShloMosaic.Lib.WordCmp
public import Idealize.ShloMosaic.Lib.Pipeline.Value
public import Idealize.ShloMosaic.Lib.Pipeline.ValueKit
public import Idealize.ShloMosaic.Lib.StableHlo.RunRead

/-! The output projection's result array in closed form. -/

@[expose] public section

set_option maxRecDepth 16384

noncomputable section

namespace Cert.Kernel3Ideal.Out

open Cert.Kernel3Ideal Cert.Kernel3Ideal.Gen Cert.Maths
open Idealize.ShloMosaic Idealize.ShloMosaic.TcCoe Idealize.ShloMosaic.Tactic
open Idealize.SL.Sem

variable (m : (ℓ : Loc nD τ sig) → Buf (Elt Ideal) ℓ)

/-- The arguments of the program. -/
def arg0 (c : Dev nD) : FVec Ideal S8x4096x256 .f32 := m ((c : Thread nD τ).loc main_arg0)
def arg1 (c : Dev nD) : FVec Ideal S8x4096x256 .f32 := m ((c : Thread nD τ).loc main_arg1)
def arg2 (c : Dev nD) : FVec Ideal S8x4096x512 .f32 := m ((c : Thread nD τ).loc main_arg2)
def arg3 (c : Dev nD) : FVec Ideal S1024x1024 .f32 := m ((c : Thread nD τ).loc main_arg3)
def arg4 (c : Dev nD) : FVec Ideal S8x4096x1024 .f32 := m ((c : Thread nD τ).loc main_arg4)
def arg5 (c : Dev nD) : FVec Ideal S8x3072 .f32 := m ((c : Thread nD τ).loc main_arg5)
def arg6 (c : Dev nD) : FVec Ideal S1024 .f32 := m ((c : Thread nD τ).loc main_arg6)

/-- The arguments at their indices. -/
def inp (c : Dev nD) : OIn 8 4096 where
  yf b n k := arg0 m c (ix3 b n k)
  ys b n k := arg1 m c (ix3 b n k)
  ym b n k := arg2 m c (ix3 b n k)
  w k e := arg3 m c (ix2 k e)
  x b n e := arg4 m c (ix3 b n e)
  md b e := arg5 m c (ix2 b e)
  g e := arg6 m c (ix1 e)

/-! ## The body's values -/

theorem y_at (x0 x1 : Vec Ideal S1x512x256 .bf16) (x2 : Vec Ideal S1x512x512 .bf16) (x3 : Vec Ideal S1024x1024 .bf16) (n : Fin 512) (e : Fin 1024) :
   (k0_pay2 (View.ld x0 r0_0) (View.ld x3 r0_1) (View.ld x1 r0_0) (View.ld x3 r0_2) (View.ld x2 r0_3) (View.ld x3 r0_4) (ix2 n e) : EReal)
    = (∑ k : Fin 256, (x0 (ix3 0 n k) : EReal) * x3 (ix2 ⟨k.val, by omega⟩ e)) + (∑ k : Fin 256, (x1 (ix3 0 n k) : EReal) * x3 (ix2 ⟨256 + k.val, by omega⟩ e))
      + ∑ k : Fin 512, (x2 (ix3 0 n k) : EReal) * x3 (ix2 ⟨512 + k.val, by omega⟩ e) := by
  pointwise [k0_pay2]

theorem s_at (x0 x1 x2 x3 x4 x5) (n : Fin 512) : (k0_pay6 (F := Ideal) x0 x1 x2 x3 x4 x5 (ix2 n 0) : EReal)
    = Ideal.div (∑ e, (k0_pay2 x0 x1 x2 x3 x4 x5 (ix2 n e) : EReal) * k0_pay2 x0 x1 x2 x3 x4 x5 (ix2 n e)) (Ideal.ofBits FTy.f32 1149239296#32) := by
  pointwise [k0_pay6]

theorem g_at (x5 : Vec Ideal S1x1x3072 .f32) (e : Fin 1024) :
   (k0_pay3 (F := Ideal) (View.ld x5 r0_5) (ix2 0 e) : EReal) = x5 (ix3 0 0 ⟨2048 + e.val, by omega⟩) := by
  pointwise [k0_pay3]

theorem x_at (x4 : Vec Ideal S1x512x1024 .f32) (n : Fin 512) (e : Fin 1024) :
   (k0_pay4 (F := Ideal) (View.ld x4 r0_6) (ix2 n e) : EReal) = x4 (ix3 0 n e) := by
  pointwise [k0_pay4]

theorem p_at (x6 : Vec Ideal S1x1024 .f32) (e : Fin 1024) :
   (k0_pay5 (F := Ideal) (View.ld x6 r0_7) (ix2 0 e) : EReal) = x6 (ix2 0 e) := by
  pointwise [k0_pay5]

theorem o_at (y x : FVec Ideal S512x1024 .f32) (v19 v23 : FVec Ideal S1x1024 .f32) (s : FVec Ideal S512x1 .f32) (w : Ideal .f32) (n : Fin 512) (e : Fin 1024) :
   (k0_pay1 y v19 x v23 s w (ix3 0 n e) : EReal)
    = (x (ix2 n e) : EReal) + v19 (ix2 0 e) * (y (ix2 n e) * Ideal.rsqrt (s (ix2 n 0) + w) * v23 (ix2 0 e)) := by
  pointwise [k0_pay1]

/-! ## The prepared operands -/

theorem V0_at (c : Dev nD) (b : Fin 8) (n : Fin 4096) (k : Fin 256) : V m c main_v0 (ix3 b n k) = (inp m c).yf b n k := by
  entry_read
  pointwise
  rfl
theorem V1_at (c : Dev nD) (b : Fin 8) (n : Fin 4096) (k : Fin 256) : V m c main_v1 (ix3 b n k) = (inp m c).ys b n k := by
  entry_read
  pointwise
  rfl
theorem V2_at (c : Dev nD) (b : Fin 8) (n : Fin 4096) (k : Fin 512) : V m c main_v2 (ix3 b n k) = (inp m c).ym b n k := by
  entry_read
  pointwise
  rfl
theorem V3_at (c : Dev nD) (k e : Fin 1024) : V m c main_v3 (ix2 k e) = (inp m c).w k e := by
  entry_read
  pointwise
  rfl
theorem V4_at (c : Dev nD) (b : Fin 8) (d : Fin 3072) : V m c main_v4 (ix3 b 0 d) = (inp m c).md b d := by
  entry_read
  pointwise
  rfl
theorem V5_at (c : Dev nD) (d : Fin 1024) : V m c main_v5 (ix2 0 d) = (inp m c).g d := by
  entry_read
  pointwise
  rfl

/-! ## The windows' blocks -/

theorem idx : ∀ t : Fin cfg0.N, win0_0.index t = ![(grid0.coords t 0).val, (grid0.coords t 1).val, 0] ∧ win0_1.index t = ![(grid0.coords t 0).val, (grid0.coords t 1).val, 0]
   ∧ win0_2.index t = ![(grid0.coords t 0).val, (grid0.coords t 1).val, 0] ∧ win0_3.index t = ![0, 0] ∧ win0_4.index t = ![(grid0.coords t 0).val, (grid0.coords t 1).val, 0]
   ∧ win0_5.index t = ![(grid0.coords t 0).val, 0, 0] ∧ win0_6.index t = ![0, 0] ∧ win0_7.index t = ![(grid0.coords t 0).val, (grid0.coords t 1).val, 0]
   ∧ (grid0.coords t 0).val < 8 ∧ (grid0.coords t 1).val < 8 := (by decide +kernel : ∀ t : Fin grid0.N, _)

/-- The row of the batch of a point. -/
def bt (t : Fin cfg0.N) : Fin 8 := ⟨(grid0.coords t 0).val, (idx t).2.2.2.2.2.2.2.2.1⟩
/-- The row of a point at a place of its block. -/
def qt (t : Fin cfg0.N) (q : Fin 512) : Fin 4096 := ⟨512 * (grid0.coords t 1).val + q.val, by have := (idx t).2.2.2.2.2.2.2.2.2; omega⟩

theorem ib0 (c : Dev nD) (t : Fin cfg0.N) (q : Fin 512) (k : Fin 256) : iblk m c 0 t (ix3 0 q k) = (inp m c).yf (bt t) (qt t q) k := by
  refine Eq.trans ?_ (V0_at m c _ _ k)
  unfold bt qt
  blk_ext [iblk, idx t]
theorem ib1 (c : Dev nD) (t : Fin cfg0.N) (q : Fin 512) (k : Fin 256) : iblk m c 1 t (ix3 0 q k) = (inp m c).ys (bt t) (qt t q) k := by
  refine Eq.trans ?_ (V1_at m c _ _ k)
  unfold bt qt
  blk_ext [iblk, idx t]
theorem ib2 (c : Dev nD) (t : Fin cfg0.N) (q : Fin 512) (k : Fin 512) : iblk m c 2 t (ix3 0 q k) = (inp m c).ym (bt t) (qt t q) k := by
  refine Eq.trans ?_ (V2_at m c _ _ k)
  unfold bt qt
  blk_ext [iblk, idx t]
theorem ib3 (c : Dev nD) (t : Fin cfg0.N) (k e : Fin 1024) : iblk m c 3 t (ix2 k e) = (inp m c).w k e := by
  refine Eq.trans ?_ (V3_at m c k e)
  blk_ext [iblk, idx t]
theorem ib4 (c : Dev nD) (t : Fin cfg0.N) (q : Fin 512) (e : Fin 1024) : iblk m c 4 t (ix3 0 q e) = (inp m c).x (bt t) (qt t q) e := by
  unfold inp arg4 bt qt
  blk_ext [iblk, V, idx t]
theorem ib5 (c : Dev nD) (t : Fin cfg0.N) (d : Fin 3072) : iblk m c 5 t (ix3 0 0 d) = (inp m c).md (bt t) d := by
  refine Eq.trans ?_ (V4_at m c _ d)
  unfold bt
  blk_ext [iblk, idx t]
theorem ib6 (c : Dev nD) (t : Fin cfg0.N) (e : Fin 1024) : iblk m c 6 t (ix2 0 e) = (inp m c).g e := by
  refine Eq.trans ?_ (V5_at m c e)
  blk_ext [iblk, idx t]

/-- The block a point stores is the body's one store. -/
theorem out_eq (x0 x1 : Vec Ideal S1x512x256 .bf16) (x2 : Vec Ideal S1x512x512 .bf16) (x3 : Vec Ideal S1024x1024 .bf16) (x4 : Vec Ideal S1x512x1024 .f32) (x5 : Vec Ideal S1x1x3072 .f32) (x6 : Vec Ideal S1x1024 .f32) :
    out0_7 x0 x1 x2 x3 x4 x5 x6 = k0_pay1 (k0_pay2 (View.ld x0 r0_0) (View.ld x3 r0_1) (View.ld x1 r0_0) (View.ld x3 r0_2) (View.ld x2 r0_3) (View.ld x3 r0_4)) (k0_pay3 (View.ld x5 r0_5)) (k0_pay4 (View.ld x4 r0_6)) (k0_pay5 (View.ld x6 r0_7)) (k0_pay6 (View.ld x0 r0_0) (View.ld x3 r0_1) (View.ld x1 r0_0) (View.ld x3 r0_2) (View.ld x2 r0_3) (View.ld x3 r0_4)) (Scalar.ofBits .f32 0x358637BD#32) := by
  unfold out0_7
  exact View.canon_unit_zero (by decide) _ _

/-- The block a point stores, at an index. -/
theorem block_at (c : Dev nD) (t : Fin cfg0.N) (n : Fin 512) (e : Fin 1024) :
    (out0_7 (iblk m c 0 t) (iblk m c 1 t) (iblk m c 2 t) (iblk m c 3 t) (iblk m c 4 t) (iblk m c 5 t) (iblk m c 6 t) (ix3 0 n e) : EReal)
      = (inp m c).val (bt t) (qt t n) e := by
  have hy : ∀ e : Fin 1024, (k0_pay2 (View.ld (iblk m c 0 t) r0_0) (View.ld (iblk m c 3 t) r0_1) (View.ld (iblk m c 1 t) r0_0) (View.ld (iblk m c 3 t) r0_2) (View.ld (iblk m c 2 t) r0_3) (View.ld (iblk m c 3 t) r0_4) (ix2 n e) : EReal)
      = (inp m c).y (bt t) (qt t n) e := fun e => by
    refine (y_at _ _ _ _ n e).trans ?_
    simp only [ib0, ib1, ib2, ib3]
    rfl
  rw [out_eq]
  refine (o_at _ _ _ _ _ _ n e).trans ?_
  rw [x_at, g_at, p_at, s_at, ib4, ib5, ib6]
  exact congrArg₂ (· + ·) rfl (congrArg₂ (· * ·) rfl (congrArg₂ (· * ·) (congrArg₂ (· * ·) (hy e) (congrArg Ideal.rsqrt
    (congrArg₂ (· + ·) (congrArg (fun z => Ideal.div z _) (Finset.sum_congr rfl fun k _ => congrArg₂ (· * ·) (hy k) (hy k))) rfl))) rfl))

/-- The result array after the run. -/
theorem final (c : Dev nD) : (dats m 0 c).arrAt 7 (cfgs 0).N
    = fun j : S8x4096x1024.Idx => (inp m c).val (j 0) (j 1) (j 2) := by
  refine (dats m 0 c).arrAt_eq_of_covers 7 _ (by decide +kernel) fun t _ y => ?_
  blk_simp
  rw [after0_7]
  have h0 : (y 0).val < 1 := (y 0).isLt
  have hy : y = (ix3 0 (y 1) (y 2) : S1x512x1024.Idx) := by
    funext a
    fin_cases a
    · exact Fin.ext (Nat.lt_one_iff.mp h0)
    · rfl
    · rfl
  refine (congrArg (out0_7 (iblk m c 0 t) (iblk m c 1 t) (iblk m c 2 t) (iblk m c 3 t) (iblk m c 4 t) (iblk m c 5 t) (iblk m c 6 t)) hy).trans ((block_at m c t (y 1) (y 2)).trans ?_)
  have e0 : bt t = (win0_7.blk t).view.emb y 0 := Fin.ext (by blk_simp [idx t]; show (grid0.coords t 0).val = _; omega)
  have e1 : qt t (y 1) = (win0_7.blk t).view.emb y 1 := Fin.ext (by blk_simp [idx t]; show 512 * (grid0.coords t 1).val + (y 1).val = _; omega)
  have e2 : y 2 = (win0_7.blk t).view.emb y 2 := Fin.ext (by blk_simp [idx t])
  rw [e0, e1]
  exact congrArg _ e2

end Cert.Kernel3Ideal.Out
end
-- ==== Proof.RI3.Value.lean ====
module

public import proofs.«01_k».proof.Proof.Gen.Reference3Ideal.Run
public import proofs.«01_k».proof.Proof.Spec3
public import Idealize.ShloMosaic.Lib.WordCmp

/-! The output projection's reference in closed form: its parts named, each read at an index. -/

@[expose] public section

set_option maxRecDepth 16384

noncomputable section

namespace Cert.Reference3Ideal.Out

open Cert.Reference3Ideal Cert.Reference3Ideal.Gen Cert.Reference3Ideal.Value Cert.Maths
open Idealize.ShloMosaic Idealize.ShloMosaic.TcCoe Idealize.ShloMosaic.Tactic
open Idealize.SL.Sem

variable (m : (ℓ : Loc nD τ sig) → Buf (Elt Ideal) ℓ)

/-- The branches' outputs, side by side. -/
def cat (a0 a1 : FVec Ideal S8x4096x256 .f32) (a2 : FVec Ideal S8x4096x512 .f32) : FVec Ideal S8x4096x1024 .f32 :=
  (concatenate S8x4096x1024 2 [⟨S8x4096x256, (a0 : (⟨S8x4096x256, .f32⟩ : BufTy).Contents (Elt Ideal))⟩, ⟨S8x4096x256, (a1 : (⟨S8x4096x256, .f32⟩ : BufTy).Contents (Elt Ideal))⟩, ⟨S8x4096x512, (a2 : (⟨S8x4096x512, .f32⟩ : BufTy).Contents (Elt Ideal))⟩] concatenates_S8x4096x256_S8x4096x256_S8x4096x512_S8x4096x1024_d2 : (⟨S8x4096x1024, .f32⟩ : BufTy).Contents (Elt Ideal))
/-- The projected rows. -/
def proj (a : FVec Ideal S8x4096x1024 .f32) (a3 : FVec Ideal S1024x1024 .f32) : FVec Ideal S8x4096x1024 .f32 :=
  Host.dotGeneral dot_S8x4096x1024_S1024x1024_S8x4096x1024_2_0_01_1_n_n none a a3
/-- The result from the projected rows. -/
def fin (y x : FVec Ideal S8x4096x1024 .f32) (md : FVec Ideal S8x3072 .f32) (g : FVec Ideal S1024 .f32) : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] md slices_S8x3072_S8x1024_0_2048))) (mulf (mulf y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))))

/-- The arguments of the program. -/
def arg0 (c : Dev nD) : FVec Ideal S8x4096x256 .f32 := m ((c.tc : Thread nD τ).loc main_arg0)
def arg1 (c : Dev nD) : FVec Ideal S8x4096x256 .f32 := m ((c.tc : Thread nD τ).loc main_arg1)
def arg2 (c : Dev nD) : FVec Ideal S8x4096x512 .f32 := m ((c.tc : Thread nD τ).loc main_arg2)
def arg3 (c : Dev nD) : FVec Ideal S1024x1024 .f32 := m ((c.tc : Thread nD τ).loc main_arg3)
def arg4 (c : Dev nD) : FVec Ideal S8x4096x1024 .f32 := m ((c.tc : Thread nD τ).loc main_arg4)
def arg5 (c : Dev nD) : FVec Ideal S8x3072 .f32 := m ((c.tc : Thread nD τ).loc main_arg5)
def arg6 (c : Dev nD) : FVec Ideal S1024 .f32 := m ((c.tc : Thread nD τ).loc main_arg6)

/-- The arguments at their indices. -/
def inp (c : Dev nD) : OIn 8 4096 where
  yf b n k := arg0 m c (ix3 b n k)
  ys b n k := arg1 m c (ix3 b n k)
  ym b n k := arg2 m c (ix3 b n k)
  w k e := arg3 m c (ix2 k e)
  x b n e := arg4 m c (ix3 b n e)
  md b e := arg5 m c (ix2 b e)
  g e := arg6 m c (ix1 e)

theorem cat_at (a0 a1 a2) (b : Fin 8) (n : Fin 4096) (e : Fin 1024) : (cat a0 a1 a2 (ix3 b n e) : EReal)
    = if h1 : e.val < 256 then (a0 (ix3 b n ⟨e.val, h1⟩) : EReal) else if h2 : e.val - 256 < 256 then (a1 (ix3 b n ⟨e.val - 256, h2⟩) : EReal)
      else (a2 (ix3 b n ⟨e.val - 256 - 256, by omega⟩) : EReal) := by
  pointwise [cat]

theorem proj_at (a a3) (b : Fin 8) (n : Fin 4096) (e : Fin 1024) : (proj a a3 (ix3 b n e) : EReal)
    = ∑ k, (a (ix3 b n k) : EReal) * a3 (ix2 k e) := by
  pointwise [proj]

theorem fin_at (y x md g) (b : Fin 8) (n : Fin 4096) (e : Fin 1024) : (fin y x md g (ix3 b n e) : EReal)
    = (x (ix3 b n e) : EReal) + md (ix2 b ⟨2048 + e.val, by omega⟩) *
        (y (ix3 b n e) * Ideal.rsqrt (Ideal.div (∑ k, (y (ix3 b n k) : EReal) * y (ix3 b n k)) (Ideal.ofBits FTy.f32 1149239296#32) + Ideal.ofBits FTy.f32 897988541#32) * g (ix1 e)) := by
  pointwise [fin]

/-- The projected rows of the arguments. -/
theorem y_val (c : Dev nD) (b : Fin 8) (n : Fin 4096) (e : Fin 1024) :
    (proj (cat (arg0 m c) (arg1 m c) (arg2 m c)) (arg3 m c) (ix3 b n e) : EReal) = (inp m c).y b n e := by
  rw [proj_at]
  refine (sum_three _).trans ?_
  unfold OIn.y
  refine congrArg₂ (· + ·) (congrArg₂ (· + ·) ?_ ?_) ?_
  · refine Finset.sum_congr rfl fun k _ => congrArg (fun z : EReal => z * _) ?_
    rw [cat_at, dif_pos k.isLt]
    rfl
  · refine Finset.sum_congr rfl fun k _ => congrArg (fun z : EReal => z * _) ?_
    have h1 : ¬ (256 + k.val < 256) := by omega
    have h2 : 256 + k.val - 256 < 256 := by omega
    rw [cat_at, dif_neg h1, dif_pos h2]
    exact congrArg (fun z => (inp m c).ys b n z) (Fin.ext (by show 256 + k.val - 256 = k.val; omega))
  · refine Finset.sum_congr rfl fun k _ => congrArg (fun z : EReal => z * _) ?_
    have h1 : ¬ (512 + k.val < 256) := by omega
    have h2 : ¬ (512 + k.val - 256 < 256) := by omega
    rw [cat_at, dif_neg h1, dif_neg h2]
    exact congrArg (fun z => (inp m c).ym b n z) (Fin.ext (by show 512 + k.val - 256 - 256 = k.val; omega))

/-- The reference's result in closed form. -/
theorem res_val (c : Dev nD) : fin (proj (cat (arg0 m c) (arg1 m c) (arg2 m c)) (arg3 m c)) (arg4 m c) (arg5 m c) (arg6 m c)
    = fun j : S8x4096x1024.Idx => (inp m c).val (j 0) (j 1) (j 2) := by
  funext j
  obtain ⟨b, n, e, rfl⟩ : ∃ (b : Fin 8) (n : Fin 4096) (e : Fin 1024), j = ix3 b n e :=
    ⟨j 0, j 1, j 2, by funext a; fin_cases a <;> rfl⟩
  refine (fin_at _ _ _ _ b n e).trans ?_
  simp only [y_val]
  rfl

end Cert.Reference3Ideal.Out
end
-- ==== Proof.Algebraic3.lean ====
module

public import proofs.«01_k».proof.Defs
public import proofs.«01_k».proof.Proof.KI3.Final
public import proofs.«01_k».proof.Proof.RI3.Value
public import Idealize.ShloMosaic.Adequacy
public import Idealize.ShloMosaic.Init

/-! The value claim of the output projection: its idealized kernel and its reference end with the same array. -/

@[expose] public section

noncomputable section

namespace Cert.AttValue

open Idealize.ShloMosaic Idealize.SL.Sem Cert.Maths

/-- The value claim of the output projection. -/
theorem algebraic3 : Cert.algebraic_Kernel3Ideal_Reference3Ideal (hKernel3Ideal := Kernel3Ideal.Gen.facts)
    (hReference3Ideal := Reference3Ideal.Gen.facts) := by
  intro m g m' g' _ hA
  have e : ∀ c : Dev Kernel3Ideal.nD, Reference3Ideal.Out.inp m' c = Kernel3Ideal.Out.inp m c := by
    intro c
    obtain ⟨a0, a1, a2, a3, a4, a5, a6⟩ := hA c
    have e0 : Reference3Ideal.Out.arg0 m' c = Kernel3Ideal.Out.arg0 m c := a0
    have e1 : Reference3Ideal.Out.arg1 m' c = Kernel3Ideal.Out.arg1 m c := a1
    have e2 : Reference3Ideal.Out.arg2 m' c = Kernel3Ideal.Out.arg2 m c := a2
    have e3 : Reference3Ideal.Out.arg3 m' c = Kernel3Ideal.Out.arg3 m c := a3
    have e4 : Reference3Ideal.Out.arg4 m' c = Kernel3Ideal.Out.arg4 m c := a4
    have e5 : Reference3Ideal.Out.arg5 m' c = Kernel3Ideal.Out.arg5 m c := a5
    have e6 : Reference3Ideal.Out.arg6 m' c = Kernel3Ideal.Out.arg6 m c := a6
    unfold Reference3Ideal.Out.inp Kernel3Ideal.Out.inp
    rw [e0, e1, e2, e3, e4, e5, e6]
  refine ⟨fun c => fun j : Kernel3Ideal.S8x4096x1024.Idx => (Kernel3Ideal.Out.inp m c).val (j 0) (j 1) (j 2), ?_, ?_⟩
  · exact (θ_run _ _ _).mono (fun _ h c => ⟨(h.1 c 7).trans (Kernel3Ideal.Out.final m c), h.2 c⟩)
      (θ_run_and ((θ_run _ _ _).mono (fun _ h c => (h c).1) (Kernel3Ideal.Gen.run_main (F := Ideal) m g))
        (Kernel3Ideal.Gen.unchanged (F := Ideal) m g))
  · refine (θ_run _ _ _).mono (fun _ h c => ?_) (Reference3Ideal.Value.run (F := Ideal) m' g')
    have hv := Reference3Ideal.Out.res_val m' c
    rw [e c] at hv
    exact ⟨(h c).1.trans hv, (h c).2⟩

end Cert.AttValue

end
-- ==== Proof.KI4.Final.lean ====
module

public import proofs.«01_k».proof.Proof.Gen.Kernel4Ideal.Frame
public import proofs.«01_k».proof.Proof.Spec3
public import Idealize.ShloMosaic.Lib.WordCmp
public import Idealize.ShloMosaic.Lib.Pipeline.Value
public import Idealize.ShloMosaic.Lib.Pipeline.ValueKit
public import Idealize.ShloMosaic.Lib.StableHlo.RunRead

/-! The sample's output projection's result array in closed form. -/

@[expose] public section

set_option maxRecDepth 16384

noncomputable section

namespace Cert.Kernel4Ideal.Out

open Cert.Kernel4Ideal Cert.Kernel4Ideal.Gen Cert.Maths
open Idealize.ShloMosaic Idealize.ShloMosaic.TcCoe Idealize.ShloMosaic.Tactic
open Idealize.SL.Sem

variable (m : (ℓ : Loc nD τ sig) → Buf (Elt Ideal) ℓ)

/-- The arguments of the program. -/
def arg0 (c : Dev nD) : FVec Ideal S8x16x256 .f32 := m ((c : Thread nD τ).loc main_arg0)
def arg1 (c : Dev nD) : FVec Ideal S8x16x256 .f32 := m ((c : Thread nD τ).loc main_arg1)
def arg2 (c : Dev nD) : FVec Ideal S8x16x512 .f32 := m ((c : Thread nD τ).loc main_arg2)
def arg3 (c : Dev nD) : FVec Ideal S1024x1024 .f32 := m ((c : Thread nD τ).loc main_arg3)
def arg4 (c : Dev nD) : FVec Ideal S8x16x1024 .f32 := m ((c : Thread nD τ).loc main_arg4)
def arg5 (c : Dev nD) : FVec Ideal S8x3072 .f32 := m ((c : Thread nD τ).loc main_arg5)
def arg6 (c : Dev nD) : FVec Ideal S1024 .f32 := m ((c : Thread nD τ).loc main_arg6)

/-- The arguments at their indices. -/
def inp (c : Dev nD) : OIn 8 16 where
  yf b n k := arg0 m c (ix3 b n k)
  ys b n k := arg1 m c (ix3 b n k)
  ym b n k := arg2 m c (ix3 b n k)
  w k e := arg3 m c (ix2 k e)
  x b n e := arg4 m c (ix3 b n e)
  md b e := arg5 m c (ix2 b e)
  g e := arg6 m c (ix1 e)

/-! ## The body's values -/

theorem y_at (x0 x1 : Vec Ideal S1x128x256 .bf16) (x2 : Vec Ideal S1x128x512 .bf16) (x3 : Vec Ideal S1024x1024 .bf16) (n : Fin 128) (e : Fin 1024) :
   (k0_pay2 (View.ld x0 r0_0) (View.ld x3 r0_1) (View.ld x1 r0_0) (View.ld x3 r0_2) (View.ld x2 r0_3) (View.ld x3 r0_4) (ix2 n e) : EReal)
    = (∑ k : Fin 256, (x0 (ix3 0 n k) : EReal) * x3 (ix2 ⟨k.val, by omega⟩ e)) + (∑ k : Fin 256, (x1 (ix3 0 n k) : EReal) * x3 (ix2 ⟨256 + k.val, by omega⟩ e))
      + ∑ k : Fin 512, (x2 (ix3 0 n k) : EReal) * x3 (ix2 ⟨512 + k.val, by omega⟩ e) := by
  pointwise [k0_pay2]

theorem s_at (x0 x1 x2 x3 x4 x5) (n : Fin 128) : (k0_pay6 (F := Ideal) x0 x1 x2 x3 x4 x5 (ix2 n 0) : EReal)
    = Ideal.div (∑ e, (k0_pay2 x0 x1 x2 x3 x4 x5 (ix2 n e) : EReal) * k0_pay2 x0 x1 x2 x3 x4 x5 (ix2 n e)) (Ideal.ofBits FTy.f32 1149239296#32) := by
  pointwise [k0_pay6]

theorem g_at (x5 : Vec Ideal S1x128x3072 .f32) (n : Fin 128) (e : Fin 1024) :
   (k0_pay3 (F := Ideal) (View.ld x5 r0_5) (ix2 n e) : EReal) = x5 (ix3 0 n ⟨2048 + e.val, by omega⟩) := by
  pointwise [k0_pay3]

theorem x_at (x4 : Vec Ideal S1x128x1024 .f32) (n : Fin 128) (e : Fin 1024) :
   (k0_pay4 (F := Ideal) (View.ld x4 r0_6) (ix2 n e) : EReal) = x4 (ix3 0 n e) := by
  pointwise [k0_pay4]

theorem p_at (x6 : Vec Ideal S1x1024 .f32) (e : Fin 1024) :
   (k0_pay5 (F := Ideal) (View.ld x6 r0_7) (ix2 0 e) : EReal) = x6 (ix2 0 e) := by
  pointwise [k0_pay5]

theorem o_at (y x : FVec Ideal S128x1024 .f32) (v19 : FVec Ideal S128x1024 .f32) (v23 : FVec Ideal S1x1024 .f32) (s : FVec Ideal S128x1 .f32) (w : Ideal .f32) (n : Fin 128) (e : Fin 1024) :
   (k0_pay1 y v19 x v23 s w (ix3 0 n e) : EReal)
    = (x (ix2 n e) : EReal) + v19 (ix2 n e) * (y (ix2 n e) * Ideal.rsqrt (s (ix2 n 0) + w) * v23 (ix2 0 e)) := by
  pointwise [k0_pay1]

/-! ## The prepared operands -/

/-- The batch of a row. -/
def bt (r : Fin 128) : Fin 8 := ⟨r.val / 16, by omega⟩
/-- The position of a row in its batch. -/
def st (r : Fin 128) : Fin 16 := ⟨r.val % 16, by omega⟩

theorem V1_at (c : Dev nD) (r : Fin 128) (k : Fin 256) : V m c main_v1 (ix3 0 r k) = (inp m c).yf (bt r) (st r) k := by
  entry_read
  pointwise
  rfl
theorem V3_at (c : Dev nD) (r : Fin 128) (k : Fin 256) : V m c main_v3 (ix3 0 r k) = (inp m c).ys (bt r) (st r) k := by
  entry_read
  pointwise
  rfl
theorem V5_at (c : Dev nD) (r : Fin 128) (k : Fin 512) : V m c main_v5 (ix3 0 r k) = (inp m c).ym (bt r) (st r) k := by
  entry_read
  pointwise
  rfl
theorem V6_at (c : Dev nD) (k e : Fin 1024) : V m c main_v6 (ix2 k e) = (inp m c).w k e := by
  entry_read
  pointwise
  rfl
theorem V7_at (c : Dev nD) (r : Fin 128) (e : Fin 1024) : V m c main_v7 (ix3 0 r e) = (inp m c).x (bt r) (st r) e := by
  entry_read
  pointwise
  rfl
theorem V10_at (c : Dev nD) (r : Fin 128) (d : Fin 3072) : V m c main_v10 (ix3 0 r d) = (inp m c).md (bt r) d := by
  entry_read
  pointwise
  rfl
theorem V11_at (c : Dev nD) (d : Fin 1024) : V m c main_v11 (ix2 0 d) = (inp m c).g d := by
  entry_read
  pointwise
  rfl

/-! ## The windows' blocks -/

theorem idx : ∀ t : Fin cfg0.N, win0_0.index t = ![0, 0, 0] ∧ win0_1.index t = ![0, 0, 0] ∧ win0_2.index t = ![0, 0, 0] ∧ win0_3.index t = ![0, 0]
   ∧ win0_4.index t = ![0, 0, 0] ∧ win0_5.index t = ![0, 0, 0] ∧ win0_6.index t = ![0, 0] ∧ win0_7.index t = ![0, 0, 0] := (by decide +kernel : ∀ t : Fin grid0.N, _)

theorem ib0 (c : Dev nD) (t : Fin cfg0.N) (r : Fin 128) (k : Fin 256) : iblk m c 0 t (ix3 0 r k) = (inp m c).yf (bt r) (st r) k := by
  refine Eq.trans ?_ (V1_at m c r k)
  blk_ext [iblk, idx t]
theorem ib1 (c : Dev nD) (t : Fin cfg0.N) (r : Fin 128) (k : Fin 256) : iblk m c 1 t (ix3 0 r k) = (inp m c).ys (bt r) (st r) k := by
  refine Eq.trans ?_ (V3_at m c r k)
  blk_ext [iblk, idx t]
theorem ib2 (c : Dev nD) (t : Fin cfg0.N) (r : Fin 128) (k : Fin 512) : iblk m c 2 t (ix3 0 r k) = (inp m c).ym (bt r) (st r) k := by
  refine Eq.trans ?_ (V5_at m c r k)
  blk_ext [iblk, idx t]
theorem ib4 (c : Dev nD) (t : Fin cfg0.N) (r : Fin 128) (k : Fin 1024) : iblk m c 4 t (ix3 0 r k) = (inp m c).x (bt r) (st r) k := by
  refine Eq.trans ?_ (V7_at m c r k)
  blk_ext [iblk, idx t]
theorem ib3 (c : Dev nD) (t : Fin cfg0.N) (k e : Fin 1024) : iblk m c 3 t (ix2 k e) = (inp m c).w k e := by
  refine Eq.trans ?_ (V6_at m c k e)
  blk_ext [iblk, idx t]
theorem ib5 (c : Dev nD) (t : Fin cfg0.N) (r : Fin 128) (d : Fin 3072) : iblk m c 5 t (ix3 0 r d) = (inp m c).md (bt r) d := by
  refine Eq.trans ?_ (V10_at m c r d)
  blk_ext [iblk, idx t]
theorem ib6 (c : Dev nD) (t : Fin cfg0.N) (e : Fin 1024) : iblk m c 6 t (ix2 0 e) = (inp m c).g e := by
  refine Eq.trans ?_ (V11_at m c e)
  blk_ext [iblk, idx t]

/-- The block a point stores is the body's one store. -/
theorem out_eq (x0 x1 : Vec Ideal S1x128x256 .bf16) (x2 : Vec Ideal S1x128x512 .bf16) (x3 : Vec Ideal S1024x1024 .bf16) (x4 : Vec Ideal S1x128x1024 .f32) (x5 : Vec Ideal S1x128x3072 .f32) (x6 : Vec Ideal S1x1024 .f32) :
    out0_7 x0 x1 x2 x3 x4 x5 x6 = k0_pay1 (k0_pay2 (View.ld x0 r0_0) (View.ld x3 r0_1) (View.ld x1 r0_0) (View.ld x3 r0_2) (View.ld x2 r0_3) (View.ld x3 r0_4)) (k0_pay3 (View.ld x5 r0_5)) (k0_pay4 (View.ld x4 r0_6)) (k0_pay5 (View.ld x6 r0_7)) (k0_pay6 (View.ld x0 r0_0) (View.ld x3 r0_1) (View.ld x1 r0_0) (View.ld x3 r0_2) (View.ld x2 r0_3) (View.ld x3 r0_4)) (Scalar.ofBits .f32 0x358637BD#32) := by
  unfold out0_7
  exact View.canon_unit_zero (by decide) _ _

/-- The block a point stores, at an index. -/
theorem block_at (c : Dev nD) (t : Fin cfg0.N) (n : Fin 128) (e : Fin 1024) :
    (out0_7 (iblk m c 0 t) (iblk m c 1 t) (iblk m c 2 t) (iblk m c 3 t) (iblk m c 4 t) (iblk m c 5 t) (iblk m c 6 t) (ix3 0 n e) : EReal)
      = (inp m c).row n e := by
  have hy : ∀ e : Fin 1024, (k0_pay2 (View.ld (iblk m c 0 t) r0_0) (View.ld (iblk m c 3 t) r0_1) (View.ld (iblk m c 1 t) r0_0) (View.ld (iblk m c 3 t) r0_2) (View.ld (iblk m c 2 t) r0_3) (View.ld (iblk m c 3 t) r0_4) (ix2 n e) : EReal)
      = (inp m c).y (bt n) (st n) e := fun e => by
    refine (y_at _ _ _ _ n e).trans ?_
    simp only [ib0, ib1, ib2, ib3]
    rfl
  rw [out_eq]
  refine (o_at _ _ _ _ _ _ n e).trans ?_
  rw [x_at, g_at, p_at, s_at, ib4, ib5, ib6]
  exact congrArg₂ (· + ·) rfl (congrArg₂ (· * ·) rfl (congrArg₂ (· * ·) (congrArg₂ (· * ·) (hy e) (congrArg Ideal.rsqrt
    (congrArg₂ (· + ·) (congrArg (fun z => Ideal.div z _) (Finset.sum_congr rfl fun k _ => congrArg₂ (· * ·) (hy k) (hy k))) rfl))) rfl))

/-- The result array after the run. -/
theorem final (c : Dev nD) : (dats m 0 c).arrAt 7 (cfgs 0).N
    = fun j : S1x128x1024.Idx => (inp m c).row (j 1) (j 2) := by
  refine (dats m 0 c).arrAt_eq_of_covers 7 _ (by decide +kernel) fun t _ y => ?_
  blk_simp
  rw [after0_7]
  have h0 : (y 0).val < 1 := (y 0).isLt
  have hy : y = (ix3 0 (y 1) (y 2) : S1x128x1024.Idx) := by
    funext a
    fin_cases a
    · exact Fin.ext (Nat.lt_one_iff.mp h0)
    · rfl
    · rfl
  refine (congrArg (out0_7 (iblk m c 0 t) (iblk m c 1 t) (iblk m c 2 t) (iblk m c 3 t) (iblk m c 4 t) (iblk m c 5 t) (iblk m c 6 t)) hy).trans ((block_at m c t (y 1) (y 2)).trans ?_)
  have e1 : y 1 = (win0_7.blk t).view.emb y 1 := Fin.ext (by blk_simp [idx t])
  have e2 : y 2 = (win0_7.blk t).view.emb y 2 := Fin.ext (by blk_simp [idx t])
  exact congrArg₂ (inp m c).row e1 e2

end Cert.Kernel4Ideal.Out
end
-- ==== Proof.RI4.Value.lean ====
module

public import proofs.«01_k».proof.Proof.Gen.Reference4Ideal.Run
public import proofs.«01_k».proof.Proof.Spec3
public import Idealize.ShloMosaic.Lib.WordCmp

/-! The reference of the sample's output projection in closed form: its parts named, each read at an index. -/

@[expose] public section

set_option maxRecDepth 16384

noncomputable section

namespace Cert.Reference4Ideal.Out

open Cert.Reference4Ideal Cert.Reference4Ideal.Gen Cert.Reference4Ideal.Value Cert.Maths
open Idealize.ShloMosaic Idealize.ShloMosaic.TcCoe Idealize.ShloMosaic.Tactic
open Idealize.SL.Sem

variable (m : (ℓ : Loc nD τ sig) → Buf (Elt Ideal) ℓ)

/-- The branches' outputs, side by side. -/
def cat (a0 a1 : FVec Ideal S8x16x256 .f32) (a2 : FVec Ideal S8x16x512 .f32) : FVec Ideal S8x16x1024 .f32 :=
  (concatenate S8x16x1024 2 [⟨S8x16x256, (a0 : (⟨S8x16x256, .f32⟩ : BufTy).Contents (Elt Ideal))⟩, ⟨S8x16x256, (a1 : (⟨S8x16x256, .f32⟩ : BufTy).Contents (Elt Ideal))⟩, ⟨S8x16x512, (a2 : (⟨S8x16x512, .f32⟩ : BufTy).Contents (Elt Ideal))⟩] concatenates_S8x16x256_S8x16x256_S8x16x512_S8x16x1024_d2 : (⟨S8x16x1024, .f32⟩ : BufTy).Contents (Elt Ideal))
/-- The projected rows. -/
def proj (a : FVec Ideal S8x16x1024 .f32) (a3 : FVec Ideal S1024x1024 .f32) : FVec Ideal S8x16x1024 .f32 :=
  Host.dotGeneral dot_S8x16x1024_S1024x1024_S8x16x1024_2_0_01_1_n_n none a a3
/-- The result from the projected rows. -/
def fin (y x : FVec Ideal S8x16x1024 .f32) (md : FVec Ideal S8x3072 .f32) (g : FVec Ideal S1024 .f32) : FVec Ideal S8x16x1024 .f32 :=
  addf x (mulf (broadcastInDim S8x16x1024 ![0, 1, 2] bcast_S8x1x1024_S8x16x1024_0_1_2 (broadcastInDim S8x1x1024 ![0, 2] bcast_S8x1024_S8x1x1024_0_2 (extractStridedSlice S8x1024 ![0, 2048] md slices_S8x3072_S8x1024_0_2048))) (mulf (mulf y (broadcastInDim S8x16x1024 ![0, 1, 2] bcast_S8x16x1_S8x16x1024_0_1_2 (Host.rsqrt (addf (Host.divf (broadcastInDim S8x16x1 ![0, 1] bcast_S8x16_S8x16x1_0_1 (Host.reduceAdd (mulf y y) (constant S_ .f32 0x00000000#32) reducesTo_S8x16x1024_S8x16_d2 h_S_)) (broadcastInDim S8x16x1 ![] bcast_S_S8x16x1 (constant S_ .f32 0x44800000#32))) (broadcastInDim S8x16x1 ![] bcast_S_S8x16x1 (constant S_ .f32 0x358637BD#32)))))) (broadcastInDim S8x16x1024 ![0, 1, 2] bcast_S1x1x1024_S8x16x1024_0_1_2 (broadcastInDim S1x1x1024 ![2] bcast_S1024_S1x1x1024_2 g))))

/-- The arguments of the program. -/
def arg0 (c : Dev nD) : FVec Ideal S8x16x256 .f32 := m ((c.tc : Thread nD τ).loc main_arg0)
def arg1 (c : Dev nD) : FVec Ideal S8x16x256 .f32 := m ((c.tc : Thread nD τ).loc main_arg1)
def arg2 (c : Dev nD) : FVec Ideal S8x16x512 .f32 := m ((c.tc : Thread nD τ).loc main_arg2)
def arg3 (c : Dev nD) : FVec Ideal S1024x1024 .f32 := m ((c.tc : Thread nD τ).loc main_arg3)
def arg4 (c : Dev nD) : FVec Ideal S8x16x1024 .f32 := m ((c.tc : Thread nD τ).loc main_arg4)
def arg5 (c : Dev nD) : FVec Ideal S8x3072 .f32 := m ((c.tc : Thread nD τ).loc main_arg5)
def arg6 (c : Dev nD) : FVec Ideal S1024 .f32 := m ((c.tc : Thread nD τ).loc main_arg6)

/-- The arguments at their indices. -/
def inp (c : Dev nD) : OIn 8 16 where
  yf b n k := arg0 m c (ix3 b n k)
  ys b n k := arg1 m c (ix3 b n k)
  ym b n k := arg2 m c (ix3 b n k)
  w k e := arg3 m c (ix2 k e)
  x b n e := arg4 m c (ix3 b n e)
  md b e := arg5 m c (ix2 b e)
  g e := arg6 m c (ix1 e)

theorem cat_at (a0 a1 a2) (b : Fin 8) (n : Fin 16) (e : Fin 1024) : (cat a0 a1 a2 (ix3 b n e) : EReal)
    = if h1 : e.val < 256 then (a0 (ix3 b n ⟨e.val, h1⟩) : EReal) else if h2 : e.val - 256 < 256 then (a1 (ix3 b n ⟨e.val - 256, h2⟩) : EReal)
      else (a2 (ix3 b n ⟨e.val - 256 - 256, by omega⟩) : EReal) := by
  pointwise [cat]

theorem proj_at (a a3) (b : Fin 8) (n : Fin 16) (e : Fin 1024) : (proj a a3 (ix3 b n e) : EReal)
    = ∑ k, (a (ix3 b n k) : EReal) * a3 (ix2 k e) := by
  pointwise [proj]

theorem fin_at (y x md g) (b : Fin 8) (n : Fin 16) (e : Fin 1024) : (fin y x md g (ix3 b n e) : EReal)
    = (x (ix3 b n e) : EReal) + md (ix2 b ⟨2048 + e.val, by omega⟩) *
        (y (ix3 b n e) * Ideal.rsqrt (Ideal.div (∑ k, (y (ix3 b n k) : EReal) * y (ix3 b n k)) (Ideal.ofBits FTy.f32 1149239296#32) + Ideal.ofBits FTy.f32 897988541#32) * g (ix1 e)) := by
  pointwise [fin]

/-- The projected rows of the arguments. -/
theorem y_val (c : Dev nD) (b : Fin 8) (n : Fin 16) (e : Fin 1024) :
    (proj (cat (arg0 m c) (arg1 m c) (arg2 m c)) (arg3 m c) (ix3 b n e) : EReal) = (inp m c).y b n e := by
  rw [proj_at]
  refine (sum_three _).trans ?_
  unfold OIn.y
  refine congrArg₂ (· + ·) (congrArg₂ (· + ·) ?_ ?_) ?_
  · refine Finset.sum_congr rfl fun k _ => congrArg (fun z : EReal => z * _) ?_
    rw [cat_at, dif_pos k.isLt]
    rfl
  · refine Finset.sum_congr rfl fun k _ => congrArg (fun z : EReal => z * _) ?_
    have h1 : ¬ (256 + k.val < 256) := by omega
    have h2 : 256 + k.val - 256 < 256 := by omega
    rw [cat_at, dif_neg h1, dif_pos h2]
    exact congrArg (fun z => (inp m c).ys b n z) (Fin.ext (by show 256 + k.val - 256 = k.val; omega))
  · refine Finset.sum_congr rfl fun k _ => congrArg (fun z : EReal => z * _) ?_
    have h1 : ¬ (512 + k.val < 256) := by omega
    have h2 : ¬ (512 + k.val - 256 < 256) := by omega
    rw [cat_at, dif_neg h1, dif_neg h2]
    exact congrArg (fun z => (inp m c).ym b n z) (Fin.ext (by show 512 + k.val - 256 - 256 = k.val; omega))

theorem cast_at (a : FVec Ideal S8x16x1024 .f32) (r : Fin 128) (e : Fin 1024) :
    ((shapeCast S1x128x1024 a shapeCasts_S8x16x1024_S1x128x1024 : FVec Ideal S1x128x1024 .f32) (ix3 0 r e) : EReal)
      = a (ix3 ⟨r.val / 16, by omega⟩ ⟨r.val % 16, by omega⟩ e) := by
  pointwise

/-- The reference's result in closed form. -/
theorem res_val (c : Dev nD) : (shapeCast S1x128x1024 (fin (proj (cat (arg0 m c) (arg1 m c) (arg2 m c)) (arg3 m c)) (arg4 m c) (arg5 m c) (arg6 m c))
      shapeCasts_S8x16x1024_S1x128x1024 : FVec Ideal S1x128x1024 .f32) = fun j : S1x128x1024.Idx => (inp m c).row (j 1) (j 2) := by
  funext j
  obtain ⟨r, e, rfl⟩ : ∃ (r : Fin 128) (e : Fin 1024), j = ix3 0 r e :=
    ⟨j 1, j 2, by funext a; fin_cases a; · exact Subsingleton.elim (α := Fin 1) _ _
                  · rfl
                  · rfl⟩
  refine (cast_at _ r e).trans ((fin_at _ _ _ _ _ _ e).trans ?_)
  simp only [y_val]
  rfl

end Cert.Reference4Ideal.Out
end
-- ==== Proof.Algebraic4.lean ====
module

public import proofs.«01_k».proof.Defs
public import proofs.«01_k».proof.Proof.KI4.Final
public import proofs.«01_k».proof.Proof.RI4.Value
public import Idealize.ShloMosaic.Adequacy
public import Idealize.ShloMosaic.Init

/-! The value claim of the output projection of the sample: its idealized kernel and its reference end with the same array. -/

@[expose] public section

noncomputable section

namespace Cert.AttValue

open Idealize.ShloMosaic Idealize.SL.Sem Cert.Maths

/-- The value claim of the output projection of the sample. -/
theorem algebraic4 : Cert.algebraic_Kernel4Ideal_Reference4Ideal (hKernel4Ideal := Kernel4Ideal.Gen.facts)
    (hReference4Ideal := Reference4Ideal.Gen.facts) := by
  intro m g m' g' _ hA
  have e : ∀ c : Dev Kernel4Ideal.nD, Reference4Ideal.Out.inp m' c = Kernel4Ideal.Out.inp m c := by
    intro c
    obtain ⟨a0, a1, a2, a3, a4, a5, a6⟩ := hA c
    have e0 : Reference4Ideal.Out.arg0 m' c = Kernel4Ideal.Out.arg0 m c := a0
    have e1 : Reference4Ideal.Out.arg1 m' c = Kernel4Ideal.Out.arg1 m c := a1
    have e2 : Reference4Ideal.Out.arg2 m' c = Kernel4Ideal.Out.arg2 m c := a2
    have e3 : Reference4Ideal.Out.arg3 m' c = Kernel4Ideal.Out.arg3 m c := a3
    have e4 : Reference4Ideal.Out.arg4 m' c = Kernel4Ideal.Out.arg4 m c := a4
    have e5 : Reference4Ideal.Out.arg5 m' c = Kernel4Ideal.Out.arg5 m c := a5
    have e6 : Reference4Ideal.Out.arg6 m' c = Kernel4Ideal.Out.arg6 m c := a6
    unfold Reference4Ideal.Out.inp Kernel4Ideal.Out.inp
    rw [e0, e1, e2, e3, e4, e5, e6]
  refine ⟨fun c => fun j : Kernel4Ideal.S1x128x1024.Idx => (Kernel4Ideal.Out.inp m c).row (j 1) (j 2), ?_, ?_⟩
  · exact (θ_run _ _ _).mono (fun _ h c => ⟨(h.1 c 7).trans (Kernel4Ideal.Out.final m c), h.2 c⟩)
      (θ_run_and ((θ_run _ _ _).mono (fun _ h c => (h c).1) (Kernel4Ideal.Gen.run_main (F := Ideal) m g))
        (Kernel4Ideal.Gen.unchanged (F := Ideal) m g))
  · refine (θ_run _ _ _).mono (fun _ h c => ?_) (Reference4Ideal.Value.run (F := Ideal) m' g')
    have hv := Reference4Ideal.Out.res_val m' c
    rw [e c] at hv
    exact ⟨(h c).1.trans hv, (h c).2⟩

end Cert.AttValue

end
-- ==== Proof.Spec4.lean ====
module

public import Idealize.ShloMosaic.Lib.Pipeline.ValueKit

/-! The modulation in closed form: its inputs at their indices and the result. -/

@[expose] public section

noncomputable section

namespace Cert.Maths

open Idealize.ShloMosaic

/-- The modulation's inputs: the conditions of the prompt and of the sample, both layers' weights and biases. -/
structure MIn where
  cp : Fin 8 → Fin 1024 → EReal
  cs : Fin 8 → Fin 1024 → EReal
  w : Fin 2 → Fin 1024 → Fin 3072 → EReal
  b : Fin 2 → Fin 3072 → EReal

namespace MIn
variable (I : MIn)

/-- The prompt's conditions followed by the sample's. -/
def c (r : Fin 16) (k : Fin 1024) : EReal :=
  if h : r.val < 8 then I.cp ⟨r.val, h⟩ k else I.cs ⟨r.val - 8, by omega⟩ k

/-- The result. -/
def val (l : Fin 2) (r : Fin 16) (e : Fin 3072) : EReal :=
  (∑ k, Ideal.div (I.c r k) (1 + Ideal.exp (0 - I.c r k)) * I.w l k e) + I.b l e

end MIn

/-- A number times the logistic function of it, as a quotient. -/
theorem silu_eq (g : EReal) : g * Ideal.div 1 (1 + Ideal.exp (-g)) = Ideal.div g (1 + Ideal.exp (0 - g)) := by
  have h : (1 + Ideal.exp (-g) : EReal) ≠ 0 := by
    refine ne_of_gt (lt_of_lt_of_le zero_lt_one (le_add_of_nonneg_right ?_))
    induction g with
    | bot => exact le_top
    | top => exact le_rfl
    | coe x => exact EReal.coe_nonneg.2 (Real.exp_pos _).le
  rw [zero_sub, Ideal.div, Ideal.div, if_neg h, if_neg h, one_mul]

end Cert.Maths

end
-- ==== Proof.KI5.Final.lean ====
module

public import proofs.«01_k».proof.Proof.Gen.Kernel5Ideal.Frame
public import proofs.«01_k».proof.Proof.Spec4
public import Idealize.ShloMosaic.Lib.WordCmp
public import Idealize.ShloMosaic.Lib.Pipeline.Value
public import Idealize.ShloMosaic.Lib.Pipeline.ValueKit
public import Idealize.ShloMosaic.Lib.StableHlo.RunRead

/-! The modulation's result array in closed form. -/

@[expose] public section

set_option maxRecDepth 16384

noncomputable section

namespace Cert.Kernel5Ideal.Out

open Cert.Kernel5Ideal Cert.Kernel5Ideal.Gen Cert.Maths
open Idealize.ShloMosaic Idealize.ShloMosaic.TcCoe Idealize.ShloMosaic.Tactic
open Idealize.SL.Sem

variable (m : (ℓ : Loc nD τ sig) → Buf (Elt Ideal) ℓ)

/-- The arguments of the program. -/
def arg0 (c : Dev nD) : FVec Ideal S8x1024 .f32 := m ((c : Thread nD τ).loc main_arg0)
def arg1 (c : Dev nD) : FVec Ideal S8x1024 .f32 := m ((c : Thread nD τ).loc main_arg1)
def arg2 (c : Dev nD) : FVec Ideal S2x1024x3072 .f32 := m ((c : Thread nD τ).loc main_arg2)
def arg3 (c : Dev nD) : FVec Ideal S2x3072 .f32 := m ((c : Thread nD τ).loc main_arg3)

/-- The arguments at their indices. -/
def inp (c : Dev nD) : MIn where
  cp b k := arg0 m c (ix2 b k)
  cs b k := arg1 m c (ix2 b k)
  w l k e := arg2 m c (ix3 l k e)
  b l e := arg3 m c (ix2 l e)

theorem pay_at (x0 : Vec Ideal S16x1024 .f32) (x1 : Vec Ideal S1x1024x1024 .f32) (x2 : Vec Ideal S1x1x1024 .f32) (n : Fin 16) (e : Fin 1024) :
   (k0_pay1 (View.ld x0 r0_0) (View.ld x1 r0_1) (View.ld x2 r0_2) (ix3 0 n e) : EReal)
    = (∑ k, Ideal.div (x0 (ix2 n k)) (1 + Ideal.exp (0 - (x0 (ix2 n k) : EReal))) * (x1 (ix3 0 k e) : EReal)) + x2 (ix3 0 0 e) := by
  pointwise [k0_pay1]

theorem V0_at (c : Dev nD) (r : Fin 16) (k : Fin 1024) : V m c main_v0 (ix2 r k) = (inp m c).c r k := by
  entry_read
  pointwise
  rfl
theorem V2_at (c : Dev nD) (l : Fin 2) (k : Fin 1024) (e : Fin 3072) : V m c main_arg2 (ix3 l k e) = (inp m c).w l k e := by
  rw [V_main_arg2]
  rfl
theorem V1_at (c : Dev nD) (l : Fin 2) (e : Fin 3072) : V m c main_v1 (ix3 l 0 e) = (inp m c).b l e := by
  entry_read
  pointwise
  rfl

/-- The layer of a point. -/
def lay (t : Fin cfg0.N) : Fin 2 := ⟨t.val / 3, by have : t.val < 6 := t.isLt; omega⟩
/-- The column of a point's block. -/
def col (t : Fin cfg0.N) (e : Fin 1024) : Fin 3072 := ⟨t.val % 3 * 1024 + e.val, by omega⟩

theorem idx : ∀ t : Fin cfg0.N, win0_0.index t = ![0, 0] ∧ win0_1.index t = ![t.val / 3, 0, t.val % 3]
   ∧ win0_2.index t = ![t.val / 3, 0, t.val % 3] ∧ win0_3.index t = ![t.val / 3, 0, t.val % 3] := (by decide +kernel : ∀ t : Fin grid0.N, _)

theorem ib0 (c : Dev nD) (t : Fin cfg0.N) (r : Fin 16) (k : Fin 1024) : iblk m c 0 t (ix2 r k) = (inp m c).c r k := by
  refine Eq.trans ?_ (V0_at m c r k)
  blk_ext [iblk, idx t]
theorem ib1 (c : Dev nD) (t : Fin cfg0.N) (k e : Fin 1024) : iblk m c 1 t (ix3 0 k e) = (inp m c).w (lay t) k (col t e) := by
  refine Eq.trans ?_ (V2_at m c (lay t) k (col t e))
  blk_ext [iblk, idx t, lay, col]
theorem ib2 (c : Dev nD) (t : Fin cfg0.N) (e : Fin 1024) : iblk m c 2 t (ix3 0 0 e) = (inp m c).b (lay t) (col t e) := by
  refine Eq.trans ?_ (V1_at m c (lay t) (col t e))
  blk_ext [iblk, idx t, lay, col]

/-- The block a point stores, at an index. -/
theorem block_at (c : Dev nD) (t : Fin cfg0.N) (n : Fin 16) (e : Fin 1024) :
    (out0_3 (iblk m c 0 t) (iblk m c 1 t) (iblk m c 2 t) (ix3 0 n e) : EReal) = (inp m c).val (lay t) n (col t e) := by
  unfold out0_3
  rw [View.canon_unit_zero (by decide)]
  refine (pay_at _ _ _ n e).trans ?_
  simp only [ib0, ib1, ib2]
  rfl

/-- The result array after the run. -/
theorem final (c : Dev nD) : (dats m 0 c).arrAt 3 (cfgs 0).N
    = fun j : S2x16x3072.Idx => (inp m c).val (j 0) (j 1) (j 2) := by
  refine (dats m 0 c).arrAt_eq_of_covers 3 _ (by decide +kernel) fun t _ y => ?_
  blk_simp
  rw [after0_3]
  have h0 : (y 0).val < 1 := (y 0).isLt
  have hy : y = (ix3 0 (y 1) (y 2) : S1x16x1024.Idx) := by
    funext a
    fin_cases a
    · exact Fin.ext (Nat.lt_one_iff.mp h0)
    · rfl
    · rfl
  refine (congrArg (out0_3 (iblk m c 0 t) (iblk m c 1 t) (iblk m c 2 t)) hy).trans ((block_at m c t (y 1) (y 2)).trans ?_)
  have e0 : lay t = (win0_3.blk t).view.emb y 0 := Fin.ext (by blk_simp [idx t, lay])
  have e1 : y 1 = (win0_3.blk t).view.emb y 1 := Fin.ext (by blk_simp [idx t])
  have e2 : col t (y 2) = (win0_3.blk t).view.emb y 2 := Fin.ext (by blk_simp [idx t, col])
  rw [e0, e2]
  exact congrArg (fun z => (inp m c).val _ z _) e1

end Cert.Kernel5Ideal.Out
end
-- ==== Proof.RI5.Value.lean ====
module

public import proofs.«01_k».proof.Proof.Gen.Reference5Ideal.Run
public import proofs.«01_k».proof.Proof.Spec4
public import Idealize.ShloMosaic.Lib.WordCmp

/-! The reference of the modulation in closed form: its parts named, each read at an index. -/

@[expose] public section

set_option maxRecDepth 16384

noncomputable section

namespace Cert.Reference5Ideal.Out

open Cert.Reference5Ideal Cert.Reference5Ideal.Gen Cert.Reference5Ideal.Value Cert.Maths
open Idealize.ShloMosaic Idealize.ShloMosaic.TcCoe Idealize.ShloMosaic.Tactic
open Idealize.SL.Sem

variable (m : (ℓ : Loc nD τ sig) → Buf (Elt Ideal) ℓ)

/-- The rows of one set of conditions under one layer's weights and bias. -/
def rows (a : FVec Ideal S8x1024 .f32) (w : FVec Ideal S1x1024x3072 .f32) (b : FVec Ideal S1x3072 .f32) : FVec Ideal S8x3072 .f32 :=
  addf (Host.dotGeneral dot_S8x1024_S1024x3072_S8x3072_1_0_0_1_n_n none (mulf a (Host.divf (broadcastInDim S8x1024 ![] bcast_S_S8x1024 (constant S_ .f32 0x3F800000#32)) (addf (broadcastInDim S8x1024 ![] bcast_S_S8x1024 (constant S_ .f32 0x3F800000#32)) (Host.exp (Host.negf a))))) (shapeCast _ w shapeCasts_S1x1024x3072_S1024x3072)) (broadcastInDim S8x3072 ![0, 1] bcast_S1x3072_S8x3072_0_1 (broadcastInDim S1x3072 ![1] bcast_S3072_S1x3072_1 (shapeCast _ b shapeCasts_S1x3072_S3072)))
/-- Two sets of rows, one after the other. -/
def cat (x y : FVec Ideal S8x3072 .f32) : FVec Ideal S1x16x3072 .f32 :=
  broadcastInDim S1x16x3072 ![1, 2] bcast_S16x3072_S1x16x3072_1_2 (concatenate S16x3072 0 [⟨S8x3072, (x : (⟨S8x3072, .f32⟩ : BufTy).Contents (Elt Ideal))⟩, ⟨S8x3072, (y : (⟨S8x3072, .f32⟩ : BufTy).Contents (Elt Ideal))⟩] concatenates_S8x3072_S8x3072_S16x3072_d0 : (⟨S16x3072, .f32⟩ : BufTy).Contents (Elt Ideal))
/-- The two layers, one after the other. -/
def pair (x y : FVec Ideal S1x16x3072 .f32) : FVec Ideal S2x16x3072 .f32 :=
  (concatenate S2x16x3072 0 [⟨S1x16x3072, (x : (⟨S1x16x3072, .f32⟩ : BufTy).Contents (Elt Ideal))⟩, ⟨S1x16x3072, (y : (⟨S1x16x3072, .f32⟩ : BufTy).Contents (Elt Ideal))⟩] concatenates_S1x16x3072_S1x16x3072_S2x16x3072_d0 : (⟨S2x16x3072, .f32⟩ : BufTy).Contents (Elt Ideal))
/-- A layer's weights and bias. -/
def w0 (a : FVec Ideal S2x1024x3072 .f32) : FVec Ideal S1x1024x3072 .f32 := extractStridedSlice S1x1024x3072 ![0, 0, 0] a slices_S2x1024x3072_S1x1024x3072_0_0_0
def w1 (a : FVec Ideal S2x1024x3072 .f32) : FVec Ideal S1x1024x3072 .f32 := extractStridedSlice S1x1024x3072 ![1, 0, 0] a slices_S2x1024x3072_S1x1024x3072_1_0_0
def b0 (a : FVec Ideal S2x3072 .f32) : FVec Ideal S1x3072 .f32 := extractStridedSlice S1x3072 ![0, 0] a slices_S2x3072_S1x3072_0_0
def b1 (a : FVec Ideal S2x3072 .f32) : FVec Ideal S1x3072 .f32 := extractStridedSlice S1x3072 ![1, 0] a slices_S2x3072_S1x3072_1_0

/-- The arguments of the program. -/
def arg0 (c : Dev nD) : FVec Ideal S8x1024 .f32 := m ((c.tc : Thread nD τ).loc main_arg0)
def arg1 (c : Dev nD) : FVec Ideal S8x1024 .f32 := m ((c.tc : Thread nD τ).loc main_arg1)
def arg2 (c : Dev nD) : FVec Ideal S2x1024x3072 .f32 := m ((c.tc : Thread nD τ).loc main_arg2)
def arg3 (c : Dev nD) : FVec Ideal S2x3072 .f32 := m ((c.tc : Thread nD τ).loc main_arg3)

/-- The arguments at their indices. -/
def inp (c : Dev nD) : MIn where
  cp b k := arg0 m c (ix2 b k)
  cs b k := arg1 m c (ix2 b k)
  w l k e := arg2 m c (ix3 l k e)
  b l e := arg3 m c (ix2 l e)

theorem rows_at (a w b) (r : Fin 8) (e : Fin 3072) : (rows a w b (ix2 r e) : EReal)
    = (∑ k, (a (ix2 r k) * Ideal.div 1 (1 + Ideal.exp (-a (ix2 r k))) : EReal) * w (ix3 0 k e)) + b (ix2 0 e) := by
  pointwise [rows]

theorem cat_at (x y) (r : Fin 16) (e : Fin 3072) : (cat x y (ix3 0 r e) : EReal)
    = if h : r.val < 8 then (x (ix2 ⟨r.val, h⟩ e) : EReal) else y (ix2 ⟨r.val - 8, by omega⟩ e) := by
  pointwise [cat]

theorem pair_at (x y) (l : Fin 2) (r : Fin 16) (e : Fin 3072) : (pair x y (ix3 l r e) : EReal)
    = if h : l.val < 1 then (x (ix3 ⟨l.val, h⟩ r e) : EReal) else y (ix3 ⟨l.val - 1, by omega⟩ r e) := by
  pointwise [pair]

theorem w0_at (a) (k : Fin 1024) (e : Fin 3072) : (w0 a (ix3 0 k e) : EReal) = a (ix3 0 k e) := by pointwise [w0]
theorem w1_at (a) (k : Fin 1024) (e : Fin 3072) : (w1 a (ix3 0 k e) : EReal) = a (ix3 1 k e) := by pointwise [w1]
theorem b0_at (a) (e : Fin 3072) : (b0 a (ix2 0 e) : EReal) = a (ix2 0 e) := by pointwise [b0]
theorem b1_at (a) (e : Fin 3072) : (b1 a (ix2 0 e) : EReal) = a (ix2 1 e) := by pointwise [b1]

/-- The reference's result in closed form. -/
theorem res_val (c : Dev nD) : pair (cat (rows (arg0 m c) (w0 (arg2 m c)) (b0 (arg3 m c))) (rows (arg1 m c) (w0 (arg2 m c)) (b0 (arg3 m c))))
      (cat (rows (arg0 m c) (w1 (arg2 m c)) (b1 (arg3 m c))) (rows (arg1 m c) (w1 (arg2 m c)) (b1 (arg3 m c))))
    = fun j : S2x16x3072.Idx => (inp m c).val (j 0) (j 1) (j 2) := by
  funext j
  obtain ⟨l, r, e, rfl⟩ : ∃ (l : Fin 2) (r : Fin 16) (e : Fin 3072), j = ix3 l r e :=
    ⟨j 0, j 1, j 2, by funext a; fin_cases a <;> rfl⟩
  show _ = (inp m c).val l r e
  unfold MIn.val MIn.c
  by_cases h : r.val < 8 <;> fin_cases l
  · refine (pair_at _ _ 0 r e).trans ((cat_at _ _ r e).trans ?_)
    simp only [dif_pos h, rows_at, w0_at, b0_at, silu_eq]
    rfl
  · refine (pair_at _ _ 1 r e).trans ((cat_at _ _ r e).trans ?_)
    simp only [dif_pos h, rows_at, w1_at, b1_at, silu_eq]
    rfl
  · refine (pair_at _ _ 0 r e).trans ((cat_at _ _ r e).trans ?_)
    simp only [dif_neg h, rows_at, w0_at, b0_at, silu_eq]
    rfl
  · refine (pair_at _ _ 1 r e).trans ((cat_at _ _ r e).trans ?_)
    simp only [dif_neg h, rows_at, w1_at, b1_at, silu_eq]
    rfl

end Cert.Reference5Ideal.Out
end
-- ==== Proof.Algebraic5.lean ====
module

public import proofs.«01_k».proof.Defs
public import proofs.«01_k».proof.Proof.KI5.Final
public import proofs.«01_k».proof.Proof.RI5.Value
public import Idealize.ShloMosaic.Adequacy
public import Idealize.ShloMosaic.Init

/-! The value claim of the modulation: its idealized kernel and its reference end with the same array. -/

@[expose] public section

noncomputable section

namespace Cert.AttValue

open Idealize.ShloMosaic Idealize.SL.Sem Cert.Maths

/-- The value claim of the modulation. -/
theorem algebraic5 : Cert.algebraic_Kernel5Ideal_Reference5Ideal (hKernel5Ideal := Kernel5Ideal.Gen.facts)
    (hReference5Ideal := Reference5Ideal.Gen.facts) := by
  intro m g m' g' _ hA
  have e : ∀ c : Dev Kernel5Ideal.nD, Reference5Ideal.Out.inp m' c = Kernel5Ideal.Out.inp m c := by
    intro c
    obtain ⟨a0, a1, a2, a3⟩ := hA c
    have e0 : Reference5Ideal.Out.arg0 m' c = Kernel5Ideal.Out.arg0 m c := a0
    have e1 : Reference5Ideal.Out.arg1 m' c = Kernel5Ideal.Out.arg1 m c := a1
    have e2 : Reference5Ideal.Out.arg2 m' c = Kernel5Ideal.Out.arg2 m c := a2
    have e3 : Reference5Ideal.Out.arg3 m' c = Kernel5Ideal.Out.arg3 m c := a3
    unfold Reference5Ideal.Out.inp Kernel5Ideal.Out.inp
    rw [e0, e1, e2, e3]
  refine ⟨fun c => fun j : Kernel5Ideal.S2x16x3072.Idx => (Kernel5Ideal.Out.inp m c).val (j 0) (j 1) (j 2), ?_, ?_⟩
  · exact (θ_run _ _ _).mono (fun _ h c => ⟨(h.1 c 3).trans (Kernel5Ideal.Out.final m c), h.2 c⟩)
      (θ_run_and ((θ_run _ _ _).mono (fun _ h c => (h c).1) (Kernel5Ideal.Gen.run_main (F := Ideal) m g))
        (Kernel5Ideal.Gen.unchanged (F := Ideal) m g))
  · refine (θ_run _ _ _).mono (fun _ h c => ?_) (Reference5Ideal.Value.run (F := Ideal) m' g')
    have hv := Reference5Ideal.Out.res_val m' c
    rw [e c] at hv
    exact ⟨(h c).1.trans hv, (h c).2⟩

end Cert.AttValue

end
-- ==== Proof.lean ====
module

public import proofs.«01_k».proof.Defs
public import proofs.«01_k».proof.Proof.Frames
public import proofs.«01_k».proof.Proof.Frames2
public import proofs.«01_k».proof.Proof.Frames3
public import proofs.«01_k».proof.Proof.Frames4
public import proofs.«01_k».proof.Proof.Frames5
public import proofs.«01_k».proof.Proof.Algebraic
public import proofs.«01_k».proof.Proof.Algebraic2
public import proofs.«01_k».proof.Proof.Algebraic3
public import proofs.«01_k».proof.Proof.Algebraic4
public import proofs.«01_k».proof.Proof.Algebraic5

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.AttPre.facts, Cert.AttPre.facts2,
  Cert.AttFrames.frame_kernel, Cert.AttFrames.frame_ideal, fun m g _ => Cert.AttFrames.frame_ideal m g trivial,
  Cert.AttFrames.frame_ref, fun m g _ => Cert.AttFrames.frame_ref m g trivial,
  Cert.AttFrames.frame_kernel2, Cert.AttFrames.frame_ideal2, fun m g _ => Cert.AttFrames.frame_ideal2 m g trivial,
  Cert.AttFrames.frame_ref2, fun m g _ => Cert.AttFrames.frame_ref2 m g trivial,
  Cert.AttFrames.frame_kernel3, Cert.AttFrames.frame_ideal3, Cert.AttFrames.frame_ref3,
  Cert.AttFrames.frame_kernel4, Cert.AttFrames.frame_ideal4, Cert.AttFrames.frame_ref4,
  Cert.AttFrames.frame_kernel5, Cert.AttFrames.frame_ideal5, Cert.AttFrames.frame_ref5,
  Cert.AttFrames.named, Cert.AttValue.algebraic, trivial, Cert.AttValue.algebraic2, trivial, Cert.AttValue.algebraic3,
  trivial, Cert.AttValue.algebraic4, trivial, Cert.AttValue.algebraic5⟩

end Cert.Proof

end
